-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_counted : Cert.Pre_counted.Facts] (m : (ℓ : Loc Cert.Kernel2.nD Cert.Kernel2.τ Cert.Kernel2.sig) → Buf (Elt Bits) ℓ) : Prop :=
  ∀ c : Dev Cert.Kernel2.nD,
    (Cert.Pre_counted.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_counted : Cert.Pre_counted.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_counted.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_counted [hPre_counted : Cert.Pre_counted.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_counted.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_counted : Cert.Pre_counted.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_counted [hReference2Ideal : Cert.Reference2Ideal.Facts] [hPre_counted : Cert.Pre_counted.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_counted m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_counted : Cert.Pre_counted.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v88)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v88) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v19)) (v4 : (c : Dev Cert.Kernel4Ideal.nD) → Buf (Elt Ideal) ((c.tc : Thread Cert.Kernel4Ideal.nD Cert.Kernel4Ideal.τ).loc Cert.Kernel4Ideal.main_v21)) (v5 : (c : Dev Cert.Kernel4Ideal.nD) → Buf (Elt Ideal) ((c.tc : Thread Cert.Kernel4Ideal.nD Cert.Kernel4Ideal.τ).loc Cert.Kernel4Ideal.main_v25)) (v6 : (c : Dev Cert.Kernel4Ideal.nD) → Buf (Elt Ideal) ((c.tc : Thread Cert.Kernel4Ideal.nD Cert.Kernel4Ideal.τ).loc Cert.Kernel4Ideal.main_v29)) (v7 : (c : Dev Cert.Kernel4Ideal.nD) → Buf (Elt Ideal) ((c.tc : Thread Cert.Kernel4Ideal.nD Cert.Kernel4Ideal.τ).loc Cert.Kernel4Ideal.main_v13_4)) (v8 : (c : Dev Cert.Kernel4Ideal.nD) → Buf (Elt Ideal) ((c.tc : Thread Cert.Kernel4Ideal.nD Cert.Kernel4Ideal.τ).loc Cert.Kernel4Ideal.main_v32)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v19) = v3 c
          ∧ r.2.mem ((c.tc : Thread Cert.Kernel4Ideal.nD Cert.Kernel4Ideal.τ).loc Cert.Kernel4Ideal.main_v21) = v4 c
          ∧ r.2.mem ((c.tc : Thread Cert.Kernel4Ideal.nD Cert.Kernel4Ideal.τ).loc Cert.Kernel4Ideal.main_v25) = v5 c
          ∧ r.2.mem ((c.tc : Thread Cert.Kernel4Ideal.nD Cert.Kernel4Ideal.τ).loc Cert.Kernel4Ideal.main_v29) = v6 c
          ∧ r.2.mem ((c.tc : Thread Cert.Kernel4Ideal.nD Cert.Kernel4Ideal.τ).loc Cert.Kernel4Ideal.main_v13_4) = v7 c
          ∧ r.2.mem ((c.tc : Thread Cert.Kernel4Ideal.nD Cert.Kernel4Ideal.τ).loc Cert.Kernel4Ideal.main_v32) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_v35) = v4 c
          ∧ r.2.mem ((c.tc : Thread Cert.Reference4Ideal.nD Cert.Reference4Ideal.τ).loc Cert.Reference4Ideal.main_v40) = v5 c
          ∧ r.2.mem ((c.tc : Thread Cert.Reference4Ideal.nD Cert.Reference4Ideal.τ).loc Cert.Reference4Ideal.main_v45) = v6 c
          ∧ r.2.mem ((c.tc : Thread Cert.Reference4Ideal.nD Cert.Reference4Ideal.τ).loc Cert.Reference4Ideal.main_v46) = v7 c
          ∧ r.2.mem ((c.tc : Thread Cert.Reference4Ideal.nD Cert.Reference4Ideal.τ).loc Cert.Reference4Ideal.main_v50) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v25)) (v1 : (c : Dev Cert.Kernel5Ideal.nD) → Buf (Elt Ideal) ((c.tc : Thread Cert.Kernel5Ideal.nD Cert.Kernel5Ideal.τ).loc Cert.Kernel5Ideal.main_v27)) (v2 : (c : Dev Cert.Kernel5Ideal.nD) → Buf (Elt Ideal) ((c.tc : Thread Cert.Kernel5Ideal.nD Cert.Kernel5Ideal.τ).loc Cert.Kernel5Ideal.main_v28)) (v3 : (c : Dev Cert.Kernel5Ideal.nD) → Buf (Elt Ideal) ((c.tc : Thread Cert.Kernel5Ideal.nD Cert.Kernel5Ideal.τ).loc Cert.Kernel5Ideal.main_v31)) (v4 : (c : Dev Cert.Kernel5Ideal.nD) → Buf (Elt Ideal) ((c.tc : Thread Cert.Kernel5Ideal.nD Cert.Kernel5Ideal.τ).loc Cert.Kernel5Ideal.main_v34)) (v5 : (c : Dev Cert.Kernel5Ideal.nD) → Buf (Elt Ideal) ((c.tc : Thread Cert.Kernel5Ideal.nD Cert.Kernel5Ideal.τ).loc Cert.Kernel5Ideal.main_v36)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_v27) = v1 c
          ∧ r.2.mem ((c.tc : Thread Cert.Kernel5Ideal.nD Cert.Kernel5Ideal.τ).loc Cert.Kernel5Ideal.main_v28) = v2 c
          ∧ r.2.mem ((c.tc : Thread Cert.Kernel5Ideal.nD Cert.Kernel5Ideal.τ).loc Cert.Kernel5Ideal.main_v31) = v3 c
          ∧ r.2.mem ((c.tc : Thread Cert.Kernel5Ideal.nD Cert.Kernel5Ideal.τ).loc Cert.Kernel5Ideal.main_v34) = v4 c
          ∧ r.2.mem ((c.tc : Thread Cert.Kernel5Ideal.nD Cert.Kernel5Ideal.τ).loc Cert.Kernel5Ideal.main_v36) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_v29) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_counted : Cert.Pre_counted.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_counted := hPre_counted)
    ∧ quiescent_Kernel2Ideal (hKernel2Ideal := hKernel2Ideal) (hPre_counted := hPre_counted)
    ∧ quiescent_Reference2Ideal (hReference2Ideal := hReference2Ideal)
    ∧ quiescent_Reference2Ideal_pre_counted (hReference2Ideal := hReference2Ideal) (hPre_counted := hPre_counted)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_counted := hPre_counted)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_counted.lean ====
abbrev S16 : Shape := ⟨1, ![16]⟩
abbrev S33792x1024 : Shape := ⟨2, ![33792, 1024]⟩
abbrev S4x16x1024x256 : Shape := ⟨4, ![4, 16, 1024, 256]⟩
abbrev S4x16x256x1024 : Shape := ⟨4, ![4, 16, 256, 1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S16 32) (main_arg1 : FVec F S33792x1024 .f32) (main_arg2 : FVec F S4x16x1024x256 .f32) (main_arg3 : FVec F S4x16x1024x256 .f32) (main_arg4 : FVec F S4x16x256x1024 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 33792#32
  let main_v2 : IVec S16 32 := broadcastInDim S16 ![] bcast_S_S16 main_c_0
  let main_v3 : IVec S16 1 := cmpi .sle main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg0 main_c_2
  let main_c_3 : IVec S_ 32 := constantI S_ 32 33792#32
  let main_v7 : IVec S_ 1 := cmpi .eq main_v6 main_c_3
  let main_v8 : IVec S_ 1 := andi main_v5 main_v7
  main_v8
-- ==== Pre_finite.lean ====
abbrev S4x16x128x4096 : Shape := ⟨4, ![4, 16, 128, 4096]⟩
abbrev S16384x512 : Shape := ⟨2, ![16384, 512]⟩
abbrev S4x256x4096 : Shape := ⟨3, ![4, 256, 4096]⟩
abbrev S_ : Shape := ⟨0, ![]⟩

class Facts : Prop where
  bitsLt_bf16_f32 : FTy.bits .bf16 < FTy.bits .f32
  bcast_S_S4x16x128x4096 : S_.BroadcastsInDim S4x16x128x4096 (![] : Fin 0 → Fin S4x16x128x4096.rank)
  reducesTo_S4x16x128x4096_S_d0_1_2_3 : S4x16x128x4096.ReducesTo [0, 1, 2, 3] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S4x256x4096 : S_.BroadcastsInDim S4x256x4096 (![] : Fin 0 → Fin S4x256x4096.rank)
  reducesTo_S4x256x4096_S_d0_1_2 : S4x256x4096.ReducesTo [0, 1, 2] S_

variable [Facts]

def fn {F : FTy → Type} [FloatOps F] (main_arg0 : FVec F S4x16x128x4096 .bf16) (main_arg1 : FVec F S16384x512 .bf16) (main_arg2 : FVec F S4x256x4096 .f32) : IVec S_ 1 :=
  let main_v0 : FVec F S4x16x128x4096 .f32 := (extf .f32 · bitsLt_bf16_f32) main_arg0
  let main_v1 : FVec F S4x16x128x4096 .f32 := Host.absf main_v0
  let main_cst : FVec F S_ .f32 := constant S_ .f32 0x7F800000#32
  let main_v2 : FVec F S4x16x128x4096 .f32 := broadcastInDim S4x16x128x4096 ![] bcast_S_S4x16x128x4096 main_cst
  let main_v3 : IVec S4x16x128x4096 1 := cmpf .olt main_v1 main_v2
  let main_c : IVec S_ 1 := constantI S_ 1 1#1
  let main_v4 : IVec S_ 1 := (fun x v => Host.reduce IntOp.andi x v reducesTo_S4x16x128x4096_S_d0_1_2_3 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S4x256x4096 .f32 := Host.absf main_arg2
  let main_cst_2 : FVec F S_ .f32 := constant S_ .f32 0x7F800000#32
  let main_v12 : FVec F S4x256x4096 .f32 := broadcastInDim S4x256x4096 ![] bcast_S_S4x256x4096 main_cst_2
  let main_v13 : IVec S4x256x4096 1 := cmpf .olt main_v11 main_v12
  let main_c_3 : IVec S_ 1 := constantI S_ 1 1#1
  let main_v14 : IVec S_ 1 := (fun x v => Host.reduce IntOp.andi x v reducesTo_S4x256x4096_S_d0_1_2 h_S_) main_v13 main_c_3
  let main_v15 : IVec S_ 1 := andi main_v10 main_v14
  main_v15
-- ==== Kernel.lean ====
abbrev S4x16x128x4096 : Shape := ⟨4, ![4, 16, 128, 4096]⟩
abbrev S16384x512 : Shape := ⟨2, ![16384, 512]⟩
abbrev S4x256x4096 : Shape := ⟨3, ![4, 256, 4096]⟩
abbrev S16384x1024 : Shape := ⟨2, ![16384, 1024]⟩
abbrev S1x4x128x4096 : Shape := ⟨4, ![1, 4, 128, 4096]⟩
abbrev S4096x128 : Shape := ⟨2, ![4096, 128]⟩
abbrev S1x64x4096 : Shape := ⟨3, ![1, 64, 4096]⟩
abbrev S4096x256 : Shape := ⟨2, ![4096, 256]⟩
abbrev S80x256 : Shape := ⟨2, ![80, 256]⟩
abbrev S1024x256 : Shape := ⟨2, ![1024, 256]⟩
abbrev S256x256 : Shape := ⟨2, ![256, 256]⟩
abbrev S1x1x128x256 : Shape := ⟨4, ![1, 1, 128, 256]⟩
abbrev S128x256 : Shape := ⟨2, ![128, 256]⟩
abbrev S1x256 : Shape := ⟨2, ![1, 256]⟩
abbrev S1024x128 : Shape := ⟨2, ![1024, 128]⟩
abbrev S1x64x1024 : Shape := ⟨3, ![1, 64, 1024]⟩
abbrev S64x1024 : Shape := ⟨2, ![64, 1024]⟩
abbrev S16x1024 : Shape := ⟨2, ![16, 1024]⟩
abbrev S80x1024 : Shape := ⟨2, ![80, 1024]⟩
abbrev S256 : Shape := ⟨1, ![256]⟩
abbrev S768x256 : Shape := ⟨2, ![768, 256]⟩
abbrev S768x128 : Shape := ⟨2, ![768, 128]⟩
abbrev S1x64x768 : Shape := ⟨3, ![1, 64, 768]⟩
abbrev S64x768 : Shape := ⟨2, ![64, 768]⟩
abbrev S16x768 : Shape := ⟨2, ![16, 768]⟩
abbrev S80x768 : Shape := ⟨2, ![80, 768]⟩
abbrev S512x256 : Shape := ⟨2, ![512, 256]⟩
abbrev S512x128 : Shape := ⟨2, ![512, 128]⟩
abbrev S1x64x512 : Shape := ⟨3, ![1, 64, 512]⟩
abbrev S64x512 : Shape := ⟨2, ![64, 512]⟩
abbrev S16x512 : Shape := ⟨2, ![16, 512]⟩
abbrev S80x512 : Shape := ⟨2, ![80, 512]⟩
abbrev S256x128 : Shape := ⟨2, ![256, 128]⟩
abbrev S1x64x256 : Shape := ⟨3, ![1, 64, 256]⟩
abbrev S64x256 : Shape := ⟨2, ![64, 256]⟩
abbrev S16x256 : Shape := ⟨2, ![16, 256]⟩

abbrev nBuf : Space → Nat
  | .hbm => 4
  | .vmem => 16
  | .smem => 0
  | _ => 0

abbrev bufTy : (tb : Table) → Fin (tcTables nBuf tb) → BufTy
  | .hbm, ⟨0, _⟩ => ⟨S4x16x128x4096, .bf16⟩
  | .hbm, ⟨1, _⟩ => ⟨S16384x512, .bf16⟩
  | .hbm, ⟨2, _⟩ => ⟨S4x256x4096, .f32⟩
  | .hbm, ⟨3, _⟩ => ⟨S16384x1024, .f32⟩
  | .local _ .vmem, ⟨0, _⟩ => ⟨S1x4x128x4096, .bf16⟩
  | .local _ .vmem, ⟨1, _⟩ => ⟨S1x4x128x4096, .bf16⟩
  | .local _ .vmem, ⟨2, _⟩ => ⟨S4096x128, .bf16⟩
  | .local _ .vmem, ⟨3, _⟩ => ⟨S4096x128, .bf16⟩
  | .local _ .vmem, ⟨4, _⟩ => ⟨S1x64x4096, .f32⟩
  | .local _ .vmem, ⟨5, _⟩ => ⟨S1x64x4096, .f32⟩
  | .local _ .vmem, ⟨6, _⟩ => ⟨S4096x256, .f32⟩
  | .local _ .vmem, ⟨7, _⟩ => ⟨S4096x256, .f32⟩
  | .local _ .vmem, ⟨8, _⟩ => ⟨S80x256, .f32⟩
  | .local _ .vmem, ⟨9, _⟩ => ⟨S80x256, .f32⟩
  | .local _ .vmem, ⟨10, _⟩ => ⟨S80x256, .f32⟩
  | .local _ .vmem, ⟨11, _⟩ => ⟨S80x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S4x16x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  v3
def k0_off1 (k0_t1 : Fin k0_t1_loop.trips) : Fin 4 → Nat :=
  let c0 : Index := 0#32
  let c0_1 : Index := 0#32
  let c0_2 : Index := 0#32
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  let v4 : BitVec 32 := v3
  let v5 : Index := Scalar.indexCast v4
  ![0, 0, 0, v5.toNat]
def k0_off2 (k0_t1 : Fin k0_t1_loop.trips) : Fin 4 → Nat :=
  let c0_3 : Index := 0#32
  let c1 : Index := 1#32
  let c0_4 : Index := 0#32
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  let v4 : BitVec 32 := v3
  let v8 : Index := Scalar.indexCast v4
  ![0, 1, 0, v8.toNat]
def k0_off3 (k0_t1 : Fin k0_t1_loop.trips) : Fin 4 → Nat :=
  let c0_5 : Index := 0#32
  let c2 : Index := 2#32
  let c0_6 : Index := 0#32
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  let v4 : BitVec 32 := v3
  let v11 : Index := Scalar.indexCast v4
  ![0, 2, 0, v11.toNat]
def k0_off4 (k0_t1 : Fin k0_t1_loop.trips) : Fin 4 → Nat :=
  let c0_7 : Index := 0#32
  let c3 : Index := 3#32
  let c0_8 : Index := 0#32
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  let v4 : BitVec 32 := v3
  let v14 : Index := Scalar.indexCast v4
  ![0, 3, 0, v14.toNat]
@[reducible] def k0_t2_loop (k0_t1 : Fin k0_t1_loop.trips) : Scf.Loop 32 :=
  let c0_i32_27 : BitVec 32 := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let v51 : BitVec 32 := Scalar.subi v50 c0_i32_27
  let c1_i32_28 : BitVec 32 := 1#32
  let v53 : BitVec 32 := Scalar.divsi v51 c1_i32_28
  let v54 : BitVec 32 := Scalar.muli v53 c1_i32_28
  let v55 : BitVec 32 := Scalar.addi c0_i32_27 v54
  let c1_i32_29 : BitVec 32 := 1#32
  ⟨c0_i32_27, v55, c1_i32_29⟩
def k0_mult2 (k0_t1 : Fin k0_t1_loop.trips) (k0_t2 : Fin (k0_t2_loop k0_t1).trips) : BitVec 32 :=
  let c0_i32_27 : BitVec 32 := 0#32
  let c1_i32_29 : BitVec 32 := 1#32
  let arg15 : BitVec 32 := Scf.iv c0_i32_27 c1_i32_29 k0_t2
  let c4_i32_54 : BitVec 32 := 4#32
  let v106 : BitVec 32 := Scalar.muli arg15 c4_i32_54
  let c256_i32_55 : BitVec 32 := 256#32
  let v107 : BitVec 32 := Scalar.muli v106 c256_i32_55
  v107
def k0_off5 (k0_t1 : Fin k0_t1_loop.trips) (k0_t2 : Fin (k0_t2_loop k0_t1).trips) : Fin 2 → Nat :=
  let c0_i32_27 : BitVec 32 := 0#32
  let c1_i32_29 : BitVec 32 := 1#32
  let arg15 : BitVec 32 := Scf.iv c0_i32_27 c1_i32_29 k0_t2
  let c4_i32_54 : BitVec 32 := 4#32
  let v106 : BitVec 32 := Scalar.muli arg15 c4_i32_54
  let c256_i32_55 : BitVec 32 := 256#32
  let v107 : BitVec 32 := Scalar.muli v106 c256_i32_55
  let v108 : BitVec 32 := v107
  let v109 : Index := Scalar.indexCast v108
  let c0_56 : Index := 0#32
  ![v109.toNat, 0]
def k0_off6 (k0_t1 : Fin k0_t1_loop.trips) (k0_t2 : Fin (k0_t2_loop k0_t1).trips) : Fin 3 → Nat :=
  let c0_57 : Index := 0#32
  let c0_58 : Index := 0#32
  let c0_i32_27 : BitVec 32 := 0#32
  let c1_i32_29 : BitVec 32 := 1#32
  let arg15 : BitVec 32 := Scf.iv c0_i32_27 c1_i32_29 k0_t2
  let c4_i32_54 : BitVec 32 := 4#32
  let v106 : BitVec 32 := Scalar.muli arg15 c4_i32_54
  let c256_i32_55 : BitVec 32 := 256#32
  let v107 : BitVec 32 := Scalar.muli v106 c256_i32_55
  let v108 : BitVec 32 := v107
  let v111 : Index := Scalar.indexCast v108
  ![0, 0, v111.toNat]
@[reducible] def k0_t3_loop (k0_t1 : Fin k0_t1_loop.trips) : Scf.Loop 32 :=
  let c0_i32_27 : BitVec 32 := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let v51 : BitVec 32 := Scalar.subi v50 c0_i32_27
  let c1_i32_28 : BitVec 32 := 1#32
  let v53 : BitVec 32 := Scalar.divsi v51 c1_i32_28
  let v54 : BitVec 32 := Scalar.muli v53 c1_i32_28
  let v55 : BitVec 32 := Scalar.addi c0_i32_27 v54
  let v52 : BitVec 32 := Scalar.addi c0_i32_27 v51
  let c1_i32_30 : BitVec 32 := 1#32
  ⟨v55, v52, c1_i32_30⟩
def k0_mult3 (k0_t1 : Fin k0_t1_loop.trips) (k0_t3 : Fin (k0_t3_loop k0_t1).trips) : BitVec 32 :=
  let c0_i32_27 : BitVec 32 := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let v51 : BitVec 32 := Scalar.subi v50 c0_i32_27
  let c1_i32_28 : BitVec 32 := 1#32
  let v53 : BitVec 32 := Scalar.divsi v51 c1_i32_28
  let v54 : BitVec 32 := Scalar.muli v53 c1_i32_28
  let v55 : BitVec 32 := Scalar.addi c0_i32_27 v54
  let c1_i32_30 : BitVec 32 := 1#32
  let arg15 : BitVec 32 := Scf.iv v55 c1_i32_30 k0_t3
  let c4_i32_54 : BitVec 32 := 4#32
  let v106 : BitVec 32 := Scalar.muli arg15 c4_i32_54
  let c256_i32_55 : BitVec 32 := 256#32
  let v107 : BitVec 32 := Scalar.muli v106 c256_i32_55
  v107
def k0_off7 (k0_t1 : Fin k0_t1_loop.trips) (k0_t3 : Fin (k0_t3_loop k0_t1).trips) : Fin 2 → Nat :=
  let c0_i32_27 : BitVec 32 := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let v51 : BitVec 32 := Scalar.subi v50 c0_i32_27
  let c1_i32_28 : BitVec 32 := 1#32
  let v53 : BitVec 32 := Scalar.divsi v51 c1_i32_28
  let v54 : BitVec 32 := Scalar.muli v53 c1_i32_28
  let v55 : BitVec 32 := Scalar.addi c0_i32_27 v54
  let c1_i32_30 : BitVec 32 := 1#32
  let arg15 : BitVec 32 := Scf.iv v55 c1_i32_30 k0_t3
  let c4_i32_54 : BitVec 32 := 4#32
  let v106 : BitVec 32 := Scalar.muli arg15 c4_i32_54
  let c256_i32_55 : BitVec 32 := 256#32
  let v107 : BitVec 32 := Scalar.muli v106 c256_i32_55
  let v108 : BitVec 32 := v107
  let v109 : Index := Scalar.indexCast v108
  let c0_56 : Index := 0#32
  ![v109.toNat, 0]
def k0_off8 (k0_t1 : Fin k0_t1_loop.trips) (k0_t3 : Fin (k0_t3_loop k0_t1).trips) : Fin 3 → Nat :=
  let c0_57 : Index := 0#32
  let c0_58 : Index := 0#32
  let c0_i32_27 : BitVec 32 := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let v51 : BitVec 32 := Scalar.subi v50 c0_i32_27
  let c1_i32_28 : BitVec 32 := 1#32
  let v53 : BitVec 32 := Scalar.divsi v51 c1_i32_28
  let v54 : BitVec 32 := Scalar.muli v53 c1_i32_28
  let v55 : BitVec 32 := Scalar.addi c0_i32_27 v54
  let c1_i32_30 : BitVec 32 := 1#32
  let arg15 : BitVec 32 := Scf.iv v55 c1_i32_30 k0_t3
  let c4_i32_54 : BitVec 32 := 4#32
  let v106 : BitVec 32 := Scalar.muli arg15 c4_i32_54
  let c256_i32_55 : BitVec 32 := 256#32
  let v107 : BitVec 32 := Scalar.muli v106 c256_i32_55
  let v108 : BitVec 32 := v107
  let v111 : Index := Scalar.indexCast v108
  ![0, 0, v111.toNat]
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  v59
def k0_cond1 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_33 : BitVec 32 := 4#32
  let c0_i32_34 : BitVec 32 := 0#32
  let v61 : BitVec 1 := Scalar.cmpi .eq c4_i32_33 c0_i32_34
  let c1_i32_35 : BitVec 32 := 1#32
  let v62 : BitVec 32 := Scalar.select v61 c1_i32_35 c4_i32_33
  let v63 : BitVec 32 := Scalar.remsi arg14 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c0_i32_39 : BitVec 32 := 0#32
  let v71 : BitVec 32 := Scalar.maxsi v70 c0_i32_39
  let c3_i32 : BitVec 32 := 3#32
  let v72 : BitVec 32 := Scalar.minsi v71 c3_i32
  let c0_i32_40 : BitVec 32 := 0#32
  let v73 : BitVec 1 := Scalar.cmpi .ne v72 c0_i32_40
  v73

def k0_cond2 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_33 : BitVec 32 := 4#32
  let c0_i32_34 : BitVec 32 := 0#32
  let v61 : BitVec 1 := Scalar.cmpi .eq c4_i32_33 c0_i32_34
  let c1_i32_35 : BitVec 32 := 1#32
  let v62 : BitVec 32 := Scalar.select v61 c1_i32_35 c4_i32_33
  let v63 : BitVec 32 := Scalar.remsi arg14 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c0_i32_39 : BitVec 32 := 0#32
  let v71 : BitVec 32 := Scalar.maxsi v70 c0_i32_39
  let c3_i32 : BitVec 32 := 3#32
  let v72 : BitVec 32 := Scalar.minsi v71 c3_i32
  let c1_i32_54 : BitVec 32 := 1#32
  let v106 : BitVec 32 := Scalar.subi v72 c1_i32_54
  let c0_i32_55 : BitVec 32 := 0#32
  let v107 : BitVec 1 := Scalar.cmpi .ne v106 c0_i32_55
  v107

def k0_cond3 (k0_t1 : Fin k0_t1_loop.trips) : BitVec 1 :=
  let c0_i32 : BitVec 32 := 0#32
  let c1_i32 : BitVec 32 := 1#32
  let arg14 : BitVec 32 := Scf.iv c0_i32 c1_i32 k0_t1
  let c4_i32_33 : BitVec 32 := 4#32
  let c0_i32_34 : BitVec 32 := 0#32
  let v61 : BitVec 1 := Scalar.cmpi .eq c4_i32_33 c0_i32_34
  let c1_i32_35 : BitVec 32 := 1#32
  let v62 : BitVec 32 := Scalar.select v61 c1_i32_35 c4_i32_33
  let v63 : BitVec 32 := Scalar.remsi arg14 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c0_i32_39 : BitVec 32 := 0#32
  let v71 : BitVec 32 := Scalar.maxsi v70 c0_i32_39
  let c3_i32 : BitVec 32 := 3#32
  let v72 : BitVec 32 := Scalar.minsi v71 c3_i32
  let c1_i32_54 : BitVec 32 := 1#32
  let v106 : BitVec 32 := Scalar.subi v72 c1_i32_54
  let c1_i32_56 : BitVec 32 := 1#32
  let v108 : BitVec 32 := Scalar.subi v106 c1_i32_56
  let c0_i32_57 : BitVec 32 := 0#32
  let v109 : BitVec 1 := Scalar.cmpi .ne v108 c0_i32_57
  v109

def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v110 : Index := Scalar.indexCast v60
  let c0_58 : Index := 0#32
  ![v110.toNat, 0]
def k0_off10 (k0_t1 : Fin k0_t1_loop.trips) : Fin 3 → Nat :=
  let c0_59 : Index := 0#32
  let c0_60 : Index := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v112 : Index := Scalar.indexCast v60
  ![0, 0, v112.toNat]
def k0_off11 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v110 : Index := Scalar.indexCast v60
  let c0_58 : Index := 0#32
  ![v110.toNat, 0]
def k0_off12 (k0_t1 : Fin k0_t1_loop.trips) : Fin 3 → Nat :=
  let c0_59 : Index := 0#32
  let c0_60 : Index := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v112 : Index := Scalar.indexCast v60
  ![0, 0, v112.toNat]
def k0_off13 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v108 : Index := Scalar.indexCast v60
  let c0_56 : Index := 0#32
  ![v108.toNat, 0]
def k0_off14 (k0_t1 : Fin k0_t1_loop.trips) : Fin 3 → Nat :=
  let c0_57 : Index := 0#32
  let c0_58 : Index := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v110 : Index := Scalar.indexCast v60
  ![0, 0, v110.toNat]
def k0_off15 (k0_t1 : Fin k0_t1_loop.trips) : Fin 2 → Nat :=
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v106 : Index := Scalar.indexCast v60
  let c0_54 : Index := 0#32
  ![v106.toNat, 0]
def k0_off16 (k0_t1 : Fin k0_t1_loop.trips) : Fin 3 → Nat :=
  let c0_55 : Index := 0#32
  let c0_56 : Index := 0#32
  let c0_i32 : BitVec 32 := 0#32
  let c1_i32 : BitVec 32 := 1#32
  let arg14 : BitVec 32 := Scf.iv c0_i32 c1_i32 k0_t1
  let c0_i32_21 : BitVec 32 := 0#32
  let v35 : BitVec 1 := Scalar.cmpi .sgt arg14 c0_i32_21
  let v36 : BitVec 32 := Scalar.extui v35
  let c0_i32_22 : BitVec 32 := 0#32
  let v37 : BitVec 1 := Scalar.cmpi .slt arg14 c0_i32_22
  let v38 : BitVec 32 := Scalar.extui v37
  let v39 : BitVec 32 := Scalar.subi v36 v38
  let c4_i32 : BitVec 32 := 4#32
  let c0_i32_23 : BitVec 32 := 0#32
  let v40 : BitVec 1 := Scalar.cmpi .sgt c4_i32 c0_i32_23
  let v41 : BitVec 32 := Scalar.extui v40
  let c0_i32_24 : BitVec 32 := 0#32
  let v42 : BitVec 1 := Scalar.cmpi .slt c4_i32 c0_i32_24
  let v43 : BitVec 32 := Scalar.extui v42
  let v44 : BitVec 32 := Scalar.subi v41 v43
  let v45 : BitVec 1 := Scalar.cmpi .ne v39 v44
  let v46 : BitVec 32 := Scalar.remsi arg14 c4_i32
  let c0_i32_25 : BitVec 32 := 0#32
  let v47 : BitVec 1 := Scalar.cmpi .ne v46 c0_i32_25
  let v48 : BitVec 1 := Scalar.andi v45 v47
  let v34 : BitVec 32 := Scalar.divsi arg14 c4_i32
  let c1_i32_26 : BitVec 32 := 1#32
  let v49 : BitVec 32 := Scalar.subi v34 c1_i32_26
  let v50 : BitVec 32 := Scalar.select v48 v49 v34
  let c4_i32_31 : BitVec 32 := 4#32
  let v58 : BitVec 32 := Scalar.muli v50 c4_i32_31
  let c256_i32_32 : BitVec 32 := 256#32
  let v59 : BitVec 32 := Scalar.muli v58 c256_i32_32
  let v60 : BitVec 32 := v59
  let v108 : Index := Scalar.indexCast v60
  ![0, 0, v108.toNat]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c256_i32 : BitVec 32 := 256#32
  let v3 : BitVec 32 := Scalar.muli arg14 c256_i32
  let v4 : BitVec 32 := v3
  let v104 : Index := Scalar.indexCast v4
  let c0_53 : Index := 0#32
  ![v104.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x16x128x4096 : Shape := ⟨4, ![4, 16, 128, 4096]⟩
abbrev S16384x512 : Shape := ⟨2, ![16384, 512]⟩
abbrev S4x256x4096 : Shape := ⟨3, ![4, 256, 4096]⟩
abbrev S4x4x4x128x4096 : Shape := ⟨5, ![4, 4, 4, 128, 4096]⟩
abbrev S4x4096x4x128 : Shape := ⟨4, ![4, 4096, 4, 128]⟩
abbrev S4x4x64x4096 : Shape := ⟨4, ![4, 4, 64, 4096]⟩
abbrev S4x4x4x4096x4096 : Shape := ⟨5, ![4, 4, 4, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x4096x4x4x64 : Shape := ⟨5, ![4, 4096, 4, 4, 64]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x16x128x4096, .bf16⟩
  | .hbm, ⟨1, _⟩ => ⟨S16384x512, .bf16⟩
  | .hbm, ⟨2, _⟩ => ⟨S4x256x4096, .f32⟩
  | .hbm, ⟨3, _⟩ => ⟨S4x16x128x4096, .f32⟩
  | .hbm, ⟨4, _⟩ => ⟨S4x4x4x128x4096, .f32⟩
  | .hbm, ⟨5, _⟩ => ⟨S16384x512, .f32⟩
  | .hbm, ⟨6, _⟩ => ⟨S4x4096x4x128, .f32⟩
  | .hbm, ⟨7, _⟩ => ⟨S4x4x64x4096, .f32⟩
  | .hbm, ⟨8, _⟩ => ⟨S4x4x4x4096x4096, .f32⟩
  | .hbm, ⟨9, _⟩ => ⟨S4096, .i32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x4x4x4096x4096, .i1⟩
  | .hbm, ⟨18, _⟩ => ⟨S4x4x4x4096x4096, .f32⟩
  | .hbm, ⟨19, _⟩ => ⟨S4x4x4x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4x4x4096, .f32⟩
  | .hbm, ⟨24, _⟩ => ⟨S4x4x4x4096x1, .f32⟩
  | .hbm, ⟨25, _⟩ => ⟨S4x4x4x4096x4096, .f32⟩
  | .hbm, ⟨26, _⟩ => ⟨S4x4x4x4096x4096, .f32⟩
  | .hbm, ⟨27, _⟩ => ⟨S4x4x4x4096x4096, .f32⟩
  | .hbm, ⟨28, _⟩ => ⟨S4x4x4x4096x4096, .f32⟩
  | .hbm, ⟨29, _⟩ => ⟨S4x4x4x4096x4096, .f32⟩
  | .hbm, ⟨30, _⟩ => ⟨S_, .f32⟩
  | .hbm, ⟨31, _⟩ => ⟨S4x4x4x4096, .f32⟩
  | .hbm, ⟨32, _⟩ => ⟨S4x4x4x4096x1, .f32⟩
  | .hbm, ⟨33, _⟩ => ⟨S4x4x4x4096x4096, .f32⟩
  | .hbm, ⟨34, _⟩ => ⟨S4x4x4x4096x4096, .f32⟩
  | .hbm, ⟨35, _⟩ => ⟨S4x4x64x4x4096, .f32⟩
  | .hbm, ⟨36, _⟩ => ⟨S4x4096x4x4x64, .f32⟩
  | .hbm, ⟨37, _⟩ => ⟨S16384x1024, .f32⟩
  | _, _ => ⟨S4x16x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel2.lean ====
abbrev S16 : Shape := ⟨1, ![16]⟩
abbrev S33792x1024 : Shape := ⟨2, ![33792, 1024]⟩
abbrev S4x16x1024x256 : Shape := ⟨4, ![4, 16, 1024, 256]⟩
abbrev S4x16x256x1024 : Shape := ⟨4, ![4, 16, 256, 1024]⟩
abbrev S1x16 : Shape := ⟨2, ![1, 16]⟩
abbrev S16x1 : Shape := ⟨2, ![16, 1]⟩
abbrev S16x16 : Shape := ⟨2, ![16, 16]⟩
abbrev S_ : Shape := ⟨0, ![]⟩
abbrev S81 : Shape := ⟨1, ![81]⟩
abbrev S1 : Shape := ⟨1, ![1]⟩
abbrev S81x1 : Shape := ⟨2, ![81, 1]⟩
abbrev S81x16 : Shape := ⟨2, ![81, 16]⟩
abbrev S80 : Shape := ⟨1, ![80]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x512 : Shape := ⟨2, ![1024, 512]⟩
abbrev S256x1024 : Shape := ⟨2, ![256, 1024]⟩
abbrev S1024x256 : Shape := ⟨2, ![1024, 256]⟩
abbrev S512x1 : Shape := ⟨2, ![512, 1]⟩
abbrev S256x512 : Shape := ⟨2, ![256, 512]⟩
abbrev S256x256 : Shape := ⟨2, ![256, 256]⟩
abbrev S256x1 : Shape := ⟨2, ![256, 1]⟩

abbrev nBuf : Space → Nat
  | .hbm => 163
  | .vmem => 12
  | .smem => 6
  | _ => 0

abbrev hbmTy0_0 (i : Nat) : BufTy := match i % 128 with
  | 0 => ⟨S16, .i32⟩
  | 1 => ⟨S33792x1024, .f32⟩
  | 2 => ⟨S4x16x1024x256, .f32⟩
  | 3 => ⟨S4x16x1024x256, .f32⟩
  | 4 => ⟨S4x16x256x1024, .f32⟩
  | 5 => ⟨S16, .i32⟩
  | 6 => ⟨S1x16, .i32⟩
  | 7 => ⟨S16x1, .i32⟩
  | 8 => ⟨S16x16, .i32⟩
  | 9 => ⟨S16x16, .i32⟩
  | 10 => ⟨S16x16, .i1⟩
  | 11 => ⟨S16x16, .i32⟩
  | 12 => ⟨S1x16, .i32⟩
  | 13 => ⟨S16x16, .i32⟩
  | 14 => ⟨S16x16, .i32⟩
  | 15 => ⟨S_, .i32⟩
  | 16 => ⟨S16, .i32⟩
  | 17 => ⟨S16, .i32⟩
  | 18 => ⟨S_, .i32⟩
  | 19 => ⟨S_, .i32⟩
  | 20 => ⟨S16, .i32⟩
  | 21 => ⟨S16, .i32⟩
  | 22 => ⟨S16, .i32⟩
  | 23 => ⟨S_, .i32⟩
  | 24 => ⟨S16, .i32⟩
  | 25 => ⟨S16, .i1⟩
  | 26 => ⟨S16, .i32⟩
  | 27 => ⟨S16, .i32⟩
  | 28 => ⟨S_, .i32⟩
  | 29 => ⟨S16, .i32⟩
  | 30 => ⟨S16, .i1⟩
  | 31 => ⟨S16, .i1⟩
  | 32 => ⟨S_, .i32⟩
  | 33 => ⟨S16, .i32⟩
  | 34 => ⟨S16, .i32⟩
  | 35 => ⟨S16, .i32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S_, .i32⟩
  | 43 => ⟨S_, .i32⟩
  | 44 => ⟨S16, .i32⟩
  | 45 => ⟨S16, .i32⟩
  | 46 => ⟨S16, .i32⟩
  | 47 => ⟨S_, .i32⟩
  | 48 => ⟨S16, .i32⟩
  | 49 => ⟨S16, .i1⟩
  | 50 => ⟨S16, .i32⟩
  | 51 => ⟨S16, .i32⟩
  | 52 => ⟨S_, .i32⟩
  | 53 => ⟨S16, .i32⟩
  | 54 => ⟨S16, .i1⟩
  | 55 => ⟨S16, .i1⟩
  | 56 => ⟨S_, .i32⟩
  | 57 => ⟨S16, .i32⟩
  | 58 => ⟨S16, .i32⟩
  | 59 => ⟨S16, .i32⟩
  | 60 => ⟨S16, .i32⟩
  | 61 => ⟨S_, .i32⟩
  | 62 => ⟨S16, .i32⟩
  | 63 => ⟨S16, .i32⟩
  | 64 => ⟨S_, .i32⟩
  | 65 => ⟨S_, .i32⟩
  | 66 => ⟨S16, .i32⟩
  | 67 => ⟨S16, .i32⟩
  | 68 => ⟨S1x16, .i32⟩
  | 69 => ⟨S16x16, .i32⟩
  | 70 => ⟨S16x16, .i32⟩
  | 71 => ⟨S_, .i32⟩
  | 72 => ⟨S16, .i32⟩
  | 73 => ⟨S81, .i32⟩
  | 74 => ⟨S1, .i32⟩
  | 75 => ⟨S_, .i32⟩
  | 76 => ⟨S81, .i32⟩
  | 77 => ⟨S81, .i1⟩
  | 78 => ⟨S81x1, .i32⟩
  | 79 => ⟨S1x16, .i32⟩
  | 80 => ⟨S81x16, .i32⟩
  | 81 => ⟨S81x16, .i32⟩
  | 82 => ⟨S81x16, .i1⟩
  | 83 => ⟨S81x16, .i32⟩
  | 84 => ⟨S_, .i32⟩
  | 85 => ⟨S81, .i32⟩
  | 86 => ⟨S_, .i32⟩
  | 87 => ⟨S81, .i32⟩
  | 88 => ⟨S81x1, .i32⟩
  | 89 => ⟨S1x16, .i32⟩
  | 90 => ⟨S81x16, .i32⟩
  | 91 => ⟨S81x16, .i32⟩
  | 92 => ⟨S81x16, .i1⟩
  | 93 => ⟨S81x16, .i32⟩
  | 94 => ⟨S1x16, .i32⟩
  | 95 => ⟨S81x16, .i32⟩
  | 96 => ⟨S81x16, .i32⟩
  | 97 => ⟨S_, .i32⟩
  | 98 => ⟨S81, .i32⟩
  | 99 => ⟨S81, .i32⟩
  | 100 => ⟨S16, .i32⟩
  | 101 => ⟨S1x16, .i32⟩
  | 102 => ⟨S81x16, .i32⟩
  | 103 => ⟨S81x16, .i32⟩
  | 104 => ⟨S_, .i32⟩
  | 105 => ⟨S81, .i32⟩
  | 106 => ⟨S81, .i32⟩
  | 107 => ⟨S_, .i32⟩
  | 108 => ⟨S_, .i32⟩
  | 109 => ⟨S81, .i32⟩
  | 110 => ⟨S1x16, .i32⟩
  | 111 => ⟨S81x16, .i32⟩
  | 112 => ⟨S81x16, .i32⟩
  | 113 => ⟨S_, .i32⟩
  | 114 => ⟨S81, .i32⟩
  | 115 => ⟨S_, .i32⟩
  | 116 => ⟨S81, .i32⟩
  | 117 => ⟨S81, .i32⟩
  | 118 => ⟨S81, .i32⟩
  | 119 => ⟨S_, .i32⟩
  | 120 => ⟨S_, .i32⟩
  | 121 => ⟨S_, .i32⟩
  | 122 => ⟨S81, .i32⟩
  | 123 => ⟨S81, .i32⟩
  | 124 => ⟨S_, .i32⟩
  | 125 => ⟨S81, .i32⟩
  | 126 => ⟨S81, .i32⟩
  | 127 => ⟨S_, .i32⟩
  | _ => ⟨S16, .i32⟩

abbrev hbmTy0_1 (i : Nat) : BufTy := match i % 128 with
  | 0 => ⟨S_, .i32⟩
  | 1 => ⟨S81, .i32⟩
  | 2 => ⟨S1x16, .i32⟩
  | 3 => ⟨S81x16, .i32⟩
  | 4 => ⟨S81x16, .i32⟩
  | 5 => ⟨S_, .i32⟩
  | 6 => ⟨S81, .i32⟩
  | 7 => ⟨S_, .i32⟩
  | 8 => ⟨S81, .i32⟩
  | 9 => ⟨S81, .i32⟩
  | 10 => ⟨S81, .i32⟩
  | 11 => ⟨S_, .i32⟩
  | 12 => ⟨S_, .i32⟩
  | 13 => ⟨S_, .i32⟩
  | 14 => ⟨S81, .i32⟩
  | 15 => ⟨S81, .i32⟩
  | 16 => ⟨S_, .i32⟩
  | 17 => ⟨S81, .i32⟩
  | 18 => ⟨S81, .i32⟩
  | 19 => ⟨S_, .i32⟩
  | 20 => ⟨S_, .i32⟩
  | 21 => ⟨S81, .i32⟩
  | 22 => ⟨S_, .i32⟩
  | 23 => ⟨S1, .i32⟩
  | 24 => ⟨S80, .i32⟩
  | 25 => ⟨S81, .i32⟩
  | 26 => ⟨S_, .i32⟩
  | 27 => ⟨S1, .i32⟩
  | 28 => ⟨S80, .i32⟩
  | 29 => ⟨S81, .i32⟩
  | 30 => ⟨S81, .i1⟩
  | 31 => ⟨S81, .i1⟩
  | 32 => ⟨S81, .i1⟩
  | 33 => ⟨S81, .i1⟩
  | 34 => ⟨S33792x1024, .f32⟩
  | _ => ⟨S16, .i32⟩

abbrev hbmTy (i : Nat) : BufTy := match i / 128 with
  | 0 => hbmTy0_0 i
  | 1 => hbmTy0_1 i
  | _ => ⟨S16, .i32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S256x1024, .bf16⟩
  | .local _ .smem, ⟨0, _⟩ => ⟨S81, .i32⟩
  | .local _ .smem, ⟨1, _⟩ => ⟨S81, .i32⟩
  | .local _ .smem, ⟨2, _⟩ => ⟨S81, .i32⟩
  | .local _ .smem, ⟨3, _⟩ => ⟨S81, .i32⟩
  | .local _ .smem, ⟨4, _⟩ => ⟨S81, .i32⟩
  | .local _ .smem, ⟨5, _⟩ => ⟨S81, .i32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_c_1 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v17 : Ref sig .tc := ⟨.hbm, 59, rfl⟩
abbrev main_v18 : Ref sig .tc := ⟨.hbm, 60, rfl⟩
abbrev main_c_4 : Ref sig .tc := ⟨.hbm, 61, rfl⟩
abbrev main_v19 : Ref sig .tc := ⟨.hbm, 62, rfl⟩
abbrev main_v20 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_6 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c_7 : Ref sig .tc := ⟨.hbm, 84, rfl⟩
abbrev main_v37 : Ref sig .tc := ⟨.hbm, 85, rfl⟩
abbrev main_c_8 : Ref sig .tc := ⟨.hbm, 86, rfl⟩
abbrev main_v38 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_c_9 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_10 : Ref sig .tc := ⟨.hbm, 104, rfl⟩
abbrev main_v55 : Ref sig .tc := ⟨.hbm, 105, rfl⟩
abbrev main_v56 : Ref sig .tc := ⟨.hbm, 106, rfl⟩
abbrev main_c_11 : Ref sig .tc := ⟨.hbm, 107, rfl⟩
abbrev main_call3_v0 : Ref sig .tc := ⟨.hbm, 108, rfl⟩
abbrev main_call3_v1 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_12 : Ref sig .tc := ⟨.hbm, 113, rfl⟩
abbrev main_v61 : Ref sig .tc := ⟨.hbm, 114, rfl⟩
abbrev main_c_13 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_14 : Ref sig .tc := ⟨.hbm, 119, rfl⟩
abbrev main_c_15 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v65 : Ref sig .tc := ⟨.hbm, 126, rfl⟩
abbrev main_c_16 : Ref sig .tc := ⟨.hbm, 127, rfl⟩
abbrev main_call5_v0 : Ref sig .tc := ⟨.hbm, 128, rfl⟩
abbrev main_call5_v1 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_c_17 : Ref sig .tc := ⟨.hbm, 133, rfl⟩
abbrev main_v70 : Ref sig .tc := ⟨.hbm, 134, rfl⟩
abbrev main_c_18 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_19 : Ref sig .tc := ⟨.hbm, 139, rfl⟩
abbrev main_c_20 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v74 : Ref sig .tc := ⟨.hbm, 146, rfl⟩
abbrev main_c_21 : Ref sig .tc := ⟨.hbm, 147, rfl⟩
abbrev main_call7_v0 : Ref sig .tc := ⟨.hbm, 148, rfl⟩
abbrev main_call7_v1 : Ref sig .tc := ⟨.hbm, 149, rfl⟩
abbrev main_c_22 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_c_23 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v85 : Ref sig .tc := ⟨.hbm, 160, rfl⟩
abbrev main_v86 : Ref sig .tc := ⟨.hbm, 161, rfl⟩
abbrev main_v88 : Ref sig .tc := ⟨.hbm, 162, rfl⟩
abbrev main_v57 : Ref sig .tc := ⟨.smem, 0, rfl⟩
abbrev main_v39 : Ref sig .tc := ⟨.smem, 1, rfl⟩
abbrev main_v66 : Ref sig .tc := ⟨.smem, 2, rfl⟩
abbrev main_v75 : Ref sig .tc := ⟨.smem, 3, rfl⟩
abbrev main_v84 : Ref sig .tc := ⟨.smem, 4, rfl⟩
abbrev main_v87 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![81], ![false]⟩

abbrev pre0 : Pipeline.Prefetch sig := ⟨6, ![main_v57.idx, main_v39.idx, main_v66.idx, main_v75.idx, main_v84.idx, main_v87.idx], fun | 0 => main_v57.names | 1 => main_v39.names | 2 => main_v66.names | 3 => main_v75.names | 4 => main_v84.names | 5 => main_v87.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v64 : Index := Scalar.indexCast arg0
  ![v64.toNat]
def k0_off3 (i : grid0.Coords) : Fin 1 → Nat :=
  let arg0 : BitVec 32 := BitVec.ofNat 32 (i 0).val
  let v69 : Index := Scalar.indexCast arg0
  ![v69.toNat]
def k0_cond2 (v1 : BitVec 32) (v3 : BitVec 32) : BitVec 1 :=
  let v11 : BitVec 1 := Scalar.cmpi .sgt v3 v1
  let v12 : BitVec 32 := Scalar.extui v11
  let c0_i32_0 : BitVec 32 := 0#32
  let v13 : BitVec 1 := Scalar.cmpi .ne v12 c0_i32_0
  v13

def k0_cond3 (v65 : BitVec 32) : BitVec 1 :=
  let c1_i32_18 : BitVec 32 := 1#32
  let v66 : BitVec 1 := Scalar.cmpi .eq v65 c1_i32_18
  let v67 : BitVec 32 := Scalar.extui v66
  let c0_i32_19 : BitVec 32 := 0#32
  let v68 : BitVec 1 := Scalar.cmpi .ne v67 c0_i32_19
  v68

def k0_cond4 (v70 : BitVec 32) : BitVec 1 :=
  let c0_i32_20 : BitVec 32 := 0#32
  let v71 : BitVec 1 := Scalar.cmpi .eq v70 c0_i32_20
  let v72 : BitVec 32 := Scalar.extui v71
  let c0_i32_21 : BitVec 32 := 0#32
  let v73 : BitVec 1 := Scalar.cmpi .ne v72 c0_i32_21
  v73

def cc0_transform_0 (k0_off1_inb : ∀ i : grid0.Coords, ∀ a, (k0_off1 i) a + S1.size a ≤ S81.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S81.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S81) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S81.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S81) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S81.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S81) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S81.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S81) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16 : Shape := ⟨1, ![16]⟩
abbrev S33792x1024 : Shape := ⟨2, ![33792, 1024]⟩
abbrev S4x16x1024x256 : Shape := ⟨4, ![4, 16, 1024, 256]⟩
abbrev S4x16x256x1024 : Shape := ⟨4, ![4, 16, 256, 1024]⟩
abbrev S_ : Shape := ⟨0, ![]⟩
abbrev S33792 : Shape := ⟨1, ![33792]⟩
abbrev S33792x1 : Shape := ⟨2, ![33792, 1]⟩
abbrev S1x16 : Shape := ⟨2, ![1, 16]⟩
abbrev S33792x16 : Shape := ⟨2, ![33792, 16]⟩
abbrev S1x16x1024x256 : Shape := ⟨4, ![1, 16, 1024, 256]⟩
abbrev S16x1024x256 : Shape := ⟨3, ![16, 1024, 256]⟩
abbrev S33792x16x256 : Shape := ⟨3, ![33792, 16, 256]⟩
abbrev S33792x16x1 : Shape := ⟨3, ![33792, 16, 1]⟩
abbrev S1x16x256x1024 : Shape := ⟨4, ![1, 16, 256, 1024]⟩
abbrev S16x256x1024 : Shape := ⟨3, ![16, 256, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16, .i32⟩
  | .hbm, ⟨1, _⟩ => ⟨S33792x1024, .f32⟩
  | .hbm, ⟨2, _⟩ => ⟨S4x16x1024x256, .f32⟩
  | .hbm, ⟨3, _⟩ => ⟨S4x16x1024x256, .f32⟩
  | .hbm, ⟨4, _⟩ => ⟨S4x16x256x1024, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S33792, .i32⟩
  | .hbm, ⟨9, _⟩ => ⟨S33792x1, .i32⟩
  | .hbm, ⟨10, _⟩ => ⟨S16, .i32⟩
  | .hbm, ⟨11, _⟩ => ⟨S1x16, .i32⟩
  | .hbm, ⟨12, _⟩ => ⟨S33792x16, .i32⟩
  | .hbm, ⟨13, _⟩ => ⟨S33792x16, .i32⟩
  | .hbm, ⟨14, _⟩ => ⟨S33792x16, .i1⟩
  | .hbm, ⟨15, _⟩ => ⟨S1x16, .i32⟩
  | .hbm, ⟨16, _⟩ => ⟨S33792x16, .i32⟩
  | .hbm, ⟨17, _⟩ => ⟨S33792x16, .i32⟩
  | .hbm, ⟨18, _⟩ => ⟨S33792x16, .i1⟩
  | .hbm, ⟨19, _⟩ => ⟨S33792x16, .i1⟩
  | .hbm, ⟨20, _⟩ => ⟨S33792x16, .f32⟩
  | .hbm, ⟨21, _⟩ => ⟨S1x16x1024x256, .f32⟩
  | .hbm, ⟨22, _⟩ => ⟨S16x1024x256, .f32⟩
  | .hbm, ⟨23, _⟩ => ⟨S33792x16x256, .f32⟩
  | .hbm, ⟨24, _⟩ => ⟨S33792x16x256, .f32⟩
  | .hbm, ⟨25, _⟩ => ⟨S33792x16x256, .f32⟩
  | .hbm, ⟨26, _⟩ => ⟨S_, .f32⟩
  | .hbm, ⟨27, _⟩ => ⟨S33792x16x256, .f32⟩
  | .hbm, ⟨28, _⟩ => ⟨S33792x16x256, .f32⟩
  | .hbm, ⟨29, _⟩ => ⟨S_, .f32⟩
  | .hbm, ⟨30, _⟩ => ⟨S33792x16x256, .f32⟩
  | .hbm, ⟨31, _⟩ => ⟨S33792x16x256, .f32⟩
  | .hbm, ⟨32, _⟩ => ⟨S33792x16x256, .f32⟩
  | .hbm, ⟨33, _⟩ => ⟨S1x16x1024x256, .f32⟩
  | .hbm, ⟨34, _⟩ => ⟨S16x1024x256, .f32⟩
  | .hbm, ⟨35, _⟩ => ⟨S33792x16x256, .f32⟩
  | .hbm, ⟨36, _⟩ => ⟨S33792x16x256, .f32⟩
  | .hbm, ⟨37, _⟩ => ⟨S33792x16x1, .f32⟩
  | .hbm, ⟨38, _⟩ => ⟨S33792x16x256, .f32⟩
  | .hbm, ⟨39, _⟩ => ⟨S33792x16x256, .f32⟩
  | .hbm, ⟨40, _⟩ => ⟨S1x16x256x1024, .f32⟩
  | .hbm, ⟨41, _⟩ => ⟨S16x256x1024, .f32⟩
  | .hbm, ⟨42, _⟩ => ⟨S33792x1024, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel3.lean ====
abbrev S16896x1024 : Shape := ⟨2, ![16896, 1024]⟩
abbrev S16896x128 : Shape := ⟨2, ![16896, 128]⟩
abbrev S4x2x1024 : Shape := ⟨3, ![4, 2, 1024]⟩
abbrev S1x1x1024 : Shape := ⟨3, ![1, 1, 1024]⟩
abbrev S1024 : Shape := ⟨1, ![1024]⟩
abbrev S1x1024 : Shape := ⟨2, ![1, 1024]⟩
abbrev S16384x1024 : Shape := ⟨2, ![16384, 1024]⟩
abbrev S512x1024 : Shape := ⟨2, ![512, 1024]⟩
abbrev S512x128 : Shape := ⟨2, ![512, 128]⟩
abbrev S512x1 : Shape := ⟨2, ![512, 1]⟩
abbrev S512 : Shape := ⟨1, ![512]⟩
abbrev S4x4096x1024 : Shape := ⟨3, ![4, 4096, 1024]⟩
abbrev S128x1024 : Shape := ⟨2, ![128, 1024]⟩
abbrev S128x1x1024 : Shape := ⟨3, ![128, 1, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x1024, .f32⟩
  | .hbm, ⟨3, _⟩ => ⟨S16896x128, .f32⟩
  | .hbm, ⟨4, _⟩ => ⟨S4x2x1024, .f32⟩
  | .hbm, ⟨5, _⟩ => ⟨S4x2x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S512x1024, .f32⟩
  | .hbm, ⟨14, _⟩ => ⟨S4x4096x1024, .f32⟩
  | .hbm, ⟨15, _⟩ => ⟨S128x1024, .f32⟩
  | .hbm, ⟨16, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v38 : BitVec 1 := Scalar.cmpi .slt arg0 c32_i32
  let v39 : BitVec 32 := Scalar.extui v38
  let c0_i32 : BitVec 32 := 0#32
  let v40 : BitVec 1 := Scalar.cmpi .ne v39 c0_i32
  v40

def k0_cond2 (i : grid0.Coords) : BitVec 1 :=
  let arg0 : BitVec 32 := BitVec.ofNat 32 (i 0).val
  let c32_i32_16 : BitVec 32 := 32#32
  let v41 : BitVec 1 := Scalar.cmpi .eq arg0 c32_i32_16
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S16896x1024 : Shape := ⟨2, ![16896, 1024]⟩
abbrev S16896x128 : Shape := ⟨2, ![16896, 128]⟩
abbrev S4x2x1024 : Shape := ⟨3, ![4, 2, 1024]⟩
abbrev S16896x1 : Shape := ⟨2, ![16896, 1]⟩
abbrev S_ : Shape := ⟨0, ![]⟩
abbrev S1x1x1024 : Shape := ⟨3, ![1, 1, 1024]⟩
abbrev S1024 : Shape := ⟨1, ![1024]⟩
abbrev S16896 : Shape := ⟨1, ![16896]⟩
abbrev S1x1024 : Shape := ⟨2, ![1, 1024]⟩
abbrev S16384x1024 : Shape := ⟨2, ![16384, 1024]⟩
abbrev S4x4096x1024 : Shape := ⟨3, ![4, 4096, 1024]⟩
abbrev S128x1024 : Shape := ⟨2, ![128, 1024]⟩
abbrev S128x1x1024 : Shape := ⟨3, ![128, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S16896x1024, .f32⟩
  | .hbm, ⟨3, _⟩ => ⟨S16896x128, .f32⟩
  | .hbm, ⟨4, _⟩ => ⟨S4x2x1024, .f32⟩
  | .hbm, ⟨5, _⟩ => ⟨S4x2x1024, .f32⟩
  | .hbm, ⟨6, _⟩ => ⟨S16896x1, .f32⟩
  | .hbm, ⟨7, _⟩ => ⟨S16896x1024, .f32⟩
  | .hbm, ⟨8, _⟩ => ⟨S16896x1024, .f32⟩
  | .hbm, ⟨9, _⟩ => ⟨S16896x1, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S_, .f32⟩
  | .hbm, ⟨14, _⟩ => ⟨S16896x1024, .f32⟩
  | .hbm, ⟨15, _⟩ => ⟨S16896x1024, .f32⟩
  | .hbm, ⟨16, _⟩ => ⟨S16896x1024, .f32⟩
  | .hbm, ⟨17, _⟩ => ⟨S1x1x1024, .f32⟩
  | .hbm, ⟨18, _⟩ => ⟨S1024, .f32⟩
  | .hbm, ⟨19, _⟩ => ⟨S1x1x1024, .f32⟩
  | .hbm, ⟨20, _⟩ => ⟨S1024, .f32⟩
  | .hbm, ⟨21, _⟩ => ⟨S_, .f32⟩
  | .hbm, ⟨22, _⟩ => ⟨S16896, .f32⟩
  | .hbm, ⟨23, _⟩ => ⟨S16896x1, .f32⟩
  | .hbm, ⟨24, _⟩ => ⟨S_, .f32⟩
  | .hbm, ⟨25, _⟩ => ⟨S16896x1, .f32⟩
  | .hbm, ⟨26, _⟩ => ⟨S16896x1, .f32⟩
  | .hbm, ⟨27, _⟩ => ⟨S16896x1024, .f32⟩
  | .hbm, ⟨28, _⟩ => ⟨S16896x1024, .f32⟩
  | .hbm, ⟨29, _⟩ => ⟨S16896x1024, .f32⟩
  | .hbm, ⟨30, _⟩ => ⟨S_, .f32⟩
  | .hbm, ⟨31, _⟩ => ⟨S16896, .f32⟩
  | .hbm, ⟨32, _⟩ => ⟨S16896x1, .f32⟩
  | .hbm, ⟨33, _⟩ => ⟨S_, .f32⟩
  | .hbm, ⟨34, _⟩ => ⟨S16896x1, .f32⟩
  | .hbm, ⟨35, _⟩ => ⟨S16896x1, .f32⟩
  | .hbm, ⟨36, _⟩ => ⟨S16896x1024, .f32⟩
  | .hbm, ⟨37, _⟩ => ⟨S16896x1024, .f32⟩
  | .hbm, ⟨38, _⟩ => ⟨S_, .f32⟩
  | .hbm, ⟨39, _⟩ => ⟨S16896x1, .f32⟩
  | .hbm, ⟨40, _⟩ => ⟨S16896x1, .f32⟩
  | .hbm, ⟨41, _⟩ => ⟨S16896x1, .f32⟩
  | .hbm, ⟨42, _⟩ => ⟨S16896x1024, .f32⟩
  | .hbm, ⟨43, _⟩ => ⟨S16896x1024, .f32⟩
  | .hbm, ⟨44, _⟩ => ⟨S1x1024, .f32⟩
  | .hbm, ⟨45, _⟩ => ⟨S16896x1024, .f32⟩
  | .hbm, ⟨46, _⟩ => ⟨S16896x1024, .f32⟩
  | .hbm, ⟨47, _⟩ => ⟨S1x1024, .f32⟩
  | .hbm, ⟨48, _⟩ => ⟨S16896x1024, .f32⟩
  | .hbm, ⟨49, _⟩ => ⟨S16896x1024, .f32⟩
  | .hbm, ⟨50, _⟩ => ⟨S16384x1024, .f32⟩
  | .hbm, ⟨51, _⟩ => ⟨S4x4096x1024, .f32⟩
  | .hbm, ⟨52, _⟩ => ⟨S128x1024, .f32⟩
  | .hbm, ⟨53, _⟩ => ⟨S128x1x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel4.lean ====
abbrev S4x4096x1024 : Shape := ⟨3, ![4, 4096, 1024]⟩
abbrev S128x1x1024 : Shape := ⟨3, ![128, 1, 1024]⟩
abbrev S2x128x128x2x64 : Shape := ⟨5, ![2, 128, 128, 2, 64]⟩
abbrev S2x128x2x512 : Shape := ⟨4, ![2, 128, 2, 512]⟩
abbrev S2x1024x2304 : Shape := ⟨3, ![2, 1024, 2304]⟩
abbrev S2x3x512 : Shape := ⟨3, ![2, 3, 512]⟩
abbrev S16384x1024 : Shape := ⟨2, ![16384, 1024]⟩
abbrev S128x1024 : Shape := ⟨2, ![128, 1024]⟩
abbrev S_ : Shape := ⟨0, ![]⟩
abbrev S384x1024 : Shape := ⟨2, ![384, 1024]⟩
abbrev S512x1024 : Shape := ⟨2, ![512, 1024]⟩
abbrev S1x128x1x512 : Shape := ⟨4, ![1, 128, 1, 512]⟩
abbrev S128x512 : Shape := ⟨2, ![128, 512]⟩
abbrev S1x1024x2304 : Shape := ⟨3, ![1, 1024, 2304]⟩
abbrev S1024x2304 : Shape := ⟨2, ![1024, 2304]⟩
abbrev S1x3x512 : Shape := ⟨3, ![1, 3, 512]⟩
abbrev S3x512 : Shape := ⟨2, ![3, 512]⟩
abbrev S16896x512 : Shape := ⟨2, ![16896, 512]⟩
abbrev S16896x128 : Shape := ⟨2, ![16896, 128]⟩
abbrev S4x2x512 : Shape := ⟨3, ![4, 2, 512]⟩
abbrev S4x128x128 : Shape := ⟨3, ![4, 128, 128]⟩
abbrev S512x512 : Shape := ⟨2, ![512, 512]⟩
abbrev S512x128 : Shape := ⟨2, ![512, 128]⟩
abbrev S1x2x512 : Shape := ⟨3, ![1, 2, 512]⟩
abbrev S1x128x128 : Shape := ⟨3, ![1, 128, 128]⟩
abbrev S8x512 : Shape := ⟨2, ![8, 512]⟩
abbrev S512x2304 : Shape := ⟨2, ![512, 2304]⟩
abbrev S1x512 : Shape := ⟨2, ![1, 512]⟩
abbrev S2x512 : Shape := ⟨2, ![2, 512]⟩
abbrev S128x128 : Shape := ⟨2, ![128, 128]⟩
abbrev S384x512 : Shape := ⟨2, ![384, 512]⟩
abbrev S128x1x2x64 : Shape := ⟨4, ![128, 1, 2, 64]⟩
abbrev S4x2x64x128 : Shape := ⟨4, ![4, 2, 64, 128]⟩
abbrev S4x128x2x64 : Shape := ⟨4, ![4, 128, 2, 64]⟩
abbrev S1x128x128x2x64 : Shape := ⟨5, ![1, 128, 128, 2, 64]⟩
abbrev S128x128x2x64 : Shape := ⟨4, ![128, 128, 2, 64]⟩
abbrev S128x127x2x64 : Shape := ⟨4, ![128, 127, 2, 64]⟩
abbrev S128x1x512 : Shape := ⟨3, ![128, 1, 512]⟩
abbrev S128x2x512 : Shape := ⟨3, ![128, 2, 512]⟩

abbrev nBuf : Space → Nat
  | .hbm => 48
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S2x128x128x2x64, .f32⟩
  | .hbm, ⟨3, _⟩ => ⟨S2x128x128x2x64, .f32⟩
  | .hbm, ⟨4, _⟩ => ⟨S2x128x2x512, .f32⟩
  | .hbm, ⟨5, _⟩ => ⟨S2x1024x2304, .f32⟩
  | .hbm, ⟨6, _⟩ => ⟨S2x3x512, .f32⟩
  | .hbm, ⟨7, _⟩ => ⟨S16384x1024, .f32⟩
  | .hbm, ⟨8, _⟩ => ⟨S128x1024, .f32⟩
  | .hbm, ⟨9, _⟩ => ⟨S_, .f32⟩
  | .hbm, ⟨10, _⟩ => ⟨S384x1024, .f32⟩
  | .hbm, ⟨11, _⟩ => ⟨S512x1024, .f32⟩
  | .hbm, ⟨12, _⟩ => ⟨S1x128x1x512, .f32⟩
  | .hbm, ⟨13, _⟩ => ⟨S128x512, .f32⟩
  | .hbm, ⟨14, _⟩ => ⟨S1x128x1x512, .f32⟩
  | .hbm, ⟨15, _⟩ => ⟨S128x512, .f32⟩
  | .hbm, ⟨16, _⟩ => ⟨S1x1024x2304, .f32⟩
  | .hbm, ⟨17, _⟩ => ⟨S1024x2304, .f32⟩
  | .hbm, ⟨18, _⟩ => ⟨S1024x2304, .bf16⟩
  | .hbm, ⟨19, _⟩ => ⟨S1x3x512, .f32⟩
  | .hbm, ⟨20, _⟩ => ⟨S3x512, .f32⟩
  | .hbm, ⟨21, _⟩ => ⟨S16896x512, .f32⟩
  | .hbm, ⟨22, _⟩ => ⟨S16896x128, .f32⟩
  | .hbm, ⟨23, _⟩ => ⟨S16896x128, .f32⟩
  | .hbm, ⟨24, _⟩ => ⟨S16896x512, .f32⟩
  | .hbm, ⟨25, _⟩ => ⟨S4x2x512, .f32⟩
  | .hbm, ⟨26, _⟩ => ⟨S128x512, .f32⟩
  | .hbm, ⟨27, _⟩ => ⟨S4x128x128, .f32⟩
  | .hbm, ⟨28, _⟩ => ⟨S4x128x128, .f32⟩
  | .hbm, ⟨29, _⟩ => ⟨S128x128, .f32⟩
  | .hbm, ⟨30, _⟩ => ⟨S128x1x2x64, .f32⟩
  | .hbm, ⟨31, _⟩ => ⟨S128x128, .f32⟩
  | .hbm, ⟨32, _⟩ => ⟨S128x1x2x64, .f32⟩
  | .hbm, ⟨33, _⟩ => ⟨S4x2x64x128, .f32⟩
  | .hbm, ⟨34, _⟩ => ⟨S4x128x2x64, .f32⟩
  | .hbm, ⟨35, _⟩ => ⟨S4x2x64x128, .f32⟩
  | .hbm, ⟨36, _⟩ => ⟨S4x128x2x64, .f32⟩
  | .hbm, ⟨37, _⟩ => ⟨S1x128x128x2x64, .f32⟩
  | .hbm, ⟨38, _⟩ => ⟨S128x128x2x64, .f32⟩
  | .hbm, ⟨39, _⟩ => ⟨S128x127x2x64, .f32⟩
  | .hbm, ⟨40, _⟩ => ⟨S128x128x2x64, .f32⟩
  | .hbm, ⟨41, _⟩ => ⟨S1x128x128x2x64, .f32⟩
  | .hbm, ⟨42, _⟩ => ⟨S128x128x2x64, .f32⟩
  | .hbm, ⟨43, _⟩ => ⟨S128x127x2x64, .f32⟩
  | .hbm, ⟨44, _⟩ => ⟨S128x128x2x64, .f32⟩
  | .hbm, ⟨45, _⟩ => ⟨S128x1x512, .f32⟩
  | .hbm, ⟨46, _⟩ => ⟨S128x1x512, .f32⟩
  | .hbm, ⟨47, _⟩ => ⟨S128x2x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1024x2304, .bf16⟩
  | .local _ .vmem, ⟨4, _⟩ => ⟨S3x512, .f32⟩
  | .local _ .vmem, ⟨5, _⟩ => ⟨S128x512, .f32⟩
  | .local _ .vmem, ⟨6, _⟩ => ⟨S128x512, .f32⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S1x2x512, .f32⟩
  | .local _ .vmem, ⟨16, _⟩ => ⟨S1x2x512, .f32⟩
  | .local _ .vmem, ⟨17, _⟩ => ⟨S128x512, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32_15 : BitVec 32 := 32#32
  let v26 : BitVec 1 := Scalar.cmpi .slt arg0 c32_i32_15
  let v27 : BitVec 32 := Scalar.extui v26
  let c0_i32 : BitVec 32 := 0#32
  let v28 : BitVec 1 := Scalar.cmpi .ne v27 c0_i32
  v28

def k0_cond4 (i : grid0.Coords) : BitVec 1 :=
  let arg0 : BitVec 32 := BitVec.ofNat 32 (i 0).val
  let c32_i32_16 : BitVec 32 := 32#32
  let v29 : BitVec 1 := Scalar.cmpi .eq arg0 c32_i32_16
  let v30 : BitVec 32 := Scalar.extui v29
  let c0_i32_17 : BitVec 32 := 0#32
  let v31 : BitVec 1 := Scalar.cmpi .ne v30 c0_i32_17
  v31

def k0_cond3 (i : grid0.Coords) : BitVec 1 :=
  let arg0 : BitVec 32 := BitVec.ofNat 32 (i 0).val
  let c8_i32_39 : BitVec 32 := 8#32
  let c0_i32_40 : BitVec 32 := 0#32
  let v83 : BitVec 1 := Scalar.cmpi .eq c8_i32_39 c0_i32_40
  let c1_i32_41 : BitVec 32 := 1#32
  let v84 : BitVec 32 := Scalar.select v83 c1_i32_41 c8_i32_39
  let v85 : BitVec 32 := Scalar.remsi arg0 v84
  let c0_i32_43 : BitVec 32 := 0#32
  let v87 : BitVec 1 := Scalar.cmpi .slt v85 c0_i32_43
  let c0_i32_44 : BitVec 32 := 0#32
  let v88 : BitVec 1 := Scalar.cmpi .slt v84 c0_i32_44
  let v89 : BitVec 1 := Scalar.xori v87 v88
  let c0_i32_42 : BitVec 32 := 0#32
  let v86 : BitVec 1 := Scalar.cmpi .ne v85 c0_i32_42
  let v90 : BitVec 1 := Scalar.andi v89 v86
  let v91 : BitVec 32 := Scalar.addi v85 v84
  let v92 : BitVec 32 := Scalar.select v90 v91 v85
  let c7_i32 : BitVec 32 := 7#32
  let v93 : BitVec 1 := Scalar.cmpi .eq v92 c7_i32
  let v94 : BitVec 32 := Scalar.extui v93
  let c0_i32_45 : BitVec 32 := 0#32
  let v95 : BitVec 1 := Scalar.cmpi .ne v94 c0_i32_45
  v95

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  ![v17.toNat, c0_i32_4.toNat, c0_i32_5.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  ![v17.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S4x4096x1024 : Shape := ⟨3, ![4, 4096, 1024]⟩
abbrev S128x1x1024 : Shape := ⟨3, ![128, 1, 1024]⟩
abbrev S2x128x128x2x64 : Shape := ⟨5, ![2, 128, 128, 2, 64]⟩
abbrev S2x128x2x512 : Shape := ⟨4, ![2, 128, 2, 512]⟩
abbrev S2x1024x2304 : Shape := ⟨3, ![2, 1024, 2304]⟩
abbrev S2x3x512 : Shape := ⟨3, ![2, 3, 512]⟩
abbrev S1x1024x2304 : Shape := ⟨3, ![1, 1024, 2304]⟩
abbrev S1024x2304 : Shape := ⟨2, ![1024, 2304]⟩
abbrev S4x4096x2304 : Shape := ⟨3, ![4, 4096, 2304]⟩
abbrev S4x4096x512 : Shape := ⟨3, ![4, 4096, 512]⟩
abbrev S4x4096x128 : Shape := ⟨3, ![4, 4096, 128]⟩
abbrev S128x1x2304 : Shape := ⟨3, ![128, 1, 2304]⟩
abbrev S128x1x512 : Shape := ⟨3, ![128, 1, 512]⟩
abbrev S128x1x128 : Shape := ⟨3, ![128, 1, 128]⟩
abbrev S16384x512 : Shape := ⟨2, ![16384, 512]⟩
abbrev S128x512 : Shape := ⟨2, ![128, 512]⟩
abbrev S_ : Shape := ⟨0, ![]⟩
abbrev S384x512 : Shape := ⟨2, ![384, 512]⟩
abbrev S16896x512 : Shape := ⟨2, ![16896, 512]⟩
abbrev S16384x128 : Shape := ⟨2, ![16384, 128]⟩
abbrev S128x128 : Shape := ⟨2, ![128, 128]⟩
abbrev S384x128 : Shape := ⟨2, ![384, 128]⟩
abbrev S16896x128 : Shape := ⟨2, ![16896, 128]⟩
abbrev S4x4096x2x64 : Shape := ⟨4, ![4, 4096, 2, 64]⟩
abbrev S4x128x2x64 : Shape := ⟨4, ![4, 128, 2, 64]⟩
abbrev S1x128x128x2x64 : Shape := ⟨5, ![1, 128, 128, 2, 64]⟩
abbrev S128x128x2x64 : Shape := ⟨4, ![128, 128, 2, 64]⟩
abbrev S128x1x2x64 : Shape := ⟨4, ![128, 1, 2, 64]⟩
abbrev S128x129x2x64 : Shape := ⟨4, ![128, 129, 2, 64]⟩
abbrev S4x2x512 : Shape := ⟨3, ![4, 2, 512]⟩
abbrev S1x128x2x512 : Shape := ⟨4, ![1, 128, 2, 512]⟩
abbrev S128x2x512 : Shape := ⟨3, ![128, 2, 512]⟩
abbrev S128x3x512 : Shape := ⟨3, ![128, 3, 512]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S2x128x128x2x64, .f32⟩
  | .hbm, ⟨3, _⟩ => ⟨S2x128x128x2x64, .f32⟩
  | .hbm, ⟨4, _⟩ => ⟨S2x128x2x512, .f32⟩
  | .hbm, ⟨5, _⟩ => ⟨S2x1024x2304, .f32⟩
  | .hbm, ⟨6, _⟩ => ⟨S2x3x512, .f32⟩
  | .hbm, ⟨7, _⟩ => ⟨S1x1024x2304, .f32⟩
  | .hbm, ⟨8, _⟩ => ⟨S1024x2304, .f32⟩
  | .hbm, ⟨9, _⟩ => ⟨S4x4096x2304, .f32⟩
  | .hbm, ⟨10, _⟩ => ⟨S4x4096x512, .f32⟩
  | .hbm, ⟨11, _⟩ => ⟨S4x4096x128, .f32⟩
  | .hbm, ⟨12, _⟩ => ⟨S4x4096x128, .f32⟩
  | .hbm, ⟨13, _⟩ => ⟨S4x4096x512, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S1x1024x2304, .f32⟩
  | .hbm, ⟨18, _⟩ => ⟨S1024x2304, .f32⟩
  | .hbm, ⟨19, _⟩ => ⟨S128x1x2304, .f32⟩
  | .hbm, ⟨20, _⟩ => ⟨S128x1x512, .f32⟩
  | .hbm, ⟨21, _⟩ => ⟨S128x1x128, .f32⟩
  | .hbm, ⟨22, _⟩ => ⟨S128x1x128, .f32⟩
  | .hbm, ⟨23, _⟩ => ⟨S128x1x512, .f32⟩
  | .hbm, ⟨24, _⟩ => ⟨S128x1x512, .f32⟩
  | .hbm, ⟨25, _⟩ => ⟨S128x1x512, .f32⟩
  | .hbm, ⟨26, _⟩ => ⟨S128x1x512, .f32⟩
  | .hbm, ⟨27, _⟩ => ⟨S16384x512, .f32⟩
  | .hbm, ⟨28, _⟩ => ⟨S128x512, .f32⟩
  | .hbm, ⟨29, _⟩ => ⟨S_, .f32⟩
  | .hbm, ⟨30, _⟩ => ⟨S384x512, .f32⟩
  | .hbm, ⟨31, _⟩ => ⟨S16896x512, .f32⟩
  | .hbm, ⟨32, _⟩ => ⟨S16384x128, .f32⟩
  | .hbm, ⟨33, _⟩ => ⟨S128x128, .f32⟩
  | .hbm, ⟨34, _⟩ => ⟨S_, .f32⟩
  | .hbm, ⟨35, _⟩ => ⟨S384x128, .f32⟩
  | .hbm, ⟨36, _⟩ => ⟨S16896x128, .f32⟩
  | .hbm, ⟨37, _⟩ => ⟨S16384x128, .f32⟩
  | .hbm, ⟨38, _⟩ => ⟨S128x128, .f32⟩
  | .hbm, ⟨39, _⟩ => ⟨S_, .f32⟩
  | .hbm, ⟨40, _⟩ => ⟨S384x128, .f32⟩
  | .hbm, ⟨41, _⟩ => ⟨S16896x128, .f32⟩
  | .hbm, ⟨42, _⟩ => ⟨S4x4096x2x64, .f32⟩
  | .hbm, ⟨43, _⟩ => ⟨S4x128x2x64, .f32⟩
  | .hbm, ⟨44, _⟩ => ⟨S4x4096x2x64, .f32⟩
  | .hbm, ⟨45, _⟩ => ⟨S4x128x2x64, .f32⟩
  | .hbm, ⟨46, _⟩ => ⟨S1x128x128x2x64, .f32⟩
  | .hbm, ⟨47, _⟩ => ⟨S128x128x2x64, .f32⟩
  | .hbm, ⟨48, _⟩ => ⟨S128x1x2x64, .f32⟩
  | .hbm, ⟨49, _⟩ => ⟨S128x129x2x64, .f32⟩
  | .hbm, ⟨50, _⟩ => ⟨S128x128x2x64, .f32⟩
  | .hbm, ⟨51, _⟩ => ⟨S1x128x128x2x64, .f32⟩
  | .hbm, ⟨52, _⟩ => ⟨S128x128x2x64, .f32⟩
  | .hbm, ⟨53, _⟩ => ⟨S128x1x2x64, .f32⟩
  | .hbm, ⟨54, _⟩ => ⟨S128x129x2x64, .f32⟩
  | .hbm, ⟨55, _⟩ => ⟨S128x128x2x64, .f32⟩
  | .hbm, ⟨56, _⟩ => ⟨S4x2x512, .f32⟩
  | .hbm, ⟨57, _⟩ => ⟨S1x128x2x512, .f32⟩
  | .hbm, ⟨58, _⟩ => ⟨S128x2x512, .f32⟩
  | .hbm, ⟨59, _⟩ => ⟨S128x3x512, .f32⟩
  | .hbm, ⟨60, _⟩ => ⟨S128x2x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Kernel5.lean ====
abbrev S4x4096x1024 : Shape := ⟨3, ![4, 4096, 1024]⟩
abbrev S128x1x1024 : Shape := ⟨3, ![128, 1, 1024]⟩
abbrev S2x1024x1552 : Shape := ⟨3, ![2, 1024, 1552]⟩
abbrev S2x16 : Shape := ⟨2, ![2, 16]⟩
abbrev S384x512 : Shape := ⟨2, ![384, 512]⟩
abbrev S1024x64 : Shape := ⟨2, ![1024, 64]⟩
abbrev S16384x1024 : Shape := ⟨2, ![16384, 1024]⟩
abbrev S128x1024 : Shape := ⟨2, ![128, 1024]⟩
abbrev S_ : Shape := ⟨0, ![]⟩
abbrev S384x1024 : Shape := ⟨2, ![384, 1024]⟩
abbrev S512x1024 : Shape := ⟨2, ![512, 1024]⟩
abbrev S1x1024x1552 : Shape := ⟨3, ![1, 1024, 1552]⟩
abbrev S1024x1552 : Shape := ⟨2, ![1024, 1552]⟩
abbrev S1024x1536 : Shape := ⟨2, ![1024, 1536]⟩
abbrev S1536x1024 : Shape := ⟨2, ![1536, 1024]⟩
abbrev S1024x256 : Shape := ⟨2, ![1024, 256]⟩
abbrev S1024x16 : Shape := ⟨2, ![1024, 16]⟩
abbrev S1024x112 : Shape := ⟨2, ![1024, 112]⟩
abbrev S1024x384 : Shape := ⟨2, ![1024, 384]⟩
abbrev S1x16 : Shape := ⟨2, ![1, 16]⟩
abbrev S16 : Shape := ⟨1, ![16]⟩
abbrev S112 : Shape := ⟨1, ![112]⟩
abbrev S128 : Shape := ⟨1, ![128]⟩
abbrev S1x128 : Shape := ⟨2, ![1, 128]⟩
abbrev S4x16x128x4096 : Shape := ⟨4, ![4, 16, 128, 4096]⟩
abbrev S16384x512 : Shape := ⟨2, ![16384, 512]⟩
abbrev S4x256x4096 : Shape := ⟨3, ![4, 256, 4096]⟩
abbrev S4x16x4096 : Shape := ⟨3, ![4, 16, 4096]⟩
abbrev S1024x128 : Shape := ⟨2, ![1024, 128]⟩
abbrev S256x128 : Shape := ⟨2, ![256, 128]⟩
abbrev S16x128 : Shape := ⟨2, ![16, 128]⟩
abbrev S1x16x128x512 : Shape := ⟨4, ![1, 16, 128, 512]⟩
abbrev S512x512 : Shape := ⟨2, ![512, 512]⟩
abbrev S1x256x512 : Shape := ⟨3, ![1, 256, 512]⟩
abbrev S1x16x512 : Shape := ⟨3, ![1, 16, 512]⟩
abbrev S8x128 : Shape := ⟨2, ![8, 128]⟩
abbrev S512x128 : Shape := ⟨2, ![512, 128]⟩
abbrev S512x384 : Shape := ⟨2, ![512, 384]⟩
abbrev S128x512 : Shape := ⟨2, ![128, 512]⟩
abbrev S16x512 : Shape := ⟨2, ![16, 512]⟩
abbrev S1536x512 : Shape := ⟨2, ![1536, 512]⟩
abbrev S512x256 : Shape := ⟨2, ![512, 256]⟩
abbrev S64x512 : Shape := ⟨2, ![64, 512]⟩
abbrev S1024x512 : Shape := ⟨2, ![1024, 512]⟩
abbrev S1x1x64x512 : Shape := ⟨4, ![1, 1, 64, 512]⟩
abbrev S256x512 : Shape := ⟨2, ![256, 512]⟩
abbrev S1536x128 : Shape := ⟨2, ![1536, 128]⟩
abbrev S4x4x64x4096 : Shape := ⟨4, ![4, 4, 64, 4096]⟩
abbrev S4x4096x4x64 : Shape := ⟨4, ![4, 4096, 4, 64]⟩
abbrev S4x4096x16 : Shape := ⟨3, ![4, 4096, 16]⟩
abbrev S4x64x128 : Shape := ⟨3, ![4, 64, 128]⟩
abbrev S128x4x64 : Shape := ⟨3, ![128, 4, 64]⟩
abbrev S128x1x4x64 : Shape := ⟨4, ![128, 1, 4, 64]⟩
abbrev S128x16 : Shape := ⟨2, ![128, 16]⟩
abbrev S128x1x16 : Shape := ⟨3, ![128, 1, 16]⟩

abbrev nBuf : Space → Nat
  | .hbm => 54
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S2x1024x1552, .f32⟩
  | .hbm, ⟨3, _⟩ => ⟨S2x16, .f32⟩
  | .hbm, ⟨4, _⟩ => ⟨S384x512, .bf16⟩
  | .hbm, ⟨5, _⟩ => ⟨S1024x64, .bf16⟩
  | .hbm, ⟨6, _⟩ => ⟨S16384x1024, .f32⟩
  | .hbm, ⟨7, _⟩ => ⟨S128x1024, .f32⟩
  | .hbm, ⟨8, _⟩ => ⟨S_, .f32⟩
  | .hbm, ⟨9, _⟩ => ⟨S384x1024, .f32⟩
  | .hbm, ⟨10, _⟩ => ⟨S512x1024, .f32⟩
  | .hbm, ⟨11, _⟩ => ⟨S1x1024x1552, .f32⟩
  | .hbm, ⟨12, _⟩ => ⟨S1024x1552, .f32⟩
  | .hbm, ⟨13, _⟩ => ⟨S1024x1536, .f32⟩
  | .hbm, ⟨14, _⟩ => ⟨S1536x1024, .f32⟩
  | .hbm, ⟨15, _⟩ => ⟨S1536x1024, .bf16⟩
  | .hbm, ⟨16, _⟩ => ⟨S1x1024x1552, .f32⟩
  | .hbm, ⟨17, _⟩ => ⟨S1024x1552, .f32⟩
  | .hbm, ⟨18, _⟩ => ⟨S1024x256, .f32⟩
  | .hbm, ⟨19, _⟩ => ⟨S1x1024x1552, .f32⟩
  | .hbm, ⟨20, _⟩ => ⟨S1024x1552, .f32⟩
  | .hbm, ⟨21, _⟩ => ⟨S1024x16, .f32⟩
  | .hbm, ⟨22, _⟩ => ⟨S_, .f32⟩
  | .hbm, ⟨23, _⟩ => ⟨S1024x112, .f32⟩
  | .hbm, ⟨24, _⟩ => ⟨S1024x384, .f32⟩
  | .hbm, ⟨25, _⟩ => ⟨S1024x384, .bf16⟩
  | .hbm, ⟨26, _⟩ => ⟨S1x16, .f32⟩
  | .hbm, ⟨27, _⟩ => ⟨S16, .f32⟩
  | .hbm, ⟨28, _⟩ => ⟨S_, .f32⟩
  | .hbm, ⟨29, _⟩ => ⟨S112, .f32⟩
  | .hbm, ⟨30, _⟩ => ⟨S128, .f32⟩
  | .hbm, ⟨31, _⟩ => ⟨S1x128, .f32⟩
  | .hbm, ⟨32, _⟩ => ⟨S4x16x128x4096, .bf16⟩
  | .hbm, ⟨33, _⟩ => ⟨S16384x512, .bf16⟩
  | .hbm, ⟨34, _⟩ => ⟨S4x256x4096, .f32⟩
  | .hbm, ⟨35, _⟩ => ⟨S4x256x4096, .f32⟩
  | .hbm, ⟨36, _⟩ => ⟨S4x16x4096, .f32⟩
  | .hbm, ⟨37, _⟩ => ⟨S1024x128, .f32⟩
  | .hbm, ⟨38, _⟩ => ⟨S256x128, .f32⟩
  | .hbm, ⟨39, _⟩ => ⟨S256x128, .f32⟩
  | .hbm, ⟨40, _⟩ => ⟨S16x128, .f32⟩
  | .hbm, ⟨41, _⟩ => ⟨S4x4x64x4096, .f32⟩
  | .hbm, ⟨42, _⟩ => ⟨S4x4096x4x64, .f32⟩
  | .hbm, ⟨43, _⟩ => ⟨S4x4x64x4096, .f32⟩
  | .hbm, ⟨44, _⟩ => ⟨S4x4096x4x64, .f32⟩
  | .hbm, ⟨45, _⟩ => ⟨S4x4096x16, .f32⟩
  | .hbm, ⟨46, _⟩ => ⟨S4x64x128, .f32⟩
  | .hbm, ⟨47, _⟩ => ⟨S128x4x64, .f32⟩
  | .hbm, ⟨48, _⟩ => ⟨S128x1x4x64, .f32⟩
  | .hbm, ⟨49, _⟩ => ⟨S4x64x128, .f32⟩
  | .hbm, ⟨50, _⟩ => ⟨S128x4x64, .f32⟩
  | .hbm, ⟨51, _⟩ => ⟨S128x1x4x64, .f32⟩
  | .hbm, ⟨52, _⟩ => ⟨S128x16, .f32⟩
  | .hbm, ⟨53, _⟩ => ⟨S128x1x16, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1536x1024, .bf16⟩
  | .local _ .vmem, ⟨4, _⟩ => ⟨S1024x384, .bf16⟩
  | .local _ .vmem, ⟨5, _⟩ => ⟨S1x128, .f32⟩
  | .local _ .vmem, ⟨6, _⟩ => ⟨S384x512, .bf16⟩
  | .local _ .vmem, ⟨7, _⟩ => ⟨S1024x64, .bf16⟩
  | .local _ .vmem, ⟨8, _⟩ => ⟨S1x16x128x512, .bf16⟩
  | .local _ .vmem, ⟨9, _⟩ => ⟨S1x16x128x512, .bf16⟩
  | .local _ .vmem, ⟨10, _⟩ => ⟨S512x512, .bf16⟩
  | .local _ .vmem, ⟨11, _⟩ => ⟨S512x512, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x16x512, .f32⟩
  | .local _ .vmem, ⟨17, _⟩ => ⟨S1x16x512, .f32⟩
  | .local _ .vmem, ⟨18, _⟩ => ⟨S1024x128, .f32⟩
  | .local _ .vmem, ⟨19, _⟩ => ⟨S256x128, .f32⟩
  | .local _ .vmem, ⟨20, _⟩ => ⟨S256x128, .f32⟩
  | .local _ .vmem, ⟨21, _⟩ => ⟨S16x128, .f32⟩
  | .local _ .vmem, ⟨22, _⟩ => ⟨S8x128, .f32⟩
  | .local _ .vmem, ⟨23, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev main_v23_7 : Ref sig .tc := ⟨.hbm, 39, rfl⟩
abbrev main_v23_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32_12 : BitVec 32 := 32#32
  let v34 : BitVec 1 := Scalar.cmpi .slt arg0 c32_i32_12
  let v35 : BitVec 32 := Scalar.extui v34
  let c0_i32 : BitVec 32 := 0#32
  let v36 : BitVec 1 := Scalar.cmpi .ne v35 c0_i32
  v36

def k0_cond3 (i : grid0.Coords) : BitVec 1 :=
  let arg0 : BitVec 32 := BitVec.ofNat 32 (i 0).val
  let c32_i32_13 : BitVec 32 := 32#32
  let v37 : BitVec 1 := Scalar.cmpi .eq arg0 c32_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c32_i32 : BitVec 32 := 32#32
  let v18 : BitVec 1 := Scalar.cmpi .slt arg0 c32_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.select v18 v28 c7_i32
  let c0_i32_10 : BitVec 32 := 0#32
  let c0_i32_11 : BitVec 32 := 0#32
  let c0_i32_12 : BitVec 32 := 0#32
  ![v17.toNat, c0_i32_10.toNat, c0_i32_11.toNat, v29.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c32_i32 : BitVec 32 := 32#32
  let v18 : BitVec 1 := Scalar.cmpi .slt arg0 c32_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.select v18 v28 c7_i32
  let c0_i32_10 : BitVec 32 := 0#32
  let c0_i32_11 : BitVec 32 := 0#32
  ![v17.toNat, c0_i32_10.toNat, v29.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c32_i32 : BitVec 32 := 32#32
  let v18 : BitVec 1 := Scalar.cmpi .slt arg0 c32_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.select v18 v28 c7_i32
  let c0_i32_10 : BitVec 32 := 0#32
  let c0_i32_11 : BitVec 32 := 0#32
  ![v17.toNat, c0_i32_10.toNat, v29.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c32_i32 : BitVec 32 := 32#32
  let v18 : BitVec 1 := Scalar.cmpi .slt arg0 c32_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c7_i32 : BitVec 32 := 7#32
  let v29 : BitVec 32 := Scalar.select v18 v28 c7_i32
  let c0_i32_10 : BitVec 32 := 0#32
  let c0_i32_11 : BitVec 32 := 0#32
  ![v17.toNat, c0_i32_10.toNat, v29.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference5Ideal.lean ====
abbrev S4x4096x1024 : Shape := ⟨3, ![4, 4096, 1024]⟩
abbrev S128x1x1024 : Shape := ⟨3, ![128, 1, 1024]⟩
abbrev S2x1024x1552 : Shape := ⟨3, ![2, 1024, 1552]⟩
abbrev S2x16 : Shape := ⟨2, ![2, 16]⟩
abbrev S384x512 : Shape := ⟨2, ![384, 512]⟩
abbrev S1024x64 : Shape := ⟨2, ![1024, 64]⟩
abbrev S1x1024x1552 : Shape := ⟨3, ![1, 1024, 1552]⟩
abbrev S1024x1552 : Shape := ⟨2, ![1024, 1552]⟩
abbrev S4x4096x1552 : Shape := ⟨3, ![4, 4096, 1552]⟩
abbrev S4x4096x256 : Shape := ⟨3, ![4, 4096, 256]⟩
abbrev S4x4096x16 : Shape := ⟨3, ![4, 4096, 16]⟩
abbrev S4x4096x4x64 : Shape := ⟨4, ![4, 4096, 4, 64]⟩
abbrev S1x16 : Shape := ⟨2, ![1, 16]⟩
abbrev S16 : Shape := ⟨1, ![16]⟩
abbrev S1x1x16 : Shape := ⟨3, ![1, 1, 16]⟩
abbrev S_ : Shape := ⟨0, ![]⟩
abbrev S128x1x1552 : Shape := ⟨3, ![128, 1, 1552]⟩
abbrev S128x1x256 : Shape := ⟨3, ![128, 1, 256]⟩
abbrev S128x1x16 : Shape := ⟨3, ![128, 1, 16]⟩
abbrev S128x1x4x64 : Shape := ⟨4, ![128, 1, 4, 64]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S2x1024x1552, .f32⟩
  | .hbm, ⟨3, _⟩ => ⟨S2x16, .f32⟩
  | .hbm, ⟨4, _⟩ => ⟨S384x512, .bf16⟩
  | .hbm, ⟨5, _⟩ => ⟨S1024x64, .bf16⟩
  | .hbm, ⟨6, _⟩ => ⟨S1x1024x1552, .f32⟩
  | .hbm, ⟨7, _⟩ => ⟨S1024x1552, .f32⟩
  | .hbm, ⟨8, _⟩ => ⟨S4x4096x1552, .f32⟩
  | .hbm, ⟨9, _⟩ => ⟨S4x4096x1024, .f32⟩
  | .hbm, ⟨10, _⟩ => ⟨S4x4096x256, .f32⟩
  | .hbm, ⟨11, _⟩ => ⟨S4x4096x256, .f32⟩
  | .hbm, ⟨12, _⟩ => ⟨S4x4096x16, .f32⟩
  | .hbm, ⟨13, _⟩ => ⟨S4x4096x4x64, .f32⟩
  | .hbm, ⟨14, _⟩ => ⟨S4x4096x4x64, .f32⟩
  | .hbm, ⟨15, _⟩ => ⟨S1x16, .f32⟩
  | .hbm, ⟨16, _⟩ => ⟨S16, .f32⟩
  | .hbm, ⟨17, _⟩ => ⟨S1x1x16, .f32⟩
  | .hbm, ⟨18, _⟩ => ⟨S4x4096x16, .f32⟩
  | .hbm, ⟨19, _⟩ => ⟨S4x4096x16, .f32⟩
  | .hbm, ⟨20, _⟩ => ⟨S4x4096x16, .f32⟩
  | .hbm, ⟨21, _⟩ => ⟨S_, .f32⟩
  | .hbm, ⟨22, _⟩ => ⟨S4x4096x16, .f32⟩
  | .hbm, ⟨23, _⟩ => ⟨S4x4096x16, .f32⟩
  | .hbm, ⟨24, _⟩ => ⟨S4x4096x16, .f32⟩
  | .hbm, ⟨25, _⟩ => ⟨S4x4096x16, .f32⟩
  | .hbm, ⟨26, _⟩ => ⟨S4x4096x16, .i1⟩
  | .hbm, ⟨27, _⟩ => ⟨S4x4096x16, .f32⟩
  | .hbm, ⟨28, _⟩ => ⟨S4x4096x16, .f32⟩
  | .hbm, ⟨29, _⟩ => ⟨S4x4096x16, .f32⟩
  | .hbm, ⟨30, _⟩ => ⟨S4x4096x16, .f32⟩
  | .hbm, ⟨31, _⟩ => ⟨S4x4096x16, .f32⟩
  | .hbm, ⟨32, _⟩ => ⟨S4x4096x16, .f32⟩
  | .hbm, ⟨33, _⟩ => ⟨S4x4096x16, .f32⟩
  | .hbm, ⟨34, _⟩ => ⟨S4x4096x16, .f32⟩
  | .hbm, ⟨35, _⟩ => ⟨S4x4096x16, .f32⟩
  | .hbm, ⟨36, _⟩ => ⟨S1x1024x1552, .f32⟩
  | .hbm, ⟨37, _⟩ => ⟨S1024x1552, .f32⟩
  | .hbm, ⟨38, _⟩ => ⟨S128x1x1552, .f32⟩
  | .hbm, ⟨39, _⟩ => ⟨S128x1x1024, .f32⟩
  | .hbm, ⟨40, _⟩ => ⟨S128x1x256, .f32⟩
  | .hbm, ⟨41, _⟩ => ⟨S128x1x256, .f32⟩
  | .hbm, ⟨42, _⟩ => ⟨S128x1x16, .f32⟩
  | .hbm, ⟨43, _⟩ => ⟨S128x1x4x64, .f32⟩
  | .hbm, ⟨44, _⟩ => ⟨S128x1x4x64, .f32⟩
  | .hbm, ⟨45, _⟩ => ⟨S1x16, .f32⟩
  | .hbm, ⟨46, _⟩ => ⟨S16, .f32⟩
  | .hbm, ⟨47, _⟩ => ⟨S1x1x16, .f32⟩
  | .hbm, ⟨48, _⟩ => ⟨S128x1x16, .f32⟩
  | .hbm, ⟨49, _⟩ => ⟨S128x1x16, .f32⟩
  | .hbm, ⟨50, _⟩ => ⟨S128x1x16, .f32⟩
  | .hbm, ⟨51, _⟩ => ⟨S_, .f32⟩
  | .hbm, ⟨52, _⟩ => ⟨S128x1x16, .f32⟩
  | .hbm, ⟨53, _⟩ => ⟨S128x1x16, .f32⟩
  | .hbm, ⟨54, _⟩ => ⟨S128x1x16, .f32⟩
  | .hbm, ⟨55, _⟩ => ⟨S128x1x16, .f32⟩
  | .hbm, ⟨56, _⟩ => ⟨S128x1x16, .i1⟩
  | .hbm, ⟨57, _⟩ => ⟨S128x1x16, .f32⟩
  | .hbm, ⟨58, _⟩ => ⟨S128x1x16, .f32⟩
  | .hbm, ⟨59, _⟩ => ⟨S128x1x16, .f32⟩
  | .hbm, ⟨60, _⟩ => ⟨S128x1x16, .f32⟩
  | .hbm, ⟨61, _⟩ => ⟨S128x1x16, .f32⟩
  | .hbm, ⟨62, _⟩ => ⟨S128x1x16, .f32⟩
  | .hbm, ⟨63, _⟩ => ⟨S128x1x16, .f32⟩
  | .hbm, ⟨64, _⟩ => ⟨S128x1x16, .f32⟩
  | .hbm, ⟨65, _⟩ => ⟨S128x1x16, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_call0_cst : Ref sig .tc := ⟨.hbm, 51, rfl⟩
abbrev main_call1_call0_v0 : Ref sig .tc := ⟨.hbm, 52, rfl⟩
abbrev main_call1_call0_v1 : Ref sig .tc := ⟨.hbm, 53, rfl⟩
abbrev main_call1_call0_v2 : Ref sig .tc := ⟨.hbm, 54, rfl⟩
abbrev main_call1_call0_v3 : Ref sig .tc := ⟨.hbm, 55, rfl⟩
abbrev main_call1_call0_v4 : Ref sig .tc := ⟨.hbm, 56, rfl⟩
abbrev main_call1_call0_v5 : Ref sig .tc := ⟨.hbm, 57, rfl⟩
abbrev main_call1_call0_v6 : Ref sig .tc := ⟨.hbm, 58, rfl⟩
abbrev main_call1_call0_v7 : Ref sig .tc := ⟨.hbm, 59, rfl⟩
abbrev main_call1_call0_v8 : Ref sig .tc := ⟨.hbm, 60, rfl⟩
abbrev main_call1_call0_v9 : Ref sig .tc := ⟨.hbm, 61, rfl⟩
abbrev main_call1_call0_v10 : Ref sig .tc := ⟨.hbm, 62, rfl⟩
abbrev main_call1_call0_v11 : Ref sig .tc := ⟨.hbm, 63, rfl⟩
abbrev main_call1_v1 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Model.lean ====
/-
  What one grid point of the attention kernel computes, as functions of the blocks it is handed: the four heads of a
  group of one batch entry, each a chunked softmax over the keys before a tile of 256 queries. Nothing here mentions
  memory: a head's state is its running maximum and its accumulator (64 weighted value rows, then rows holding the sum
  of the weights), and the definitions below say what an unmasked chunk of 1024 keys, and the masked chunk that ends
  a tile, make of it.
-/
module

public import proofs.«01_k».proof.Proof.Gen.KernelIdeal
public import proofs.«01_k».proof.Proof.Gen.KernelIdeal.Skeleton
public import Idealize.ShloMosaic.Lib.Pipeline.FrameBody

@[expose] public section

noncomputable section

namespace Cert.Proof.PI

open Cert.KernelIdeal Cert.KernelIdeal.Gen
open Idealize.ShloMosaic Idealize.ShloMosaic.TcCoe

variable {F : FTy → Type} [FloatOps F] [Named F]

/-- A head's state: the running maximum of its scores, per query, and its accumulator. -/
abbrev HSt (F : FTy → Type) : Type := FVec F S1x256 .f32 × FVec F S80x256 .f32

/-- The state a tile starts from: the mask's value for a maximum, zero for the accumulator. -/
def st0 : HSt F := (k0_pay129, k0_pay125)

/-- One unmasked chunk of 1024 keys `kb` and values `vb`, for queries `q`. -/
def chunk (q : FVec F S128x256 .bf16) (kb : Vec F S1024x128 .bf16) (vb : Vec F S1x64x1024 .f32) (s : HSt F) : HSt F :=
  (k0_pay17 s.1 (k0_pay7 q kb), k0_pay18 s.1 (k0_pay4 vb) (k0_pay7 q kb) (k0_pay6 q kb) s.2)

/-- The row and the column number of an element of a square of 256, as the mask compares them. -/
abbrev iotaR : IVec S256x256 32 := iota .tc S256x256 32 [0] iota_S256x256_d0_w32
abbrev iotaC : IVec S256x256 32 := iota .tc S256x256 32 [1] iota_S256x256_d1_w32

/-- The accumulator after the tile's last chunk, of 256, 512, 768 or 1024 keys, its last 256 masked by causality. -/
def tail256 (q : FVec F S128x256 .bf16) (kb : Vec F S256x128 .bf16) (vb : Vec F S1x64x256 .f32) (s : HSt F) : FVec F S80x256 .f32 :=
  k0_pay119 s.1 (k0_pay104 vb) (k0_pay107 iotaR iotaC q kb) (k0_pay106 iotaR iotaC q kb) s.2
def tail512 (q : FVec F S128x256 .bf16) (kb : Vec F S512x128 .bf16) (vb : Vec F S1x64x512 .f32) (s : HSt F) : FVec F S80x256 .f32 :=
  k0_pay97 s.1 (k0_pay84 vb) (k0_pay87 iotaR iotaC q kb) (k0_pay86 iotaR iotaC q kb) s.2
def tail768 (q : FVec F S128x256 .bf16) (kb : Vec F S768x128 .bf16) (vb : Vec F S1x64x768 .f32) (s : HSt F) : FVec F S80x256 .f32 :=
  k0_pay77 s.1 (k0_pay64 vb) (k0_pay67 iotaR iotaC q kb) (k0_pay66 iotaR iotaC q kb) s.2
def tail1024 (q : FVec F S128x256 .bf16) (kb : Vec F S1024x128 .bf16) (vb : Vec F S1x64x1024 .f32) (s : HSt F) : FVec F S80x256 .f32 :=
  k0_pay57 s.1 (k0_pay44 vb) (k0_pay47 iotaR iotaC q kb) (k0_pay46 iotaR iotaC q kb) s.2

/-! ## The blocks' parts -/

variable (X2 : S1x4x128x4096.Idx → Elt F .bf16) (X3 : S4096x128.Idx → Elt F .bf16) (X4 : S1x64x4096.Idx → Elt F .f32)
  (t : Fin k0_t1_loop.trips)

/-- The four heads' queries of tile `t`. -/
def qv0 : FVec F S128x256 .bf16 := k0_pay121 (View.ld X2 (Rect.unit (s := S1x4x128x4096) (k0_off1 t) S1x1x128x256.size (k0_off1_inb t)))
def qv1 : FVec F S128x256 .bf16 := k0_pay122 (View.ld X2 (Rect.unit (s := S1x4x128x4096) (k0_off2 t) S1x1x128x256.size (k0_off2_inb t)))
def qv2 : FVec F S128x256 .bf16 := k0_pay123 (View.ld X2 (Rect.unit (s := S1x4x128x4096) (k0_off3 t) S1x1x128x256.size (k0_off3_inb t)))
def qv3 : FVec F S128x256 .bf16 := k0_pay124 (View.ld X2 (Rect.unit (s := S1x4x128x4096) (k0_off4 t) S1x1x128x256.size (k0_off4_inb t)))

/-- Chunk `k`'s keys and values. -/
def kb (k : Fin (k0_t2_loop t).trips) : Vec F S1024x128 .bf16 :=
  View.ld X3 (Rect.unit (s := S4096x128) (k0_off5 t k) S1024x128.size (k0_off5_inb t k))
def vb (k : Fin (k0_t2_loop t).trips) : Vec F S1x64x1024 .f32 :=
  View.ld X4 (Rect.unit (s := S1x64x4096) (k0_off6 t k) S1x64x1024.size (k0_off6_inb t k))

/-- A head's state before chunk `k`. -/
def hst (q : FVec F S128x256 .bf16) : ℕ → HSt F
  | 0 => st0
  | k + 1 => if h : k < (k0_t2_loop t).trips then chunk q (kb X3 t ⟨k, h⟩) (vb X4 t ⟨k, h⟩) (hst q k) else hst q k

theorem hst_succ (q : FVec F S128x256 .bf16) (k : Fin (k0_t2_loop t).trips) :
    hst X3 X4 t q (k.val + 1) = chunk q (kb X3 t k) (vb X4 t k) (hst X3 X4 t q k.val) := by
  rw [hst, dif_pos k.isLt]

/-- The accumulator after the tile's masked chunk, from the state `s` the unmasked ones leave. -/
def tailAcc (q : FVec F S128x256 .bf16) (s : HSt F) : FVec F S80x256 .f32 :=
  if h1 : k0_cond1 t = 1#1 then
    if h2 : k0_cond2 t = 1#1 then
      if h3 : k0_cond3 t = 1#1 then
        tail1024 q (View.ld X3 (Rect.unit (s := S4096x128) (k0_off9 t) S1024x128.size (k0_off9_inb t h1 h2 h3)))
          (View.ld X4 (Rect.unit (s := S1x64x4096) (k0_off10 t) S1x64x1024.size (k0_off10_inb t h1 h2 h3))) s
      else
        tail768 q (View.ld X3 (Rect.unit (s := S4096x128) (k0_off11 t) S768x128.size (k0_off11_inb t h1 h2 h3)))
          (View.ld X4 (Rect.unit (s := S1x64x4096) (k0_off12 t) S1x64x768.size (k0_off12_inb t h1 h2 h3))) s
    else
      tail512 q (View.ld X3 (Rect.unit (s := S4096x128) (k0_off13 t) S512x128.size (k0_off13_inb t h1 h2)))
        (View.ld X4 (Rect.unit (s := S1x64x4096) (k0_off14 t) S1x64x512.size (k0_off14_inb t h1 h2))) s
  else
    tail256 q (View.ld X3 (Rect.unit (s := S4096x128) (k0_off15 t) S256x128.size (k0_off15_inb t h1)))
      (View.ld X4 (Rect.unit (s := S1x64x4096) (k0_off16 t) S1x64x256.size (k0_off16_inb t h1))) s

/-- A head's accumulator at the end of tile `t`. -/
def headAcc (q : FVec F S128x256 .bf16) : FVec F S80x256 .f32 :=
  tailAcc X3 X4 t q (hst X3 X4 t q (k0_t2_loop t).trips)

/-- What tile `t` stores: per query the four heads' weighted values over the sum of their weights. -/
def tileOut : FVec F S256x256 .f32 :=
  k0_pay3 (headAcc X3 X4 t (qv0 X2 t)) (headAcc X3 X4 t (qv1 X2 t)) (headAcc X3 X4 t (qv2 X2 t)) (headAcc X3 X4 t (qv3 X2 t))

/-- The rows tile `t` stores. -/
abbrev rowsR : Rect S4096x256 := Rect.unit (s := S4096x256) (k0_off17 t) S256x256.size (k0_off17_inb t)

/-- The stores of the tiles before `k`, last first. -/
def pieces : ℕ → List (View.Piece (Elt F) S4096x256 .f32)
  | 0 => []
  | k + 1 => if h : k < k0_t1_loop.trips then ⟨rowsR ⟨k, h⟩, tileOut X2 X3 X4 ⟨k, h⟩⟩ :: pieces k else pieces k

theorem pieces_succ : pieces X2 X3 X4 (t.val + 1) = ⟨rowsR t, tileOut X2 X3 X4 t⟩ :: pieces X2 X3 X4 t.val := by
  rw [pieces, dif_pos t.isLt]

end Cert.Proof.PI

end
-- ==== Proof.Online.lean ====
/-
  The running softmax, over the extended reals. A column keeps a maximum `m` and accumulators `a`; a chunk of scores
  rescales what was accumulated and adds its own terms. Whatever the maximum is, as long as it is a real number, an
  accumulator is the plain sum `A` of `2 ^ score * value` times `2 ^ (-m)`, so that the quotient of two accumulators
  is the quotient of the plain sums. A masked score is `⊥`, and its weight is zero.
-/
module

public import Idealize.ShloMosaic.PureOps.Ideal

@[expose] public section

noncomputable section

namespace Cert.Proof.Online

open Idealize.ShloMosaic

/-- The weight `2 ^ x` of a score, as a real number: zero at a masked one. -/
def wt (x : EReal) : ℝ := (Ideal.exp2 x).toReal

theorem wt_bot : wt ⊥ = 0 := rfl
theorem wt_coe (r : ℝ) : wt r = (2 : ℝ) ^ r := rfl

theorem exp2_coe' (r : ℝ) : Ideal.exp2 (r : EReal) = (((2 : ℝ) ^ r : ℝ) : EReal) := rfl

/-- A score less a real: its weight scaled. -/
theorem exp2_sub (x : EReal) (hx : x ≠ ⊤) (M : ℝ) : Ideal.exp2 (x - (M : EReal)) = ((wt x * (2 : ℝ) ^ (-M) : ℝ) : EReal) := by
  induction x using EReal.rec with
  | bot => rw [EReal.bot_sub, wt_bot, zero_mul]; rfl
  | coe r => rw [← EReal.coe_sub, exp2_coe', wt_coe, ← Real.rpow_add (by norm_num), sub_eq_add_neg]
  | top => exact absurd rfl hx

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An accumulator `a` under the maximum `m` stands for the plain sum `A`. -/
def Stands (m a : EReal) (A : ℝ) : Prop :=
  (m = ⊥ ∧ a = 0 ∧ A = 0) ∨ ∃ M : ℝ, m = (M : EReal) ∧ a = (((2 : ℝ) ^ (-M) * A : ℝ) : EReal)

theorem stands_zero : Stands ⊥ 0 0 := .inl ⟨rfl, rfl, rfl⟩

/-- A chunk's terms under the new maximum. -/
theorem chunk_sum {ι : Type} [Fintype ι] (S V : ι → EReal) (v : ι → ℝ) (hS : ∀ s, S s ≠ ⊤) (hv : ∀ s, V s = (v s : EReal)) (M : ℝ) :
    ∑ s, V s * Ideal.exp2 (S s - (M : EReal)) = (((2 : ℝ) ^ (-M) * ∑ s, v s * wt (S s) : ℝ) : EReal) := by
  rw [Finset.mul_sum, coe_sum]
  refine Finset.sum_congr rfl fun s _ => ?_
  rw [hv, exp2_sub _ (hS s), ← EReal.coe_mul]
  congr 1; ring

/-- One chunk: the accumulator goes on standing for the plain sum. -/
theorem stands_step {ι : Type} [Fintype ι] (S V : ι → EReal) (v : ι → ℝ) (hS : ∀ s, S s ≠ ⊤) (hv : ∀ s, V s = (v s : EReal))
    {m m' a : EReal} {A : ℝ} (h : Stands m a A) (hm : m ≤ m') (hbot : m' ≠ ⊥) (htop : m' ≠ ⊤) :
    Stands m' (Ideal.exp2 (m - m') * a + ∑ s, V s * Ideal.exp2 (S s - m')) (A + ∑ s, v s * wt (S s)) := by
  lift m' to ℝ using ⟨htop, hbot⟩
  refine .inr ⟨m', rfl, ?_⟩
  rw [chunk_sum S V v hS hv m']
  rcases h with ⟨rfl, rfl, rfl⟩ | ⟨M, rfl, rfl⟩
  · rw [mul_zero, zero_add, zero_add]
  · rw [exp2_sub _ (EReal.coe_ne_top M), wt_coe, ← EReal.coe_mul, ← EReal.coe_add]
    congr 1
    have : (2 : ℝ) ^ M * (2 : ℝ) ^ (-M) = 1 := by rw [← Real.rpow_add (by norm_num)]; simp
    linear_combination (2 : ℝ) ^ (-m') * A * this

/-- The quotient of two accumulators is that of the sums they stand for. -/
theorem stands_div {m a l : EReal} {A L : ℝ} (ha : Stands m a A) (hl : Stands m l L) (hL : 0 < L) :
    a * Ideal.div 1 l = ((A / L : ℝ) : EReal) := by
  rcases hl with ⟨-, -, rfl⟩ | ⟨M, rfl, rfl⟩
  · exact absurd hL (lt_irrefl _)
  rcases ha with ⟨h, -⟩ | ⟨M', h, rfl⟩
  · exact absurd h (EReal.coe_ne_bot M)
  obtain rfl : M = M' := EReal.coe_injective h
  have hp : (0 : ℝ) < (2 : ℝ) ^ (-M) := Real.rpow_pos_of_pos (by norm_num) _
  have hne : (2 : ℝ) ^ (-M) * L ≠ 0 := (mul_pos hp hL).ne'
  rw [Ideal.div_coe hne, one_mul, ← EReal.coe_mul]
  congr 1
  field_simp

/-- The maximum of real and masked scores is no `⊤`, -/
theorem fold_max_ne_top {ι : Type} (s : Finset ι) (S : ι → EReal) (hS : ∀ i, S i ≠ ⊤) : s.fold max ⊥ S ≠ ⊤ := by
  rw [← lt_top_iff_ne_top, Finset.fold_max_lt]
  exact ⟨bot_lt_top, fun i _ => lt_top_iff_ne_top.mpr (hS i)⟩

/-- and no `⊥` where one of them is real. -/
theorem fold_max_ne_bot {ι : Type} (s : Finset ι) (S : ι → EReal) (i : ι) (hi : i ∈ s) (h : S i ≠ ⊥) : s.fold max ⊥ S ≠ ⊥ := by
  rw [← bot_lt_iff_ne_bot, Finset.lt_fold_max]
  exact .inr ⟨i, hi, bot_lt_iff_ne_bot.mpr h⟩

end Cert.Proof.Online

end
-- ==== Proof.Reads.lean ====
/-
  The chunks' payloads read at an index, at the ideal instance: the scores of a chunk, masked or not, the values with
  their rows of ones, the running maximum and the accumulator after the chunk, and what a tile stores.
-/
module

public import proofs.«01_k».proof.Proof.Model
public import proofs.«01_k».proof.Proof.Online
public import Idealize.ShloMosaic.Lib.Pointwise
public import Idealize.ShloMosaic.Lib.WordCmp

@[expose] public section

noncomputable section

namespace Cert.Proof.PI

open Cert.KernelIdeal Cert.KernelIdeal.Gen
open Idealize.ShloMosaic

/-! ## A chunk of `n` keys, in the abstract -/

/-- The product of key `r` and query `c`. -/
def scoreAt {n : ℕ} (kb : (⟨2, ![n, 128]⟩ : Shape).Idx → EReal) (q : S128x256.Idx → EReal) (r : Fin n) (c : Fin 256) : EReal :=
  ∑ k : Fin 128, kb (ix2 r k) * q (ix2 k c)

/-- Row `d` of the values at key `s`: a value below 64, then a one. -/
def valAt {n : ℕ} (vb : (⟨3, ![1, 64, n]⟩ : Shape).Idx → EReal) (d : Fin 80) (s : Fin n) : EReal :=
  if h : d.val < 64 then vb (ix3 0 ⟨d.val, h⟩ s) else 1

/-- The masked score: the last 256 keys of a tail are the tile's own positions. -/
def maskedAt {n : ℕ} (kb : (⟨2, ![n, 128]⟩ : Shape).Idx → EReal) (q : S128x256.Idx → EReal) (r : Fin n) (c : Fin 256) : EReal :=
  if r.val ≤ (n - 256) + c.val then scoreAt kb q r c else ⊥

/-- The maximum after scores `S`, -/
def stepM {n : ℕ} (m : EReal) (S : Fin n → EReal) : EReal := max m (Finset.univ.fold max ⊥ S)
/-- and an accumulator after them and their values `V`. -/
def stepA {n : ℕ} (m a : EReal) (S V : Fin n → EReal) : EReal :=
  Ideal.exp2 (m - stepM m S) * a + ∑ s, V s * Ideal.exp2 (S s - stepM m S)

/-! ## The constants -/

theorem mask_eq : (Named.named (F := Ideal) κ "mask" (φ := .f32) 4048155338#32 : EReal) = ⊥ := rfl

theorem neg_inf_eq : Ideal.ofBits FTy.f32 4286578688#32 = ⊥ := by
  simp [Ideal.ofBits, Ideal.ieee]

/-- The select on the mask's comparison. -/
theorem select_sle {a b : ℕ} (ha : a < 256) (hb : b < 256) (x y : EReal) :
    Scalar.select (IntOp.cmpi CmpIPredicate.sle (BitVec.ofNat 32 a) (BitVec.ofNat 32 b)) x y = if a ≤ b then x else y := by
  unfold Scalar.select
  refine if_congr ?_ rfl rfl
  exact WordCmp.cmpi_sle_ofNat_eq_one_iff (by omega) (by omega)

/-! ## The unmasked chunk -/

theorem pay6_apply (q : FVec Ideal S128x256 .bf16) (kb : Vec Ideal S1024x128 .bf16) (r : Fin 1024) (c : Fin 256) :
    k0_pay6 q kb (ix2 r c) = scoreAt kb q r c := by
  pointwise [k0_pay6, k0_pay5]
  rfl

theorem pay7_apply (q : FVec Ideal S128x256 .bf16) (kb : Vec Ideal S1024x128 .bf16) (c : Fin 256) :
    k0_pay7 q kb (ix2 0 c) = Finset.univ.fold max ⊥ fun s => scoreAt kb q s c := by
  pointwise [k0_pay7, k0_pay5]
  rw [neg_inf_eq]; rfl

theorem pay4_apply (v : Vec Ideal S1x64x1024 .f32) (d : Fin 80) (s : Fin 1024) : k0_pay4 v (ix2 d s) = valAt v d s := by
  pointwise [k0_pay4]
  rfl

theorem chunk_max (q : FVec Ideal S128x256 .bf16) (kb : Vec Ideal S1024x128 .bf16) (vb : Vec Ideal S1x64x1024 .f32) (s : HSt Ideal) (c : Fin 256) :
    (chunk q kb vb s).1 (ix2 0 c) = stepM (s.1 (ix2 0 c)) fun r => scoreAt kb q r c := by
  dsimp only [chunk]
  pointwise [k0_pay17]
  rw [pay7_apply]; rfl

theorem chunk_at (q : FVec Ideal S128x256 .bf16) (kb : Vec Ideal S1024x128 .bf16) (vb : Vec Ideal S1x64x1024 .f32) (s : HSt Ideal) (d : Fin 80) (c : Fin 256) :
    (chunk q kb vb s).2 (ix2 d c) = stepA (s.1 (ix2 0 c)) (s.2 (ix2 d c)) (fun r => scoreAt kb q r c) (valAt vb d) := by
  dsimp only [chunk]
  pointwise [k0_pay18, k0_pay17]
  simp only [pay7_apply, pay6_apply, pay4_apply]; rfl

/-! ## The masked chunks -/

theorem pay106_apply (q : FVec Ideal S128x256 .bf16) (kb : Vec Ideal S256x128 .bf16) (r : Fin 256) (c : Fin 256) :
    k0_pay106 iotaR iotaC q kb (ix2 r c) = maskedAt kb q r c := by
  pointwise [k0_pay106, k0_pay105]
  rw [mask_eq, select_sle r.isLt c.isLt]
  simp only [maskedAt, scoreAt, Nat.sub_self, Nat.zero_add]
theorem pay107_apply (q : FVec Ideal S128x256 .bf16) (kb : Vec Ideal S256x128 .bf16) (c : Fin 256) :
    k0_pay107 iotaR iotaC q kb (ix2 0 c) = Finset.univ.fold max ⊥ fun s => maskedAt kb q s c := by
  simp only [← pay106_apply]
  pointwise [k0_pay107, k0_pay106]
  rw [neg_inf_eq]
theorem pay104_apply (v : Vec Ideal S1x64x256 .f32) (d : Fin 80) (s : Fin 256) : k0_pay104 v (ix2 d s) = valAt v d s := by
  pointwise [k0_pay104]
  rfl
theorem tail256_at (q : FVec Ideal S128x256 .bf16) (kb : Vec Ideal S256x128 .bf16) (vb : Vec Ideal S1x64x256 .f32) (s : HSt Ideal) (d : Fin 80) (c : Fin 256) :
    tail256 q kb vb s (ix2 d c) = stepA (s.1 (ix2 0 c)) (s.2 (ix2 d c)) (fun r => maskedAt kb q r c) (valAt vb d) := by
  dsimp only [tail256]
  pointwise [k0_pay119]
  simp only [pay107_apply, pay106_apply, pay104_apply]; rfl

theorem pay86_apply (q : FVec Ideal S128x256 .bf16) (kb : Vec Ideal S512x128 .bf16) (r : Fin 512) (c : Fin 256) :
    k0_pay86 iotaR iotaC q kb (ix2 r c) = maskedAt kb q r c := by
  pointwise [k0_pay86, k0_pay85]
  unfold maskedAt scoreAt
  have := r.isLt; have := c.isLt
  split
  · rw [if_pos (by omega)]
  · rw [mask_eq, select_sle (by omega) (by omega)]
    simp only [show 256 + (r.val - 256) = r.val by omega]
    refine if_congr (by omega) rfl rfl
theorem pay87_apply (q : FVec Ideal S128x256 .bf16) (kb : Vec Ideal S512x128 .bf16) (c : Fin 256) :
    k0_pay87 iotaR iotaC q kb (ix2 0 c) = Finset.univ.fold max ⊥ fun s => maskedAt kb q s c := by
  simp only [← pay86_apply]
  pointwise [k0_pay87, k0_pay86]
  rw [neg_inf_eq]
theorem pay84_apply (v : Vec Ideal S1x64x512 .f32) (d : Fin 80) (s : Fin 512) : k0_pay84 v (ix2 d s) = valAt v d s := by
  pointwise [k0_pay84]
  rfl
theorem tail512_at (q : FVec Ideal S128x256 .bf16) (kb : Vec Ideal S512x128 .bf16) (vb : Vec Ideal S1x64x512 .f32) (s : HSt Ideal) (d : Fin 80) (c : Fin 256) :
    tail512 q kb vb s (ix2 d c) = stepA (s.1 (ix2 0 c)) (s.2 (ix2 d c)) (fun r => maskedAt kb q r c) (valAt vb d) := by
  dsimp only [tail512]
  pointwise [k0_pay97]
  simp only [pay87_apply, pay86_apply, pay84_apply]; rfl

theorem pay66_apply (q : FVec Ideal S128x256 .bf16) (kb : Vec Ideal S768x128 .bf16) (r : Fin 768) (c : Fin 256) :
    k0_pay66 iotaR iotaC q kb (ix2 r c) = maskedAt kb q r c := by
  pointwise [k0_pay66, k0_pay65]
  unfold maskedAt scoreAt
  have := r.isLt; have := c.isLt
  split
  · rw [if_pos (by omega)]
  · rw [mask_eq, select_sle (by omega) (by omega)]
    simp only [show 512 + (r.val - 512) = r.val by omega]
    refine if_congr (by omega) rfl rfl
theorem pay67_apply (q : FVec Ideal S128x256 .bf16) (kb : Vec Ideal S768x128 .bf16) (c : Fin 256) :
    k0_pay67 iotaR iotaC q kb (ix2 0 c) = Finset.univ.fold max ⊥ fun s => maskedAt kb q s c := by
  simp only [← pay66_apply]
  pointwise [k0_pay67, k0_pay66]
  rw [neg_inf_eq]
theorem pay64_apply (v : Vec Ideal S1x64x768 .f32) (d : Fin 80) (s : Fin 768) : k0_pay64 v (ix2 d s) = valAt v d s := by
  pointwise [k0_pay64]
  rfl
theorem tail768_at (q : FVec Ideal S128x256 .bf16) (kb : Vec Ideal S768x128 .bf16) (vb : Vec Ideal S1x64x768 .f32) (s : HSt Ideal) (d : Fin 80) (c : Fin 256) :
    tail768 q kb vb s (ix2 d c) = stepA (s.1 (ix2 0 c)) (s.2 (ix2 d c)) (fun r => maskedAt kb q r c) (valAt vb d) := by
  dsimp only [tail768]
  pointwise [k0_pay77]
  simp only [pay67_apply, pay66_apply, pay64_apply]; rfl

theorem pay46_apply (q : FVec Ideal S128x256 .bf16) (kb : Vec Ideal S1024x128 .bf16) (r : Fin 1024) (c : Fin 256) :
    k0_pay46 iotaR iotaC q kb (ix2 r c) = maskedAt kb q r c := by
  pointwise [k0_pay46, k0_pay45]
  unfold maskedAt scoreAt
  have := r.isLt; have := c.isLt
  split
  · rw [if_pos (by omega)]
  · rw [mask_eq, select_sle (by omega) (by omega)]
    simp only [show 768 + (r.val - 768) = r.val by omega]
    refine if_congr (by omega) rfl rfl
theorem pay47_apply (q : FVec Ideal S128x256 .bf16) (kb : Vec Ideal S1024x128 .bf16) (c : Fin 256) :
    k0_pay47 iotaR iotaC q kb (ix2 0 c) = Finset.univ.fold max ⊥ fun s => maskedAt kb q s c := by
  simp only [← pay46_apply]
  pointwise [k0_pay47, k0_pay46]
  rw [neg_inf_eq]
theorem pay44_apply (v : Vec Ideal S1x64x1024 .f32) (d : Fin 80) (s : Fin 1024) : k0_pay44 v (ix2 d s) = valAt v d s := by
  pointwise [k0_pay44]
  rfl
theorem tail1024_at (q : FVec Ideal S128x256 .bf16) (kb : Vec Ideal S1024x128 .bf16) (vb : Vec Ideal S1x64x1024 .f32) (s : HSt Ideal) (d : Fin 80) (c : Fin 256) :
    tail1024 q kb vb s (ix2 d c) = stepA (s.1 (ix2 0 c)) (s.2 (ix2 d c)) (fun r => maskedAt kb q r c) (valAt vb d) := by
  dsimp only [tail1024]
  pointwise [k0_pay57]
  simp only [pay47_apply, pay46_apply, pay44_apply]; rfl

/-! ## The start and the end of a tile -/

theorem st0_max (c : Fin 256) : (st0 (F := Ideal)).1 (ix2 0 c) = ⊥ := by
  dsimp only [st0]; pointwise [k0_pay129]; exact mask_eq
theorem st0_at (d : Fin 80) (c : Fin 256) : (st0 (F := Ideal)).2 (ix2 d c) = 0 := by
  dsimp only [st0]; pointwise [k0_pay125]

/-- The accumulators' quotients, head after head along a row. -/
theorem pay3_apply (a : Fin 4 → Vec Ideal S80x256 .f32) (r : Fin 256) (g : Fin 4) (d : Fin 64) :
    k0_pay3 (a 0) (a 1) (a 2) (a 3) (ix2 r (⟨64 * g.val + d.val, by omega⟩ : Fin 256))
      = a g (ix2 (⟨d.val, by omega⟩ : Fin 80) r) * Ideal.div 1 (a g (ix2 (64 : Fin 80) r)) := by
  pointwise [k0_pay3]
  have := d.isLt
  fin_cases g
  · rw [dif_pos (by simp)]; simp
  · rw [dif_neg (by simp), dif_pos (by simp)]; simp
  · rw [dif_neg (by simp; omega), dif_neg (by simp; omega), dif_pos (by simp; omega)]; congr 3 <;> simp <;> omega
  · rw [dif_neg (by simp; omega), dif_neg (by simp; omega), dif_neg (by simp; omega)]; congr 3 <;> simp <;> omega

end Cert.Proof.PI

end
-- ==== Proof.Soft.lean ====
/-
  The plain softmax over extended reals: scores up to a position, `⊥` beyond, less their maximum.
-/
module

public import proofs.«01_k».proof.Proof.Online

@[expose] public section

noncomputable section

namespace Cert.Proof.Online

open Idealize.ShloMosaic

/-- The causal softmax in base 2 of the scores `x`, at position `τ`, applied to the values `v`. -/
def attn (x : Fin 4096 → EReal) (v : Fin 4096 → ℝ) (τ : ℕ) : ℝ :=
  (∑ s : Fin 4096, if s.val ≤ τ then v s * wt (x s) else 0) / ∑ s : Fin 4096, if s.val ≤ τ then wt (x s) else 0

theorem wt_pos {x : EReal} (h : x ≠ ⊥) (h' : x ≠ ⊤) : 0 < wt x := by
  lift x to ℝ using ⟨h', h⟩
  rw [wt_coe]; exact Real.rpow_pos_of_pos (by norm_num) _

/-- A sum of products of real numbers is real. -/
theorem sum_mul_real {n : ℕ} (f g : Fin n → EReal) (hf : ∀ k, f k ≠ ⊤ ∧ f k ≠ ⊥) (hg : ∀ k, g k ≠ ⊤ ∧ g k ≠ ⊥) :
    ∑ k, f k * g k ≠ ⊤ ∧ ∑ k, f k * g k ≠ ⊥ := by
  have h : ∑ k, f k * g k = ((∑ k, (f k).toReal * (g k).toReal : ℝ) : EReal) := by
    rw [coe_sum]
    refine Finset.sum_congr rfl fun k _ => ?_
    rw [EReal.coe_mul, EReal.coe_toReal (hf k).1 (hf k).2, EReal.coe_toReal (hg k).1 (hg k).2]
  rw [h]; exact ⟨EReal.coe_ne_top _, EReal.coe_ne_bot _⟩

section

variable {n : ℕ} (x : Fin n → EReal) (τ : ℕ) (hx : ∀ s, x s ≠ ⊤ ∧ x s ≠ ⊥)

include hx in
theorem masked_ne_top (s : Fin n) : (if s.val ≤ τ then x s else ⊥) ≠ ⊤ := by
  split
  · exact (hx s).1
  · exact bot_ne_top

theorem wt_masked (s : Fin n) : wt (if s.val ≤ τ then x s else ⊥) = if s.val ≤ τ then wt (x s) else 0 := by
  split <;> rfl

end

/-- A score less the scores' maximum. -/
theorem sub_max_ne_top {n : ℕ} (S : Fin n → EReal) (hS : ∀ s, S s ≠ ⊤) (s : Fin n) : S s - Finset.univ.fold max ⊥ S ≠ ⊤ := by
  rcases eq_or_ne (S s) ⊥ with h | h
  · rw [h, EReal.bot_sub]; exact bot_ne_top
  · have hb := fold_max_ne_bot Finset.univ S s (Finset.mem_univ _) h
    have ht := fold_max_ne_top Finset.univ S hS
    generalize Finset.univ.fold max ⊥ S = M at hb ht
    lift M to ℝ using ⟨ht, hb⟩
    have := hS s
    generalize S s = y at h this
    lift y to ℝ using ⟨this, h⟩
    rw [← EReal.coe_sub]; exact EReal.coe_ne_top _

/-- The quotients of the weights by their sum, applied to real values. -/
theorem softmax_at (x : Fin 4096 → EReal) (v : Fin 4096 → ℝ) (τ : ℕ) (hτ : τ < 4096) (hx : ∀ s, x s ≠ ⊤ ∧ x s ≠ ⊥) :
    ∑ s, (v s : EReal) * Ideal.div (Ideal.exp2 ((if s.val ≤ τ then x s else ⊥) - Finset.univ.fold max ⊥ fun s : Fin 4096 => if s.val ≤ τ then x s else ⊥))
        (∑ i : Fin 4096, Ideal.exp2 ((if i.val ≤ τ then x i else ⊥) - Finset.univ.fold max ⊥ fun s : Fin 4096 => if s.val ≤ τ then x s else ⊥))
      = ((attn x v τ : ℝ) : EReal) := by
  have hS := masked_ne_top x τ hx
  have hb := fold_max_ne_bot Finset.univ (fun s : Fin 4096 => if s.val ≤ τ then x s else ⊥) ⟨0, by norm_num⟩ (Finset.mem_univ _)
    (by dsimp only; rw [if_pos (Nat.zero_le _)]; exact (hx _).2)
  have ht := fold_max_ne_top Finset.univ (fun s : Fin 4096 => if s.val ≤ τ then x s else ⊥) hS
  generalize (Finset.univ.fold max ⊥ fun s : Fin 4096 => if s.val ≤ τ then x s else ⊥) = M at hb ht
  lift M to ℝ using ⟨ht, hb⟩
  have hp : 0 < (2 : ℝ) ^ (-M) := Real.rpow_pos_of_pos (by norm_num) _
  have he : ∀ s : Fin 4096, Ideal.exp2 ((if s.val ≤ τ then x s else ⊥) - (M : EReal)) = (((if s.val ≤ τ then wt (x s) else 0) * (2 : ℝ) ^ (-M) : ℝ) : EReal) := fun s => by
    rw [exp2_sub _ (hS s), wt_masked]
  have hL : 0 < ∑ s : Fin 4096, (if s.val ≤ τ then wt (x s) else 0) := by
    refine Finset.sum_pos' (fun s _ => ?_) ⟨⟨0, by norm_num⟩, Finset.mem_univ _, ?_⟩
    · split
      · exact (wt_pos (hx s).2 (hx s).1).le
      · exact le_rfl
    · rw [if_pos (Nat.zero_le _)]; exact wt_pos (hx _).2 (hx _).1
  simp only [he]
  rw [← coe_sum, ← Finset.sum_mul]
  have hne : (∑ s : Fin 4096, (if s.val ≤ τ then wt (x s) else 0)) * (2 : ℝ) ^ (-M) ≠ 0 := (mul_pos hL hp).ne'
  simp only [Ideal.div_coe hne, ← EReal.coe_mul]
  rw [← coe_sum]
  refine congrArg _ ?_
  unfold attn
  rw [Finset.sum_div]
  refine Finset.sum_congr rfl fun s _ => ?_
  split
  · field_simp
  · simp

end Cert.Proof.Online

end
-- ==== Proof.TileVal.lean ====
/-
  What a tile stores, at the ideal instance, from blocks of real numbers: at query `r` and head `g` the softmax of the
  scores of the positions up to the query's own, in base 2, applied to the values.
-/
module

public import proofs.«01_k».proof.Proof.Reads
public import proofs.«01_k».proof.Proof.Soft

@[expose] public section

noncomputable section

namespace Cert.Proof.Online

open Idealize.ShloMosaic

/-- A position's term in the plain sum at `τ`. -/
def term (x : Fin 4096 → EReal) (v : Fin 4096 → ℝ) (τ s : ℕ) : ℝ :=
  if h : s < 4096 then if s ≤ τ then v ⟨s, h⟩ * wt (x ⟨s, h⟩) else 0 else 0

/-- The terms up to any bound beyond `τ` are all of them. -/
theorem sum_term (x : Fin 4096 → EReal) (v : Fin 4096 → ℝ) (τ n : ℕ) (hτ : τ < n) (hn : n ≤ 4096) :
    ∑ s ∈ Finset.range n, term x v τ s = ∑ s : Fin 4096, if s.val ≤ τ then v s * wt (x s) else 0 := by
  have h : ∑ s : Fin 4096, (if s.val ≤ τ then v s * wt (x s) else 0) = ∑ s ∈ Finset.range 4096, term x v τ s := by
    rw [Finset.sum_range]
    refine Finset.sum_congr rfl fun s _ => ?_
    simp only [term, s.isLt, dif_pos]
  rw [h]
  refine Finset.sum_subset (Finset.range_mono hn) fun s _ hs => ?_
  rw [Finset.mem_range, not_lt] at hs
  unfold term
  split
  · rw [if_neg (by omega)]
  · rfl

/-- The terms of `n` positions after the first `s₀`. -/
theorem sum_add_chunk (x : Fin 4096 → EReal) (v : Fin 4096 → ℝ) (τ s₀ n : ℕ) (w : Fin n → ℝ) (hw : ∀ r : Fin n, w r = term x v τ (s₀ + r.val)) :
    ∑ s ∈ Finset.range s₀, term x v τ s + ∑ r, w r = ∑ s ∈ Finset.range (s₀ + n), term x v τ s := by
  rw [Finset.sum_range_add, Finset.sum_range (fun r => term x v τ (s₀ + r))]
  exact congrArg _ (Finset.sum_congr rfl fun r _ => hw r)

end Cert.Proof.Online

namespace Cert.Proof.PI

open Cert.KernelIdeal Cert.KernelIdeal.Gen Cert.Proof.Online
open Idealize.ShloMosaic

/-- One chunk, as the payloads spell it. -/
theorem stands_stepA {n : ℕ} (S V : Fin n → EReal) (v : Fin n → ℝ) (hS : ∀ s, S s ≠ ⊤) (hv : ∀ s, V s = (v s : EReal)) (i : Fin n) (hi : S i ≠ ⊥)
    {m a : EReal} {A : ℝ} (h : Stands m a A) : Stands (stepM m S) (stepA m a S V) (A + ∑ s, v s * wt (S s)) := by
  refine stands_step S V v hS hv h (le_max_left _ _) ?_ ?_
  · exact ne_bot_of_le_ne_bot (fold_max_ne_bot Finset.univ S i (Finset.mem_univ _) hi) (le_max_right _ _)
  · have hm : m ≠ ⊤ := by
      rcases h with ⟨rfl, -⟩ | ⟨M, rfl, -⟩
      · exact bot_ne_top
      · exact EReal.coe_ne_top M
    exact (max_lt (lt_top_iff_ne_top.mpr hm) (lt_top_iff_ne_top.mpr (fold_max_ne_top _ S hS))).ne

/-! ## The places that the body loads from -/

theorem off5_eq : ∀ (t : Fin k0_t1_loop.trips) (k : Fin (k0_t2_loop t).trips), k0_off5 t k = ![1024 * k.val, 0] := by decide +kernel
theorem off6_eq : ∀ (t : Fin k0_t1_loop.trips) (k : Fin (k0_t2_loop t).trips), k0_off6 t k = ![0, 0, 1024 * k.val] := by decide +kernel
theorem trips_t2 : ∀ t : Fin k0_t1_loop.trips, (k0_t2_loop t).trips = t.val / 4 := by decide +kernel
theorem tail_off1024 : ∀ t : Fin k0_t1_loop.trips, k0_cond1 t = 1#1 → k0_cond2 t = 1#1 → k0_cond3 t = 1#1 →
    k0_off9 t = ![1024 * (t.val / 4), 0] ∧ k0_off10 t = ![0, 0, 1024 * (t.val / 4)] ∧ 1024 * (t.val / 4) + 1024 = 256 * t.val + 256 := by decide +kernel
theorem tail_off768 : ∀ t : Fin k0_t1_loop.trips, k0_cond1 t = 1#1 → k0_cond2 t = 1#1 → ¬k0_cond3 t = 1#1 →
    k0_off11 t = ![1024 * (t.val / 4), 0] ∧ k0_off12 t = ![0, 0, 1024 * (t.val / 4)] ∧ 1024 * (t.val / 4) + 768 = 256 * t.val + 256 := by decide +kernel
theorem tail_off512 : ∀ t : Fin k0_t1_loop.trips, k0_cond1 t = 1#1 → ¬k0_cond2 t = 1#1 →
    k0_off13 t = ![1024 * (t.val / 4), 0] ∧ k0_off14 t = ![0, 0, 1024 * (t.val / 4)] ∧ 1024 * (t.val / 4) + 512 = 256 * t.val + 256 := by decide +kernel
theorem tail_off256 : ∀ t : Fin k0_t1_loop.trips, ¬k0_cond1 t = 1#1 →
    k0_off15 t = ![1024 * (t.val / 4), 0] ∧ k0_off16 t = ![0, 0, 1024 * (t.val / 4)] ∧ 1024 * (t.val / 4) + 256 = 256 * t.val + 256 := by decide +kernel

section column

variable (X3 : S4096x128.Idx → Elt Ideal .bf16) (X4 : S1x64x4096.Idx → Elt Ideal .f32) (t : Fin k0_t1_loop.trips)
  (q : FVec Ideal S128x256 .bf16) (c : Fin 256)

/-- The product of position `s`'s key and the tile's query `c`, -/
def score (s : Fin 4096) : EReal := ∑ k : Fin 128, X3 (ix2 s k) * q (ix2 k c)
/-- and row `d` of the values there: a value below 64, then a one. -/
def value (d : Fin 80) (s : Fin 4096) : EReal := if h : d.val < 64 then X4 (ix3 0 ⟨d.val, h⟩ s) else 1

variable {X3 X4 t q c}

theorem scoreAt_ld {n : ℕ} {off : Fin 2 → ℕ} (a : ℕ) (h : off = ![a, 0])
    (inb : ∀ i, off i + (⟨2, ![n, 128]⟩ : Shape).size i ≤ S4096x128.size i) (r : Fin n) (b : Fin 4096) (hb : b.val = a + r.val) :
    scoreAt (View.ld X3 (Rect.unit (s := S4096x128) off (⟨2, ![n, 128]⟩ : Shape).size inb)) q r c = score X3 q c b := by
  subst h
  unfold scoreAt score
  refine Finset.sum_congr rfl fun k _ => ?_
  refine congrArg (· * q (ix2 k c)) ?_
  unfold View.ld
  refine congrArg X3 (funext fun i => Fin.ext ?_)
  refine Fin.cases ?_ (fun j => ?_) i
  · change a + 1 * r.val = b.val; omega
  · obtain rfl : j = 0 := Subsingleton.elim _ _
    change 0 + 1 * k.val = k.val; omega

theorem valAt_ld {n : ℕ} {off : Fin 3 → ℕ} (a : ℕ) (h : off = ![0, 0, a])
    (inb : ∀ i, off i + (⟨3, ![1, 64, n]⟩ : Shape).size i ≤ S1x64x4096.size i) (d : Fin 80) (r : Fin n) (b : Fin 4096) (hb : b.val = a + r.val) :
    valAt (View.ld X4 (Rect.unit (s := S1x64x4096) off (⟨3, ![1, 64, n]⟩ : Shape).size inb)) d r = value X4 d b := by
  subst h
  unfold valAt value
  split
  · rename_i hd
    unfold View.ld
    refine congrArg X4 (funext fun i => Fin.ext ?_)
    match i with
    | ⟨0, _⟩ => rfl
    | ⟨1, _⟩ => change 0 + 1 * d.val = d.val; omega
    | ⟨2, _⟩ => change a + 1 * r.val = b.val; omega
    | ⟨j + 3, hj⟩ => exact absurd hj (by change ¬(j + 3 < 3); omega)
  · rfl

variable (hx : ∀ s, score X3 q c s ≠ ⊤ ∧ score X3 q c s ≠ ⊥) (d : Fin 80) (v : Fin 4096 → ℝ) (hv : ∀ s, value X4 d s = (v s : EReal))

include hx hv

/-- After `k` unmasked chunks the accumulator stands for the terms of the first `1024 k` positions. -/
theorem hst_stands : ∀ k, k ≤ (k0_t2_loop t).trips →
    Stands ((hst X3 X4 t q k).1 (ix2 0 c)) ((hst X3 X4 t q k).2 (ix2 d c)) (∑ s ∈ Finset.range (1024 * k), term (score X3 q c) v (256 * t.val + c.val) s)
  | 0, _ => by
    rw [hst, st0_max, st0_at, Nat.mul_zero, Finset.range_zero, Finset.sum_empty]; exact stands_zero
  | k + 1, hk => by
    have ht := trips_t2 t
    have htl : t.val < 16 := lt_of_lt_of_eq t.isLt (by decide +kernel)
    have ih := hst_stands k (by omega)
    rw [hst_succ X3 X4 t q ⟨k, hk⟩, chunk_max, chunk_at]
    have hlt : ∀ r : Fin 1024, 1024 * k + r.val < 4096 := fun r => by have := r.isLt; omega
    have hsc : ∀ r : Fin 1024, scoreAt (kb X3 t ⟨k, hk⟩) q r c = score X3 q c ⟨1024 * k + r.val, hlt r⟩ :=
      fun r => scoreAt_ld (1024 * k) (off5_eq t ⟨k, hk⟩) _ r _ rfl
    have hva : ∀ r : Fin 1024, valAt (vb X4 t ⟨k, hk⟩) d r = (v ⟨1024 * k + r.val, hlt r⟩ : EReal) :=
      fun r => (valAt_ld (1024 * k) (off6_eq t ⟨k, hk⟩) _ d r _ rfl).trans (hv _)
    have h := stands_stepA (fun r => scoreAt (kb X3 t ⟨k, hk⟩) q r c) (valAt (vb X4 t ⟨k, hk⟩) d) (fun r => v ⟨1024 * k + r.val, hlt r⟩)
      (fun r => by rw [hsc]; exact (hx _).1) hva 0 (by rw [hsc]; exact (hx _).2) ih
    rw [sum_add_chunk (score X3 q c) v _ _ 1024 _ (fun r => by
      rw [hsc, term, dif_pos (hlt r), if_pos (by have := r.isLt; omega)])] at h
    exact h

/-- The masked chunk, of `n` positions from `s₀`, ending with the tile's. -/
theorem tail_stands {n : ℕ} (hn : 256 ≤ n) (s₀ : ℕ) (hs : s₀ + n = 256 * t.val + 256) (kbn : (⟨2, ![n, 128]⟩ : Shape).Idx → EReal) (vbn : (⟨3, ![1, 64, n]⟩ : Shape).Idx → EReal)
    (hk : ∀ (r : Fin n) (b : Fin 4096), b.val = s₀ + r.val → scoreAt kbn q r c = score X3 q c b)
    (hvb : ∀ (r : Fin n) (b : Fin 4096), b.val = s₀ + r.val → valAt vbn d r = value X4 d b)
    {m a : EReal} (h : Stands m a (∑ s ∈ Finset.range s₀, term (score X3 q c) v (256 * t.val + c.val) s)) :
    Stands (stepM m fun r => maskedAt kbn q r c) (stepA m a (fun r => maskedAt kbn q r c) (valAt vbn d))
      (∑ s : Fin 4096, if s.val ≤ 256 * t.val + c.val then v s * wt (score X3 q c s) else 0) := by
  have htl : t.val < 16 := lt_of_lt_of_eq t.isLt (by decide +kernel)
  have hlt : ∀ r : Fin n, s₀ + r.val < 4096 := fun r => by have := r.isLt; omega
  have hma : ∀ r : Fin n, maskedAt kbn q r c = if s₀ + r.val ≤ 256 * t.val + c.val then score X3 q c ⟨s₀ + r.val, hlt r⟩ else ⊥ := fun r => by
    unfold maskedAt
    rw [hk r ⟨s₀ + r.val, hlt r⟩ rfl]
    exact if_congr (by omega) rfl rfl
  have h := stands_stepA (fun r => maskedAt kbn q r c) (valAt vbn d) (fun r => v ⟨s₀ + r.val, hlt r⟩)
    (fun r => by
      rw [hma]; split
      · exact (hx _).1
      · exact bot_ne_top)
    (fun r => (hvb r ⟨s₀ + r.val, hlt r⟩ rfl).trans (hv _)) ⟨0, by omega⟩
    (by rw [hma, if_pos (by dsimp only; omega)]; exact (hx _).2) h
  rw [sum_add_chunk (score X3 q c) v _ _ n _ (fun r => by
    rw [hma, term, dif_pos (hlt r)]
    split
    · rfl
    · rw [wt_bot, mul_zero]), sum_term _ _ _ _ (by have := c.isLt; omega) (by omega)] at h
  exact h

/-- A head's accumulator at the end of the tile stands for the terms of the positions up to the query's, under a
    maximum that does not depend on the accumulator's row. -/
theorem headAcc_stands : ∃ M, (∀ d' : Fin 80, ∀ v' : Fin 4096 → ℝ, (∀ s, value X4 d' s = (v' s : EReal)) →
    Stands M (headAcc X3 X4 t q (ix2 d' c)) (∑ s : Fin 4096, if s.val ≤ 256 * t.val + c.val then v' s * wt (score X3 q c s) else 0)) := by
  have hst' := fun (d' : Fin 80) v' (hv' : ∀ s, value X4 d' s = (v' s : EReal)) => hst_stands (t := t) hx d' v' hv' (k0_t2_loop t).trips le_rfl
  unfold headAcc tailAcc
  by_cases h1 : k0_cond1 t = 1#1
  · by_cases h2 : k0_cond2 t = 1#1
    · by_cases h3 : k0_cond3 t = 1#1
      · obtain ⟨e1, e2, e3⟩ := tail_off1024 t h1 h2 h3
        apply Exists.intro; intro d' v' hv'
        rw [dif_pos h1, dif_pos h2, dif_pos h3, tail1024_at]
        exact tail_stands hx d' v' hv' (by norm_num) _ (by rw [trips_t2]; exact e3) _ _ (fun r b hb => scoreAt_ld _ e1 _ r b (by rw [hb, trips_t2])) (fun r b hb => valAt_ld _ e2 _ d' r b (by rw [hb, trips_t2])) (hst' d' v' hv')
      · obtain ⟨e1, e2, e3⟩ := tail_off768 t h1 h2 h3
        apply Exists.intro; intro d' v' hv'
        rw [dif_pos h1, dif_pos h2, dif_neg h3, tail768_at]
        exact tail_stands hx d' v' hv' (by norm_num) _ (by rw [trips_t2]; exact e3) _ _ (fun r b hb => scoreAt_ld _ e1 _ r b (by rw [hb, trips_t2])) (fun r b hb => valAt_ld _ e2 _ d' r b (by rw [hb, trips_t2])) (hst' d' v' hv')
    · obtain ⟨e1, e2, e3⟩ := tail_off512 t h1 h2
      apply Exists.intro; intro d' v' hv'
      rw [dif_pos h1, dif_neg h2, tail512_at]
      exact tail_stands hx d' v' hv' (by norm_num) _ (by rw [trips_t2]; exact e3) _ _ (fun r b hb => scoreAt_ld _ e1 _ r b (by rw [hb, trips_t2])) (fun r b hb => valAt_ld _ e2 _ d' r b (by rw [hb, trips_t2])) (hst' d' v' hv')
  · obtain ⟨e1, e2, e3⟩ := tail_off256 t h1
    apply Exists.intro; intro d' v' hv'
    rw [dif_neg h1, tail256_at]
    exact tail_stands hx d' v' hv' (by norm_num) _ (by rw [trips_t2]; exact e3) _ _ (fun r b hb => scoreAt_ld _ e1 _ r b (by rw [hb, trips_t2])) (fun r b hb => valAt_ld _ e2 _ d' r b (by rw [hb, trips_t2])) (hst' d' v' hv')

/-- The quotient a tile stores. -/
theorem head_quotient (hd : d.val < 64) :
    headAcc X3 X4 t q (ix2 d c) * Ideal.div 1 (headAcc X3 X4 t q (ix2 (64 : Fin 80) c)) = ((attn (score X3 q c) v (256 * t.val + c.val) : ℝ) : EReal) := by
  obtain ⟨M, h⟩ := headAcc_stands (t := t) hx d v hv
  have hl := h 64 (fun _ => 1) (fun s => by unfold value; rw [dif_neg (by decide)]; rfl)
  simp only [one_mul] at hl
  refine stands_div (h d v hv) hl (Finset.sum_pos' (fun s _ => ?_) ⟨0, Finset.mem_univ _, ?_⟩)
  · split
    · exact (wt_pos (hx s).2 (hx s).1).le
    · exact le_rfl
  · rw [if_pos (by simp)]; exact wt_pos (hx _).2 (hx _).1

end column

end Cert.Proof.PI

end
-- ==== Proof.Trip.lean ====
/-
  The body's two inner loops by invariant. One trip of the unmasked chunk loop takes each head's state to the next
  (`chunk`): the accumulators' buffers hold the states' second halves, the carried values are their first halves, and
  the four score buffers hold anything, since every trip fills them before it reads them. The remainder loop has no
  trip.
-/
module

public import proofs.«01_k».proof.Proof.Model
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Pipeline.Kit

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ
abbrev 𝒱₀ : Variants := Variants.none

/-- The contents memref `M`'s buffer may have on core `c`, -/
abbrev Bf (F : FTy → Type) (c : Dev nD) {sp : Space} {S : Shape} {e : EltTy} (M : Memref sig .tc sp S e) : Type := Buf (Elt F) (M.view.loc (c : Thread nD τ))
/-- and it held whole at `f`. -/
abbrev pt (c : Dev nD) {sp : Space} {S : Shape} {e : EltTy} (M : Memref sig .tc sp S e) (f : Bf F c M) : sProp 𝕄 :=
  M.view.loc (c : Thread nD τ) ↦[M.view.set]{fullShare} f

/-- The whole of an accumulator's buffer, as the body's loads and stores name it. -/
abbrev accR : Rect S80x256 := Rect.unit (s := S80x256) ![0, 0] S80x256.size inb_S80x256_S80x256_0_0

/-- An accumulator's buffer filled with `A`, over anything. -/
abbrev accPt (c : Dev nD) (M : Memref sig .tc .vmem S80x256 .f32) (A : FVec F S80x256 .f32) : sProp 𝕄 :=
  iprop(∃ f : Bf F c M, pt c M (M.view.writes (Elt F) f [⟨accR, A⟩]))

variable (c : Dev nD) (i : grid0.Coords)
  (arg2 : Memref sig .tc .vmem S1x4x128x4096 .bf16) (harg2 : arg2.IsWhole) (arg3 : Memref sig .tc .vmem S4096x128 .bf16) (harg3 : arg3.IsWhole)
  (arg4 : Memref sig .tc .vmem S1x64x4096 .f32) (harg4 : arg4.IsWhole) (arg5 : Memref sig .tc .vmem S4096x256 .f32) (harg5 : arg5.IsWhole)
  (arg6 : Memref sig .tc .vmem S80x256 .f32) (harg6 : arg6.IsWhole) (arg7 : Memref sig .tc .vmem S80x256 .f32) (harg7 : arg7.IsWhole)
  (arg8 : Memref sig .tc .vmem S80x256 .f32) (harg8 : arg8.IsWhole) (arg9 : Memref sig .tc .vmem S80x256 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x256 .f32) (harg12 : arg12.IsWhole) (arg13 : Memref sig .tc .vmem S1024x256 .f32) (harg13 : arg13.IsWhole)

/-- The buffers an inner trip touches: the keys' and values' blocks, the accumulators at `A0`–`A3`, the score buffers
    at anything. -/
abbrev chunkRes (f3 : Bf F c arg3) (f4 : Bf F c arg4) (A0 A1 A2 A3 : FVec F S80x256 .f32) : sProp 𝕄 :=
  iprop(pt c arg3 f3 ∗ pt c arg4 f4 ∗ accPt c arg6 A0 ∗ accPt c arg7 A1 ∗ accPt c arg8 A2 ∗ accPt c arg9 A3
    ∗ (∃ f, pt c arg10 f) ∗ (∃ f, pt c arg11 f) ∗ (∃ f, pt c arg12 f) ∗ (∃ f, pt c arg13 f))

/-- Four heads' states before chunk `k`: the carried maxima are theirs, and the buffers hold their accumulators. -/
abbrev chunkInv (f3 : Bf F c arg3) (f4 : Bf F c arg4) (t : Fin k0_t1_loop.trips) (q0 q1 q2 q3 : FVec F S128x256 .bf16) (k : ℕ)
    (s : FVec F S1x256 .f32 × FVec F S1x256 .f32 × FVec F S1x256 .f32 × FVec F S1x256 .f32) : sProp 𝕄 :=
  iprop(⌜s = ((hst (arg3.view.read (Elt F) f3) (arg4.view.read (Elt F) f4) t q0 k).1, (hst (arg3.view.read (Elt F) f3) (arg4.view.read (Elt F) f4) t q1 k).1,
        (hst (arg3.view.read (Elt F) f3) (arg4.view.read (Elt F) f4) t q2 k).1, (hst (arg3.view.read (Elt F) f3) (arg4.view.read (Elt F) f4) t q3 k).1)⌝
    ∗ chunkRes c arg3 arg4 arg6 arg7 arg8 arg9 arg10 arg11 arg12 arg13 f3 f4
      (hst (arg3.view.read (Elt F) f3) (arg4.view.read (Elt F) f4) t q0 k).2 (hst (arg3.view.read (Elt F) f3) (arg4.view.read (Elt F) f4) t q1 k).2
      (hst (arg3.view.read (Elt F) f3) (arg4.view.read (Elt F) f4) t q2 k).2 (hst (arg3.view.read (Elt F) f3) (arg4.view.read (Elt F) f4) t q3 k).2)

/-- A buffer whose last write filled it with `A`. -/
theorem accPt_of (M : Memref sig .tc .vmem S80x256 .f32) (A : FVec F S80x256 .f32) :
    iprop(∃ (f : Bf F c M) (B : FVec F S80x256 .f32) (L : List (View.Piece (Elt F) S80x256 .f32)),
      pt c M (M.view.writes (Elt F) f (⟨accR, B⟩ :: L)) ∗ ⌜B = A⌝) ⊢ (accPt c M A : sProp 𝕄) := by
  iintro ⟨%f, %B, %L, H, %h⟩
  subst h
  rw [show (⟨accR, B⟩ :: L : List (View.Piece (Elt F) S80x256 .f32)) = [⟨accR, B⟩] ++ L from rfl, View.writes_append]
  iexists _; iexact H

/-- The rows of a score buffer a full chunk fills. -/
abbrev stR : Rect S1024x256 := Rect.unit (s := S1024x256) ![0, 0] S1024x256.size inb_S1024x256_S1024x256_0_0

/-- The new accumulator of a full chunk, its scores and the old accumulator read back from the buffers they were
    stored in. -/
theorem chunk_acc (q : FVec F S128x256 .bf16) (kv : Vec F S1024x128 .bf16) (vv : Vec F S1x64x1024 .f32) (s : HSt F)
    (va : View sig .tc .vmem S80x256 .f32) (vs : View sig .tc .vmem S1024x256 .f32) :
    k0_pay18 s.1 (k0_pay4 vv) (k0_pay7 q kv) (vs.readCov [⟨stR, k0_pay6 q kv⟩] stR.toLoadRect) (va.readCov [⟨accR, s.2⟩] accR.toLoadRect)
      = (chunk q kv vv s).2 := by
  rw [View.readCov_cons_toLoadRect, View.readCov_cons_toLoadRect]; rfl

/-- One trip: each head's state by one chunk. -/
theorem trip (t : Fin k0_t1_loop.trips) (arg14 : BitVec 32) (q0 q1 q2 q3 : FVec F S128x256 .bf16) (k : Fin (k0_t2_loop t).trips)
    (f3 : Bf F c arg3) (f4 : Bf F c arg4) (s0 s1 s2 s3 : HSt F) :
    chunkRes c arg3 arg4 arg6 arg7 arg8 arg9 arg10 arg11 arg12 arg13 f3 f4 s0.2 s1.2 s2.2 s3.2
    ⊢ wp frame (wpE (defs₀ (F := F)) 𝒱₀ (c : Thread nD τ) none) Set.univ
        (k0_t2_body i arg2 harg2 arg3 harg3 arg4 harg4 arg5 harg5 arg6 harg6 arg7 harg7 arg8 harg8 arg9 harg9 arg10 harg10 arg11 harg11 arg12 harg12 arg13 harg13 t arg14 q0 q1 q2 q3 k (s0.1, s1.1, s2.1, s3.1))
        (fun r => iprop(⌜r = ((chunk q0 (kb (arg3.view.read (Elt F) f3) t k) (vb (arg4.view.read (Elt F) f4) t k) s0).1,
            (chunk q1 (kb (arg3.view.read (Elt F) f3) t k) (vb (arg4.view.read (Elt F) f4) t k) s1).1,
            (chunk q2 (kb (arg3.view.read (Elt F) f3) t k) (vb (arg4.view.read (Elt F) f4) t k) s2).1,
            (chunk q3 (kb (arg3.view.read (Elt F) f3) t k) (vb (arg4.view.read (Elt F) f4) t k) s3).1)⌝
          ∗ chunkRes c arg3 arg4 arg6 arg7 arg8 arg9 arg10 arg11 arg12 arg13 f3 f4
            (chunk q0 (kb (arg3.view.read (Elt F) f3) t k) (vb (arg4.view.read (Elt F) f4) t k) s0).2
            (chunk q1 (kb (arg3.view.read (Elt F) f3) t k) (vb (arg4.view.read (Elt F) f4) t k) s1).2
            (chunk q2 (kb (arg3.view.read (Elt F) f3) t k) (vb (arg4.view.read (Elt F) f4) t k) s2).2
            (chunk q3 (kb (arg3.view.read (Elt F) f3) t k) (vb (arg4.view.read (Elt F) f4) t k) s3).2)) := by
  unfold k0_t2_body
  iintro ⟨H3, H4, ⟨%f6, H6⟩, ⟨%f7, H7⟩, ⟨%f8, H8⟩, ⟨%f9, H9⟩, ⟨%f10, H10⟩, ⟨%f11, H11⟩, ⟨%f12, H12⟩, ⟨%f13, H13⟩⟩
  sl_exec_parts
  sl_step
  isplitr; · ipureintro; rfl
  isplitl [H3]; · iexact H3
  isplitl [H4]; · iexact H4
  isplitl [H6]
  · iapply accPt_of
    iexists _, _, _
    isplitl [H6]; · iexact H6
    ipureintro
    exact chunk_acc q0 (kb (arg3.view.read (Elt F) f3) t k) (vb (arg4.view.read (Elt F) f4) t k) s0 arg6.view arg10.view
  isplitl [H7]
  · iapply accPt_of
    iexists _, _, _
    isplitl [H7]; · iexact H7
    ipureintro
    exact chunk_acc q1 (kb (arg3.view.read (Elt F) f3) t k) (vb (arg4.view.read (Elt F) f4) t k) s1 arg7.view arg11.view
  isplitl [H8]
  · iapply accPt_of
    iexists _, _, _
    isplitl [H8]; · iexact H8
    ipureintro
    exact chunk_acc q2 (kb (arg3.view.read (Elt F) f3) t k) (vb (arg4.view.read (Elt F) f4) t k) s2 arg8.view arg12.view
  isplitl [H9]
  · iapply accPt_of
    iexists _, _, _
    isplitl [H9]; · iexact H9
    ipureintro
    exact chunk_acc q3 (kb (arg3.view.read (Elt F) f3) t k) (vb (arg4.view.read (Elt F) f4) t k) s3 arg9.view arg13.view
  isplitl [H10]; · iexists _; iexact H10
  isplitl [H11]; · iexists _; iexact H11
  isplitl [H12]; · iexists _; iexact H12
  iexists _; iexact H13

/-- One trip of the unmasked chunk loop keeps the invariant. -/
theorem chunk_step (f3 : Bf F c arg3) (f4 : Bf F c arg4) (t : Fin k0_t1_loop.trips) (arg14 : BitVec 32) (q0 q1 q2 q3 : FVec F S128x256 .bf16)
    (k : Fin (k0_t2_loop t).trips) (s : FVec F S1x256 .f32 × FVec F S1x256 .f32 × FVec F S1x256 .f32 × FVec F S1x256 .f32) :
    chunkInv c arg3 arg4 arg6 arg7 arg8 arg9 arg10 arg11 arg12 arg13 f3 f4 t q0 q1 q2 q3 k s
    ⊢ wp frame (wpE (defs₀ (F := F)) 𝒱₀ (c : Thread nD τ) none) Set.univ
        (k0_t2_body i arg2 harg2 arg3 harg3 arg4 harg4 arg5 harg5 arg6 harg6 arg7 harg7 arg8 harg8 arg9 harg9 arg10 harg10 arg11 harg11 arg12 harg12 arg13 harg13 t arg14 q0 q1 q2 q3 k s)
        (chunkInv c arg3 arg4 arg6 arg7 arg8 arg9 arg10 arg11 arg12 arg13 f3 f4 t q0 q1 q2 q3 (k.val + 1)) := by
  iintro ⟨%hs, H⟩
  subst hs
  have h := trip c i arg2 harg2 arg3 harg3 arg4 harg4 arg5 harg5 arg6 harg6 arg7 harg7 arg8 harg8 arg9 harg9 arg10 harg10 arg11 harg11 arg12 harg12 arg13 harg13
    t arg14 q0 q1 q2 q3 k f3 f4 (hst (arg3.view.read (Elt F) f3) (arg4.view.read (Elt F) f4) t q0 k) (hst (arg3.view.read (Elt F) f3) (arg4.view.read (Elt F) f4) t q1 k)
    (hst (arg3.view.read (Elt F) f3) (arg4.view.read (Elt F) f4) t q2 k) (hst (arg3.view.read (Elt F) f3) (arg4.view.read (Elt F) f4) t q3 k)
  simp only [← hst_succ] at h
  iapply h $$ H

end Cert.Proof.PI
end
-- ==== Proof.Tile.lean ====
/-
  One tile of 256 queries. The body's trip at tile `t` zeroes the accumulators, goes over the unmasked chunks
  (`chunk_step`), takes the branch of the four that its number of remaining keys selects, and stores `tileOut`.
-/
module

public import proofs.«01_k».proof.Proof.Trip

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x4x128x4096 .bf16) (harg2 : arg2.IsWhole) (arg3 : Memref sig .tc .vmem S4096x128 .bf16) (harg3 : arg3.IsWhole)
  (arg4 : Memref sig .tc .vmem S1x64x4096 .f32) (harg4 : arg4.IsWhole) (arg5 : Memref sig .tc .vmem S4096x256 .f32) (harg5 : arg5.IsWhole)
  (arg6 : Memref sig .tc .vmem S80x256 .f32) (harg6 : arg6.IsWhole) (arg7 : Memref sig .tc .vmem S80x256 .f32) (harg7 : arg7.IsWhole)
  (arg8 : Memref sig .tc .vmem S80x256 .f32) (harg8 : arg8.IsWhole) (arg9 : Memref sig .tc .vmem S80x256 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x256 .f32) (harg12 : arg12.IsWhole) (arg13 : Memref sig .tc .vmem S1024x256 .f32) (harg13 : arg13.IsWhole)

/-- The rows of a score buffer a last chunk of 256 keys fills. -/
abbrev stR256 : Rect S1024x256 := Rect.unit (s := S1024x256) ![0, 0] S256x256.size inb_S1024x256_S256x256_0_0

/-- The accumulator read back after a last chunk of 256 keys, -/
theorem tail256_acc (q : FVec F S128x256 .bf16) (kv : Vec F S256x128 .bf16) (vv : Vec F S1x64x256 .f32) (s : HSt F)
    (va : View sig .tc .vmem S80x256 .f32) (vs : View sig .tc .vmem S1024x256 .f32) :
    View.readCov (Val := Elt F) va [⟨accR, k0_pay119 s.1 (k0_pay104 vv) (k0_pay107 iotaR iotaC q kv)
      (vs.readCov [⟨stR256, k0_pay106 iotaR iotaC q kv⟩] stR256.toLoadRect) (va.readCov [⟨accR, s.2⟩] accR.toLoadRect)⟩, ⟨accR, s.2⟩] accR.toLoadRect
      = tail256 q kv vv s := by
  rw [View.readCov_cons_toLoadRect, View.readCov_cons_toLoadRect, View.readCov_cons_toLoadRect]; rfl

/-- The rows of a score buffer a last chunk of 512 keys fills. -/
abbrev stR512 : Rect S1024x256 := Rect.unit (s := S1024x256) ![0, 0] S512x256.size inb_S1024x256_S512x256_0_0

/-- The accumulator read back after a last chunk of 512 keys, -/
theorem tail512_acc (q : FVec F S128x256 .bf16) (kv : Vec F S512x128 .bf16) (vv : Vec F S1x64x512 .f32) (s : HSt F)
    (va : View sig .tc .vmem S80x256 .f32) (vs : View sig .tc .vmem S1024x256 .f32) :
    View.readCov (Val := Elt F) va [⟨accR, k0_pay97 s.1 (k0_pay84 vv) (k0_pay87 iotaR iotaC q kv)
      (vs.readCov [⟨stR512, k0_pay86 iotaR iotaC q kv⟩] stR512.toLoadRect) (va.readCov [⟨accR, s.2⟩] accR.toLoadRect)⟩, ⟨accR, s.2⟩] accR.toLoadRect
      = tail512 q kv vv s := by
  rw [View.readCov_cons_toLoadRect, View.readCov_cons_toLoadRect, View.readCov_cons_toLoadRect]; rfl

/-- The rows of a score buffer a last chunk of 768 keys fills. -/
abbrev stR768 : Rect S1024x256 := Rect.unit (s := S1024x256) ![0, 0] S768x256.size inb_S1024x256_S768x256_0_0

/-- The accumulator read back after a last chunk of 768 keys, -/
theorem tail768_acc (q : FVec F S128x256 .bf16) (kv : Vec F S768x128 .bf16) (vv : Vec F S1x64x768 .f32) (s : HSt F)
    (va : View sig .tc .vmem S80x256 .f32) (vs : View sig .tc .vmem S1024x256 .f32) :
    View.readCov (Val := Elt F) va [⟨accR, k0_pay77 s.1 (k0_pay64 vv) (k0_pay67 iotaR iotaC q kv)
      (vs.readCov [⟨stR768, k0_pay66 iotaR iotaC q kv⟩] stR768.toLoadRect) (va.readCov [⟨accR, s.2⟩] accR.toLoadRect)⟩, ⟨accR, s.2⟩] accR.toLoadRect
      = tail768 q kv vv s := by
  rw [View.readCov_cons_toLoadRect, View.readCov_cons_toLoadRect, View.readCov_cons_toLoadRect]; rfl

/-- The accumulator read back after a last chunk of 1024 keys, -/
theorem tail1024_acc (q : FVec F S128x256 .bf16) (kv : Vec F S1024x128 .bf16) (vv : Vec F S1x64x1024 .f32) (s : HSt F)
    (va : View sig .tc .vmem S80x256 .f32) (vs : View sig .tc .vmem S1024x256 .f32) :
    View.readCov (Val := Elt F) va [⟨accR, k0_pay57 s.1 (k0_pay44 vv) (k0_pay47 iotaR iotaC q kv)
      (vs.readCov [⟨stR, k0_pay46 iotaR iotaC q kv⟩] stR.toLoadRect) (va.readCov [⟨accR, s.2⟩] accR.toLoadRect)⟩, ⟨accR, s.2⟩] accR.toLoadRect
      = tail1024 q kv vv s := by
  rw [View.readCov_cons_toLoadRect, View.readCov_cons_toLoadRect, View.readCov_cons_toLoadRect]; rfl

/-- The output's buffer after a store of `A` to tile `t`'s rows, however `A` is written. -/
theorem outPt_of (t : Fin k0_t1_loop.trips) (f5 : Bf F c arg5) (A : FVec F S256x256 .f32) :
    iprop(∃ B : FVec F S256x256 .f32, pt c arg5 (arg5.view.writes (Elt F) f5 [⟨rowsR t, B⟩]) ∗ ⌜B = A⌝)
    ⊢ (pt c arg5 (arg5.view.writes (Elt F) f5 [⟨rowsR t, A⟩]) : sProp 𝕄) := by
  iintro ⟨%B, H, %h⟩
  subst h
  iexact H

/-- One tile. -/
theorem tile (t : Fin k0_t1_loop.trips)
    (f2 : Bf F c arg2) (f3 : Bf F c arg3) (f4 : Bf F c arg4) (f5 : Bf F c arg5) :
    iprop(pt c arg2 f2 ∗ pt c arg3 f3 ∗ pt c arg4 f4 ∗ pt c arg5 f5
    ∗ (∃ f, pt c arg6 f) ∗ (∃ f, pt c arg7 f) ∗ (∃ f, pt c arg8 f) ∗ (∃ f, pt c arg9 f)
    ∗ (∃ f, pt c arg10 f) ∗ (∃ f, pt c arg11 f) ∗ (∃ f, pt c arg12 f) ∗ (∃ f, pt c arg13 f))
    ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 iotaR iotaC t ())
        (fun r => iprop(pt c arg2 f2 ∗ pt c arg3 f3 ∗ pt c arg4 f4
           ∗ pt c arg5 (arg5.view.writes (Elt F) f5 [⟨rowsR t, tileOut (arg2.view.read (Elt F) f2) (arg3.view.read (Elt F) f3) (arg4.view.read (Elt F) f4) t⟩])
    ∗ (∃ f, pt c arg6 f) ∗ (∃ f, pt c arg7 f) ∗ (∃ f, pt c arg8 f) ∗ (∃ f, pt c arg9 f)
    ∗ (∃ f, pt c arg10 f) ∗ (∃ f, pt c arg11 f) ∗ (∃ f, pt c arg12 f) ∗ (∃ f, pt c arg13 f))) := by
  unfold k0_t1_body
  iintro ⟨H2, H3, H4, H5, ⟨%f6, H6⟩, ⟨%f7, H7⟩, ⟨%f8, H8⟩, ⟨%f9, H9⟩, ⟨%f10, H10⟩, ⟨%f11, H11⟩, ⟨%f12, H12⟩, ⟨%f13, H13⟩⟩
  have htr : (k0_t3_loop t).trips = 0 := Nat.le_zero.mp (k0_t3_abs t).2.1
  sl_exec_parts
  sl_for (chunkInv c arg3 arg4 arg6 arg7 arg8 arg9 arg10 arg11 arg12 arg13 f3 f4 t (qv0 (arg2.view.read (Elt F) f2) t) (qv1 (arg2.view.read (Elt F) f2) t) (qv2 (arg2.view.read (Elt F) f2) t) (qv3 (arg2.view.read (Elt F) f2) t)) $$ [H3 H4 H6 H7 H8 H9 H10 H11 H12 H13]
  case region =>
    intro k s
    exact chunk_step c i arg2 harg2 arg3 harg3 arg4 harg4 arg5 harg5 arg6 harg6 arg7 harg7 arg8 harg8 arg9 harg9 arg10 harg10 arg11 harg11 arg12 harg12 arg13 harg13 f3 f4 t _ _ _ _ _ k s
  · isplitr; · ipureintro; rfl
    isplitl [H3]; · iexact H3
    isplitl [H4]; · iexact H4
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  iintro %s ⟨%hs, H3, H4, ⟨%f6', H6⟩, ⟨%f7', H7⟩, ⟨%f8', H8⟩, ⟨%f9', H9⟩, ⟨%f10', H10⟩, ⟨%f11', H11⟩, ⟨%f12', H12⟩, ⟨%f13', H13⟩⟩
  subst hs
  by_cases h1 : k0_cond1 t = 1#1
  · by_cases h2 : k0_cond2 t = 1#1
    · by_cases h3 : k0_cond3 t = 1#1
      · sl_exec_parts
        sl_step
        isplitl [H2]; · iexact H2
        isplitl [H3]; · iexact H3
        isplitl [H4]; · iexact H4
        isplitl [H5]
        · iapply outPt_of
          iexists _
          isplitl [H5]; · iexact H5
          ipureintro
          simp only [tileOut, headAcc, tailAcc, dif_pos h1, dif_pos h2, dif_pos h3]
          refine congr (congr (congr (congrArg k0_pay3 ?_) ?_) ?_) ?_
          · exact Eq.trans rfl (tail1024_acc _ _ _ _ arg6.view arg10.view)
          · exact Eq.trans rfl (tail1024_acc _ _ _ _ arg7.view arg11.view)
          · exact Eq.trans rfl (tail1024_acc _ _ _ _ arg8.view arg12.view)
          · exact Eq.trans rfl (tail1024_acc _ _ _ _ arg9.view arg13.view)
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        iexists _; iexact H13
      · sl_exec_parts
        sl_step
        isplitl [H2]; · iexact H2
        isplitl [H3]; · iexact H3
        isplitl [H4]; · iexact H4
        isplitl [H5]
        · iapply outPt_of
          iexists _
          isplitl [H5]; · iexact H5
          ipureintro
          simp only [tileOut, headAcc, tailAcc, dif_pos h1, dif_pos h2, dif_neg h3]
          refine congr (congr (congr (congrArg k0_pay3 ?_) ?_) ?_) ?_
          · exact Eq.trans rfl (tail768_acc _ _ _ _ arg6.view arg10.view)
          · exact Eq.trans rfl (tail768_acc _ _ _ _ arg7.view arg11.view)
          · exact Eq.trans rfl (tail768_acc _ _ _ _ arg8.view arg12.view)
          · exact Eq.trans rfl (tail768_acc _ _ _ _ arg9.view arg13.view)
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        iexists _; iexact H13
    · sl_exec_parts
      sl_step
      isplitl [H2]; · iexact H2
      isplitl [H3]; · iexact H3
      isplitl [H4]; · iexact H4
      isplitl [H5]
      · iapply outPt_of
        iexists _
        isplitl [H5]; · iexact H5
        ipureintro
        simp only [tileOut, headAcc, tailAcc, dif_pos h1, dif_neg h2]
        refine congr (congr (congr (congrArg k0_pay3 ?_) ?_) ?_) ?_
        · exact Eq.trans rfl (tail512_acc _ _ _ _ arg6.view arg10.view)
        · exact Eq.trans rfl (tail512_acc _ _ _ _ arg7.view arg11.view)
        · exact Eq.trans rfl (tail512_acc _ _ _ _ arg8.view arg12.view)
        · exact Eq.trans rfl (tail512_acc _ _ _ _ arg9.view arg13.view)
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13
  · sl_exec_parts
    sl_step
    isplitl [H2]; · iexact H2
    isplitl [H3]; · iexact H3
    isplitl [H4]; · iexact H4
    isplitl [H5]
    · iapply outPt_of
      iexists _
      isplitl [H5]; · iexact H5
      ipureintro
      simp only [tileOut, headAcc, tailAcc, dif_neg h1]
      refine congr (congr (congr (congrArg k0_pay3 ?_) ?_) ?_) ?_
      · exact Eq.trans rfl (tail256_acc _ _ _ _ arg6.view arg10.view)
      · exact Eq.trans rfl (tail256_acc _ _ _ _ arg7.view arg11.view)
      · exact Eq.trans rfl (tail256_acc _ _ _ _ arg8.view arg12.view)
      · exact Eq.trans rfl (tail256_acc _ _ _ _ arg9.view arg13.view)
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Proof.PI
end
-- ==== Proof.Body.lean ====
/-
  The kernel's run. The body is the loop over the tiles, by invariant: before tile `k` the output block holds the
  stores of the tiles before it (`pieces`), the three input blocks are as they were and the scratch buffers hold
  anything. The pipeline's proof data, the run and the frame follow.
-/
module

public import proofs.«01_k».proof.Proof.Tile
public import Idealize.ShloMosaic.Lib.Claim

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The output block -/

section block

variable (X2 : S1x4x128x4096.Idx → Elt F .bf16) (X3 : S4096x128.Idx → Elt F .bf16) (X4 : S1x64x4096.Idx → Elt F .f32)

theorem mem_pieces (t : Fin k0_t1_loop.trips) : ∀ k, t.val < k → (⟨rowsR t, tileOut X2 X3 X4 t⟩ : View.Piece (Elt F) S4096x256 .f32) ∈ pieces X2 X3 X4 k
  | 0, h => absurd h (Nat.not_lt_zero _)
  | k + 1, h => by
    rw [pieces]
    rcases Nat.lt_or_ge t.val k with hk | hk
    · split
      · exact List.mem_cons_of_mem _ (mem_pieces t k hk)
      · exact mem_pieces t k hk
    · obtain rfl : k = t.val := by omega
      rw [dif_pos t.isLt]; exact List.mem_cons_self ..

theorem trips_t1 : k0_t1_loop.trips = 16 := by decide +kernel

/-- The tile a row lies in, -/
def tileOf (y : S4096x256.Idx) : Fin k0_t1_loop.trips := ⟨(y 0).val / 256, by rw [trips_t1]; have := (y 0).isLt; change (y 0).val < 4096 at this; omega⟩

/-- whose rows have it. -/
theorem mem_rowsR (y : S4096x256.Idx) : y ∈ (rowsR (tileOf y)).set := by
  rw [Rect.mem_set_unit]
  have h1 : (y 1).val < 256 := (y 1).isLt
  intro a
  rw [k0_off17_eq]
  refine Fin.cases ?_ (fun b => ?_) a
  · change 256 * ((y 0).val / 256) ≤ (y 0).val ∧ (y 0).val < 256 * ((y 0).val / 256) + 256; omega
  · obtain rfl : b = 0 := Subsingleton.elim _ _
    change 0 ≤ (y 1).val ∧ (y 1).val < 0 + 256; omega

theorem cover (y : S4096x256.Idx) : ∃ p ∈ pieces X2 X3 X4 k0_t1_loop.trips, y ∈ p.1.set :=
  ⟨_, mem_pieces X2 X3 X4 (tileOf y) _ (tileOf y).isLt, mem_rowsR y⟩

/-- The block the body leaves. -/
def out3 : S4096x256.Idx → Elt F .f32 := View.canon (pieces X2 X3 X4 k0_t1_loop.trips)

end block

/-! ## The body -/

section body

variable (c : Dev nD) (i : grid0.Coords)
  (arg2 : Memref sig .tc .vmem S1x4x128x4096 .bf16) (harg2 : arg2.IsWhole) (arg3 : Memref sig .tc .vmem S4096x128 .bf16) (harg3 : arg3.IsWhole)
  (arg4 : Memref sig .tc .vmem S1x64x4096 .f32) (harg4 : arg4.IsWhole) (arg5 : Memref sig .tc .vmem S4096x256 .f32) (harg5 : arg5.IsWhole)
  (arg6 : Memref sig .tc .vmem S80x256 .f32) (harg6 : arg6.IsWhole) (arg7 : Memref sig .tc .vmem S80x256 .f32) (harg7 : arg7.IsWhole)
  (arg8 : Memref sig .tc .vmem S80x256 .f32) (harg8 : arg8.IsWhole) (arg9 : Memref sig .tc .vmem S80x256 .f32) (harg9 : arg9.IsWhole)
  (arg10 : Memref sig .tc .vmem S1024x256 .f32) (harg10 : arg10.IsWhole) (arg11 : Memref sig .tc .vmem S1024x256 .f32) (harg11 : arg11.IsWhole)
  (arg12 : Memref sig .tc .vmem S1024x256 .f32) (harg12 : arg12.IsWhole) (arg13 : Memref sig .tc .vmem S1024x256 .f32) (harg13 : arg13.IsWhole)

/-- The blocks and the scratch buffers before tile `k`. -/
def tileInv (f2 : Bf F c arg2) (f3 : Bf F c arg3) (f4 : Bf F c arg4) (k : ℕ) (_ : Unit) : sProp 𝕄 :=
  iprop(pt c arg2 f2 ∗ pt c arg3 f3 ∗ pt c arg4 f4
    ∗ (∃ f : Bf F c arg5, pt c arg5 (arg5.view.writes (Elt F) f (pieces (arg2.view.read (Elt F) f2) (arg3.view.read (Elt F) f3) (arg4.view.read (Elt F) f4) k)))
    ∗ (∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))

/-- The fourth of five named, forgotten. -/
theorem weaken {α : Type} {P Q R S : sProp 𝕄} {A : α → sProp 𝕄} (f : α) : iprop(P ∗ Q ∗ R ∗ A f ∗ S) ⊢ iprop(P ∗ Q ∗ R ∗ (∃ f, A f) ∗ S) := by
  iintro ⟨H2, H3, H4, H5, Hs⟩
  isplitl [H2]; · iexact H2
  isplitl [H3]; · iexact H3
  isplitl [H4]; · iexact H4
  isplitl [H5]; · iexists f; iexact H5
  iexact Hs

theorem tile_step (f2 : Bf F c arg2) (f3 : Bf F c arg3) (f4 : Bf F c arg4) (t : Fin k0_t1_loop.trips) (u : Unit) :
    tileInv c arg2 arg3 arg4 arg5 arg6 arg7 arg8 arg9 arg10 arg11 arg12 arg13 f2 f3 f4 t.val u
    ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 iotaR iotaC t u)
        (fun r => tileInv c arg2 arg3 arg4 arg5 arg6 arg7 arg8 arg9 arg10 arg11 arg12 arg13 f2 f3 f4 (t.val + 1) r) := by
  unfold tileInv
  rw [pieces_succ]
  iintro ⟨H2, H3, H4, ⟨%f5, H5⟩, Hs⟩
  have h := tile c i arg2 harg2 arg3 harg3 arg4 harg4 arg5 harg5 arg6 harg6 arg7 harg7 arg8 harg8 arg9 harg9 arg10 harg10 arg11 harg11 arg12 harg12 arg13 harg13 t f2 f3 f4 (arg5.view.writes (Elt F) f5 (pieces (arg2.view.read (Elt F) f2) (arg3.view.read (Elt F) f3) (arg4.view.read (Elt F) f4) t.val))
  rw [← View.writes_append, List.singleton_append] at h
  have h' := h.trans (wp_mono _ _ _ (fun r => weaken (A := fun f : Bf F c arg5 => pt c arg5 (arg5.view.writes (Elt F) f (⟨rowsR t, tileOut (arg2.view.read (Elt F) f2) (arg3.view.read (Elt F) f3) (arg4.view.read (Elt F) f4) t⟩ :: pieces (arg2.view.read (Elt F) f2) (arg3.view.read (Elt F) f3) (arg4.view.read (Elt F) f4) t.val))) f5))
  iapply h'
  isplitl [H2]; · iexact H2
  isplitl [H3]; · iexact H3
  isplitl [H4]; · iexact H4
  isplitl [H5]; · iexact H5
  iexact Hs

/-- The body from whole blocks and scratch buffers: the output block ends at `out3` of the input blocks. -/
theorem sound_kernel (x2 : Vec F S1x4x128x4096 .bf16) (x3 : Vec F S4096x128 .bf16) (x4 : Vec F S1x64x4096 .f32) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d)
        ∗ ((∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))
        ∗ (iprop(owns (c : Thread nD τ) arg2 fullShare x2 ∗ owns (c : Thread nD τ) arg3 fullShare x3 ∗ owns (c : Thread nD τ) arg4 fullShare x4
            ∗ owns (c : Thread nD τ) arg5 fullShare (out3 x2 x3 x4)
            ∗ ((∃ f, pt c arg6 f) ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f))) -∗ K ⟨⟩))
      ⊢ wp frame (wpE (defs₀ (F := F)) 𝒱₀ (c : Thread nD τ) none) Set.univ (cc0_fox_prompt i arg2 harg2 arg3 harg3 arg4 harg4 arg5 harg5 arg6 harg6 arg7 harg7 arg8 harg8 arg9 harg9 arg10 harg10 arg11 harg11 arg12 harg12 arg13 harg13) K := by
  simp only [cc0_fox_prompt_eq_skeleton]; unfold cc0_fox_prompt_skel
  unfold owns
  iintro ⟨⟨%f2, %hf2, H2⟩, ⟨%f3, %hf3, H3⟩, ⟨%f4, %hf4, H4⟩, ⟨%d5, %f5, -, H5⟩, Hs, Hk⟩
  subst hf2 hf3 hf4
  sl_exec
  sl_for (tileInv c arg2 arg3 arg4 arg5 arg6 arg7 arg8 arg9 arg10 arg11 arg12 arg13 f2 f3 f4) $$ [H2 H3 H4 H5 Hs]
  case region =>
    intro t u
    exact tile_step c i arg2 harg2 arg3 harg3 arg4 harg4 arg5 harg5 arg6 harg6 arg7 harg7 arg8 harg8 arg9 harg9 arg10 harg10 arg11 harg11 arg12 harg12 arg13 harg13 f2 f3 f4 t u
  · unfold tileInv
    isplitl [H2]; · iexact H2
    isplitl [H3]; · iexact H3
    isplitl [H4]; · iexact H4
    isplitl [H5]; · iexists f5; iexact H5
    iexact Hs
  iintro %u H
  unfold tileInv
  icases H with ⟨H2, H3, H4, ⟨%f5', H5⟩, Hs⟩
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover _ _ _)
  iexact Hs

end body

/-! ## The pipeline's proof data -/

variable (m : (ℓ : Loc nD τ sig) → Buf (Elt F) ℓ) (ρ : Dev nD → PrngReg)

/-- The arrays as the region finds them; after the body each input's buffer at its block and the output's at `out3` of
    them; the scratch buffers are in the invariant, at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The invariant is the eight scratch buffers and the generator's register. -/
theorem inv_eq (c : Dev nD) : (Pipeline.ΦA spec0 c : sProp 𝕄) = iprop(((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f)) ∗ ∃ r, prngReg c r) := by
  unfold Pipeline.ΦA
  rw [scopedRest0_eq]
  simp only [pt, Memref.view_whole, View.set_whole]

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, inv_eq]
  iintro ⟨⟨Hs, Hr⟩, Ho, ⟨%d0, H0⟩, ⟨%d1, H1⟩, ⟨%d2, H2⟩, ⟨%d3, H3⟩⟩
  iapply (sound_kernel c _ _ _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Hs]; · iexact Hs
  iintro ⟨H0, H1, H2, H3, Hs⟩
  isplitl [Hs Hr]
  · isplitl [Hs]; · iexact Hs
    iexact Hr
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: the arrays end as the proof data says, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.PI

end
-- ==== Proof.Block.lean ====
/-
  The block a point leaves, at the ideal instance, from blocks of real numbers.
-/
module

public import proofs.«01_k».proof.Proof.TileVal
public import proofs.«01_k».proof.Proof.Body
public import Idealize.ShloMosaic.Lib.Pipeline.ValueKit

@[expose] public section

noncomputable section

namespace Cert.Proof.PI

open Cert.KernelIdeal Cert.KernelIdeal.Gen Cert.Proof.Online
open Idealize.ShloMosaic

/-- Neither infinity. -/
abbrev Real' (x : EReal) : Prop := x ≠ ⊤ ∧ x ≠ ⊥

theorem off1_eq : ∀ t : Fin k0_t1_loop.trips, k0_off1 t = ![0, 0, 0, 256 * t.val] := by decide +kernel
theorem off2_eq : ∀ t : Fin k0_t1_loop.trips, k0_off2 t = ![0, 1, 0, 256 * t.val] := by decide +kernel
theorem off3_eq : ∀ t : Fin k0_t1_loop.trips, k0_off3 t = ![0, 2, 0, 256 * t.val] := by decide +kernel
theorem off4_eq : ∀ t : Fin k0_t1_loop.trips, k0_off4 t = ![0, 3, 0, 256 * t.val] := by decide +kernel
theorem off17_eq : ∀ t : Fin k0_t1_loop.trips, k0_off17 t = ![256 * t.val, 0] := by decide +kernel

section

variable (X2 : S1x4x128x4096.Idx → Elt Ideal .bf16) (X3 : S4096x128.Idx → Elt Ideal .bf16) (X4 : S1x64x4096.Idx → Elt Ideal .f32)

theorem at4 (g : Fin 4) (k : Fin 128) (b : Fin 4096) {a0 : Fin 1} {a1 : Fin 4} {a2 : Fin 128} {a3 : Fin 4096}
    (e1 : a1.val = g.val) (e2 : a2.val = k.val) (e3 : a3.val = b.val) : X2 (ix4 a0 a1 a2 a3) = X2 (ix4 0 g k b) := by
  obtain rfl := Subsingleton.elim a0 0; obtain rfl := Fin.ext e1; obtain rfl := Fin.ext e2; obtain rfl := Fin.ext e3; rfl

/-- The four heads' queries, by the head. -/
def qv (t : Fin k0_t1_loop.trips) : Fin 4 → FVec Ideal S128x256 .bf16 := ![qv0 X2 t, qv1 X2 t, qv2 X2 t, qv3 X2 t]

theorem qv_at (t : Fin k0_t1_loop.trips) (g : Fin 4) (k : Fin 128) (c : Fin 256) (b : Fin 4096) (hb : b.val = 256 * t.val + c.val) :
    qv X2 t g (ix2 k c) = X2 (ix4 0 g k b) := by
  fin_cases g
  · change qv0 X2 t (ix2 k c) = _
    unfold qv0; pointwise [k0_pay121]; exact at4 X2 0 k b (by simp only [off1_eq]; rfl) (by simp only [off1_eq]; exact Nat.zero_add _) (by simp only [off1_eq]; exact hb.symm)
  · change qv1 X2 t (ix2 k c) = _
    unfold qv1; pointwise [k0_pay122]; exact at4 X2 1 k b (by simp only [off2_eq]; rfl) (by simp only [off2_eq]; exact Nat.zero_add _) (by simp only [off2_eq]; exact hb.symm)
  · change qv2 X2 t (ix2 k c) = _
    unfold qv2; pointwise [k0_pay123]; exact at4 X2 2 k b (by simp only [off3_eq]; rfl) (by simp only [off3_eq]; exact Nat.zero_add _) (by simp only [off3_eq]; exact hb.symm)
  · change qv3 X2 t (ix2 k c) = _
    unfold qv3; pointwise [k0_pay124]; exact at4 X2 3 k b (by simp only [off4_eq]; rfl) (by simp only [off4_eq]; exact Nat.zero_add _) (by simp only [off4_eq]; exact hb.symm)

/-- The block's contents: at row `τ`, lane `64 g + d`, head `g`'s attention to value `d` at position `τ`. -/
def blockAttn (y : S4096x256.Idx) : EReal :=
  ((attn (fun s => ∑ k : Fin 128, X3 (ix2 s k) * X2 (ix4 0 (⟨(y 1).val / 64, by have : (y 1).val < 256 := (y 1).isLt; omega⟩ : Fin 4) k (y 0)))
    (fun s => (X4 (ix3 0 (⟨(y 1).val % 64, Nat.mod_lt _ (by norm_num)⟩ : Fin 64) s)).toReal) (y 0).val : ℝ) : EReal)

/-- Every store is a tile's. -/
theorem of_mem_pieces : ∀ n, ∀ p ∈ pieces X2 X3 X4 n, ∃ t, p = ⟨rowsR t, tileOut X2 X3 X4 t⟩
  | 0, p, hp => by rw [pieces] at hp; exact absurd hp (List.not_mem_nil)
  | n + 1, p, hp => by
    rw [pieces] at hp
    split at hp
    · rcases List.mem_cons.mp hp with rfl | hp
      · exact ⟨_, rfl⟩
      · exact of_mem_pieces n p hp
    · exact of_mem_pieces n p hp

variable (h2 : ∀ i, Real' (X2 i)) (h3 : ∀ i, Real' (X3 i)) (h4 : ∀ i, Real' (X4 i))
include h2 h3 h4

theorem tileOut_at (t : Fin k0_t1_loop.trips) (x : S256x256.Idx) (y : S4096x256.Idx) (h0 : (y 0).val = 256 * t.val + (x 0).val) (h1 : (y 1).val = (x 1).val) :
    tileOut X2 X3 X4 t x = blockAttn X2 X3 X4 y := by
  obtain ⟨r, c, rfl⟩ : ∃ r c, x = ix2 (n0 := 256) (n1 := 256) r c := ⟨x 0, x 1, eq_ix2 x⟩
  obtain ⟨b, e, rfl⟩ : ∃ b e, y = ix2 (n0 := 4096) (n1 := 256) b e := ⟨y 0, y 1, eq_ix2 y⟩
  change b.val = 256 * t.val + r.val at h0
  change e.val = c.val at h1
  obtain rfl : e = c := Fin.ext h1
  have hp := pay3_apply (fun g => headAcc X3 X4 t (qv X2 t g)) r ⟨e.val / 64, by omega⟩ ⟨e.val % 64, Nat.mod_lt _ (by norm_num)⟩
  have he : (⟨64 * (e.val / 64) + e.val % 64, by omega⟩ : Fin 256) = e := Fin.ext (by change 64 * (e.val / 64) + e.val % 64 = e.val; omega)
  rw [he] at hp
  refine hp.trans ?_
  have hs : ∀ s, score X3 (qv X2 t ⟨e.val / 64, by omega⟩) r s = ∑ k : Fin 128, X3 (ix2 s k) * X2 (ix4 0 (⟨e.val / 64, by omega⟩ : Fin 4) k b) := fun s => by
    unfold score
    exact Finset.sum_congr rfl fun k _ => by rw [qv_at X2 t _ k r b h0]
  have hlt : e.val % 64 < 64 := Nat.mod_lt _ (by norm_num)
  rw [head_quotient (t := t) (fun s => by rw [hs]; exact sum_mul_real _ _ (fun k => h3 _) (fun k => h2 _)) ⟨e.val % 64, by omega⟩
    (fun s => (X4 (ix3 0 (⟨e.val % 64, hlt⟩ : Fin 64) s)).toReal)
    (fun s => by unfold value; rw [dif_pos hlt]; exact (EReal.coe_toReal (h4 _).1 (h4 _).2).symm) hlt]
  unfold blockAttn
  rw [← h0, funext hs]
  rfl

/-- The block. -/
theorem out3_at (y : S4096x256.Idx) : out3 X2 X3 X4 y = blockAttn X2 X3 X4 y := by
  refine View.canon_apply_of_pieces (blockAttn X2 X3 X4) _ (fun p hp x => ?_) y (cover X2 X3 X4 y)
  obtain ⟨t, rfl⟩ := of_mem_pieces X2 X3 X4 k0_t1_loop.trips p hp
  refine tileOut_at X2 X3 X4 h2 h3 h4 t x _ ?_ ?_
  · rw [show ((rowsR t).emb x 0).val = k0_off17 t 0 + (x 0).val from ValueKit.rect_emb_unit_val _ _ _ x 0, off17_eq]; rfl
  · rw [show ((rowsR t).emb x 1).val = k0_off17 t 1 + (x 1).val from ValueKit.rect_emb_unit_val _ _ _ x 1, off17_eq]; exact Nat.zero_add _

end

end Cert.Proof.PI

end
-- ==== Proof.Arr.lean ====
/-
  The result array of the run, at the ideal instance, from argument arrays of real numbers.
-/
module

public import proofs.«01_k».proof.Proof.Block

@[expose] public section

noncomputable section

namespace Cert.Proof.PI

open Cert.KernelIdeal Cert.KernelIdeal.Gen Cert.Proof.Online
open Idealize.ShloMosaic Idealize.ShloMosaic.TcCoe
open Idealize.SL Idealize.SL.Sem

/-- The attention of the whole arrays: row `4096 b + τ`, lane `64 h + d`. -/
def wholeAttn (A0 : S4x16x128x4096.Idx → EReal) (A1 : S16384x512.Idx → EReal) (A2 : S4x256x4096.Idx → EReal) (y : S16384x1024.Idx) : EReal :=
  ((attn
    (fun s => ∑ k : Fin 128,
      A1 (ix2 (⟨4096 * ((y 0).val / 4096) + s.val, by have : (y 0).val < 16384 := (y 0).isLt; omega⟩ : Fin 16384) (⟨128 * ((y 1).val / 256) + k.val, by have : (y 1).val < 1024 := (y 1).isLt; omega⟩ : Fin 512))
        * A0 (ix4 (⟨(y 0).val / 4096, by have : (y 0).val < 16384 := (y 0).isLt; omega⟩ : Fin 4) (⟨(y 1).val / 64, by have : (y 1).val < 1024 := (y 1).isLt; omega⟩ : Fin 16) k (⟨(y 0).val % 4096, Nat.mod_lt _ (by norm_num)⟩ : Fin 4096)))
    (fun s => (A2 (ix3 (⟨(y 0).val / 4096, by have : (y 0).val < 16384 := (y 0).isLt; omega⟩ : Fin 4) (⟨64 * ((y 1).val / 256) + (y 1).val % 64, by have : (y 1).val < 1024 := (y 1).isLt; omega⟩ : Fin 256) s)).toReal)
    ((y 0).val % 4096) : ℝ) : EReal)

variable (m : (ℓ : Loc nD τ sig) → Buf (Elt Ideal) ℓ) (ρ : Dev nD → PrngReg)

theorem idx0 : ∀ t : Fin cfg0.N, win0_0.index t = ![(grid0.coords t 0).val, (grid0.coords t 1).val, 0, 0] := (by decide +kernel : ∀ t : Fin grid0.N, _)
theorem idx1 : ∀ t : Fin cfg0.N, win0_1.index t = ![(grid0.coords t 0).val, (grid0.coords t 1).val] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, (grid0.coords t 1).val] := (by decide +kernel : ∀ t : Fin grid0.N, _)

theorem final_o (c : Dev nD) (h0 : ∀ i, Real' (m ((c.tc : Thread nD τ).loc main_arg0) i)) (h1 : ∀ i, Real' (m ((c.tc : Thread nD τ).loc main_arg1) i))
    (h2 : ∀ i, Real' (m ((c.tc : Thread nD τ).loc main_arg2) i)) :
    (dats m 0 c).arrAt 3 cfg0.N = wholeAttn (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  refine (out3_at _ _ _ (fun i => ?_) (fun i => ?_) (fun i => ?_) y).trans ?_
  · blk_simp [iblk]; rw [V_main_arg0]; exact h0 _
  · blk_simp [iblk]; rw [V_main_arg1]; exact h1 _
  · blk_simp [iblk]; rw [V_main_arg2]; exact h2 _
  unfold blockAttn wholeAttn
  blk_simp [iblk]
  have hy0 : (y 0).val < 4096 := (y 0).isLt
  have hy1 : (y 1).val < 256 := (y 1).isLt
  refine congrArg (fun r : ℝ => (r : EReal)) (congr (congr (congrArg attn (funext fun s => Finset.sum_congr rfl fun k _ => congrArg₂ (· * ·) ?_ ?_)) (funext fun s => congrArg EReal.toReal ?_)) ?_)
  · rw [V_main_arg1]; exact congrArg (m ((c.tc : Thread nD τ).loc main_arg1)) (by blk_ext [idx1, idx3])
  · rw [V_main_arg0]; exact congrArg (m ((c.tc : Thread nD τ).loc main_arg0)) (by blk_ext [idx0, idx3])
  · rw [V_main_arg2]; exact congrArg (m ((c.tc : Thread nD τ).loc main_arg2)) (by blk_ext [idx2, idx3])
  · rw [idx3]; dsimp only [Matrix.cons_val_zero]; omega

/-- The run: the result array is the attention, the arguments are unchanged. -/
theorem run_value (h0 : ∀ (c : Dev nD) i, Real' (m ((c.tc : Thread nD τ).loc main_arg0) i)) (h1 : ∀ (c : Dev nD) i, Real' (m ((c.tc : Thread nD τ).loc main_arg1) i))
    (h2 : ∀ (c : Dev nD) i, Real' (m ((c.tc : Thread nD τ).loc main_arg2) i)) :
    θ_run defs (onTc (τ := τ) (main (F := Ideal))) ⟨m, fun _ => 0, ρ⟩ (fun r => ∀ c : Dev nD,
      r.2.mem ((c.tc : Thread nD τ).loc main_v0) = wholeAttn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.out_eq c 3).trans (final_o m c (h0 c) (h1 c) (h2 c)), h.2 c⟩)
    (θ_run_and (run_main m ρ) (unchanged m ρ))

end Cert.Proof.PI

end
-- ==== Proof.Ref.lean ====
/-
  The reference read at an index: the masked scores, the exponentials in base 2 of their distances from the row's
  maximum, and the quotients' product with the values.
-/
module

public import proofs.«01_k».proof.Proof.Gen.ReferenceIdeal.Run
public import proofs.«01_k».proof.Proof.Soft
public import Idealize.ShloMosaic.Lib.Pointwise
public import Idealize.ShloMosaic.Lib.WordCmp

@[expose] public section

noncomputable section

namespace Cert.Proof.RI

open Cert.ReferenceIdeal Cert.ReferenceIdeal.Gen Cert.Proof.Online
open Idealize.ShloMosaic Idealize.ShloMosaic.TcCoe

variable (A0 : FVec Ideal S4x16x128x4096 .bf16) (A1 : FVec Ideal S16384x512 .bf16) (A2 : FVec Ideal S4x256x4096 .f32)

/-- The causal mask over the scores' shape, -/
def mask : IVec S4x4x4x4096x4096 1 :=
  broadcastInDim S4x4x4x4096x4096 ![3, 4] bcast_S4096x4096_S4x4x4x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- the products of queries and keys, -/
def prods : FVec Ideal S4x4x4x4096x4096 .f32 :=
  Host.dotGeneral dot_S4x4x4x128x4096_S4x4096x4x128_S4x4x4x4096x4096_3_3_24_1_01_02 none (shapeCast _ (extf .f32 A0 bitsLt_bf16_f32) shapeCasts_S4x16x128x4096_S4x4x4x128x4096) (shapeCast _ (extf .f32 A1 bitsLt_bf16_f32) shapeCasts_S16384x512_S4x4096x4x128)
/-- the masked scores, -/
def scores : FVec Ideal S4x4x4x4096x4096 .f32 :=
  select mask (prods A0 A1) (broadcastInDim S4x4x4x4096x4096 ![] bcast_S_S4x4x4x4096x4096 (id (constant S_ .f32 0xFF800000#32)))
/-- for scores `s`, the weights, -/
def weights (s : FVec Ideal S4x4x4x4096x4096 .f32) : FVec Ideal S4x4x4x4096x4096 .f32 :=
  Host.exp (mulf (broadcastInDim S4x4x4x4096x4096 ![] bcast_S_S4x4x4x4096x4096 (Host.log (constant S_ .f32 0x40000000#32))) (subf s (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (Host.reduce FloatOps.maximumf s (constant S_ .f32 0xFF800000#32) reducesTo_S4x4x4x4096x4096_S4x4x4x4096_d4 h_S_)))))
/-- for weights `w`, their quotients by their sum, -/
def quots (w : FVec Ideal S4x4x4x4096x4096 .f32) : FVec Ideal S4x4x4x4096x4096 .f32 :=
  Host.divf w (broadcastInDim S4x4x4x4096x4096 ![0, 1, 2, 3, 4] bcast_S4x4x4x4096x1_S4x4x4x4096x4096_0_1_2_3_4 (broadcastInDim S4x4x4x4096x1 ![0, 1, 2, 3] bcast_S4x4x4x4096_S4x4x4x4096x1_0_1_2_3 (Host.reduceAdd w (constant S_ .f32 0x00000000#32) reducesTo_S4x4x4x4096x4096_S4x4x4x4096_d4 h_S_)))
/-- and for quotients `p`, the result. -/
def mixed (p : FVec Ideal S4x4x4x4096x4096 .f32) : FVec Ideal S16384x1024 .f32 :=
  shapeCast _ (transpose S4x4096x4x4x64 [0, 4, 1, 3, 2] (Host.dotGeneral dot_S4x4x64x4096_S4x4x4x4096x4096_S4x4x64x4x4096_3_4_2_23_01_01 none (shapeCast _ A2 shapeCasts_S4x256x4096_S4x4x64x4096) p) transposes_S4x4x64x4x4096_S4x4096x4x4x64_0_4_1_3_2) shapeCasts_S4x4096x4x4x64_S16384x1024

theorem res_eq (m : (ℓ : Loc nD τ sig) → Buf (Elt Ideal) ℓ) (c : Dev nD) :
    Value.res_main_v27 m c = mixed (m ((c.tc : Thread nD τ).loc main_arg2)) (quots (weights (scores (m ((c.tc : Thread nD τ).loc main_arg0)) (m ((c.tc : Thread nD τ).loc main_arg1))))) := rfl

theorem scalar_inf : (constant S_ FTy.f32 (0xFF800000#32) : FVec Ideal S_ .f32) ix0 = (⊥ : EReal) := by
  change Ideal.ofBits .f32 0xFF800000#32 = _
  simp [Ideal.ofBits, Ideal.ieee]

theorem mask_at (b kv g : Fin 4) (q s : Fin 4096) : mask (ix5 b kv g q s) = 1#1 ↔ s.val ≤ q.val := by
  unfold mask
  pointwise []
  exact WordCmp.cmpi_sle_ofNat_eq_one_iff (by have := s.isLt; omega) (by have := q.isLt; omega)

/-- A masked score: a product up to the query's position, `⊥` beyond. -/
theorem scores_at (b kv g : Fin 4) (q s : Fin 4096) : scores A0 A1 (ix5 b kv g q s)
    = if s.val ≤ q.val then ∑ k : Fin 128, A0 (ix4 b (⟨kv.val * 4 + g.val, by omega⟩ : Fin 16) k q) * A1 (ix2 (⟨b.val * 4096 + s.val, by omega⟩ : Fin 16384) (⟨kv.val * 128 + k.val, by omega⟩ : Fin 512)) else ⊥ := by
  unfold scores
  change (if mask (ix5 b kv g q s) = 1#1 then prods A0 A1 (ix5 b kv g q s) else (broadcastInDim S4x4x4x4096x4096 ![] bcast_S_S4x4x4x4096x4096 (id (constant S_ .f32 0xFF800000#32)) : FVec Ideal S4x4x4x4096x4096 .f32) (ix5 b kv g q s)) = _
  refine if_congr (mask_at b kv g q s) ?_ ?_
  · unfold prods
    pointwise []
  · pointwise []
    exact scalar_inf

theorem neg_inf : (Ideal.ofBits FTy.f32 4286578688#32 : EReal) = ⊥ := by simp [Ideal.ofBits, Ideal.ieee]

theorem weights_at (S : FVec Ideal S4x4x4x4096x4096 .f32) (b kv g : Fin 4) (q s : Fin 4096) :
    weights S (ix5 b kv g q s) = Ideal.exp (Ideal.log (Ideal.ofBits FTy.f32 1073741824#32) * (S (ix5 b kv g q s) - Finset.univ.fold max ⊥ fun x => S (ix5 b kv g q x))) := by
  unfold weights
  pointwise []
  rw [neg_inf]

theorem quots_at (w : FVec Ideal S4x4x4x4096x4096 .f32) (b kv g : Fin 4) (q s : Fin 4096) :
    quots w (ix5 b kv g q s) = Ideal.div (w (ix5 b kv g q s)) (∑ x, w (ix5 b kv g q x)) := by
  unfold quots
  pointwise []

theorem mixed_at (p : FVec Ideal S4x4x4x4096x4096 .f32) (r : Fin 16384) (l : Fin 1024) : mixed A2 p (ix2 r l)
    = ∑ x, A2 (ix3 (⟨r.val / 4096, by omega⟩ : Fin 4) (⟨l.val / 256 * 64 + l.val % 64, by omega⟩ : Fin 256) x)
        * p (ix5 (⟨r.val / 4096, by omega⟩ : Fin 4) (⟨l.val / 256, by omega⟩ : Fin 4) (⟨l.val / 64 % 4, by omega⟩ : Fin 4) (⟨r.val % 4096, by omega⟩ : Fin 4096) x) := by
  unfold mixed
  pointwise []

/-- The exponential of the logarithm of two times a distance is the power of two. -/
theorem exp_log_two (x : EReal) (hx : x ≠ ⊤) : Ideal.exp (Ideal.log (Ideal.ofBits FTy.f32 1073741824#32) * x) = Ideal.exp2 x := by
  have h2 : (Ideal.ofBits FTy.f32 1073741824#32 : EReal) = ((2 : ℝ) : EReal) := by
    simp [Ideal.ofBits, Ideal.ieee]
    rw [← EReal.coe_mul]; norm_num
  have hl : Ideal.log (Ideal.ofBits FTy.f32 1073741824#32) = ((Real.log 2 : ℝ) : EReal) := by
    rw [h2, Ideal.log_coe, if_neg (by norm_num)]
  rw [hl]
  induction x with
  | bot => rw [EReal.coe_mul_bot_of_pos (Real.log_pos (by norm_num))]; rfl
  | coe r =>
    rw [← EReal.coe_mul]
    change ((Real.exp (Real.log 2 * r) : ℝ) : EReal) = ((Real.rpow 2 r : ℝ) : EReal)
    rw [show Real.rpow 2 r = (2 : ℝ) ^ r from rfl, Real.rpow_def_of_pos (by norm_num)]
  | top => exact absurd rfl hx

/-- The reference's result at an index. -/
theorem result_at (r : Fin 16384) (l : Fin 1024) (h0 : ∀ i, A0 i ≠ ⊤ ∧ A0 i ≠ ⊥) (h1 : ∀ i, A1 i ≠ ⊤ ∧ A1 i ≠ ⊥) (h2 : ∀ i, A2 i ≠ ⊤ ∧ A2 i ≠ ⊥) :
    mixed A2 (quots (weights (scores A0 A1))) (ix2 r l)
      = ((attn (fun s => ∑ k : Fin 128, A0 (ix4 (⟨r.val / 4096, by omega⟩ : Fin 4) (⟨l.val / 256 * 4 + l.val / 64 % 4, by omega⟩ : Fin 16) k (⟨r.val % 4096, by omega⟩ : Fin 4096))
            * A1 (ix2 (⟨r.val / 4096 * 4096 + s.val, by omega⟩ : Fin 16384) (⟨l.val / 256 * 128 + k.val, by omega⟩ : Fin 512)))
          (fun s => (A2 (ix3 (⟨r.val / 4096, by omega⟩ : Fin 4) (⟨l.val / 256 * 64 + l.val % 64, by omega⟩ : Fin 256) s)).toReal) (r.val % 4096) : ℝ) : EReal) := by
  rw [mixed_at]
  have hx := fun s : Fin 4096 => sum_mul_real (fun k : Fin 128 => A0 (ix4 (⟨r.val / 4096, by omega⟩ : Fin 4) (⟨l.val / 256 * 4 + l.val / 64 % 4, by omega⟩ : Fin 16) k (⟨r.val % 4096, by omega⟩ : Fin 4096)))
    (fun k => A1 (ix2 (⟨r.val / 4096 * 4096 + s.val, by omega⟩ : Fin 16384) (⟨l.val / 256 * 128 + k.val, by omega⟩ : Fin 512))) (fun _ => h0 _) (fun _ => h1 _)
  refine (Finset.sum_congr rfl fun s _ => congrArg₂ (· * ·) (EReal.coe_toReal (h2 _).1 (h2 _).2).symm ?_).trans
    (softmax_at _ _ (r.val % 4096) (by omega) hx)
  rw [quots_at]
  simp only [weights_at, scores_at]
  exact congrArg₂ Ideal.div (exp_log_two _ (sub_max_ne_top _ (fun s => masked_ne_top _ _ hx s) _))
    (Finset.sum_congr rfl fun i _ => exp_log_two _ (sub_max_ne_top _ (fun s => masked_ne_top _ _ hx s) _))

end Cert.Proof.RI

end
-- ==== Proof.RefFrame.lean ====
/-
  The reference runs without fault, leaves its arguments unchanged, and has no semaphore.
-/
module

public import proofs.«01_k».proof.Proof.Gen.ReferenceIdeal.Run

@[expose] public section

namespace Cert.Proof.RI

open Cert.ReferenceIdeal Cert.ReferenceIdeal.Gen Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, by
    funext x
    obtain ⟨_, s | s⟩ := x
    · exact s.elim0
    · exact s.elim0⟩) (Value.run m ρ)

end Cert.Proof.RI
-- ==== Proof.Pre.lean ====
/-
  The precondition read back: every element of every argument is a real number.
-/
module

public import proofs.«01_k».proof.Proof.Gen.Pre_finite
public import Idealize.ShloMosaic.Lib.Pointwise
public import Idealize.ShloMosaic.Lib.WordCmp

@[expose] public section

noncomputable section

namespace Cert.Proof.Pre

open Cert.Pre_finite Cert.Pre_finite.Gen
open Idealize.ShloMosaic

theorem bit_and : ∀ a b : BitVec 1, IntOp.andi a b = 1#1 ↔ a = 1#1 ∧ b = 1#1 := by decide

/-- A conjunction over a set is one iff each member is. -/
theorem fold_and {ι : Type} (s : Finset ι) (f : ι → BitVec 1) : s.fold IntOp.andi 1#1 f = 1#1 → ∀ i ∈ s, f i = 1#1 := by
  classical
  induction s using Finset.induction_on with
  | empty => exact fun _ _ h => absurd h (Finset.notMem_empty _)
  | insert a s ha ih =>
    rw [Finset.fold_insert ha, bit_and]
    intro h i hi
    rcases Finset.mem_insert.mp hi with rfl | hi
    · exact h.1
    · exact ih h.2 i hi

/-- An absolute value under infinity is a real number's. -/
theorem real_of (x : EReal) (h : (if max x (-x) < (⊤ : EReal) then 1#1 else 0#1) = (1#1 : BitVec 1)) : x ≠ ⊤ ∧ x ≠ ⊥ := by
  constructor
  · rintro rfl; simp at h
  · rintro rfl; simp at h

theorem inf_bits : Ideal.ofBits .f32 2139095040#32 = (⊤ : EReal) := by simp [Ideal.ofBits, Ideal.ieee]

theorem real_of_bit (x y : EReal) (hy : y = ⊤) (h : BitVec.ofBool (decide (max x (-x) < y)) = 1#1) : x ≠ ⊤ ∧ x ≠ ⊥ := by
  subst hy
  refine real_of x ?_
  by_cases hc : max x (-x) < ⊤
  · rw [if_pos hc]
  · rw [decide_eq_false hc] at h; exact absurd h (by decide)

theorem finite_of (A0 : FVec Ideal S4x16x128x4096 .bf16) (A1 : FVec Ideal S16384x512 .bf16) (A2 : FVec Ideal S4x256x4096 .f32)
    (h : fn A0 A1 A2 = fun _ => 1#1) : (∀ i, A0 i ≠ ⊤ ∧ A0 i ≠ ⊥) ∧ (∀ i, A1 i ≠ ⊤ ∧ A1 i ≠ ⊥) ∧ (∀ i, A2 i ≠ ⊤ ∧ A2 i ≠ ⊥) := by
  have h := congrFun h ix0
  unfold fn at h
  dsimp only at h
  change IntOp.andi (IntOp.andi _ _) _ = 1#1 at h
  rw [bit_and, bit_and] at h
  obtain ⟨⟨h0, h1⟩, h2⟩ := h
  rw [Host.reduce_eq_fold] at h0 h1 h2
  exact ⟨fun i => real_of_bit _ _ inf_bits (fold_and _ _ h0 i (Finset.mem_filter.mpr ⟨Finset.mem_univ _, funext fun d => d.elim0⟩)),
    fun i => real_of_bit _ _ inf_bits (fold_and _ _ h1 i (Finset.mem_filter.mpr ⟨Finset.mem_univ _, funext fun d => d.elim0⟩)),
    fun i => real_of_bit _ _ inf_bits (fold_and _ _ h2 i (Finset.mem_filter.mpr ⟨Finset.mem_univ _, funext fun d => d.elim0⟩))⟩

end Cert.Proof.Pre

end
-- ==== Proof.Visits.Sched.lean ====
/-
  The schedule of the experts' kernel, over the naturals. The rows are sorted by expert, so that expert `e` has the rows
  from `off c e` up to `off c (e + 1)`; a visit is a pair of an expert and a tile of 512 rows that holds some of them. The
  visits run by expert and, of one expert, by tile. Every row lies in exactly one visit (`visit`), there are at most 81,
  and the tiles of successive visits never decrease.
-/
module

public import Mathlib.Data.Nat.Count
public import Mathlib.Algebra.BigOperators.Group.Finset.Basic
public import Mathlib.Algebra.Order.BigOperators.Group.Finset
public import Mathlib.Tactic.Ring
public import Mathlib.Algebra.BigOperators.Intervals

@[expose] public section

namespace Cert.Proof.Sched

open Finset

variable (c : ℕ → ℕ)

/-- The first row of expert `e`, -/
def off (e : ℕ) : ℕ := ∑ i ∈ range e, c i
/-- the number of tiles that hold rows of it, -/
def nv (e : ℕ) : ℕ := if 0 < c e then (off c (e + 1) - 1) / 512 - off c e / 512 + 1 else 0
/-- its first visit, -/
def vst (e : ℕ) : ℕ := ∑ i ∈ range e, nv c i
/-- the number of visits, -/
def total : ℕ := vst c 16
/-- the expert of visit `v`, -/
def ex (v : ℕ) : ℕ := Nat.count (fun e => vst c (e + 1) ≤ v) 16
/-- its tile (the last one for the idle points behind the visits), -/
def tile (v : ℕ) : ℕ := if v < total c then off c (ex c v) / 512 + (v - vst c (ex c v)) else 65
/-- and where in the tile the expert's rows begin -/
def lo (v : ℕ) : ℕ := if v < total c then off c (ex c v) - 512 * tile c v else 0
/-- and end. -/
def hi (v : ℕ) : ℕ := if v < total c then min 512 (off c (ex c v + 1) - 512 * tile c v) else 0
/-- The expert of row `r`, -/
def rowEx (r : ℕ) : ℕ := Nat.count (fun e => off c (e + 1) ≤ r) 16
/-- and its visit. -/
def visit (r : ℕ) : ℕ := vst c (rowEx c r) + (r / 512 - off c (rowEx c r) / 512)

theorem off_succ (e : ℕ) : off c (e + 1) = off c e + c e := sum_range_succ _ _
theorem vst_succ (e : ℕ) : vst c (e + 1) = vst c e + nv c e := sum_range_succ _ _
theorem off_zero : off c 0 = 0 := rfl
theorem vst_zero : vst c 0 = 0 := rfl
theorem off_mono : Monotone (off c) := monotone_nat_of_le_succ fun e => by rw [off_succ]; omega
theorem vst_mono : Monotone (vst c) := monotone_nat_of_le_succ fun e => by rw [vst_succ]; omega

/-- How many numbers have a property that passes down to smaller ones. -/
theorem count_down (P : ℕ → Prop) [DecidablePred P] (hP : ∀ a b, a ≤ b → P b → P a) :
    ∀ n, Nat.count P n ≤ n ∧ ∀ e, e < n → (P e ↔ e < Nat.count P n)
  | 0 => ⟨le_refl _, fun e h => absurd h (Nat.not_lt_zero _)⟩
  | n + 1 => by
    obtain ⟨h1, h2⟩ := count_down P hP n
    rw [Nat.count_succ]
    by_cases h : P n
    · rw [if_pos h]
      have hn : Nat.count P n = n := by
        rcases Nat.lt_or_ge (Nat.count P n) n with hlt | hge
        · exact absurd ((h2 _ hlt).mp (hP _ _ (Nat.le_of_lt hlt) h)) (Nat.lt_irrefl _)
        · omega
      refine ⟨by omega, fun e he => ⟨fun _ => by omega, fun _ => hP e n (by omega) h⟩⟩
    · rw [if_neg h]
      refine ⟨by omega, fun e he => ?_⟩
      rcases Nat.lt_or_ge e n with hlt | hge
      · exact h2 e hlt
      · obtain rfl : e = n := by omega
        exact ⟨fun hp => absurd hp h, fun hp => by omega⟩

theorem ex_spec (v : ℕ) : ex c v ≤ 16 ∧ ∀ e, e < 16 → (vst c (e + 1) ≤ v ↔ e < ex c v) :=
  count_down _ (fun a b hab hb => (vst_mono c (by omega)).trans hb) 16
theorem rowEx_spec (r : ℕ) : rowEx c r ≤ 16 ∧ ∀ e, e < 16 → (off c (e + 1) ≤ r ↔ e < rowEx c r) :=
  count_down _ (fun a b hab hb => (off_mono c (by omega)).trans hb) 16

/-- The expert of a visit is the one whose visits it is among, -/
theorem ex_lt {v : ℕ} (h : v < total c) : ex c v < 16 ∧ vst c (ex c v) ≤ v ∧ v < vst c (ex c v + 1) := by
  obtain ⟨h1, h2⟩ := ex_spec c v
  have h3 : ex c v < 16 := by
    rcases Nat.lt_or_ge (ex c v) 16 with h3 | h3
    · exact h3
    · have : vst c 16 ≤ v := (h2 15 (by omega)).mpr (by omega)
      unfold total at h; omega
  refine ⟨h3, ?_, ?_⟩
  · rcases Nat.eq_zero_or_pos (ex c v) with h0 | h0
    · rw [h0, vst_zero]; omega
    · have := (h2 (ex c v - 1) (by omega)).mpr (by omega)
      rwa [Nat.sub_add_cancel h0] at this
  · by_contra hc
    exact absurd ((h2 (ex c v) h3).mp (by omega)) (Nat.lt_irrefl _)

/-- and the only one. -/
theorem ex_eq {v e : ℕ} (he : e < 16) (h1 : vst c e ≤ v) (h2 : v < vst c (e + 1)) : ex c v = e := by
  obtain ⟨hx, h3⟩ := ex_spec c v
  apply Nat.le_antisymm
  · by_contra hc
    have := (h3 e he).mpr (by omega); omega
  · by_contra hc
    have hlt : ex c v < e := by omega
    have h4 := vst_mono c (show ex c v + 1 ≤ e by omega)
    have := (h3 (ex c v) (by omega)).mp (by omega)
    omega

theorem nv_pos {e : ℕ} (h : 0 < nv c e) : 0 < c e := by
  unfold nv at h; split at h
  · assumption
  · omega

theorem nv_eq {e : ℕ} (h : 0 < c e) : nv c e = (off c (e + 1) - 1) / 512 - off c e / 512 + 1 := if_pos h

/-- At most one more visit per expert than the tiles before it. -/
theorem vst_le : ∀ e, (off c e = 0 → vst c e = 0) ∧ (0 < off c e → vst c e ≤ (off c e - 1) / 512 + e)
  | 0 => ⟨fun _ => rfl, fun h => absurd h (by rw [off_zero]; omega)⟩
  | e + 1 => by
    obtain ⟨h1, h2⟩ := vst_le e
    have ho := off_succ c e
    have hv := vst_succ c e
    rcases Nat.eq_zero_or_pos (c e) with h0 | h0
    · have hn : nv c e = 0 := if_neg (by omega)
      rw [hv, hn, ho, h0]
      exact ⟨fun h => by rw [h1 (by omega)], fun h => by have := h2 (by omega); simp only [Nat.add_zero] at *; omega⟩
    · have hn := nv_eq c h0
      refine ⟨fun h => by omega, fun _ => ?_⟩
      rcases Nat.eq_zero_or_pos (off c e) with h3 | h3
      · have := h1 h3; omega
      · have := h2 h3; omega

variable (hc : off c 16 = 33792)
include hc

theorem total_le : total c ≤ 81 := by
  have := (vst_le c 16).2 (by omega)
  rw [hc] at this; exact this

theorem rowEx_lt {r : ℕ} (h : r < 33792) : rowEx c r < 16 ∧ off c (rowEx c r) ≤ r ∧ r < off c (rowEx c r + 1) := by
  obtain ⟨h1, h2⟩ := rowEx_spec c r
  have h3 : rowEx c r < 16 := by
    rcases Nat.lt_or_ge (rowEx c r) 16 with h3 | h3
    · exact h3
    · have : off c 16 ≤ r := (h2 15 (by omega)).mpr (by omega)
      omega
  refine ⟨h3, ?_, ?_⟩
  · rcases Nat.eq_zero_or_pos (rowEx c r) with h0 | h0
    · rw [h0, off_zero]; omega
    · have := (h2 (rowEx c r - 1) (by omega)).mpr (by omega)
      rwa [Nat.sub_add_cancel h0] at this
  · by_contra hc
    exact absurd ((h2 (rowEx c r) h3).mp (by omega)) (Nat.lt_irrefl _)

omit hc in
theorem rowEx_eq {r e : ℕ} (he : e < 16) (h1 : off c e ≤ r) (h2 : r < off c (e + 1)) : rowEx c r = e := by
  obtain ⟨hx, h3⟩ := rowEx_spec c r
  apply Nat.le_antisymm
  · by_contra hc
    have := (h3 e he).mpr (by omega); omega
  · by_contra hc
    have hlt : rowEx c r < e := by omega
    have h4 := off_mono c (show rowEx c r + 1 ≤ e by omega)
    have := (h3 (rowEx c r) (by omega)).mp (by omega)
    omega

/-- A visit's expert, tile and rows: the facts that the rest is drawn from. -/
theorem visit_facts {v : ℕ} (h : v < total c) : ∃ e, ex c v = e ∧ e < 16 ∧ 0 < c e ∧ off c (e + 1) = off c e + c e ∧ off c (e + 1) ≤ 33792
    ∧ vst c e ≤ v ∧ v < vst c (e + 1) ∧ vst c (e + 1) = vst c e + ((off c (e + 1) - 1) / 512 - off c e / 512 + 1)
    ∧ tile c v = off c e / 512 + (v - vst c e) ∧ lo c v = off c e - 512 * tile c v ∧ hi c v = min 512 (off c (e + 1) - 512 * tile c v) := by
  obtain ⟨h1, h2, h3⟩ := ex_lt c h
  have hv := vst_succ c (ex c v)
  have hp := nv_pos c (e := ex c v) (by omega)
  refine ⟨ex c v, rfl, h1, hp, off_succ c _, ?_, h2, h3, ?_, if_pos h, if_pos h, if_pos h⟩
  · rw [← hc]; exact off_mono c (by omega)
  · rw [hv, nv_eq c hp]

/-- Every tile named is one of the 66, -/
theorem tile_lt (v : ℕ) : tile c v ≤ 65 := by
  rcases Nat.lt_or_ge v (total c) with h | h
  · obtain ⟨e, -, -, hp, ho, hle, h1, h2, h3, ht, -, -⟩ := visit_facts c hc h
    rw [ht]
    omega
  · unfold tile; rw [if_neg (by omega)]

/-- a visit has rows, -/
theorem lo_lt_hi {v : ℕ} (h : v < total c) : lo c v < hi c v := by
  obtain ⟨e, -, -, hp, ho, hle, h1, h2, h3, ht, hl, hh⟩ := visit_facts c hc h
  rw [hl, hh, ht]
  omega

/-- and the last visit is of the last tile. -/
theorem tile_last {v : ℕ} (h : v + 1 = total c) : tile c v = 65 := by
  obtain ⟨e, -, he, hp, ho, hle, h1, h2, h3, ht, hl, hh⟩ := visit_facts c hc (show v < total c by omega)
  have hV : vst c (e + 1) = total c := by
    have := vst_mono c (show e + 1 ≤ 16 by omega)
    unfold total at *; omega
  have hoff : off c (e + 1) = off c 16 := by
    have key : ∀ k, e + 1 ≤ k → k ≤ 16 → off c k = off c (e + 1) := by
      intro k hk
      induction k, hk using Nat.le_induction with
      | base => exact fun _ => rfl
      | succ k hk ih =>
        intro hk16
        have h4 := vst_mono c (show e + 1 ≤ k by omega)
        have h5 := vst_mono c (show k + 1 ≤ 16 by omega)
        have h6 := vst_succ c k
        have h7 : nv c k = 0 := by unfold total at *; omega
        have h8 : c k = 0 := by
          by_contra hne
          have := nv_eq c (e := k) (by omega)
          omega
        rw [off_succ, h8, ih (by omega)]; rfl
    exact (key 16 (by omega) (le_refl _)).symm
  rw [ht]
  omega

/-- The next visit is of the same tile or a later one. -/
theorem tile_succ (v : ℕ) : tile c v ≤ tile c (v + 1) := by
  rcases Nat.lt_or_ge (v + 1) (total c) with h | h
  · obtain ⟨e, -, he, hp, ho, hle, h1, h2, h3, ht, hl, hh⟩ := visit_facts c hc (show v < total c by omega)
    obtain ⟨e', -, he', hp', ho', hle', h1', h2', h3', ht', hl', hh'⟩ := visit_facts c hc h
    rcases Nat.lt_trichotomy e e' with hlt | rfl | hgt
    · have h4 := off_mono c (show e + 1 ≤ e' by omega)
      rw [ht, ht']
      omega
    · rw [ht, ht']
      omega
    · have h4 := vst_mono c (show e' + 1 ≤ e by omega)
      omega
  · have := tile_lt c hc v
    have h2 : tile c (v + 1) = 65 := by unfold tile; rw [if_neg (by omega)]
    omega

theorem tile_mono : Monotone (tile c) := monotone_nat_of_le_succ (tile_succ c hc)

/-- A row's visit is one, of its tile and its expert, and the row is among its rows; -/
theorem visit_spec {r : ℕ} (h : r < 33792) : visit c r < total c ∧ ex c (visit c r) = rowEx c r ∧ tile c (visit c r) = r / 512
    ∧ lo c (visit c r) ≤ r % 512 ∧ r % 512 < hi c (visit c r) := by
  obtain ⟨h1, h2, h3⟩ := rowEx_lt c hc h
  have ho := off_succ c (rowEx c r)
  have hp : 0 < c (rowEx c r) := by omega
  have hv := vst_succ c (rowEx c r)
  rw [nv_eq c hp] at hv
  have hvd : visit c r = vst c (rowEx c r) + (r / 512 - off c (rowEx c r) / 512) := rfl
  have hlt : visit c r < vst c (rowEx c r + 1) := by omega
  have hex : ex c (visit c r) = rowEx c r := ex_eq c h1 (by omega) hlt
  have htot : visit c r < total c := lt_of_lt_of_le hlt (vst_mono c (by omega))
  obtain ⟨e, he, -, -, -, -, -, -, -, ht, hl, hh⟩ := visit_facts c hc htot
  rw [hex] at he; subst he
  have ht' : tile c (visit c r) = r / 512 := by rw [ht]; omega
  refine ⟨htot, hex, ht', ?_, ?_⟩
  · rw [hl, ht']; omega
  · rw [hh, ht']; omega

/-- and no other visit of its tile has it. -/
theorem visit_unique {r v : ℕ} (h : v < total c) (ht : tile c v = r / 512) (hl : lo c v ≤ r % 512) (hh : r % 512 < hi c v) : v = visit c r := by
  obtain ⟨e, he, he16, hp, ho, hle, h1, h2, h3, ht', hl', hh'⟩ := visit_facts c hc h
  have hr : rowEx c r = e := rowEx_eq c he16 (by rw [hl', ht] at hl; omega) (by rw [hh', ht] at hh; omega)
  unfold visit
  rw [hr]
  omega

end Cert.Proof.Sched
-- ==== Proof.Visits.Words.lean ====
/-
  The tables of the experts' kernel as words. Each stage of the host code that prepares them is a whole array here, a
  function of the 16 counts; where the counts hold naturals `c e` that add up to 33792, every stage holds the number of
  the schedule (Sched): the visit's tile, its expert, the bounds of the expert's rows in the tile, and the marks of a new
  tile and of a new expert.
-/
module

public import proofs.«01_k».proof.Proof.Gen.Kernel2Ideal
public import proofs.«01_k».proof.Proof.Visits.Sched
public import Idealize.ShloMosaic.Lib.Routing.Words
public import Idealize.ShloMosaic.Lib.PlanTiles.Rows
public import Idealize.ShloMosaic.Lib.Pointwise
public import Mathlib.Data.BitVec

@[expose] public section

noncomputable section

namespace Cert.Proof.Words

open Idealize.ShloMosaic Idealize.ShloMosaic.Routing Idealize.ShloMosaic.WordCmp
open Cert.Kernel2Ideal Cert.Kernel2Ideal.Gen Finset

/-! ## The stages -/

/-- A vector of 16 as the rows of a square, -/
def row16 (x : IVec S16 32) : IVec S16x16 32 :=
  broadcastInDim S16x16 ![0, 1] bcast_S1x16_S16x16_0_1 (broadcastInDim S1x16 ![1] bcast_S16_S1x16_1 x)
/-- and as its columns. -/
def col16 (x : IVec S16 32) : IVec S16x16 32 :=
  broadcastInDim S16x16 ![0, 1] bcast_S16x1_S16x16_0_1 (broadcastInDim S16x1 ![0] bcast_S16_S16x1_0 x)
/-- A vector of 16 as the rows of the table over the visits, -/
def row81 (x : IVec S16 32) : IVec S81x16 32 :=
  broadcastInDim S81x16 ![0, 1] bcast_S1x16_S81x16_0_1 (broadcastInDim S1x16 ![1] bcast_S16_S1x16_1 x)
/-- and a vector over the visits as its columns. -/
def col81 (x : IVec S81 32) : IVec S81x16 32 :=
  broadcastInDim S81x16 ![0, 1] bcast_S81x1_S81x16_0_1 (broadcastInDim S81x1 ![0] bcast_S81_S81x1_0 x)
/-- A constant over the experts, -/
def c16 (w : BitVec 32) : IVec S16 32 := broadcastInDim S16 ![] bcast_S_S16 (constantI S_ 32 w)
/-- and over the visits. -/
def c81 (w : BitVec 32) : IVec S81 32 := broadcastInDim S81 ![] bcast_S_S81 (constantI S_ 32 w)
/-- The numbers of the experts -/
def io16 : IVec S16 32 := iotaInDim S16 32 0
/-- and of the visits. -/
def io81 : IVec S81 32 := iotaInDim S81 32 0
/-- The running sums of a vector of 16. -/
def presum (x : IVec S16 32) : IVec S16 32 :=
  Host.reduce IntOp.addi (muli (extui 32 (cmpi .sle (row16 io16) (col16 io16)) natLt_1_32) (row16 x)) (constantI S_ 32 0#32)
    reducesTo_S16x16_S16_d1 h_S_
/-- The sums of the table's rows. -/
def sum81 (x : IVec S81x16 32) : IVec S81 32 := Host.reduce IntOp.addi x (constantI S_ 32 0#32) reducesTo_S81x16_S81_d1 h_S_
/-- The quotient by 512, rounded down. -/
def fdiv (x : IVec S16 32) : IVec S16 32 := pyDiv bcast_S_S16 x (constantI S_ 32 512#32)

variable (n : IVec S16 32)

/-- Where an expert's rows end, -/
def endW : IVec S16 32 := presum n
/-- where they begin, -/
def offW : IVec S16 32 := subi (endW n) n
/-- how many tiles hold some, -/
def nvW : IVec S16 32 :=
  select (cmpi .sgt n (c16 0#32)) (addi (subi (fdiv (subi (endW n) (c16 1#32))) (fdiv (offW n))) (c16 1#32)) (c16 0#32)
/-- and where its visits end. -/
def vendW : IVec S16 32 := presum (nvW n)
/-- Whether a point of the grid is a visit, -/
def validW : IVec S81 1 :=
  cmpi .slt io81 (broadcastInDim S81 ![] bcast_S_S81
    (shapeCast S_ (extractStridedSlice S1 ![15] (vendW n) slices_S16_S1_15) shapeCasts_S1_S_))
/-- its expert, -/
def exW : IVec S81 32 := minsi (sum81 (extui 32 (cmpi .sge (col81 io81) (row81 (vendW n))) natLt_1_32)) (c81 15#32)
/-- the expert's number picked out of a vector of 16, -/
def selW (x : IVec S16 32) : IVec S81 32 :=
  sum81 (muli (extui 32 (cmpi .eq (col81 (exW n)) (row81 io16)) natLt_1_32) (row81 x))
/-- its tile, -/
def tileW : IVec S81 32 :=
  select (validW n) (subi (addi (selW n (fdiv (offW n))) io81) (selW n (subi (vendW n) (nvW n)))) (c81 65#32)
/-- a bound of the expert's rows in the tile, -/
def edgeW (x : IVec S16 32) : IVec S81 32 :=
  select (validW n) (minsi (c81 512#32) (maxsi (c81 0#32) (subi (selW n x) (muli (tileW n) (c81 512#32))))) (c81 0#32)
/-- a vector over the visits moved on by one, -/
def prevW (x : IVec S81 32) : IVec S81 32 :=
  concatenate S81 0 [⟨S1, broadcastInDim S1 ![] bcast_S_S1 (constantI S_ 32 4294967295#32)⟩,
    ⟨S80, extractStridedSlice S80 ![0] x slices_S81_S80_0⟩] concatenates_S1_S80_S81_d0
/-- and the mark of the visits where it changes. -/
def changeW (x : IVec S81 32) : IVec S81 32 := extui 32 (andi (validW n) (cmpi .ne x (prevW x))) natLt_1_32

/-! ## Their readings -/

/-- The word of a sum, row by row. -/
theorem rowsum {a m : ℕ} (x : IVec (shape2 a m) 32) (f : ℕ → ℕ) (h : (shape2 a m).ReducesTo [1] (shape1 a))
    (hu : 0 < shape0.numel) (i : Fin a) (hx : ∀ q : Fin m, x (ix2 i q) = BitVec.ofNat 32 (f q)) :
    Host.reduce IntOp.addi x (constantI shape0 32 0#32) h hu (ix1 i) = BitVec.ofNat 32 (∑ q ∈ range m, f q) := by
  have e : Host.reduce IntOp.addi x (constantI shape0 32 0#32) h hu (ix1 i) = ∑ q : Fin m, x (ix2 i q) := by
    simp only [pointwise]
    rfl
  rw [e, Finset.sum_range, Finset.sum_congr rfl fun q _ => hx q]
  simp only [← BitVec.natCast_eq_ofNat, Nat.cast_sum]

theorem c16_at (w : BitVec 32) (e : Fin 16) : c16 w (ix1 e) = w := bc0 _ _ _
theorem c81_at (w : BitVec 32) (v : Fin 81) : c81 w (ix1 v) = w := bc0 _ _ _
theorem row16_at (x : IVec S16 32) (p q : Fin 16) : row16 x (ix2 p q) = x (ix1 q) := bcCols _ _ _ _ _
theorem col16_at (x : IVec S16 32) (p q : Fin 16) : col16 x (ix2 p q) = x (ix1 p) := bcRows _ _ _ _ _
theorem row81_at (x : IVec S16 32) (p : Fin 81) (q : Fin 16) : row81 x (ix2 p q) = x (ix1 q) := bcCols _ _ _ _ _
theorem col81_at (x : IVec S81 32) (p : Fin 81) (q : Fin 16) : col81 x (ix2 p q) = x (ix1 p) := bcRows _ _ _ _ _
theorem io16_at (e : Fin 16) : io16 (ix1 e) = BitVec.ofNat 32 e := rfl
theorem io81_at (v : Fin 81) : io81 (ix1 v) = BitVec.ofNat 32 v := rfl

/-- A running sum holds the sum of the naturals. -/
theorem presum_at (x : IVec S16 32) (f : ℕ → ℕ) (hx : ∀ e : Fin 16, x (ix1 e) = BitVec.ofNat 32 (f e)) (e : Fin 16) :
    presum x (ix1 e) = BitVec.ofNat 32 (∑ q ∈ range (e + 1), f q) := by
  refine (rowsum _ (fun q => (if q ≤ e.val then 1 else 0) * f q) _ _ e fun q => ?_).trans (congrArg (BitVec.ofNat 32) ?_)
  · show (cmpi .sle (row16 io16) (col16 io16) (ix2 e q)).setWidth 32 * row16 x (ix2 e q) = _
    have h : cmpi .sle (row16 io16) (col16 io16) (ix2 e q) = BitVec.ofBool (decide (q.val ≤ e.val)) := by
      show IntOp.cmpi .sle (row16 io16 (ix2 e q)) (col16 io16 (ix2 e q)) = _
      rw [row16_at, col16_at, io16_at, io16_at, cmpi_sle_ofNat (w := 32) (by omega) (by omega)]
    rw [h, setWidth_ofBool, row16_at, hx, ← BitVec.ofNat_mul]
  · simp only [ite_mul, one_mul, zero_mul]
    rw [← Finset.sum_filter]
    refine Finset.sum_congr (Finset.ext fun q => ?_) fun _ _ => rfl
    simp only [mem_filter, mem_range]; have := e.isLt; omega

/-- A difference of small numbers, cut off below 0. -/
theorem maxsi_sub {a b : ℕ} (ha : a < 2 ^ 31) (hb : b < 2 ^ 31) :
    IntOp.maxsi 0#32 (BitVec.ofNat 32 a - BitVec.ofNat 32 b) = BitVec.ofNat 32 (a - b) := by
  rcases Nat.le_total b a with h | h
  · rw [ofNat32_sub h, maxsi_zero_left (by omega)]
  · have e : BitVec.ofNat 32 a - BitVec.ofNat 32 b = -BitVec.ofNat 32 (b - a) := by
      rw [← ofNat32_sub h]; ring
    rw [e, PlanTiles.maxsi_zero_neg (by omega), Nat.sub_eq_zero_of_le h]

/-- A vector over the visits moved on by one holds `-1` first. -/
theorem prevW_at (x : IVec S81 32) (v : Fin 81) :
    prevW x (ix1 v) = if h : v.val = 0 then 4294967295#32 else x (ix1 ⟨v - 1, by omega⟩) := by
  unfold prevW
  simp only [pointwise]
  by_cases h : v.val = 0
  · rw [dif_pos h, dif_pos (by omega)]
  · rw [dif_neg h, dif_neg (by omega)]
    refine congrArg x (congrArg ix1 (Fin.ext ?_))
    show 0 + (v.val - 1) = v.val - 1
    omega

section
variable {c : ℕ → ℕ} (hn : ∀ e : Fin 16, n (ix1 e) = BitVec.ofNat 32 (c e)) (hc : Sched.off c 16 = 33792)
include hn

theorem endW_at (e : Fin 16) : endW n (ix1 e) = BitVec.ofNat 32 (Sched.off c (e + 1)) := presum_at n c hn e

theorem offW_at (e : Fin 16) : offW n (ix1 e) = BitVec.ofNat 32 (Sched.off c e) := by
  show endW n (ix1 e) - n (ix1 e) = _
  rw [endW_at n hn, hn, Sched.off_succ, BitVec.ofNat_add, BitVec.add_sub_cancel]

omit hn in
theorem off_le (hc : Sched.off c 16 = 33792) {e : ℕ} (he : e ≤ 16) : Sched.off c e ≤ 33792 := hc ▸ Sched.off_mono c he

theorem fdiv_at (x : IVec S16 32) (e : Fin 16) {a : ℕ} (hx : x (ix1 e) = BitVec.ofNat 32 a) (ha : a < 2 ^ 31) :
    fdiv x (ix1 e) = BitVec.ofNat 32 (a / 512) :=
  pyDiv_ap bcast_S_S16 x _ (ix1 e) hx (rfl : constantI S_ 32 512#32 ix0 = BitVec.ofNat 32 512) ha (by decide) (by decide)

include hc

theorem nvW_at (e : Fin 16) : nvW n (ix1 e) = BitVec.ofNat 32 (Sched.nv c e) := by
  have hle := off_le hc (show e.val + 1 ≤ 16 from e.isLt)
  have hs := Sched.off_succ c e
  show Scalar.select (IntOp.cmpi .sgt (n (ix1 e)) (c16 0#32 (ix1 e)))
    (fdiv (subi (endW n) (c16 1#32)) (ix1 e) - fdiv (offW n) (ix1 e) + c16 1#32 (ix1 e)) (c16 0#32 (ix1 e)) = _
  rw [c16_at, c16_at, hn, cmpi_sgt_ofNat (w := 32) (by omega) (by decide), fdiv_at n hn _ e (offW_at n hn e) (by omega)]
  unfold Sched.nv
  by_cases h : 0 < c e
  · have e1 : subi (endW n) (c16 1#32) (ix1 e) = BitVec.ofNat 32 (Sched.off c (e + 1) - 1) := by
      show endW n (ix1 e) - c16 1#32 (ix1 e) = _
      rw [endW_at n hn, c16_at]
      exact ofNat32_sub (by omega)
    have hd : Sched.off c e / 512 ≤ (Sched.off c (e + 1) - 1) / 512 := Nat.div_le_div_right (by omega)
    rw [fdiv_at n hn _ e e1 (by omega), if_pos h, ofNat32_sub hd, decide_eq_true h]
    exact (BitVec.ofNat_add ..).symm
  · rw [if_neg h, decide_eq_false h]
    rfl

theorem vst_le81 {e : ℕ} (he : e ≤ 16) : Sched.vst c e ≤ 81 := (Sched.vst_mono c he).trans (Sched.total_le c hc)

theorem vendW_at (e : Fin 16) : vendW n (ix1 e) = BitVec.ofNat 32 (Sched.vst c (e + 1)) := presum_at _ _ (nvW_at n hn hc) e

theorem validW_at (v : Fin 81) : validW n (ix1 v) = BitVec.ofBool (decide (v.val < Sched.total c)) := by
  have e : (shapeCast S_ (extractStridedSlice S1 ![15] (vendW n) slices_S16_S1_15) shapeCasts_S1_S_) ValueIdx.ix0
      = BitVec.ofNat 32 (Sched.total c) := by
    rw [shapeCast_apply _ shapeCasts_S1_S_ ValueIdx.ix0 (ix1 (0 : Fin 1)) (by decide)]
    exact (slice1 15 (vendW n) slices_S16_S1_15 (0 : Fin 1) (by decide)).trans (vendW_at n hn hc ⟨15, by decide⟩)
  have ht := Sched.total_le c hc
  have hv := v.isLt
  unfold validW
  rw [cmpi_at, bc0, e, io81_at, cmpi_slt_ofNat (w := 32) (by omega) (by omega)]

theorem exW_at (v : Fin 81) : exW n (ix1 v) = BitVec.ofNat 32 (min 15 (Sched.ex c v)) := by
  show IntOp.minsi (sum81 _ (ix1 v)) (c81 15#32 (ix1 v)) = _
  have e : sum81 (extui 32 (cmpi .sge (col81 io81) (row81 (vendW n))) natLt_1_32) (ix1 v) = BitVec.ofNat 32 (Sched.ex c v) := by
    refine reduce_count (by decide) _ natLt_1_32 reducesTo_S81x16_S81_d1 h_S_ v (fun e => Sched.vst c (e + 1) ≤ v.val) fun q => ?_
    show IntOp.cmpi .sge (col81 io81 (ix2 v q)) (row81 (vendW n) (ix2 v q)) = 1#1 ↔ _
    have := vst_le81 n hn hc (show q.val + 1 ≤ 16 from q.isLt)
    have := v.isLt
    rw [col81_at, row81_at, io81_at, vendW_at n hn hc, cmpi_sge_ofNat (w := 32) (by omega) (by omega), ofBool_decide_eq_one_iff]
  have hl : Sched.ex c v ≤ 16 := Nat.count_le _
  rw [e, c81_at]
  exact PlanTiles.minsi_word (by omega) (by decide)

theorem selW_at (x : IVec S16 32) (f : ℕ → ℕ) (hx : ∀ e : Fin 16, x (ix1 e) = BitVec.ofNat 32 (f e)) (v : Fin 81) :
    selW n x (ix1 v) = BitVec.ofNat 32 (f (min 15 (Sched.ex c v))) := by
  refine (rowsum _ (fun q => (if min 15 (Sched.ex c v) = q then 1 else 0) * f q) _ _ v fun q => ?_).trans
    (congrArg (BitVec.ofNat 32) ?_)
  · show (cmpi .eq (col81 (exW n)) (row81 io16) (ix2 v q)).setWidth 32 * row81 x (ix2 v q) = _
    have h : cmpi .eq (col81 (exW n)) (row81 io16) (ix2 v q) = BitVec.ofBool (decide (min 15 (Sched.ex c v) = q.val)) := by
      show IntOp.cmpi .eq (col81 (exW n) (ix2 v q)) (row81 io16 (ix2 v q)) = _
      have := q.isLt
      rw [col81_at, row81_at, exW_at n hn hc, io16_at, cmpi_eq_ofNat (w := 32) (by omega) (by omega)]
    rw [h, setWidth_ofBool, row81_at, hx, ← BitVec.ofNat_mul]
  · simp only [ite_mul, one_mul, zero_mul]
    rw [Finset.sum_ite_eq, if_pos (mem_range.2 (by omega))]

/-- A visit's expert is one of the 16. -/
theorem ex_min {v : ℕ} (h : v < Sched.total c) : min 15 (Sched.ex c v) = Sched.ex c v := by
  have := Sched.ex_lt c h
  omega

theorem tileW_at (v : Fin 81) : tileW n (ix1 v) = BitVec.ofNat 32 (Sched.tile c v) := by
  show Scalar.select (validW n (ix1 v)) (selW n (fdiv (offW n)) (ix1 v) + io81 (ix1 v) - selW n (subi (vendW n) (nvW n)) (ix1 v))
    (c81 65#32 (ix1 v)) = _
  have e2 : ∀ e : Fin 16, subi (vendW n) (nvW n) (ix1 e) = BitVec.ofNat 32 (Sched.vst c e) := fun e => by
    show vendW n (ix1 e) - nvW n (ix1 e) = _
    rw [vendW_at n hn hc, nvW_at n hn hc, Sched.vst_succ, BitVec.ofNat_add, BitVec.add_sub_cancel]
  have e1 : ∀ e : Fin 16, fdiv (offW n) (ix1 e) = BitVec.ofNat 32 (Sched.off c e / 512) := fun e =>
    fdiv_at n hn _ e (offW_at n hn e) (by have := off_le hc e.isLt.le; omega)
  rw [validW_at n hn hc, selW_at n hn hc _ (fun e => Sched.off c e / 512) e1, selW_at n hn hc _ (fun e => Sched.vst c e) e2, io81_at, c81_at]
  unfold Sched.tile
  by_cases h : v.val < Sched.total c
  · have hv := (Sched.ex_lt c h).2.1
    rw [if_pos h, decide_eq_true h, ex_min n hn hc h, ← BitVec.ofNat_add]
    show BitVec.ofNat 32 _ - BitVec.ofNat 32 _ = _
    rw [ofNat32_sub (by omega), Nat.add_sub_assoc hv]
  · rw [if_neg h, decide_eq_false h]
    rfl

/-- A bound of the expert's rows, measured from the tile's first row. -/
theorem edgeW_at (x : IVec S16 32) (f : ℕ → ℕ) (hx : ∀ e : Fin 16, x (ix1 e) = BitVec.ofNat 32 (f e))
    (hf : ∀ e < 16, f e ≤ 33792) (v : Fin 81) :
    edgeW n x (ix1 v) = BitVec.ofNat 32 (if v.val < Sched.total c then min 512 (f (Sched.ex c v) - 512 * Sched.tile c v) else 0) := by
  show Scalar.select (validW n (ix1 v)) (IntOp.minsi (c81 512#32 (ix1 v)) (IntOp.maxsi (c81 0#32 (ix1 v))
    (selW n x (ix1 v) - tileW n (ix1 v) * c81 512#32 (ix1 v)))) (c81 0#32 (ix1 v)) = _
  rw [validW_at n hn hc, selW_at n hn hc _ _ hx, tileW_at n hn hc, c81_at, c81_at]
  by_cases h : v.val < Sched.total c
  · have hv := hf _ (Sched.ex_lt c h).1
    have ht := Sched.tile_lt c hc v
    rw [if_pos h, decide_eq_true h, ex_min n hn hc h]
    show IntOp.minsi (BitVec.ofNat 32 512) (IntOp.maxsi 0#32 (_ - _ * BitVec.ofNat 32 512)) = _
    rw [← BitVec.ofNat_mul, maxsi_sub (by omega) (by omega), PlanTiles.minsi_word (by decide) (by omega), Nat.min_comm,
      Nat.mul_comm (Sched.tile c v)]
  · rw [if_neg h, decide_eq_false h]
    rfl

theorem loW_at (v : Fin 81) : edgeW n (offW n) (ix1 v) = BitVec.ofNat 32 (Sched.lo c v) := by
  rw [edgeW_at n hn hc _ _ (offW_at n hn) (fun e he => off_le hc he.le)]
  unfold Sched.lo
  by_cases h : v.val < Sched.total c
  · have := Sched.lo_lt_hi c hc h
    unfold Sched.lo Sched.hi at this
    simp only [if_pos h] at this ⊢
    rw [Nat.min_eq_right (by omega)]
  · simp only [if_neg h]

theorem hiW_at (v : Fin 81) : edgeW n (endW n) (ix1 v) = BitVec.ofNat 32 (Sched.hi c v) := by
  rw [edgeW_at n hn hc _ _ (endW_at n hn) (fun e he => off_le hc he)]
  rfl

/-- Where a vector of small numbers changes. -/
theorem changeW_at (x : IVec S81 32) (f : ℕ → ℕ) (hx : ∀ v : Fin 81, x (ix1 v) = BitVec.ofNat 32 (f v))
    (hf : ∀ v < 81, f v < 2 ^ 31) (v : Fin 81) :
    changeW n x (ix1 v) = BitVec.ofNat 32 (if v.val < Sched.total c ∧ (v.val = 0 ∨ f v ≠ f (v - 1)) then 1 else 0) := by
  show (IntOp.andi (validW n (ix1 v)) (IntOp.cmpi .ne (x (ix1 v)) (prevW x (ix1 v)))).setWidth 32 = _
  have e : IntOp.cmpi .ne (x (ix1 v)) (prevW x (ix1 v)) = BitVec.ofBool (decide (v.val = 0 ∨ f v ≠ f (v - 1))) := by
    have h1 := hf v v.isLt
    rw [prevW_at, hx]
    by_cases h : v.val = 0
    · rw [dif_pos h]
      show IntOp.cmpi .ne (BitVec.ofNat 32 (f v)) (BitVec.ofNat 32 4294967295) = _
      rw [cmpi_ne_ofNat (w := 32) (by omega) (by decide)]
      exact congrArg BitVec.ofBool (decide_eq_decide.2 ⟨fun _ => Or.inl h, fun _ => by omega⟩)
    · have h2 := hf (v - 1) (by omega)
      rw [dif_neg h, hx, cmpi_ne_ofNat (w := 32) (by omega) (show f (v.val - 1) < 2 ^ 32 by omega)]
      exact congrArg BitVec.ofBool (decide_eq_decide.2 ⟨Or.inr, fun g => g.resolve_left h⟩)
  rw [e, validW_at n hn hc, andi_ofBool, ← Bool.decide_and, setWidth_ofBool]

end

end Cert.Proof.Words
-- ==== Proof.Visits.Counted.lean ====
/-
  The experts' precondition read back: the 16 counts are naturals that add up to the 33792 rows.
-/
module

public import proofs.«01_k».proof.Proof.Gen.Pre_counted
public import proofs.«01_k».proof.Proof.Pre
public import proofs.«01_k».proof.Proof.Visits.Sched
public import Idealize.ShloMosaic.Lib.Routing.Words

@[expose] public section

noncomputable section

namespace Cert.Proof.Counted

open Cert.Pre_counted Cert.Pre_counted.Gen
open Idealize.ShloMosaic Idealize.ShloMosaic.Routing Idealize.ShloMosaic.WordCmp Finset

/-- The counts as naturals. -/
def cnt (n : IVec S16 32) (e : ℕ) : ℕ := if h : e < 16 then (n (ix1 ⟨e, h⟩)).toNat else 0

theorem cnt_at (n : IVec S16 32) (e : Fin 16) : n (ix1 e) = BitVec.ofNat 32 (cnt n e) := by
  unfold cnt
  rw [dif_pos e.isLt, BitVec.ofNat_toNat, BitVec.setWidth_eq]

/-- A word from 0 up to 33792. -/
theorem small (w : BitVec 32) (h0 : IntOp.cmpi .sge w 0#32 = 1#1) (h1 : IntOp.cmpi .sle w 33792#32 = 1#1) : w.toNat ≤ 33792 := by
  rw [cmpi_sge_eq, ofBool_decide_eq_one_iff] at h0
  rw [cmpi_sle_eq, ofBool_decide_eq_one_iff] at h1
  rw [show (0#32 : BitVec 32).toInt = 0 from by decide, BitVec.toInt_eq_toNat_cond] at h0
  rw [show (33792#32 : BitVec 32).toInt = 33792 from by decide, BitVec.toInt_eq_toNat_cond] at h1
  have := w.isLt
  split at h0 <;> omega

theorem counted_of {F : FTy → Type} [FloatOps F] (A0 : IVec S16 32) (A1 : FVec F S33792x1024 .f32) (A2 A3 : FVec F S4x16x1024x256 .f32)
    (A4 : FVec F S4x16x256x1024 .f32) (h : fn A0 A1 A2 A3 A4 = fun _ => 1#1) : Sched.off (cnt A0) 16 = 33792 := by
  have h := congrFun h ValueIdx.ix0
  unfold fn at h
  dsimp only at h
  change IntOp.andi _ (IntOp.cmpi .eq _ 33792#32) = 1#1 at h
  rw [Pre.bit_and] at h
  obtain ⟨h0, h1⟩ := h
  rw [Host.reduce_eq_fold] at h0
  have hb : ∀ e : Fin 16, cnt A0 e ≤ 33792 := fun e => by
    have := Pre.fold_and _ _ h0 (ix1 e) (Finset.mem_filter.mpr ⟨Finset.mem_univ _, funext fun d => d.elim0⟩)
    rw [andi_at, Pre.bit_and, cmpi_at, cmpi_at, bc0, bc0] at this
    unfold cnt
    rw [dif_pos e.isLt]
    exact small _ this.1 this.2
  have hs : ∑ i ∈ range 16, cnt A0 i ≤ 16 * 33792 := by
    refine (Finset.sum_le_card_nsmul _ _ 33792 fun i hi => hb ⟨i, mem_range.1 hi⟩).trans (le_of_eq ?_)
    rw [card_range, smul_eq_mul]
  have e := reduce_sum A0 (cnt A0) (cnt_at A0) reducesTo_S16_S_d0 h_S_
  rw [cmpi_eq_eq, ofBool_decide_eq_one_iff] at h1
  have e2 := congrArg BitVec.toNat (e.symm.trans h1)
  have hl : (List.map (cnt A0) (List.range 16)).sum = ∑ i ∈ range 16, cnt A0 i := rfl
  rw [hl] at e2
  unfold Sched.off
  simp only [BitVec.toNat_ofNat] at e2
  omega

end Cert.Proof.Counted

end
-- ==== Proof.Norm.Body.lean ====
/-
  The closing layer norm's kernel: its body on whole blocks, its proof data, the run and the frame. Points 0 to 31 store the
  prompt's output block, point 32 the sample's; the prompt's buffer keeps point 31's block over point 32, where it is written back.
-/
module

public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Kernel3Ideal.Points
public import Idealize.ShloMosaic.Lib.Claim
public import Idealize.ShloMosaic.Lib.Pipeline.ValueKit
public import Idealize.ShloMosaic.Lib.Pipeline.TableIdle

@[expose] public section

set_option maxRecDepth 16384

noncomputable section

namespace Cert.Proof.NI

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole buffer leaves what it stores. -/
theorem read_whole {sp : Space} {S : Shape} {e : EltTy} (M : Memref sig .tc sp S e) {off : Fin S.rank → Nat} (inb : ∀ a, off a + S.size a ≤ S.size a)
    (h : ∀ a, off a = 0) (f : M.view.ty.Contents (Elt F)) (w : S.Idx → Elt F e) :
    M.view.read (Elt F) (M.view.writes (Elt F) f [(⟨Rect.unit off S.size inb, w⟩ : View.Piece (Elt F) S e)]) = w := by
  rw [View.read_writes_eq_canon]
  · exact View.canon_cons_unit_lit inb w [] h
  · intro y
    refine ⟨_, List.mem_cons_self .., ?_⟩
    rw [Rect.mem_set_unit]
    intro a
    rw [h a]; exact ⟨Nat.zero_le _, by have := (y a).isLt; omega⟩

/-- A load of a whole buffer reads all of it. -/
theorem readAt_all {sp : Space} {S : Shape} {e : EltTy} (M : Memref sig .tc sp S e) {off : Fin S.rank → Nat} (inb : ∀ a, off a + S.size a ≤ S.size a)
    (h : ∀ a, off a = 0) (f : M.view.ty.Contents (Elt F)) :
    View.readAt (Elt F) M.view (Rect.unit off S.size inb).toLoadRect f = M.view.read (Elt F) f :=
  View.ld_unit_lit inb _ h

/-- The block a point computes, from its blocks of the residual, the two experts' outputs, the router's numbers, gain and bias. -/
def normed (x1 x2 x3 : Vec F S512x1024 .f32) (x4 : Vec F S512x128 .f32) (x5 x6 : Vec F S1x1024 .f32) : FVec F S512x1024 .f32 :=
  k0_pay1 x4 x2 x3 x1 x5 x6

theorem sound_norm (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x1024 .f32) (harg3 : arg3.IsWhole) (arg4 : Memref sig .tc .vmem S512x128 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S512x1024 .f32) (harg7 : arg7.IsWhole) (arg8 : Memref sig .tc .vmem S512x1024 .f32) (harg8 : arg8.IsWhole)
    (x1 x2 x3 : Vec F S512x1024 .f32) (x4 : Vec F S512x128 .f32) (x5 x6 : Vec F S1x1024 .f32) (Y Z : Vec F S512x1024 .f32) (K : PUnit → sProp 𝕄) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare Y ∗ owns (c : Thread nD τ) arg8 fullShare Z
      ∗ (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare (if k0_cond1 i = 1#1 then normed x1 x2 x3 x4 x5 x6 else Y)
      ∗ owns (c : Thread nD τ) arg8 fullShare (if k0_cond2 i = 1#1 then normed x1 x2 x3 x4 x5 x6 else Z)) -∗ K ⟨⟩))
      ⊢ wp frame (wpE (defs₀ (F := F)) Variants.none (c : Thread nD τ) none) Set.univ
        (cc0_ln2 i arg1 harg1 arg2 harg2 arg3 harg3 arg4 harg4 arg5 harg5 arg6 harg6 arg7 harg7 arg8 harg8) K := by
  rw [cc0_ln2_eq_skeleton]; unfold cc0_ln2_skel
  rw [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec
  sl_step
  have hp : k0_pay1
      (View.readAt (Elt F) arg4.view (Rect.unit ![0, 0] S512x128.size inb_S512x128_S512x128_0_0).toLoadRect f4)
      (View.readAt (Elt F) arg2.view (Rect.unit ![0, 0] S512x1024.size inb_S512x1024_S512x1024_0_0).toLoadRect f2)
      (View.readAt (Elt F) arg3.view (Rect.unit ![0, 0] S512x1024.size inb_S512x1024_S512x1024_0_0).toLoadRect f3)
      (View.readAt (Elt F) arg1.view (Rect.unit ![0, 0] S512x1024.size inb_S512x1024_S512x1024_0_0).toLoadRect f1)
      (View.readAt (Elt F) arg5.view (Rect.unit ![0, 0] S1x1024.size inb_S1x1024_S1x1024_0_0).toLoadRect f5)
      (View.readAt (Elt F) arg6.view (Rect.unit ![0, 0] S1x1024.size inb_S1x1024_S1x1024_0_0).toLoadRect f6) = normed x1 x2 x3 x4 x5 x6 := by
    have e1 := (readAt_all arg1 inb_S512x1024_S512x1024_0_0 (fun a => by fin_cases a <;> rfl) f1).trans hf1
    have e2 := (readAt_all arg2 inb_S512x1024_S512x1024_0_0 (fun a => by fin_cases a <;> rfl) f2).trans hf2
    have e3 := (readAt_all arg3 inb_S512x1024_S512x1024_0_0 (fun a => by fin_cases a <;> rfl) f3).trans hf3
    have e4 := (readAt_all arg4 inb_S512x128_S512x128_0_0 (fun a => by fin_cases a <;> rfl) f4).trans hf4
    have e5 := (readAt_all arg5 inb_S1x1024_S1x1024_0_0 (fun a => by fin_cases a <;> rfl) f5).trans hf5
    have e6 := (readAt_all arg6 inb_S1x1024_S1x1024_0_0 (fun a => by fin_cases a <;> rfl) f6).trans hf6
    unfold normed
    rw [e1, e2, e3, e4, e5, e6]
  rw [hp]
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    split
    · exact read_whole arg7 _ (fun a => by fin_cases a <;> rfl) _ _
    · exact hf7
  iexists _; isplitr
  swap; · iexact H8
  ipureintro
  split
  · exact read_whole arg8 _ (fun a => by fin_cases a <;> rfl) _ _
  · exact hf8

/-! ## The proof data -/

variable (m : (ℓ : Loc nD τ sig) → Buf (Elt F) ℓ) (ρ : Dev nD → PrngReg)

/-- The block computed at a point. -/
def yB (c : Dev nD) (t : Fin cfg0.N) : Vec F S512x1024 .f32 :=
  normed (iblk m c 0 t) (iblk m c 1 t) (iblk m c 2 t) (iblk m c 3 t) (iblk m c 4 t) (iblk m c 5 t)

/-- The last point that stores the prompt's block, up to point `t`; and the sample's point. -/
def lastP (t : Fin cfg0.N) : Fin cfg0.N := ⟨min t.val 31, lt_of_le_of_lt (Nat.min_le_left _ _) t.isLt⟩
def sampleP : Fin cfg0.N := ⟨32, by decide⟩

/-- The arrays as the launch finds them; after a point each input's buffer at its block, the outputs' at the block last stored. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yB m c (lastP t)
    | ⟨7, _⟩ => yB m c sampleP
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yB m c (lastP t) := by dsimp only [dats]
theorem after0_7 (c : Dev nD) (t : Fin cfg0.N) : (dats m 0 c).after 7 t = yB m c sampleP := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Which points store what -/

theorem cond1_at : ∀ t : Fin cfg0.N, (k0_cond1 (grid0.coords t) = 1#1 ↔ t.val < 32) := by decide +kernel
theorem cond2_at : ∀ t : Fin cfg0.N, (k0_cond2 (grid0.coords t) = 1#1 ↔ t.val = 32) := by decide +kernel
theorem fresh6 : ∀ t : Fin cfg0.N, ¬ t.val < 32 → cfg0.fresh 6 t.val = false := by decide +kernel
theorem flush7 (t : Fin cfg0.N) (h : ¬ t.val = 32) : (cfg0.win 7).flush t = false := by
  rw [← Bool.not_eq_true, flush0_7]
  have := t.isLt.trans_eq N_0
  omega

theorem idle6 (t : Fin cfg0.N) : cfg0.idle 6 (cfg0.grid.coords t) = !decide (t.val < 32) := by
  show (!(k0_cond1 (grid0.coords t) == 1#1)) = _
  rw [show (k0_cond1 (grid0.coords t) == 1#1) = decide (t.val < 32) from by
    rw [Bool.eq_iff_iff, beq_iff_eq, decide_eq_true_eq]; exact cond1_at t]
theorem idle7 (t : Fin cfg0.N) : cfg0.idle 7 (cfg0.grid.coords t) = !decide (t.val = 32) := by
  show (!(k0_cond2 (grid0.coords t) == 1#1)) = _
  rw [show (k0_cond2 (grid0.coords t) == 1#1) = decide (t.val = 32) from by
    rw [Bool.eq_iff_iff, beq_iff_eq, decide_eq_true_eq]; exact cond2_at t]

/-- At the sample's point the prompt's buffer holds the block of point 31. -/
theorem before6 (c : Dev nD) (t : Fin cfg0.N) (h : ¬ t.val < 32) (d) : (dats m 0 c).before 6 t d = yB m c (lastP t) := by
  have ht := t.isLt.trans_eq N_0
  refine ((dats m 0 c).before_out_traj 6 rfl (fun _ _ => rfl) (fun t ht hi hf => ?_) t.val t rfl d).trans
    ((if_neg (by rw [fresh6 t h]; decide)).trans ((after0_6 m c _).trans (congrArg (yB m c) (Fin.ext ?_))))
  · have hi' := (idle6 t).symm.trans hi
    have hi'' : ¬ t.val < 32 := by simpa using hi'
    rw [after0_6, after0_6]
    refine congrArg (yB m c) (Fin.ext ?_)
    show min t.val 31 = min (t.val - 1) 31
    omega
  · show min (t.val - 1) 31 = min t.val 31
    omega

/-! ## The body at a point -/

/-- What the pipeline takes back of the prompt's buffer, -/
def left6 (c : Dev nD) (t : Fin cfg0.N) : sProp 𝕄 :=
  match cfg0.idle 6 (cfg0.grid.coords t) with
  | true => (match (cfg0.win 6).flush t with
    | false => iprop(∃ d, owns (c : Thread nD τ) (st0_6 t) fullShare ((dats m 0 c).before 6 t d))
    | true => owns (c : Thread nD τ) (st0_6 t) fullShare ((dats m 0 c).after 6 t))
  | false => owns (c : Thread nD τ) (st0_6 t) fullShare ((dats m 0 c).after 6 t)
/-- and of the sample's. -/
def left7 (c : Dev nD) (t : Fin cfg0.N) : sProp 𝕄 :=
  match cfg0.idle 7 (cfg0.grid.coords t) with
  | true => (match (cfg0.win 7).flush t with
    | false => iprop(∃ d, owns (c : Thread nD τ) (st0_7 t) fullShare ((dats m 0 c).before 7 t d))
    | true => owns (c : Thread nD τ) (st0_7 t) fullShare ((dats m 0 c).after 7 t))
  | false => owns (c : Thread nD τ) (st0_7 t) fullShare ((dats m 0 c).after 7 t)

theorem post6 (c : Dev nD) (t : Fin cfg0.N) (d) :
    (owns (c : Thread nD τ) (st0_6 t) fullShare (if k0_cond1 (grid0.coords t) = 1#1 then yB m c t else (dats m 0 c).before 6 t d) : sProp 𝕄) ⊢ left6 m c t := by
  unfold left6
  by_cases h : t.val < 32
  · have hi : cfg0.idle 6 (cfg0.grid.coords t) = false := (idle6 t).trans (by simp [h])
    have e : lastP t = t := Fin.ext (show min t.val 31 = t.val by omega)
    rw [hi, if_pos ((cond1_at t).mpr h), after0_6, e]
  · have hi : cfg0.idle 6 (cfg0.grid.coords t) = true := (idle6 t).trans (by simp [h])
    rw [hi, if_neg (fun e => h ((cond1_at t).mp e))]
    cases hf : (cfg0.win 6).flush t
    · dsimp only
      iintro H
      iexists d
      iexact H
    · rw [before6 m c t h, after0_6]

theorem post7 (c : Dev nD) (t : Fin cfg0.N) (d) :
    (owns (c : Thread nD τ) (st0_7 t) fullShare (if k0_cond2 (grid0.coords t) = 1#1 then yB m c t else (dats m 0 c).before 7 t d) : sProp 𝕄) ⊢ left7 m c t := by
  unfold left7
  by_cases h : t.val = 32
  · have hi : cfg0.idle 7 (cfg0.grid.coords t) = false := (idle7 t).trans (by simp [h])
    have e : sampleP = t := Fin.ext h.symm
    rw [hi, if_pos ((cond2_at t).mpr h), after0_7, e]
  · have hi : cfg0.idle 7 (cfg0.grid.coords t) = true := (idle7 t).trans (by simp [h])
    rw [hi, if_neg (fun e => h ((cond2_at t).mp e)), flush7 t h]
    dsimp only
    iintro H
    iexists d
    iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ left6 m c t ∗ left7 m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  iintro ⟨Hs, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_norm c _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (post6 m c t d6)
    unfold yB
    iexact H6
  iapply (post7 m c t d7)
  unfold yB
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The arrays after the host lines behind the call. -/
abbrev W (c : Dev nD) (b : Ref sig .tc) : Buf (Elt F) ((c : Thread nD τ).loc b) := Pipeline.afterTail₀ cfgs (dats m) 0 (V0 m) [hostOps1] c b

set_option backward.isDefEq.respectTransparency.types false in
/-- The launch: the arrays end as the proof data says, and every counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.NI

end
-- ==== Proof.Norm.Same.lean ====
/-
  The norm's ideal kernel has the kernel's text: the procedures they run are the same, so the run that is proved of one, over
  any float values, is a run of the other.
-/
module

public import proofs.«01_k».proof.Proof.Norm.Body
public import proofs.«01_k».proof.Proof.Gen.Kernel3

@[expose] public section

set_option maxRecDepth 16384

namespace Cert.Proof.NI

open Idealize.ShloMosaic Idealize.ShloMosaic.TcCoe Idealize.SL.Sem

variable {F : FTy → Type} [FloatOps F]

theorem same_body : Cert.Kernel3.defs₀ (F := F) = Cert.Kernel3Ideal.defs₀ (F := F) := by
  unfold Cert.Kernel3.defs₀ Cert.Kernel3Ideal.defs₀
  refine congrArg Defs.onTc (funext fun l => funext fun x => ?_)
  match l with
  | ⟨0, _⟩ => rfl
  | ⟨n + 1, h⟩ => exact absurd h (Nat.not_lt.2 (Nat.le_add_left _ _))

/-- The two programs call the same procedures. -/
theorem same : Cert.Kernel3.defs (F := F) = Cert.Kernel3Ideal.defs (F := F) := congrArg (Pipeline.defs Cert.Kernel3Ideal.pcfgs) same_body

end Cert.Proof.NI
-- ==== Proof.Even.Body.lean ====
/-
  The even layers' projection: its body on whole blocks, its proof data, the run and the frame. Every point multiplies its tile of
  tokens by the weights and stores the queries, keys and values. A prompt's point also stores the convolution, which carries two
  rows from tile to tile in a scratch buffer, and the state's rows; a sequence's last point the transposed keys and values; the last
  point the sample's.
-/
module

public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Points
public import Idealize.ShloMosaic.Lib.Claim
public import Idealize.ShloMosaic.Lib.WritesUnit
public import Idealize.ShloMosaic.Lib.Pipeline.ValueKit
public import Idealize.ShloMosaic.Lib.Pipeline.TableIdle

@[expose] public section

set_option maxRecDepth 16384

noncomputable section

namespace Cert.Proof.EI

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole buffer leaves what it stores. -/
theorem read_whole {sp : Space} {S : Shape} {e : EltTy} (M : Memref sig .tc sp S e) {off : Fin S.rank → Nat} (inb : ∀ a, off a + S.size a ≤ S.size a)
    (h : ∀ a, off a = 0) (f : M.view.ty.Contents (Elt F)) (w : S.Idx → Elt F e) :
    M.view.read (Elt F) (M.view.writes (Elt F) f [(⟨Rect.unit off S.size inb, w⟩ : View.Piece (Elt F) S e)]) = w := by
  rw [View.read_writes_eq_canon]
  · exact View.canon_cons_unit_lit inb w [] h
  · intro y
    refine ⟨_, List.mem_cons_self .., ?_⟩
    rw [Rect.mem_set_unit]
    intro a
    rw [h a]; exact ⟨Nat.zero_le _, by have := (y a).isLt; omega⟩

/-- A load of a whole buffer reads all of it. -/
theorem readAt_all {sp : Space} {S : Shape} {e : EltTy} (M : Memref sig .tc sp S e) {off : Fin S.rank → Nat} (inb : ∀ a, off a + S.size a ≤ S.size a)
    (h : ∀ a, off a = 0) (f : M.view.ty.Contents (Elt F)) :
    View.readAt (Elt F) M.view (Rect.unit off S.size inb).toLoadRect f = M.view.read (Elt F) f :=
  View.ld_unit_lit inb _ h

/-- What a load at the coordinates `r` reads of a block. -/
def ld {S : Shape} {e : EltTy} (r : LoadRect S) (x : S.Idx → Elt F e) : r.shape.Idx → Elt F e := fun y => x (r.idx y)

theorem readAt_ld {sp : Space} {S : Shape} {e : EltTy} (M : Memref sig .tc sp S e) (r : LoadRect S) (f : M.view.ty.Contents (Elt F)) :
    View.readAt (Elt F) M.view r f = ld r (M.view.read (Elt F) f) := rfl

/-- The condition under which a prompt's point starts its sequence. -/
def atFirst (i : grid0.Coords) : BitVec 1 :=
  let n : BitVec 32 := Scalar.select (Scalar.cmpi .eq 8#32 0#32) 1#32 8#32
  let r : BitVec 32 := Scalar.remsi (BitVec.ofNat 32 (i 0).val) n
  Scalar.cmpi .ne (Scalar.extui (Scalar.cmpi .eq (Scalar.select (Scalar.andi (Scalar.xori (Scalar.cmpi .slt r 0#32) (Scalar.cmpi .slt n 0#32))
    (Scalar.cmpi .ne r 0#32)) (Scalar.addi r n) r) 0#32) : BitVec 32) 0#32

/-- The carried rows as a prompt's point uses them: zeros where a sequence starts, the tile before's otherwise. -/
def restart (i : grid0.Coords) (C : Vec F S8x512 .f32) : Vec F S8x512 .f32 := if atFirst i = 1#1 then k0_pay4 else C

/-- The carried rows behind a prompt's point: the first two become the tile's last. -/
def carryOn (i : grid0.Coords) (x1 x2 : Vec F S512x1024 .f32) (x3 : Vec F S1024x2304 .bf16) (R : Vec F S8x512 .f32) : Vec F S8x512 .f32 :=
  fun y => if h : ∀ a, (![0, 0] : Fin 2 → ℕ) a ≤ (y a).val ∧ (y a).val < (![0, 0] : Fin 2 → ℕ) a + S2x512.size a then
    k0_pay15 i x1 x2 x3 (Rect.unitLocal (s := S8x512) (off := ![0, 0]) (size := S2x512.size) y h) else R y

/-- A prompt's convolution block, from the carried rows. -/
def promptCv (i : grid0.Coords) (x1 x2 : Vec F S512x1024 .f32) (x3 : Vec F S1024x2304 .bf16) (x4 : Vec F S3x512 .f32) (R : Vec F S8x512 .f32) :
    Vec F S512x512 .f32 :=
  k0_pay5 (k0_pay10 i x1 x2 x3) (k0_pay11 i x1 x2 x3)
    (k0_pay12 (ld (Rect.unit (s := S3x512) ![0, 0] S1x512.size inb_S3x512_S1x512_0_0).toLoadRect x4))
    (k0_pay13 (ld (Rect.unit (s := S3x512) ![1, 0] S1x512.size inb_S3x512_S1x512_1_0).toLoadRect x4))
    (k0_pay14 (ld (Rect.unit (s := S3x512) ![2, 0] S1x512.size inb_S3x512_S1x512_2_0).toLoadRect x4))
    (ld (Rect.unit (s := S8x512) ![0, 0] S1x512.size inb_S8x512_S1x512_0_0).toLoadRect R)
    (ld (Rect.unit (s := S8x512) ![1, 0] S1x512.size inb_S8x512_S1x512_1_0).toLoadRect R)

/-- A block stored in two pieces: the upper 384 rows and the lower 128. -/
def halves (a : FVec F S384x512 .f32) (b : FVec F S128x512 .f32) : Vec F S512x512 .f32 :=
  View.canon [⟨Rect.unit (s := S512x512) ![128, 0] S384x512.size inb_S512x512_S384x512_128_0, a⟩,
    ⟨Rect.unit (s := S512x512) ![0, 0] S128x512.size inb_S512x512_S128x512_0_0, b⟩]

/-- The sample's convolution block, from the state's two rows. -/
def sampleCv (i : grid0.Coords) (x1 x2 : Vec F S512x1024 .f32) (x3 : Vec F S1024x2304 .bf16) (x4 : Vec F S3x512 .f32) (x5 x6 : Vec F S128x512 .f32) :
    Vec F S512x512 .f32 :=
  halves k0_pay3 (k0_pay2 (k0_pay10 i x1 x2 x3) (k0_pay11 i x1 x2 x3)
    (k0_pay12 (ld (Rect.unit (s := S3x512) ![0, 0] S1x512.size inb_S3x512_S1x512_0_0).toLoadRect x4))
    (k0_pay13 (ld (Rect.unit (s := S3x512) ![1, 0] S1x512.size inb_S3x512_S1x512_1_0).toLoadRect x4))
    (k0_pay14 (ld (Rect.unit (s := S3x512) ![2, 0] S1x512.size inb_S3x512_S1x512_2_0).toLoadRect x4)) x5 x6)

theorem read_halves (M : Memref sig .tc .vmem S512x512 .f32) (f : M.view.ty.Contents (Elt F)) (a : FVec F S384x512 .f32) (b : FVec F S128x512 .f32) :
    M.view.read (Elt F) (M.view.writes (Elt F) f [⟨Rect.unit (s := S512x512) ![128, 0] S384x512.size inb_S512x512_S384x512_128_0, a⟩,
      ⟨Rect.unit (s := S512x512) ![0, 0] S128x512.size inb_S512x512_S128x512_0_0, b⟩]) = halves a b := by
  rw [View.read_writes_eq_canon]
  · rfl
  intro y
  have h0 : (y 0).val < 512 := (y 0).isLt
  have h1 : (y 1).val < 512 := (y 1).isLt
  by_cases h : (y 0).val < 128
  · refine ⟨_, List.mem_cons_of_mem _ (List.mem_cons_self ..), ?_⟩
    rw [Rect.mem_set_unit]
    intro a
    fin_cases a
    · show 0 ≤ (y 0).val ∧ (y 0).val < 0 + 128; omega
    · show 0 ≤ (y 1).val ∧ (y 1).val < 0 + 512; omega
  · refine ⟨_, List.mem_cons_self .., ?_⟩
    rw [Rect.mem_set_unit]
    intro a
    fin_cases a
    · show 128 ≤ (y 0).val ∧ (y 0).val < 128 + 384; omega
    · show 0 ≤ (y 1).val ∧ (y 1).val < 0 + 512; omega

theorem read_put (M : Memref sig .tc .vmem S8x512 .f32) (f : M.view.ty.Contents (Elt F)) (w : FVec F S2x512 .f32) :
    M.view.read (Elt F) (M.view.writes (Elt F) f [⟨Rect.unit (s := S8x512) ![0, 0] S2x512.size inb_S8x512_S2x512_0_0, w⟩])
      = fun y => if h : ∀ a, (![0, 0] : Fin 2 → ℕ) a ≤ (y a).val ∧ (y a).val < (![0, 0] : Fin 2 → ℕ) a + S2x512.size a then
        w (Rect.unitLocal (s := S8x512) (off := ![0, 0]) (size := S2x512.size) y h) else M.view.read (Elt F) f y :=
  funext fun y => View.read_writes_cons_unit M.view f inb_S8x512_S2x512_0_0 w [] y rfl

theorem sound_even (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1024x2304 .bf16) (harg3 : arg3.IsWhole)
    (arg4 : Memref sig .tc .vmem S3x512 .f32) (harg4 : arg4.IsWhole)
    (arg5 : Memref sig .tc .vmem S128x512 .f32) (harg5 : arg5.IsWhole)
    (arg6 : Memref sig .tc .vmem S128x512 .f32) (harg6 : arg6.IsWhole)
    (arg7 : Memref sig .tc .vmem S512x512 .f32) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x512 .f32) (harg10 : arg10.IsWhole)
    (arg11 : Memref sig .tc .vmem S1x2x512 .f32) (harg11 : arg11.IsWhole)
    (arg12 : Memref sig .tc .vmem S128x512 .f32) (harg12 : arg12.IsWhole)
    (arg13 : Memref sig .tc .vmem S1x128x128 .f32) (harg13 : arg13.IsWhole)
    (arg14 : Memref sig .tc .vmem S1x128x128 .f32) (harg14 : arg14.IsWhole)
    (arg15 : Memref sig .tc .vmem S8x512 .f32) (harg15 : arg15.IsWhole)
    (x1 x2 : Vec F S512x1024 .f32) (x3 : Vec F S1024x2304 .bf16)
    (x4 : Vec F S3x512 .f32)
    (x5 : Vec F S128x512 .f32)
    (x6 : Vec F S128x512 .f32)
    (x7 : Vec F S512x512 .f32)
    (x8 : Vec F S512x128 .f32)
    (x9 : Vec F S512x128 .f32)
    (x10 : Vec F S512x512 .f32)
    (x11 : Vec F S1x2x512 .f32)
    (x12 : Vec F S128x512 .f32)
    (x13 : Vec F S1x128x128 .f32)
    (x14 : Vec F S1x128x128 .f32)
    (x15 : Vec F S8x512 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare (k0_pay7 i x1 x2 x3)
      ∗ owns (c : Thread nD τ) arg8 fullShare (k0_pay8 i x1 x2 x3)
      ∗ owns (c : Thread nD τ) arg9 fullShare (k0_pay9 i x1 x2 x3)
      ∗ owns (c : Thread nD τ) arg10 fullShare (if k0_cond4 i = 1#1 then sampleCv i x1 x2 x3 x4 x5 x6 else if k0_cond1 i = 1#1 then promptCv i x1 x2 x3 x4 (restart i x15) else x10)
      ∗ owns (c : Thread nD τ) arg11 fullShare (if k0_cond1 i = 1#1 then k0_pay16 i x1 x2 x3 else x11)
      ∗ owns (c : Thread nD τ) arg12 fullShare (if k0_cond4 i = 1#1 then k0_pay1 (k0_pay11 i x1 x2 x3) else x12)
      ∗ owns (c : Thread nD τ) arg13 fullShare (if k0_cond1 i = 1#1 then if k0_cond3 i = 1#1 then k0_pay17 i x1 x2 x3 else x13 else x13)
      ∗ owns (c : Thread nD τ) arg14 fullShare (if k0_cond1 i = 1#1 then if k0_cond3 i = 1#1 then k0_pay18 i x1 x2 x3 else x14 else x14)
      ∗ owns (c : Thread nD τ) arg15 fullShare (if k0_cond1 i = 1#1 then carryOn i x1 x2 x3 (restart i x15) else x15)) -∗ K ⟨⟩))
      ⊢ wp frame (wpE (defs₀ (F := F)) Variants.none (c : Thread nD τ) none) Set.univ
        (cc0_even_in i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_even_in_eq_skeleton]; unfold cc0_even_in_skel
  rw [k0_part2_eq_skeleton]; unfold k0_part2_skel
  rw [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  sl_exec
  sl_step
  have e1 := (readAt_all arg1 inb_S512x1024_S512x1024_0_0 (fun a => by fin_cases a <;> rfl) f1).trans hf1
  have e2 := (readAt_all arg2 inb_S512x1024_S512x1024_0_0 (fun a => by fin_cases a <;> rfl) f2).trans hf2
  have e3 := (readAt_all arg3 inb_S1024x2304_S1024x2304_0_0 (fun a => by fin_cases a <;> rfl) f3).trans hf3
  have e5 := (readAt_all arg5 inb_S128x512_S128x512_0_0 (fun a => by fin_cases a <;> rfl) f5).trans hf5
  have e6 := (readAt_all arg6 inb_S128x512_S128x512_0_0 (fun a => by fin_cases a <;> rfl) f6).trans hf6
  have er : arg15.view.read (Elt F) (if hc : sound_even.sl.v44 i = 1#1 then
      arg15.view.writes (Elt F) f15 [⟨Rect.unit ![0, 0] S8x512.size inb_S8x512_S8x512_0_0, k0_pay4⟩] else f15) = restart i x15 := by
    unfold restart
    rw [show sound_even.sl.v44 i = atFirst i from rfl]
    by_cases h : atFirst i = 1#1
    · rw [dif_pos h, if_pos h, read_whole arg15 _ (fun a => by fin_cases a <;> rfl)]
    · rw [dif_neg h, if_neg h, hf15]
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro
    unfold sound_even.sl.H7_1
    rw [read_whole arg7 _ (fun a => by fin_cases a <;> rfl), e1, e2, e3]
  isplitl [H8]
  · iexists _; isplitr
    swap; · iexact H8
    ipureintro
    unfold sound_even.sl.H8_1
    rw [read_whole arg8 _ (fun a => by fin_cases a <;> rfl), e1, e2, e3]
  isplitl [H9]
  · iexists _; isplitr
    swap; · iexact H9
    ipureintro
    unfold sound_even.sl.H9_1
    rw [read_whole arg9 _ (fun a => by fin_cases a <;> rfl), e1, e2, e3]
  isplitl [H10]
  · iexists _; isplitr
    swap; · iexact H10
    ipureintro
    by_cases h4 : k0_cond4 i = 1#1
    · rw [dif_pos h4, if_pos h4, read_halves]
      unfold sound_even.sl.r_1 sound_even.sl.r_2 sound_even.sl.r_3 sound_even.sl.r_4 sound_even.sl.r_5
      rw [e1, e2, e3, e5, e6, readAt_ld, readAt_ld, readAt_ld, hf4]
      rfl
    rw [dif_neg h4, if_neg h4]
    by_cases h1 : k0_cond1 i = 1#1
    · rw [dif_pos h1, if_pos h1]
      unfold sound_even.sl.H10_1
      rw [read_whole arg10 _ (fun a => by fin_cases a <;> rfl)]
      unfold sound_even.sl.r sound_even.sl.v46 sound_even.sl.v47
      rw [e1, e2, e3, readAt_ld, readAt_ld, readAt_ld, readAt_ld, readAt_ld, hf4, er]
      rfl
    rw [dif_neg h1, if_neg h1, hf10]
  isplitl [H11]
  · iexists _; isplitr
    swap; · iexact H11
    ipureintro
    by_cases h1 : k0_cond1 i = 1#1
    · rw [dif_pos h1, if_pos h1]
      unfold sound_even.sl.H11_1
      rw [read_whole arg11 _ (fun a => by fin_cases a <;> rfl), e1, e2, e3]
    rw [dif_neg h1, if_neg h1, hf11]
  isplitl [H12]
  · iexists _; isplitr
    swap; · iexact H12
    ipureintro
    by_cases h4 : k0_cond4 i = 1#1
    · rw [dif_pos h4, if_pos h4, read_whole arg12 _ (fun a => by fin_cases a <;> rfl)]
      unfold sound_even.sl.r_2
      rw [e1, e2, e3]
    rw [dif_neg h4, if_neg h4, hf12]
  isplitl [H13]
  · iexists _; isplitr
    swap; · iexact H13
    ipureintro
    by_cases h1 : k0_cond1 i = 1#1
    · rw [dif_pos h1, if_pos h1]
      by_cases h3 : k0_cond3 i = 1#1
      · rw [dif_pos h3, if_pos h3, read_whole arg13 _ (fun a => by fin_cases a <;> rfl), e1, e2, e3]
      rw [dif_neg h3, if_neg h3, hf13]
    rw [dif_neg h1, if_neg h1, hf13]
  isplitl [H14]
  · iexists _; isplitr
    swap; · iexact H14
    ipureintro
    by_cases h1 : k0_cond1 i = 1#1
    · rw [dif_pos h1, if_pos h1]
      by_cases h3 : k0_cond3 i = 1#1
      · rw [dif_pos h3, if_pos h3, read_whole arg14 _ (fun a => by fin_cases a <;> rfl), e1, e2, e3]
      rw [dif_neg h3, if_neg h3, hf14]
    rw [dif_neg h1, if_neg h1, hf14]
  iexists _; isplitr
  swap; · iexact H15
  ipureintro
  by_cases h1 : k0_cond1 i = 1#1
  · rw [dif_pos h1, if_pos h1]
    unfold sound_even.sl.H15_1
    rw [e1, e2, e3, read_put, er]
    rfl
  rw [dif_neg h1, if_neg h1, hf15]

/-! ## The proof data -/

variable (m : (ℓ : Loc nD τ sig) → Buf (Elt F) ℓ) (ρ : Dev nD → PrngReg)

/-- The carried rows behind a point, from those before it. -/
def stepC (c : Dev nD) (t : Fin cfg0.N) (C : Vec F S8x512 .f32) : Vec F S8x512 .f32 :=
  if k0_cond1 (grid0.coords t) = 1#1 then
    carryOn (grid0.coords t) (iblk m c 0 t) (iblk m c 1 t) (iblk m c 2 t) (restart (grid0.coords t) C) else C

/-- The carried rows before point `n`. -/
def scr (c : Dev nD) : ℕ → Vec F S8x512 .f32
  | 0 => k0_pay4
  | n + 1 => if h : n < cfg0.N then stepC m c ⟨n, h⟩ (scr c n) else scr c n

/-- The convolution's block at a point. -/
def cvB (c : Dev nD) (t : Fin cfg0.N) : Vec F S512x512 .f32 :=
  if k0_cond4 (grid0.coords t) = 1#1 then
    sampleCv (grid0.coords t) (iblk m c 0 t) (iblk m c 1 t) (iblk m c 2 t) (iblk m c 3 t) (iblk m c 4 t) (iblk m c 5 t)
  else promptCv (grid0.coords t) (iblk m c 0 t) (iblk m c 1 t) (iblk m c 2 t) (iblk m c 3 t) (restart (grid0.coords t) (scr m c t.val))

/-- The queries', keys' and values' blocks, -/
def qB (c : Dev nD) (t : Fin cfg0.N) : FVec F S512x512 .f32 := k0_pay7 (grid0.coords t) (iblk m c 0 t) (iblk m c 1 t) (iblk m c 2 t)
def kB (c : Dev nD) (t : Fin cfg0.N) : FVec F S512x128 .f32 := k0_pay8 (grid0.coords t) (iblk m c 0 t) (iblk m c 1 t) (iblk m c 2 t)
def vB (c : Dev nD) (t : Fin cfg0.N) : FVec F S512x128 .f32 := k0_pay9 (grid0.coords t) (iblk m c 0 t) (iblk m c 1 t) (iblk m c 2 t)
/-- the state's rows of a prompt's tile and of the sample, -/
def stB (c : Dev nD) (t : Fin cfg0.N) : FVec F S1x2x512 .f32 := k0_pay16 (grid0.coords t) (iblk m c 0 t) (iblk m c 1 t) (iblk m c 2 t)
def usB (c : Dev nD) (t : Fin cfg0.N) : FVec F S128x512 .f32 := k0_pay1 (k0_pay11 (grid0.coords t) (iblk m c 0 t) (iblk m c 1 t) (iblk m c 2 t))
/-- the last keys and values, transposed. -/
def ktB (c : Dev nD) (t : Fin cfg0.N) : FVec F S1x128x128 .f32 := k0_pay17 (grid0.coords t) (iblk m c 0 t) (iblk m c 1 t) (iblk m c 2 t)
def vtB (c : Dev nD) (t : Fin cfg0.N) : FVec F S1x128x128 .f32 := k0_pay18 (grid0.coords t) (iblk m c 0 t) (iblk m c 1 t) (iblk m c 2 t)

/-- The last prompt's point up to `t`; the last point of `t`'s sequence; the sample's point. -/
def lastP (t : Fin cfg0.N) : Fin cfg0.N := ⟨min t.val 31, lt_of_le_of_lt (Nat.min_le_left _ _) t.isLt⟩
def endP (t : Fin cfg0.N) : Fin cfg0.N := ⟨min (t.val / 8 * 8 + 7) 31, lt_of_le_of_lt (Nat.min_le_right _ _) (by decide)⟩
def sampleP : Fin cfg0.N := ⟨32, by decide⟩

/-- Before point `n`: the carried rows (at anything before the first point) and the generator's register. -/
def inv (c : Dev nD) (n : ℕ) : sProp 𝕄 :=
  iprop(∃ C, ⌜n ≠ 0 → C = scr m c n⌝ ∗ owns (c : Thread nD τ) (Memref.whole cc0_scratch0) fullShare C ∗ ∃ r, prngReg c r)

/-- The arrays as the launch finds them; after a point each input's buffer at its block, the outputs' at the block last stored. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qB m c t
    | ⟨7, _⟩ => kB m c t
    | ⟨8, _⟩ => vB m c t
    | ⟨9, _⟩ => cvB m c t
    | ⟨10, _⟩ => stB m c (lastP t)
    | ⟨11, _⟩ => usB m c sampleP
    | ⟨12, _⟩ => ktB m c (endP t)
    | ⟨13, _⟩ => vtB m c (endP t)
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qB m c t := by dsimp only [dats]
theorem after0_7 (c : Dev nD) (t : Fin cfg0.N) : (dats m 0 c).after 7 t = kB m c t := by dsimp only [dats]
theorem after0_8 (c : Dev nD) (t : Fin cfg0.N) : (dats m 0 c).after 8 t = vB m c t := by dsimp only [dats]
theorem after0_9 (c : Dev nD) (t : Fin cfg0.N) : (dats m 0 c).after 9 t = cvB m c t := by dsimp only [dats]
theorem after0_10 (c : Dev nD) (t : Fin cfg0.N) : (dats m 0 c).after 10 t = stB m c (lastP t) := by dsimp only [dats]
theorem after0_11 (c : Dev nD) (t : Fin cfg0.N) : (dats m 0 c).after 11 t = usB m c sampleP := by dsimp only [dats]
theorem after0_12 (c : Dev nD) (t : Fin cfg0.N) : (dats m 0 c).after 12 t = ktB m c (endP t) := by dsimp only [dats]
theorem after0_13 (c : Dev nD) (t : Fin cfg0.N) : (dats m 0 c).after 13 t = vtB m c (endP t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Which points store what -/

theorem cond1_at : ∀ t : Fin cfg0.N, (k0_cond1 (grid0.coords t) = 1#1 ↔ t.val < 32) := by decide +kernel
theorem cond4_at : ∀ t : Fin cfg0.N, (k0_cond4 (grid0.coords t) = 1#1 ↔ t.val = 32) := by decide +kernel
theorem cond3_at : ∀ t : Fin cfg0.N, (k0_cond3 (grid0.coords t) = 1#1 ↔ t.val % 8 = 7) := by decide +kernel
theorem first_at : ∀ t : Fin cfg0.N, t.val = 0 → atFirst (grid0.coords t) = 1#1 := by decide +kernel
theorem fresh10 : ∀ t : Fin cfg0.N, ¬ t.val < 32 → cfg0.fresh 10 t.val = false := by decide +kernel
theorem fresh12 : ∀ t : Fin cfg0.N, (cfg0.fresh 12 t.val = false ↔ t.val = 32) := by decide +kernel
theorem fresh13 : ∀ t : Fin cfg0.N, (cfg0.fresh 13 t.val = false ↔ t.val = 32) := by decide +kernel
theorem flush12 : ∀ t : Fin cfg0.N, (cfg0.win 12).flush t = true → t.val % 8 = 7 ∨ t.val = 32 :=
  (by decide +kernel : ∀ t : Fin grid0.N, win0_12.flush t = true → t.val % 8 = 7 ∨ t.val = 32)
theorem flush13 : ∀ t : Fin cfg0.N, (cfg0.win 13).flush t = true → t.val % 8 = 7 ∨ t.val = 32 :=
  (by decide +kernel : ∀ t : Fin grid0.N, win0_13.flush t = true → t.val % 8 = 7 ∨ t.val = 32)
theorem flush11 (t : Fin cfg0.N) (h : ¬ t.val = 32) : (cfg0.win 11).flush t = false := by
  rw [← Bool.not_eq_true, flush0_11]
  have := t.isLt.trans_eq N_0
  omega

theorem idle9 : ∀ t : Fin cfg0.N, cfg0.idle 9 (cfg0.grid.coords t) = false :=
  (by decide +kernel : ∀ t : Fin grid0.N, idle0 9 (grid0.coords t) = false)
theorem idle10 : ∀ t : Fin cfg0.N, cfg0.idle 10 (cfg0.grid.coords t) = !decide (t.val < 32) :=
  (by decide +kernel : ∀ t : Fin grid0.N, idle0 10 (grid0.coords t) = !decide (t.val < 32))
theorem idle11 : ∀ t : Fin cfg0.N, cfg0.idle 11 (cfg0.grid.coords t) = !decide (t.val = 32) :=
  (by decide +kernel : ∀ t : Fin grid0.N, idle0 11 (grid0.coords t) = !decide (t.val = 32))
theorem idle12 : ∀ t : Fin cfg0.N, cfg0.idle 12 (cfg0.grid.coords t) = !decide (t.val % 8 = 7) :=
  (by decide +kernel : ∀ t : Fin grid0.N, idle0 12 (grid0.coords t) = !decide (t.val % 8 = 7))
theorem idle13 : ∀ t : Fin cfg0.N, cfg0.idle 13 (cfg0.grid.coords t) = !decide (t.val % 8 = 7) :=
  (by decide +kernel : ∀ t : Fin grid0.N, idle0 13 (grid0.coords t) = !decide (t.val % 8 = 7))

/-- At the sample's point the state's buffer holds the rows of point 31, -/
theorem before10 (c : Dev nD) (t : Fin cfg0.N) (h : ¬ t.val < 32) (d) : (dats m 0 c).before 10 t d = stB m c (lastP t) := by
  have ht := t.isLt.trans_eq N_0
  refine ((dats m 0 c).before_out_traj 10 rfl (fun _ _ => rfl) (fun t ht hi hf => ?_) t.val t rfl d).trans
    ((if_neg (by rw [fresh10 t h]; decide)).trans ((after0_10 m c _).trans (congrArg (stB m c) (Fin.ext ?_))))
  · have hi' := (idle10 t).symm.trans hi
    have hi'' : ¬ t.val < 32 := by simpa using hi'
    rw [after0_10, after0_10]
    refine congrArg (stB m c) (Fin.ext ?_)
    show min t.val 31 = min (t.val - 1) 31
    omega
  · show min (t.val - 1) 31 = min t.val 31
    omega

/-- and the transposed keys' and values' buffers those of point 31. -/
theorem before12 (c : Dev nD) (t : Fin cfg0.N) (h : t.val = 32) (d) : (dats m 0 c).before 12 t d = ktB m c (endP t) := by
  have ht := t.isLt.trans_eq N_0
  have hfr : cfg0.fresh 12 t.val = false := (fresh12 t).mpr (by omega)
  refine ((dats m 0 c).before_out_traj 12 rfl (fun _ _ => rfl) (fun t ht hi hf => ?_) t.val t rfl d).trans
    ((if_neg (by rw [hfr]; decide)).trans ((after0_12 m c _).trans (congrArg (ktB m c) (Fin.ext ?_))))
  · have hf' := (fresh12 t).mp hf
    have htl := t.isLt.trans_eq N_0
    rw [after0_12, after0_12]
    refine congrArg (ktB m c) (Fin.ext ?_)
    show min (t.val / 8 * 8 + 7) 31 = min ((t.val - 1) / 8 * 8 + 7) 31
    omega
  · show min ((t.val - 1) / 8 * 8 + 7) 31 = min (t.val / 8 * 8 + 7) 31
    omega

theorem before13 (c : Dev nD) (t : Fin cfg0.N) (h : t.val = 32) (d) : (dats m 0 c).before 13 t d = vtB m c (endP t) := by
  have ht := t.isLt.trans_eq N_0
  have hfr : cfg0.fresh 13 t.val = false := (fresh13 t).mpr (by omega)
  refine ((dats m 0 c).before_out_traj 13 rfl (fun _ _ => rfl) (fun t ht hi hf => ?_) t.val t rfl d).trans
    ((if_neg (by rw [hfr]; decide)).trans ((after0_13 m c _).trans (congrArg (vtB m c) (Fin.ext ?_))))
  · have hf' := (fresh13 t).mp hf
    have htl := t.isLt.trans_eq N_0
    rw [after0_13, after0_13]
    refine congrArg (vtB m c) (Fin.ext ?_)
    show min (t.val / 8 * 8 + 7) 31 = min ((t.val - 1) / 8 * 8 + 7) 31
    omega
  · show min ((t.val - 1) / 8 * 8 + 7) 31 = min (t.val / 8 * 8 + 7) 31
    omega

/-- What the carried rows were before the first point does not matter. -/
theorem restart_eq (c : Dev nD) (t : Fin cfg0.N) (C : Vec F S8x512 .f32) (h : t.val ≠ 0 → C = scr m c t.val) :
    restart (grid0.coords t) C = restart (grid0.coords t) (scr m c t.val) := by
  by_cases h0 : t.val = 0
  · unfold restart
    rw [if_pos (first_at t h0), if_pos (first_at t h0)]
  · rw [← h h0]

theorem scr_succ (c : Dev nD) (t : Fin cfg0.N) : scr m c (t.val + 1) = stepC m c t (scr m c t.val) := by
  show (if h : t.val < cfg0.N then stepC m c ⟨t.val, h⟩ (scr m c t.val) else scr m c t.val) = _
  rw [dif_pos t.isLt]

theorem stepC_eq (c : Dev nD) (t : Fin cfg0.N) (C : Vec F S8x512 .f32) (h : t.val ≠ 0 → C = scr m c t.val) :
    stepC m c t C = scr m c (t.val + 1) := by
  rw [scr_succ]
  unfold stepC
  rw [restart_eq m c t C h]
  by_cases h1 : k0_cond1 (grid0.coords t) = 1#1
  · rw [if_pos h1, if_pos h1]
  · rw [if_neg h1, if_neg h1]
    exact h fun e => h1 ((cond1_at t).mpr (e ▸ (by decide)))

/-! ## The body at a point -/

/-- What the pipeline takes back of window 10's buffer. -/
def left10 (c : Dev nD) (t : Fin cfg0.N) : sProp 𝕄 :=
  match cfg0.idle 10 (cfg0.grid.coords t) with
  | true => (match (cfg0.win 10).flush t with
    | false => iprop(∃ d, owns (c : Thread nD τ) (st0_10 t) fullShare ((dats m 0 c).before 10 t d))
    | true => owns (c : Thread nD τ) (st0_10 t) fullShare ((dats m 0 c).after 10 t))
  | false => owns (c : Thread nD τ) (st0_10 t) fullShare ((dats m 0 c).after 10 t)
/-- What the pipeline takes back of window 11's buffer. -/
def left11 (c : Dev nD) (t : Fin cfg0.N) : sProp 𝕄 :=
  match cfg0.idle 11 (cfg0.grid.coords t) with
  | true => (match (cfg0.win 11).flush t with
    | false => iprop(∃ d, owns (c : Thread nD τ) (st0_11 t) fullShare ((dats m 0 c).before 11 t d))
    | true => owns (c : Thread nD τ) (st0_11 t) fullShare ((dats m 0 c).after 11 t))
  | false => owns (c : Thread nD τ) (st0_11 t) fullShare ((dats m 0 c).after 11 t)
/-- What the pipeline takes back of window 12's buffer. -/
def left12 (c : Dev nD) (t : Fin cfg0.N) : sProp 𝕄 :=
  match cfg0.idle 12 (cfg0.grid.coords t) with
  | true => (match (cfg0.win 12).flush t with
    | false => iprop(∃ d, owns (c : Thread nD τ) (st0_12 t) fullShare ((dats m 0 c).before 12 t d))
    | true => owns (c : Thread nD τ) (st0_12 t) fullShare ((dats m 0 c).after 12 t))
  | false => owns (c : Thread nD τ) (st0_12 t) fullShare ((dats m 0 c).after 12 t)
/-- What the pipeline takes back of window 13's buffer. -/
def left13 (c : Dev nD) (t : Fin cfg0.N) : sProp 𝕄 :=
  match cfg0.idle 13 (cfg0.grid.coords t) with
  | true => (match (cfg0.win 13).flush t with
    | false => iprop(∃ d, owns (c : Thread nD τ) (st0_13 t) fullShare ((dats m 0 c).before 13 t d))
    | true => owns (c : Thread nD τ) (st0_13 t) fullShare ((dats m 0 c).after 13 t))
  | false => owns (c : Thread nD τ) (st0_13 t) fullShare ((dats m 0 c).after 13 t)

def left9 (c : Dev nD) (t : Fin cfg0.N) : sProp 𝕄 :=
  match cfg0.idle 9 (cfg0.grid.coords t) with
  | true => (match (cfg0.win 9).flush t with
    | false => iprop(∃ d, owns (c : Thread nD τ) (st0_9 t) fullShare ((dats m 0 c).before 9 t d))
    | true => owns (c : Thread nD τ) (st0_9 t) fullShare ((dats m 0 c).after 9 t))
  | false => owns (c : Thread nD τ) (st0_9 t) fullShare ((dats m 0 c).after 9 t)

theorem post9 (c : Dev nD) (t : Fin cfg0.N) (C : Vec F S8x512 .f32) (h : t.val ≠ 0 → C = scr m c t.val) (d) :
    (owns (c : Thread nD τ) (st0_9 t) fullShare (if k0_cond4 (grid0.coords t) = 1#1 then
        sampleCv (grid0.coords t) (iblk m c 0 t) (iblk m c 1 t) (iblk m c 2 t) (iblk m c 3 t) (iblk m c 4 t) (iblk m c 5 t)
      else if k0_cond1 (grid0.coords t) = 1#1 then
        promptCv (grid0.coords t) (iblk m c 0 t) (iblk m c 1 t) (iblk m c 2 t) (iblk m c 3 t) (restart (grid0.coords t) C)
      else (dats m 0 c).before 9 t d) : sProp 𝕄) ⊢ left9 m c t := by
  unfold left9
  rw [idle9 t]
  dsimp only
  rw [after0_9, restart_eq m c t C h]
  unfold cvB
  by_cases h4 : k0_cond4 (grid0.coords t) = 1#1
  · rw [if_pos h4, if_pos h4]
  · have ht := t.isLt.trans_eq N_0
    have h1 : k0_cond1 (grid0.coords t) = 1#1 := (cond1_at t).mpr (by have h5 : ¬ t.val = 32 := fun e => h4 ((cond4_at t).mpr e); omega)
    rw [if_neg h4, if_neg h4, if_pos h1]

theorem post10 (c : Dev nD) (t : Fin cfg0.N) (d) :
    (owns (c : Thread nD τ) (st0_10 t) fullShare (if k0_cond1 (grid0.coords t) = 1#1 then stB m c t else (dats m 0 c).before 10 t d) : sProp 𝕄) ⊢ left10 m c t := by
  unfold left10
  by_cases h : t.val < 32
  · have hi : cfg0.idle 10 (cfg0.grid.coords t) = false := (idle10 t).trans (by simp [h])
    have e : lastP t = t := Fin.ext (show min t.val 31 = t.val by omega)
    rw [hi, if_pos ((cond1_at t).mpr h), after0_10, e]
  · have hi : cfg0.idle 10 (cfg0.grid.coords t) = true := (idle10 t).trans (by simp [h])
    rw [hi, if_neg (fun e => h ((cond1_at t).mp e))]
    cases hf : (cfg0.win 10).flush t
    · dsimp only
      iintro H
      iexists d
      iexact H
    · rw [before10 m c t h, after0_10]

theorem post11 (c : Dev nD) (t : Fin cfg0.N) (d) :
    (owns (c : Thread nD τ) (st0_11 t) fullShare (if k0_cond4 (grid0.coords t) = 1#1 then usB m c t else (dats m 0 c).before 11 t d) : sProp 𝕄) ⊢ left11 m c t := by
  unfold left11
  by_cases h : t.val = 32
  · have hi : cfg0.idle 11 (cfg0.grid.coords t) = false := (idle11 t).trans (by simp [h])
    have e : sampleP = t := Fin.ext h.symm
    rw [hi, if_pos ((cond4_at t).mpr h), after0_11, e]
  · have hi : cfg0.idle 11 (cfg0.grid.coords t) = true := (idle11 t).trans (by simp [h])
    rw [hi, if_neg (fun e => h ((cond4_at t).mp e)), flush11 t h]
    dsimp only
    iintro H
    iexists d
    iexact H

theorem post12 (c : Dev nD) (t : Fin cfg0.N) (d) :
    (owns (c : Thread nD τ) (st0_12 t) fullShare (if k0_cond1 (grid0.coords t) = 1#1 then if k0_cond3 (grid0.coords t) = 1#1 then ktB m c t
      else (dats m 0 c).before 12 t d else (dats m 0 c).before 12 t d) : sProp 𝕄) ⊢ left12 m c t := by
  unfold left12
  have ht := t.isLt.trans_eq N_0
  by_cases h : t.val % 8 = 7
  · have hi : cfg0.idle 12 (cfg0.grid.coords t) = false := (idle12 t).trans (by simp [h])
    have e : endP t = t := Fin.ext (show min (t.val / 8 * 8 + 7) 31 = t.val by omega)
    rw [hi, if_pos ((cond1_at t).mpr (by omega)), if_pos ((cond3_at t).mpr h), after0_12, e]
  · have hi : cfg0.idle 12 (cfg0.grid.coords t) = true := (idle12 t).trans (by simp [h])
    rw [hi, if_neg (fun e => h ((cond3_at t).mp e)), ite_self]
    cases hf : (cfg0.win 12).flush t
    · dsimp only
      iintro H
      iexists d
      iexact H
    · rw [before12 m c t ((flush12 t hf).resolve_left h), after0_12]

theorem post13 (c : Dev nD) (t : Fin cfg0.N) (d) :
    (owns (c : Thread nD τ) (st0_13 t) fullShare (if k0_cond1 (grid0.coords t) = 1#1 then if k0_cond3 (grid0.coords t) = 1#1 then vtB m c t
      else (dats m 0 c).before 13 t d else (dats m 0 c).before 13 t d) : sProp 𝕄) ⊢ left13 m c t := by
  unfold left13
  have ht := t.isLt.trans_eq N_0
  by_cases h : t.val % 8 = 7
  · have hi : cfg0.idle 13 (cfg0.grid.coords t) = false := (idle13 t).trans (by simp [h])
    have e : endP t = t := Fin.ext (show min (t.val / 8 * 8 + 7) 31 = t.val by omega)
    rw [hi, if_pos ((cond1_at t).mpr (by omega)), if_pos ((cond3_at t).mpr h), after0_13, e]
  · have hi : cfg0.idle 13 (cfg0.grid.coords t) = true := (idle13 t).trans (by simp [h])
    rw [hi, if_neg (fun e => h ((cond3_at t).mp e)), ite_self]
    cases hf : (cfg0.win 13).flush t
    · dsimp only
      iintro H
      iexists d
      iexact H
    · rw [before13 m c t ((flush13 t hf).resolve_left h), after0_13]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ left9 m c t ∗ left10 m c t ∗ left11 m c t ∗ left12 m c t ∗ left13 m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, after0_6, after0_7, after0_8]
  unfold inv
  iintro ⟨⟨%C, %hC, Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_even c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) C _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  iintro ⟨H0, H1, H2, H3, H4, H5, H6, H7, H8, H9, H10, H11, H12, H13, Hs⟩
  isplitl [Hs Hr]
  · iexists _
    isplitr
    swap
    · isplitl [Hs]; · iexact Hs
      iexact Hr
    ipureintro
    exact fun _ => stepC_eq m c t C hC
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold qB; iexact H6
  isplitl [H7]
  · unfold kB; iexact H7
  isplitl [H8]
  · unfold vB; iexact H8
  isplitl [H9]
  · iapply (post9 m c t C hC d9)
    iexact H9
  isplitl [H10]
  · iapply (post10 m c t d10)
    unfold stB
    iexact H10
  isplitl [H11]
  · iapply (post11 m c t d11)
    unfold usB
    iexact H11
  isplitl [H12]
  · iapply (post12 m c t d12)
    unfold ktB
    iexact H12
  iapply (post13 m c t d13)
  unfold vtB
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The arrays after the host lines behind the call. -/
abbrev W (c : Dev nD) (b : Ref sig .tc) : Buf (Elt F) ((c : Thread nD τ).loc b) := Pipeline.afterTail₀ cfgs (dats m) 0 (V0 m) [hostOps1] c b

theorem inv_in (c : Dev nD) : Pipeline.ΦA spec0 c ⊢ (inv m c 0 : sProp 𝕄) := by
  unfold Pipeline.ΦA inv owns
  rw [scopedRest0_eq]
  iintro ⟨⟨%f0, H0⟩, Hr⟩
  iexists f0
  isplitr
  · ipureintro; exact fun h => absurd rfl h
  simp only [Memref.view_whole, View.set_whole]
  isplitl [H0]
  · iexists f0; isplitr
    · ipureintro; rfl
    iexact H0
  iexact Hr

theorem inv_out (c : Dev nD) (n : ℕ) : (inv m c n : sProp 𝕄) ⊢ Pipeline.ΦA spec0 c := by
  unfold Pipeline.ΦA inv owns
  rw [scopedRest0_eq]
  simp only [Memref.view_whole, View.set_whole]
  iintro ⟨%C, %hC, ⟨%f0, %e0, H0⟩, Hr⟩
  isplitr [Hr]
  · iexists f0; iexact H0
  iexact Hr

set_option backward.isDefEq.respectTransparency.types false in
/-- The launch: the arrays end as the proof data says, and every counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := fun c => inv_out m c _)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.EI

end
-- ==== Proof.Even.Same.lean ====
/-
  The even layers' projection's ideal kernel has the kernel's text: the procedures they run are the same, so the run that is proved of one, over
  any float values, is a run of the other.
-/
module

public import proofs.«01_k».proof.Proof.Even.Body
public import proofs.«01_k».proof.Proof.Gen.Kernel4

@[expose] public section

set_option maxRecDepth 16384

namespace Cert.Proof.EI

open Idealize.ShloMosaic Idealize.ShloMosaic.TcCoe Idealize.SL.Sem

variable {F : FTy → Type} [FloatOps F]

set_option maxHeartbeats 4000000 in
theorem same_body : Cert.Kernel4.defs₀ (F := F) = Cert.Kernel4Ideal.defs₀ (F := F) := by
  unfold Cert.Kernel4.defs₀ Cert.Kernel4Ideal.defs₀
  refine congrArg Defs.onTc (funext fun l => funext fun x => ?_)
  match l with
  | ⟨0, _⟩ => rfl
  | ⟨n + 1, h⟩ => exact absurd h (Nat.not_lt.2 (Nat.le_add_left _ _))

/-- The two programs call the same procedures. -/
theorem same : Cert.Kernel4.defs (F := F) = Cert.Kernel4Ideal.defs (F := F) := congrArg (Pipeline.defs Cert.Kernel4Ideal.pcfgs) same_body

end Cert.Proof.EI
-- ==== Proof.Odd.Body.lean ====
/-
  The odd layers' projection: its body on whole blocks, its proof data, the run and the frame. A prompt's point stores the
  transposed keys, values and logarithms of the forget gates, and beside them the arguments of the attention: the queries and the
  keys, extended by the gates' running sums, which are carried from tile to tile in a scratch buffer. The last point stores the
  sample's queries, keys, values and gates.
-/
module

public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Points
public import Idealize.ShloMosaic.Lib.Claim
public import Idealize.ShloMosaic.Lib.WritesUnit
public import Idealize.ShloMosaic.Lib.Pipeline.ValueKit
public import Idealize.ShloMosaic.Lib.Pipeline.TableIdle

@[expose] public section

set_option maxRecDepth 16384

noncomputable section

namespace Cert.Proof.OI

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole buffer leaves what it stores. -/
theorem read_whole {sp : Space} {S : Shape} {e : EltTy} (M : Memref sig .tc sp S e) {off : Fin S.rank → Nat} (inb : ∀ a, off a + S.size a ≤ S.size a)
    (h : ∀ a, off a = 0) (f : M.view.ty.Contents (Elt F)) (w : S.Idx → Elt F e) :
    M.view.read (Elt F) (M.view.writes (Elt F) f [(⟨Rect.unit off S.size inb, w⟩ : View.Piece (Elt F) S e)]) = w := by
  rw [View.read_writes_eq_canon]
  · exact View.canon_cons_unit_lit inb w [] h
  · intro y
    refine ⟨_, List.mem_cons_self .., ?_⟩
    rw [Rect.mem_set_unit]
    intro a
    rw [h a]; exact ⟨Nat.zero_le _, by have := (y a).isLt; omega⟩

/-- A load of a whole buffer reads all of it. -/
theorem readAt_all {sp : Space} {S : Shape} {e : EltTy} (M : Memref sig .tc sp S e) {off : Fin S.rank → Nat} (inb : ∀ a, off a + S.size a ≤ S.size a)
    (h : ∀ a, off a = 0) (f : M.view.ty.Contents (Elt F)) :
    View.readAt (Elt F) M.view (Rect.unit off S.size inb).toLoadRect f = M.view.read (Elt F) f :=
  View.ld_unit_lit inb _ h

/-- What a load at the coordinates `r` reads of a block. -/
def ld {S : Shape} {e : EltTy} (r : LoadRect S) (x : S.Idx → Elt F e) : r.shape.Idx → Elt F e := fun y => x (r.idx y)

theorem readAt_ld {sp : Space} {S : Shape} {e : EltTy} (M : Memref sig .tc sp S e) (r : LoadRect S) (f : M.view.ty.Contents (Elt F)) :
    View.readAt (Elt F) M.view r f = ld r (M.view.read (Elt F) f) := rfl

/-- The condition under which a prompt's point starts its sequence. -/
def atFirst (i : grid0.Coords) : BitVec 1 :=
  let n : BitVec 32 := Scalar.select (Scalar.cmpi .eq 8#32 0#32) 1#32 8#32
  let r : BitVec 32 := Scalar.remsi (BitVec.ofNat 32 (i 0).val) n
  Scalar.cmpi .ne (Scalar.extui (Scalar.cmpi .eq (Scalar.select (Scalar.andi (Scalar.xori (Scalar.cmpi .slt r 0#32) (Scalar.cmpi .slt n 0#32))
    (Scalar.cmpi .ne r 0#32)) (Scalar.addi r n) r) 0#32) : BitVec 32) 0#32

/-- The carried sums as a prompt's point uses them: zeros where a sequence starts, the tile before's otherwise. -/
def restart (i : grid0.Coords) (C : Vec F S8x128 .f32) : Vec F S8x128 .f32 := if atFirst i = 1#1 then k0_pay6 else C

/-- The lanes' numbers. -/
def lane : IVec S512x128 32 := iota .tc S512x128 32 [1] iota_S512x128_d1_w32

/-- The gates' running sums within a tile, in three parts. -/
def sums (i : grid0.Coords) (x1 x2 : Vec F S512x1024 .f32) (x4 : Vec F S1024x384 .bf16) (x5 : Vec F S1x128 .f32) : FVec F S512x128 .f32 :=
  k0_pay10 k0_pay8 (k0_pay9 lane (k0_pay59 i x1 x2 x4 x5)) (constant S512x128 .f32 0x00000000#32)

/-- The first row of the carried sums. -/
def row0 (R : Vec F S8x128 .f32) : Vec F S1x128 .f32 := ld (Rect.unit (s := S8x128) ![0, 0] S1x128.size inb_S8x128_S1x128_0_0).toLoadRect R

/-- The carried sums behind a prompt's point: the first row becomes the tile's last. -/
def carryOn (i : grid0.Coords) (x1 x2 : Vec F S512x1024 .f32) (x4 : Vec F S1024x384 .bf16) (x5 : Vec F S1x128 .f32) (R : Vec F S8x128 .f32) : Vec F S8x128 .f32 :=
  fun y => if h : ∀ a, (![0, 0] : Fin 2 → ℕ) a ≤ (y a).val ∧ (y a).val < (![0, 0] : Fin 2 → ℕ) a + S1x128.size a then
    k0_pay12 lane (sums i x1 x2 x4 x5) (row0 R) (Rect.unitLocal (s := S8x128) (off := ![0, 0]) (size := S1x128.size) y h) else R y

/-- The logarithms in base two, in three parts. -/
def logs (i : grid0.Coords) (x1 x2 : Vec F S512x1024 .f32) (x4 : Vec F S1024x384 .bf16) (x5 : Vec F S1x128 .f32) (R : Vec F S8x128 .f32) : FVec F S512x128 .f32 :=
  k0_pay13 lane (sums i x1 x2 x4 x5) (row0 R)

/-- The transposed products of a tile with the weights. -/
def prods (i : grid0.Coords) (x1 x2 : Vec F S512x1024 .f32) (x3 : Vec F S1536x1024 .bf16) : FVec F S1536x512 .f32 :=
  k0_pay7 (k0_pay57 i x1 x2) x3

/-- A prompt's extended keys. -/
def keysOf (i : grid0.Coords) (x1 x2 : Vec F S512x1024 .f32) (x4 : Vec F S1024x384 .bf16) (x5 : Vec F S1x128 .f32) (x6 : Vec F S384x512 .bf16) (R : Vec F S8x128 .f32) :
    FVec F S512x512 .bf16 :=
  k0_pay16 (k0_pay58 i x1 x2 x4) lane (logs i x1 x2 x4 x5 R) k0_pay14 x6

/-- The pieces of a prompt's extended queries: for each head its queries and its part of the sums. -/
def pieces (ht : FVec F S1536x512 .f32) (qe : FVec F S1024x512 .f32) (e0 : FVec F S1x1x64x512 .bf16) : List (View.Piece (Elt F) S1x16x128x512 .bf16) :=
  [⟨Rect.unit (s := S1x16x128x512) ![0, 15, 64, 0] S1x1x64x512.size inb_S1x16x128x512_S1x1x64x512_0_15_64_0, k0_pay54 qe⟩,
    ⟨Rect.unit (s := S1x16x128x512) ![0, 15, 0, 0] S1x1x64x512.size inb_S1x16x128x512_S1x1x64x512_0_15_0_0, k0_pay53 ht⟩,
    ⟨Rect.unit (s := S1x16x128x512) ![0, 14, 64, 0] S1x1x64x512.size inb_S1x16x128x512_S1x1x64x512_0_14_64_0, k0_pay52 qe⟩,
    ⟨Rect.unit (s := S1x16x128x512) ![0, 14, 0, 0] S1x1x64x512.size inb_S1x16x128x512_S1x1x64x512_0_14_0_0, k0_pay51 (k0_pay50 ht)⟩,
    ⟨Rect.unit (s := S1x16x128x512) ![0, 13, 64, 0] S1x1x64x512.size inb_S1x16x128x512_S1x1x64x512_0_13_64_0, k0_pay49 qe⟩,
    ⟨Rect.unit (s := S1x16x128x512) ![0, 13, 0, 0] S1x1x64x512.size inb_S1x16x128x512_S1x1x64x512_0_13_0_0, k0_pay48 ht⟩,
    ⟨Rect.unit (s := S1x16x128x512) ![0, 12, 64, 0] S1x1x64x512.size inb_S1x16x128x512_S1x1x64x512_0_12_64_0, k0_pay47 qe⟩,
    ⟨Rect.unit (s := S1x16x128x512) ![0, 12, 0, 0] S1x1x64x512.size inb_S1x16x128x512_S1x1x64x512_0_12_0_0, k0_pay46 ht⟩,
    ⟨Rect.unit (s := S1x16x128x512) ![0, 11, 64, 0] S1x1x64x512.size inb_S1x16x128x512_S1x1x64x512_0_11_64_0, k0_pay45 (k0_pay44 qe)⟩,
    ⟨Rect.unit (s := S1x16x128x512) ![0, 11, 0, 0] S1x1x64x512.size inb_S1x16x128x512_S1x1x64x512_0_11_0_0, k0_pay43 ht⟩,
    ⟨Rect.unit (s := S1x16x128x512) ![0, 10, 64, 0] S1x1x64x512.size inb_S1x16x128x512_S1x1x64x512_0_10_64_0, k0_pay42 qe⟩,
    ⟨Rect.unit (s := S1x16x128x512) ![0, 10, 0, 0] S1x1x64x512.size inb_S1x16x128x512_S1x1x64x512_0_10_0_0, k0_pay41 ht⟩,
    ⟨Rect.unit (s := S1x16x128x512) ![0, 9, 64, 0] S1x1x64x512.size inb_S1x16x128x512_S1x1x64x512_0_9_64_0, k0_pay40 qe⟩,
    ⟨Rect.unit (s := S1x16x128x512) ![0, 9, 0, 0] S1x1x64x512.size inb_S1x16x128x512_S1x1x64x512_0_9_0_0, k0_pay39 (k0_pay38 ht)⟩,
    ⟨Rect.unit (s := S1x16x128x512) ![0, 8, 64, 0] S1x1x64x512.size inb_S1x16x128x512_S1x1x64x512_0_8_64_0, k0_pay37 qe⟩,
    ⟨Rect.unit (s := S1x16x128x512) ![0, 8, 0, 0] S1x1x64x512.size inb_S1x16x128x512_S1x1x64x512_0_8_0_0, k0_pay36 ht⟩,
    ⟨Rect.unit (s := S1x16x128x512) ![0, 7, 64, 0] S1x1x64x512.size inb_S1x16x128x512_S1x1x64x512_0_7_64_0, k0_pay35 qe⟩,
    ⟨Rect.unit (s := S1x16x128x512) ![0, 7, 0, 0] S1x1x64x512.size inb_S1x16x128x512_S1x1x64x512_0_7_0_0, k0_pay34 ht⟩,
    ⟨Rect.unit (s := S1x16x128x512) ![0, 6, 64, 0] S1x1x64x512.size inb_S1x16x128x512_S1x1x64x512_0_6_64_0, k0_pay33 (k0_pay32 qe)⟩,
    ⟨Rect.unit (s := S1x16x128x512) ![0, 6, 0, 0] S1x1x64x512.size inb_S1x16x128x512_S1x1x64x512_0_6_0_0, k0_pay31 ht⟩,
    ⟨Rect.unit (s := S1x16x128x512) ![0, 5, 64, 0] S1x1x64x512.size inb_S1x16x128x512_S1x1x64x512_0_5_64_0, k0_pay30 qe⟩,
    ⟨Rect.unit (s := S1x16x128x512) ![0, 5, 0, 0] S1x1x64x512.size inb_S1x16x128x512_S1x1x64x512_0_5_0_0, k0_pay29 ht⟩,
    ⟨Rect.unit (s := S1x16x128x512) ![0, 4, 64, 0] S1x1x64x512.size inb_S1x16x128x512_S1x1x64x512_0_4_64_0, k0_pay28 qe⟩,
    ⟨Rect.unit (s := S1x16x128x512) ![0, 4, 0, 0] S1x1x64x512.size inb_S1x16x128x512_S1x1x64x512_0_4_0_0, k0_pay27 ht⟩,
    ⟨Rect.unit (s := S1x16x128x512) ![0, 3, 64, 0] S1x1x64x512.size inb_S1x16x128x512_S1x1x64x512_0_3_64_0, k0_pay26 qe⟩,
    ⟨Rect.unit (s := S1x16x128x512) ![0, 3, 0, 0] S1x1x64x512.size inb_S1x16x128x512_S1x1x64x512_0_3_0_0, k0_pay25 ht⟩,
    ⟨Rect.unit (s := S1x16x128x512) ![0, 2, 64, 0] S1x1x64x512.size inb_S1x16x128x512_S1x1x64x512_0_2_64_0, k0_pay24 qe⟩,
    ⟨Rect.unit (s := S1x16x128x512) ![0, 2, 0, 0] S1x1x64x512.size inb_S1x16x128x512_S1x1x64x512_0_2_0_0, k0_pay23 ht⟩,
    ⟨Rect.unit (s := S1x16x128x512) ![0, 1, 64, 0] S1x1x64x512.size inb_S1x16x128x512_S1x1x64x512_0_1_64_0, k0_pay22 qe⟩,
    ⟨Rect.unit (s := S1x16x128x512) ![0, 1, 0, 0] S1x1x64x512.size inb_S1x16x128x512_S1x1x64x512_0_1_0_0, k0_pay21 (k0_pay20 ht)⟩,
    ⟨Rect.unit (s := S1x16x128x512) ![0, 0, 64, 0] S1x1x64x512.size inb_S1x16x128x512_S1x1x64x512_0_0_64_0, e0⟩,
    ⟨Rect.unit (s := S1x16x128x512) ![0, 0, 0, 0] S1x1x64x512.size inb_S1x16x128x512_S1x1x64x512_0_0_0_0, k0_pay18 ht⟩]

/-- A prompt's extended queries. -/
def queriesOf (i : grid0.Coords) (x1 x2 : Vec F S512x1024 .f32) (x3 : Vec F S1536x1024 .bf16) (x4 : Vec F S1024x384 .bf16) (x5 : Vec F S1x128 .f32) (x7 : Vec F S1024x64 .bf16)
    (R : Vec F S8x128 .f32) : Vec F S1x16x128x512 .bf16 :=
  View.canon (pieces (prods i x1 x2 x3) (k0_pay17 lane (logs i x1 x2 x4 x5 R) k0_pay14 x7) (k0_pay19 lane (logs i x1 x2 x4 x5 R) k0_pay14 x7))

/-- One piece holds the cells of its head and its half. -/
theorem mem_piece (n k : ℕ) (inb : ∀ a, (![0, n, k, 0] : Fin 4 → ℕ) a + S1x1x64x512.size a ≤ S1x16x128x512.size a) (y : S1x16x128x512.Idx)
    (h : (y 1).val = n) (h' : k ≤ (y 2).val ∧ (y 2).val < k + 64) : y ∈ (Rect.unit (s := S1x16x128x512) ![0, n, k, 0] S1x1x64x512.size inb).set := by
  rw [Rect.mem_set_unit]
  have h0 : (y 0).val < 1 := (y 0).isLt
  have h3 : (y 3).val < 512 := (y 3).isLt
  intro a
  fin_cases a
  · show 0 ≤ (y 0).val ∧ (y 0).val < 0 + 1; omega
  · show n ≤ (y 1).val ∧ (y 1).val < n + 1; omega
  · exact h'
  · show 0 ≤ (y 3).val ∧ (y 3).val < 0 + 512; omega

/-- A piece that stands at the place `j` of the list is one of it. -/
theorem piece_at {L : List (View.Piece (Elt F) S1x16x128x512 .bf16)} (y : S1x16x128x512.Idx) (j : ℕ) {p : View.Piece (Elt F) S1x16x128x512 .bf16}
    (h : L[j]? = some p) (hy : y ∈ p.1.set) : ∃ p ∈ L, y ∈ p.1.set := ⟨p, List.mem_of_getElem? h, hy⟩

/-- The pieces hold every cell. -/
theorem pieces_at (ht : FVec F S1536x512 .f32) (qe : FVec F S1024x512 .f32) (e0 : FVec F S1x1x64x512 .bf16) (y : S1x16x128x512.Idx) (n k : ℕ)
    (hn : n < 16) (hk : k < 2) (en : (y 1).val = n) (ek : (y 2).val / 64 = k) : ∃ p ∈ pieces ht qe e0, y ∈ p.1.set := by
  interval_cases n <;> interval_cases k
  · exact piece_at y 31 rfl (mem_piece 0 0 inb_S1x16x128x512_S1x1x64x512_0_0_0_0 y en (by omega))
  · exact piece_at y 30 rfl (mem_piece 0 64 inb_S1x16x128x512_S1x1x64x512_0_0_64_0 y en (by omega))
  · exact piece_at y 29 rfl (mem_piece 1 0 inb_S1x16x128x512_S1x1x64x512_0_1_0_0 y en (by omega))
  · exact piece_at y 28 rfl (mem_piece 1 64 inb_S1x16x128x512_S1x1x64x512_0_1_64_0 y en (by omega))
  · exact piece_at y 27 rfl (mem_piece 2 0 inb_S1x16x128x512_S1x1x64x512_0_2_0_0 y en (by omega))
  · exact piece_at y 26 rfl (mem_piece 2 64 inb_S1x16x128x512_S1x1x64x512_0_2_64_0 y en (by omega))
  · exact piece_at y 25 rfl (mem_piece 3 0 inb_S1x16x128x512_S1x1x64x512_0_3_0_0 y en (by omega))
  · exact piece_at y 24 rfl (mem_piece 3 64 inb_S1x16x128x512_S1x1x64x512_0_3_64_0 y en (by omega))
  · exact piece_at y 23 rfl (mem_piece 4 0 inb_S1x16x128x512_S1x1x64x512_0_4_0_0 y en (by omega))
  · exact piece_at y 22 rfl (mem_piece 4 64 inb_S1x16x128x512_S1x1x64x512_0_4_64_0 y en (by omega))
  · exact piece_at y 21 rfl (mem_piece 5 0 inb_S1x16x128x512_S1x1x64x512_0_5_0_0 y en (by omega))
  · exact piece_at y 20 rfl (mem_piece 5 64 inb_S1x16x128x512_S1x1x64x512_0_5_64_0 y en (by omega))
  · exact piece_at y 19 rfl (mem_piece 6 0 inb_S1x16x128x512_S1x1x64x512_0_6_0_0 y en (by omega))
  · exact piece_at y 18 rfl (mem_piece 6 64 inb_S1x16x128x512_S1x1x64x512_0_6_64_0 y en (by omega))
  · exact piece_at y 17 rfl (mem_piece 7 0 inb_S1x16x128x512_S1x1x64x512_0_7_0_0 y en (by omega))
  · exact piece_at y 16 rfl (mem_piece 7 64 inb_S1x16x128x512_S1x1x64x512_0_7_64_0 y en (by omega))
  · exact piece_at y 15 rfl (mem_piece 8 0 inb_S1x16x128x512_S1x1x64x512_0_8_0_0 y en (by omega))
  · exact piece_at y 14 rfl (mem_piece 8 64 inb_S1x16x128x512_S1x1x64x512_0_8_64_0 y en (by omega))
  · exact piece_at y 13 rfl (mem_piece 9 0 inb_S1x16x128x512_S1x1x64x512_0_9_0_0 y en (by omega))
  · exact piece_at y 12 rfl (mem_piece 9 64 inb_S1x16x128x512_S1x1x64x512_0_9_64_0 y en (by omega))
  · exact piece_at y 11 rfl (mem_piece 10 0 inb_S1x16x128x512_S1x1x64x512_0_10_0_0 y en (by omega))
  · exact piece_at y 10 rfl (mem_piece 10 64 inb_S1x16x128x512_S1x1x64x512_0_10_64_0 y en (by omega))
  · exact piece_at y 9 rfl (mem_piece 11 0 inb_S1x16x128x512_S1x1x64x512_0_11_0_0 y en (by omega))
  · exact piece_at y 8 rfl (mem_piece 11 64 inb_S1x16x128x512_S1x1x64x512_0_11_64_0 y en (by omega))
  · exact piece_at y 7 rfl (mem_piece 12 0 inb_S1x16x128x512_S1x1x64x512_0_12_0_0 y en (by omega))
  · exact piece_at y 6 rfl (mem_piece 12 64 inb_S1x16x128x512_S1x1x64x512_0_12_64_0 y en (by omega))
  · exact piece_at y 5 rfl (mem_piece 13 0 inb_S1x16x128x512_S1x1x64x512_0_13_0_0 y en (by omega))
  · exact piece_at y 4 rfl (mem_piece 13 64 inb_S1x16x128x512_S1x1x64x512_0_13_64_0 y en (by omega))
  · exact piece_at y 3 rfl (mem_piece 14 0 inb_S1x16x128x512_S1x1x64x512_0_14_0_0 y en (by omega))
  · exact piece_at y 2 rfl (mem_piece 14 64 inb_S1x16x128x512_S1x1x64x512_0_14_64_0 y en (by omega))
  · exact piece_at y 1 rfl (mem_piece 15 0 inb_S1x16x128x512_S1x1x64x512_0_15_0_0 y en (by omega))
  · exact piece_at y 0 rfl (mem_piece 15 64 inb_S1x16x128x512_S1x1x64x512_0_15_64_0 y en (by omega))

theorem pieces_cover (ht : FVec F S1536x512 .f32) (qe : FVec F S1024x512 .f32) (e0 : FVec F S1x1x64x512 .bf16) (y : S1x16x128x512.Idx) :
    ∃ p ∈ pieces ht qe e0, y ∈ p.1.set :=
  pieces_at ht qe e0 y _ _ (y 1).isLt (by have : (y 2).val < 128 := (y 2).isLt; omega) rfl rfl

theorem read_put (M : Memref sig .tc .vmem S8x128 .f32) (f : M.view.ty.Contents (Elt F)) (w : FVec F S1x128 .f32) :
    M.view.read (Elt F) (M.view.writes (Elt F) f [⟨Rect.unit (s := S8x128) ![0, 0] S1x128.size inb_S8x128_S1x128_0_0, w⟩])
      = fun y => if h : ∀ a, (![0, 0] : Fin 2 → ℕ) a ≤ (y a).val ∧ (y a).val < (![0, 0] : Fin 2 → ℕ) a + S1x128.size a then
        w (Rect.unitLocal (s := S8x128) (off := ![0, 0]) (size := S1x128.size) y h) else M.view.read (Elt F) f y :=
  funext fun y => View.read_writes_cons_unit M.view f inb_S8x128_S1x128_0_0 w [] y rfl

theorem sound_odd (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1536x1024 .bf16) (harg3 : arg3.IsWhole)
    (arg4 : Memref sig .tc .vmem S1024x384 .bf16) (harg4 : arg4.IsWhole)
    (arg5 : Memref sig .tc .vmem S1x128 .f32) (harg5 : arg5.IsWhole)
    (arg6 : Memref sig .tc .vmem S384x512 .bf16) (harg6 : arg6.IsWhole)
    (arg7 : Memref sig .tc .vmem S1024x64 .bf16) (harg7 : arg7.IsWhole)
    (arg8 : Memref sig .tc .vmem S1x16x128x512 .bf16) (harg8 : arg8.IsWhole)
    (arg9 : Memref sig .tc .vmem S512x512 .bf16) (harg9 : arg9.IsWhole)
    (arg10 : Memref sig .tc .vmem S1x256x512 .f32) (harg10 : arg10.IsWhole)
    (arg11 : Memref sig .tc .vmem S1x256x512 .f32) (harg11 : arg11.IsWhole)
    (arg12 : Memref sig .tc .vmem S1x16x512 .f32) (harg12 : arg12.IsWhole)
    (arg13 : Memref sig .tc .vmem S1024x128 .f32) (harg13 : arg13.IsWhole)
    (arg14 : Memref sig .tc .vmem S256x128 .f32) (harg14 : arg14.IsWhole)
    (arg15 : Memref sig .tc .vmem S256x128 .f32) (harg15 : arg15.IsWhole)
    (arg16 : Memref sig .tc .vmem S16x128 .f32) (harg16 : arg16.IsWhole)
    (arg17 : Memref sig .tc .vmem S8x128 .f32) (harg17 : arg17.IsWhole)
    (arg18 : Memref sig .tc .vmem S512x128 .f32) (harg18 : arg18.IsWhole)
    (x1 : Vec F S512x1024 .f32) (x2 : Vec F S512x1024 .f32) (x3 : Vec F S1536x1024 .bf16) (x4 : Vec F S1024x384 .bf16) (x5 : Vec F S1x128 .f32) (x6 : Vec F S384x512 .bf16) (x7 : Vec F S1024x64 .bf16) (x8 : Vec F S1x16x128x512 .bf16) (x9 : Vec F S512x512 .bf16) (x10 : Vec F S1x256x512 .f32) (x11 : Vec F S1x256x512 .f32) (x12 : Vec F S1x16x512 .f32) (x13 : Vec F S1024x128 .f32) (x14 : Vec F S256x128 .f32) (x15 : Vec F S256x128 .f32) (x16 : Vec F S16x128 .f32) (x17 : Vec F S8x128 .f32) (x18 : Vec F S512x128 .f32) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ owns (c : Thread nD τ) arg18 fullShare x18
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare (if k0_cond1 i = 1#1 then queriesOf i x1 x2 x3 x4 x5 x7 (restart i x17) else x8)
      ∗ owns (c : Thread nD τ) arg9 fullShare (if k0_cond1 i = 1#1 then keysOf i x1 x2 x4 x5 x6 (restart i x17) else x9)
      ∗ owns (c : Thread nD τ) arg10 fullShare (if k0_cond1 i = 1#1 then k0_pay55 (prods i x1 x2 x3) else x10)
      ∗ owns (c : Thread nD τ) arg11 fullShare (if k0_cond1 i = 1#1 then k0_pay56 (prods i x1 x2 x3) else x11)
      ∗ owns (c : Thread nD τ) arg12 fullShare (if k0_cond1 i = 1#1 then k0_pay61 i x1 x2 x4 x5 else x12)
      ∗ owns (c : Thread nD τ) arg13 fullShare (if k0_cond3 i = 1#1 then k0_pay2 (k0_pay57 i x1 x2) x3 else x13)
      ∗ owns (c : Thread nD τ) arg14 fullShare (if k0_cond3 i = 1#1 then k0_pay3 (k0_pay57 i x1 x2) x3 else x14)
      ∗ owns (c : Thread nD τ) arg15 fullShare (if k0_cond3 i = 1#1 then k0_pay4 (k0_pay57 i x1 x2) x3 else x15)
      ∗ owns (c : Thread nD τ) arg16 fullShare (if k0_cond3 i = 1#1 then k0_pay5 (k0_pay60 i x1 x2 x4 x5) else x16)
      ∗ owns (c : Thread nD τ) arg17 fullShare (if k0_cond1 i = 1#1 then carryOn i x1 x2 x4 x5 (restart i x17) else x17)
      ∗ (∃ r, owns (c : Thread nD τ) arg18 fullShare r)) -∗ K ⟨⟩))
      ⊢ wp frame (wpE (defs₀ (F := F)) Variants.none (c : Thread nD τ) none) Set.univ
        (cc0_odd_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_odd_in_eq_skeleton]; unfold cc0_odd_in_skel
  rw [k0_part10_eq_skeleton]; unfold k0_part10_skel
  rw [k0_part9_eq_skeleton]; unfold k0_part9_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  rw [k0_part5_eq_skeleton]; unfold k0_part5_skel
  rw [k0_part6_eq_skeleton]; unfold k0_part6_skel
  rw [k0_part7_eq_skeleton]; unfold k0_part7_skel
  rw [k0_part8_eq_skeleton]; unfold k0_part8_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  sl_exec
  sl_step
  have e1 := (readAt_all arg1 inb_S512x1024_S512x1024_0_0 (fun a => by fin_cases a <;> rfl) f1).trans hf1
  have e2 := (readAt_all arg2 inb_S512x1024_S512x1024_0_0 (fun a => by fin_cases a <;> rfl) f2).trans hf2
  have e3 := (readAt_all arg3 inb_S1536x1024_S1536x1024_0_0 (fun a => by fin_cases a <;> rfl) f3).trans hf3
  have e4 := (readAt_all arg4 inb_S1024x384_S1024x384_0_0 (fun a => by fin_cases a <;> rfl) f4).trans hf4
  have e5 := (readAt_all arg5 inb_S1x128_S1x128_0_0 (fun a => by fin_cases a <;> rfl) f5).trans hf5
  have e6 := (readAt_all arg6 inb_S384x512_S384x512_0_0 (fun a => by fin_cases a <;> rfl) f6).trans hf6
  have e7 := (readAt_all arg7 inb_S1024x64_S1024x64_0_0 (fun a => by fin_cases a <;> rfl) f7).trans hf7
  have e85 : sound_odd.sl.v85 c i arg1 arg2 arg4 arg5 arg18 f1 f2 f4 f5 = sums i x1 x2 x4 x5 := by
    unfold sound_odd.sl.v85 sound_odd.sl.H18_1 sound_odd.sl.r_1 sums
    rw [View.readCov_cons_toLoadRect, e1, e2, e4, e5]
    rfl
  have er : arg17.view.read (Elt F) (if hc : sound_odd.sl.v52 i = 1#1 then
      arg17.view.writes (Elt F) f17 [⟨Rect.unit ![0, 0] S8x128.size inb_S8x128_S8x128_0_0, k0_pay6⟩] else f17) = restart i x17 := by
    unfold restart
    rw [show sound_odd.sl.v52 i = atFirst i from rfl]
    by_cases h : atFirst i = 1#1
    · rw [dif_pos h, if_pos h, read_whole arg17 _ (fun a => by fin_cases a <;> rfl)]
    · rw [dif_neg h, if_neg h, hf17]
  have e94 : sound_odd.sl.v94 c i arg17 f17 = row0 (restart i x17) := by
    unfold sound_odd.sl.v94 row0
    rw [readAt_ld, er]
  have ert : sound_odd.sl.r c i arg1 arg2 arg3 f1 f2 f3 = prods i x1 x2 x3 := by
    unfold sound_odd.sl.r prods
    rw [e1, e2, e3]
  have ev : sound_odd.sl.v10 = lane := rfl
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists _; isplitr
    swap; · iexact H8
    ipureintro
    by_cases h1 : k0_cond1 i = 1#1
    · rw [dif_pos h1, if_pos h1]
      refine (show _ = View.canon (pieces (sound_odd.sl.r c i arg1 arg2 arg3 f1 f2 f3)
        (k0_pay17 sound_odd.sl.v10 (k0_pay13 sound_odd.sl.v10 (sound_odd.sl.v85 c i arg1 arg2 arg4 arg5 arg18 f1 f2 f4 f5) (sound_odd.sl.v94 c i arg17 f17)) k0_pay14
          (View.readAt (Elt F) arg7.view (Rect.unit ![0, 0] S1024x64.size inb_S1024x64_S1024x64_0_0).toLoadRect f7))
        (k0_pay19 sound_odd.sl.v10 (k0_pay13 sound_odd.sl.v10 (sound_odd.sl.v85 c i arg1 arg2 arg4 arg5 arg18 f1 f2 f4 f5) (sound_odd.sl.v94 c i arg17 f17)) k0_pay14
          (View.readAt (Elt F) arg7.view (Rect.unit ![0, 0] S1024x64.size inb_S1024x64_S1024x64_0_0).toLoadRect f7))) from
        View.read_writes_eq_canon _ _ _ (pieces_cover _ _ _)).trans ?_
      rw [ert, e85, e94, e7, ev]
      rfl
    rw [dif_neg h1, if_neg h1, hf8]
  isplitl [H9]
  · iexists _; isplitr
    swap; · iexact H9
    ipureintro
    by_cases h1 : k0_cond1 i = 1#1
    · rw [dif_pos h1, if_pos h1]
      rw [read_whole arg9 _ (fun a => by fin_cases a <;> rfl), e1, e2, e4, e6, e85, e94, ev]
      rfl
    rw [dif_neg h1, if_neg h1, hf9]
  isplitl [H10]
  · iexists _; isplitr
    swap; · iexact H10
    ipureintro
    by_cases h1 : k0_cond1 i = 1#1
    · rw [dif_pos h1, if_pos h1]
      rw [read_whole arg10 _ (fun a => by fin_cases a <;> rfl), ert]
    rw [dif_neg h1, if_neg h1, hf10]
  isplitl [H11]
  · iexists _; isplitr
    swap; · iexact H11
    ipureintro
    by_cases h1 : k0_cond1 i = 1#1
    · rw [dif_pos h1, if_pos h1]
      rw [read_whole arg11 _ (fun a => by fin_cases a <;> rfl), ert]
    rw [dif_neg h1, if_neg h1, hf11]
  isplitl [H12]
  · iexists _; isplitr
    swap; · iexact H12
    ipureintro
    by_cases h1 : k0_cond1 i = 1#1
    · rw [dif_pos h1, if_pos h1]
      rw [read_whole arg12 _ (fun a => by fin_cases a <;> rfl), e1, e2, e4, e5]
    rw [dif_neg h1, if_neg h1, hf12]
  isplitl [H13]
  · iexists _; isplitr
    swap; · iexact H13
    ipureintro
    by_cases h1 : k0_cond3 i = 1#1
    · rw [dif_pos h1, if_pos h1]
      unfold sound_odd.sl.r_2
      rw [read_whole arg13 _ (fun a => by fin_cases a <;> rfl), e1, e2, e3]
    rw [dif_neg h1, if_neg h1, hf13]
  isplitl [H14]
  · iexists _; isplitr
    swap; · iexact H14
    ipureintro
    by_cases h1 : k0_cond3 i = 1#1
    · rw [dif_pos h1, if_pos h1]
      unfold sound_odd.sl.r_2
      rw [read_whole arg14 _ (fun a => by fin_cases a <;> rfl), e1, e2, e3]
    rw [dif_neg h1, if_neg h1, hf14]
  isplitl [H15]
  · iexists _; isplitr
    swap; · iexact H15
    ipureintro
    by_cases h1 : k0_cond3 i = 1#1
    · rw [dif_pos h1, if_pos h1]
      unfold sound_odd.sl.r_2
      rw [read_whole arg15 _ (fun a => by fin_cases a <;> rfl), e1, e2, e3]
    rw [dif_neg h1, if_neg h1, hf15]
  isplitl [H16]
  · iexists _; isplitr
    swap; · iexact H16
    ipureintro
    by_cases h1 : k0_cond3 i = 1#1
    · rw [dif_pos h1, if_pos h1]
      unfold sound_odd.sl.r_3
      rw [read_whole arg16 _ (fun a => by fin_cases a <;> rfl), e1, e2, e4, e5]
    rw [dif_neg h1, if_neg h1, hf16]
  isplitl [H17]
  · iexists _; isplitr
    swap; · iexact H17
    ipureintro
    by_cases h1 : k0_cond1 i = 1#1
    · rw [dif_pos h1, if_pos h1]
      rw [read_put, er, e85, e94, ev]
      rfl
    rw [dif_neg h1, if_neg h1, hf17]
  iexists _; iexists _; isplitr
  swap; · iexact H18
  ipureintro; rfl

/-! ## The proof data -/

variable (m : (ℓ : Loc nD τ sig) → Buf (Elt F) ℓ) (ρ : Dev nD → PrngReg)

/-- The carried sums behind a point, from those before it. -/
def stepC (c : Dev nD) (t : Fin cfg0.N) (C : Vec F S8x128 .f32) : Vec F S8x128 .f32 :=
  if k0_cond1 (grid0.coords t) = 1#1 then
    carryOn (grid0.coords t) (iblk m c 0 t) (iblk m c 1 t) (iblk m c 3 t) (iblk m c 4 t) (restart (grid0.coords t) C) else C

/-- The carried sums before point `n`. -/
def scr (c : Dev nD) : ℕ → Vec F S8x128 .f32
  | 0 => k0_pay6
  | n + 1 => if h : n < cfg0.N then stepC m c ⟨n, h⟩ (scr c n) else scr c n

/-! A prompt's blocks: the extended queries and keys, the transposed keys, values and gates; and the sample's. -/

def qaB (c : Dev nD) (t : Fin cfg0.N) : Vec F S1x16x128x512 .bf16 := queriesOf (grid0.coords t) (iblk m c 0 t) (iblk m c 1 t) (iblk m c 2 t) (iblk m c 3 t) (iblk m c 4 t) (iblk m c 6 t) (restart (grid0.coords t) (scr m c t.val))
def kaB (c : Dev nD) (t : Fin cfg0.N) : FVec F S512x512 .bf16 := keysOf (grid0.coords t) (iblk m c 0 t) (iblk m c 1 t) (iblk m c 3 t) (iblk m c 4 t) (iblk m c 5 t) (restart (grid0.coords t) (scr m c t.val))
def ktB (c : Dev nD) (t : Fin cfg0.N) : FVec F S1x256x512 .f32 := k0_pay55 (prods (grid0.coords t) (iblk m c 0 t) (iblk m c 1 t) (iblk m c 2 t))
def vtB (c : Dev nD) (t : Fin cfg0.N) : FVec F S1x256x512 .f32 := k0_pay56 (prods (grid0.coords t) (iblk m c 0 t) (iblk m c 1 t) (iblk m c 2 t))
def lfB (c : Dev nD) (t : Fin cfg0.N) : FVec F S1x16x512 .f32 := k0_pay61 (grid0.coords t) (iblk m c 0 t) (iblk m c 1 t) (iblk m c 3 t) (iblk m c 4 t)
def qsB (c : Dev nD) (t : Fin cfg0.N) : FVec F S1024x128 .f32 := k0_pay2 (k0_pay57 (grid0.coords t) (iblk m c 0 t) (iblk m c 1 t)) (iblk m c 2 t)
def ksB (c : Dev nD) (t : Fin cfg0.N) : FVec F S256x128 .f32 := k0_pay3 (k0_pay57 (grid0.coords t) (iblk m c 0 t) (iblk m c 1 t)) (iblk m c 2 t)
def vsB (c : Dev nD) (t : Fin cfg0.N) : FVec F S256x128 .f32 := k0_pay4 (k0_pay57 (grid0.coords t) (iblk m c 0 t) (iblk m c 1 t)) (iblk m c 2 t)
def lsB (c : Dev nD) (t : Fin cfg0.N) : FVec F S16x128 .f32 := k0_pay5 (k0_pay60 (grid0.coords t) (iblk m c 0 t) (iblk m c 1 t) (iblk m c 3 t) (iblk m c 4 t))

/-- The last prompt's point up to `t`; the sample's point. -/
def lastP (t : Fin cfg0.N) : Fin cfg0.N := ⟨min t.val 31, lt_of_le_of_lt (Nat.min_le_left _ _) t.isLt⟩
def sampleP : Fin cfg0.N := ⟨32, by decide⟩

/-- Before point `n`: the carried sums (at anything before the first point), the tile's sums and the generator's register. -/
def inv (c : Dev nD) (n : ℕ) : sProp 𝕄 :=
  iprop(∃ C, ⌜n ≠ 0 → C = scr m c n⌝ ∗ owns (c : Thread nD τ) (Memref.whole cc0_scratch0) fullShare C
    ∗ (∃ r, owns (c : Thread nD τ) (Memref.whole cc0_scratch1) fullShare r) ∗ ∃ r, prngReg c r)

/-- The arrays as the launch finds them; after a point each input's buffer at its block, the outputs' at the block last stored. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qaB m c (lastP t)
    | ⟨8, _⟩ => kaB m c (lastP t)
    | ⟨9, _⟩ => ktB m c (lastP t)
    | ⟨10, _⟩ => vtB m c (lastP t)
    | ⟨11, _⟩ => lfB m c (lastP t)
    | ⟨12, _⟩ => qsB m c sampleP
    | ⟨13, _⟩ => ksB m c sampleP
    | ⟨14, _⟩ => vsB m c sampleP
    | ⟨15, _⟩ => lsB m c sampleP
    | ⟨n + 16, h⟩ => absurd h (Nat.not_lt.mpr (Nat.le_add_left 16 n))
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qaB m c (lastP t) := by dsimp only [dats]
theorem after0_8 (c : Dev nD) (t : Fin cfg0.N) : (dats m 0 c).after 8 t = kaB m c (lastP t) := by dsimp only [dats]
theorem after0_9 (c : Dev nD) (t : Fin cfg0.N) : (dats m 0 c).after 9 t = ktB m c (lastP t) := by dsimp only [dats]
theorem after0_10 (c : Dev nD) (t : Fin cfg0.N) : (dats m 0 c).after 10 t = vtB m c (lastP t) := by dsimp only [dats]
theorem after0_11 (c : Dev nD) (t : Fin cfg0.N) : (dats m 0 c).after 11 t = lfB m c (lastP t) := by dsimp only [dats]
theorem after0_12 (c : Dev nD) (t : Fin cfg0.N) : (dats m 0 c).after 12 t = qsB m c sampleP := by dsimp only [dats]
theorem after0_13 (c : Dev nD) (t : Fin cfg0.N) : (dats m 0 c).after 13 t = ksB m c sampleP := by dsimp only [dats]
theorem after0_14 (c : Dev nD) (t : Fin cfg0.N) : (dats m 0 c).after 14 t = vsB m c sampleP := by dsimp only [dats]
theorem after0_15 (c : Dev nD) (t : Fin cfg0.N) : (dats m 0 c).after 15 t = lsB m c sampleP := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Which points store what -/

theorem cond1_at : ∀ t : Fin cfg0.N, (k0_cond1 (grid0.coords t) = 1#1 ↔ t.val < 32) := by decide +kernel
theorem cond3_at : ∀ t : Fin cfg0.N, (k0_cond3 (grid0.coords t) = 1#1 ↔ t.val = 32) := by decide +kernel
theorem first_at : ∀ t : Fin cfg0.N, t.val = 0 → atFirst (grid0.coords t) = 1#1 := by decide +kernel
theorem fresh7 : ∀ t : Fin cfg0.N, ¬ t.val < 32 → cfg0.fresh 7 t.val = false := by decide +kernel
theorem fresh8 : ∀ t : Fin cfg0.N, ¬ t.val < 32 → cfg0.fresh 8 t.val = false := by decide +kernel
theorem fresh9 : ∀ t : Fin cfg0.N, ¬ t.val < 32 → cfg0.fresh 9 t.val = false := by decide +kernel
theorem fresh10 : ∀ t : Fin cfg0.N, ¬ t.val < 32 → cfg0.fresh 10 t.val = false := by decide +kernel
theorem fresh11 : ∀ t : Fin cfg0.N, ¬ t.val < 32 → cfg0.fresh 11 t.val = false := by decide +kernel
theorem flush12 (t : Fin cfg0.N) (h : ¬ t.val = 32) : (cfg0.win 12).flush t = false := by
  rw [← Bool.not_eq_true, flush0_12]
  have := t.isLt.trans_eq N_0
  omega
theorem flush13 (t : Fin cfg0.N) (h : ¬ t.val = 32) : (cfg0.win 13).flush t = false := by
  rw [← Bool.not_eq_true, flush0_13]
  have := t.isLt.trans_eq N_0
  omega
theorem flush14 (t : Fin cfg0.N) (h : ¬ t.val = 32) : (cfg0.win 14).flush t = false := by
  rw [← Bool.not_eq_true, flush0_14]
  have := t.isLt.trans_eq N_0
  omega
theorem flush15 (t : Fin cfg0.N) (h : ¬ t.val = 32) : (cfg0.win 15).flush t = false := by
  rw [← Bool.not_eq_true, flush0_15]
  have := t.isLt.trans_eq N_0
  omega
theorem idle7 : ∀ t : Fin cfg0.N, cfg0.idle 7 (cfg0.grid.coords t) = !decide (t.val < 32) :=
  (by decide +kernel : ∀ t : Fin grid0.N, idle0 7 (grid0.coords t) = !decide (t.val < 32))
theorem idle8 : ∀ t : Fin cfg0.N, cfg0.idle 8 (cfg0.grid.coords t) = !decide (t.val < 32) :=
  (by decide +kernel : ∀ t : Fin grid0.N, idle0 8 (grid0.coords t) = !decide (t.val < 32))
theorem idle9 : ∀ t : Fin cfg0.N, cfg0.idle 9 (cfg0.grid.coords t) = !decide (t.val < 32) :=
  (by decide +kernel : ∀ t : Fin grid0.N, idle0 9 (grid0.coords t) = !decide (t.val < 32))
theorem idle10 : ∀ t : Fin cfg0.N, cfg0.idle 10 (cfg0.grid.coords t) = !decide (t.val < 32) :=
  (by decide +kernel : ∀ t : Fin grid0.N, idle0 10 (grid0.coords t) = !decide (t.val < 32))
theorem idle11 : ∀ t : Fin cfg0.N, cfg0.idle 11 (cfg0.grid.coords t) = !decide (t.val < 32) :=
  (by decide +kernel : ∀ t : Fin grid0.N, idle0 11 (grid0.coords t) = !decide (t.val < 32))
theorem idle12 : ∀ t : Fin cfg0.N, cfg0.idle 12 (cfg0.grid.coords t) = !decide (t.val = 32) :=
  (by decide +kernel : ∀ t : Fin grid0.N, idle0 12 (grid0.coords t) = !decide (t.val = 32))
theorem idle13 : ∀ t : Fin cfg0.N, cfg0.idle 13 (cfg0.grid.coords t) = !decide (t.val = 32) :=
  (by decide +kernel : ∀ t : Fin grid0.N, idle0 13 (grid0.coords t) = !decide (t.val = 32))
theorem idle14 : ∀ t : Fin cfg0.N, cfg0.idle 14 (cfg0.grid.coords t) = !decide (t.val = 32) :=
  (by decide +kernel : ∀ t : Fin grid0.N, idle0 14 (grid0.coords t) = !decide (t.val = 32))
theorem idle15 : ∀ t : Fin cfg0.N, cfg0.idle 15 (cfg0.grid.coords t) = !decide (t.val = 32) :=
  (by decide +kernel : ∀ t : Fin grid0.N, idle0 15 (grid0.coords t) = !decide (t.val = 32))

/-! At the sample's point the prompts' buffers hold the blocks of point 31. -/

theorem before7 (c : Dev nD) (t : Fin cfg0.N) (h : ¬ t.val < 32) (d) : (dats m 0 c).before 7 t d = qaB m c (lastP t) := by
  have ht := t.isLt.trans_eq N_0
  refine ((dats m 0 c).before_out_traj 7 rfl (fun _ _ => rfl) (fun t ht hi hf => ?_) t.val t rfl d).trans
    ((if_neg (by rw [fresh7 t h]; decide)).trans ((after0_7 m c _).trans (congrArg (qaB m c) (Fin.ext ?_))))
  · have hi' := (idle7 t).symm.trans hi
    have hi'' : ¬ t.val < 32 := by simpa using hi'
    rw [after0_7, after0_7]
    refine congrArg (qaB m c) (Fin.ext ?_)
    show min t.val 31 = min (t.val - 1) 31
    omega
  · show min (t.val - 1) 31 = min t.val 31
    omega

theorem before8 (c : Dev nD) (t : Fin cfg0.N) (h : ¬ t.val < 32) (d) : (dats m 0 c).before 8 t d = kaB m c (lastP t) := by
  have ht := t.isLt.trans_eq N_0
  refine ((dats m 0 c).before_out_traj 8 rfl (fun _ _ => rfl) (fun t ht hi hf => ?_) t.val t rfl d).trans
    ((if_neg (by rw [fresh8 t h]; decide)).trans ((after0_8 m c _).trans (congrArg (kaB m c) (Fin.ext ?_))))
  · have hi' := (idle8 t).symm.trans hi
    have hi'' : ¬ t.val < 32 := by simpa using hi'
    rw [after0_8, after0_8]
    refine congrArg (kaB m c) (Fin.ext ?_)
    show min t.val 31 = min (t.val - 1) 31
    omega
  · show min (t.val - 1) 31 = min t.val 31
    omega

theorem before9 (c : Dev nD) (t : Fin cfg0.N) (h : ¬ t.val < 32) (d) : (dats m 0 c).before 9 t d = ktB m c (lastP t) := by
  have ht := t.isLt.trans_eq N_0
  refine ((dats m 0 c).before_out_traj 9 rfl (fun _ _ => rfl) (fun t ht hi hf => ?_) t.val t rfl d).trans
    ((if_neg (by rw [fresh9 t h]; decide)).trans ((after0_9 m c _).trans (congrArg (ktB m c) (Fin.ext ?_))))
  · have hi' := (idle9 t).symm.trans hi
    have hi'' : ¬ t.val < 32 := by simpa using hi'
    rw [after0_9, after0_9]
    refine congrArg (ktB m c) (Fin.ext ?_)
    show min t.val 31 = min (t.val - 1) 31
    omega
  · show min (t.val - 1) 31 = min t.val 31
    omega

theorem before10 (c : Dev nD) (t : Fin cfg0.N) (h : ¬ t.val < 32) (d) : (dats m 0 c).before 10 t d = vtB m c (lastP t) := by
  have ht := t.isLt.trans_eq N_0
  refine ((dats m 0 c).before_out_traj 10 rfl (fun _ _ => rfl) (fun t ht hi hf => ?_) t.val t rfl d).trans
    ((if_neg (by rw [fresh10 t h]; decide)).trans ((after0_10 m c _).trans (congrArg (vtB m c) (Fin.ext ?_))))
  · have hi' := (idle10 t).symm.trans hi
    have hi'' : ¬ t.val < 32 := by simpa using hi'
    rw [after0_10, after0_10]
    refine congrArg (vtB m c) (Fin.ext ?_)
    show min t.val 31 = min (t.val - 1) 31
    omega
  · show min (t.val - 1) 31 = min t.val 31
    omega

theorem before11 (c : Dev nD) (t : Fin cfg0.N) (h : ¬ t.val < 32) (d) : (dats m 0 c).before 11 t d = lfB m c (lastP t) := by
  have ht := t.isLt.trans_eq N_0
  refine ((dats m 0 c).before_out_traj 11 rfl (fun _ _ => rfl) (fun t ht hi hf => ?_) t.val t rfl d).trans
    ((if_neg (by rw [fresh11 t h]; decide)).trans ((after0_11 m c _).trans (congrArg (lfB m c) (Fin.ext ?_))))
  · have hi' := (idle11 t).symm.trans hi
    have hi'' : ¬ t.val < 32 := by simpa using hi'
    rw [after0_11, after0_11]
    refine congrArg (lfB m c) (Fin.ext ?_)
    show min t.val 31 = min (t.val - 1) 31
    omega
  · show min (t.val - 1) 31 = min t.val 31
    omega

/-- What the carried sums were before the first point does not matter. -/
theorem restart_eq (c : Dev nD) (t : Fin cfg0.N) (C : Vec F S8x128 .f32) (h : t.val ≠ 0 → C = scr m c t.val) :
    restart (grid0.coords t) C = restart (grid0.coords t) (scr m c t.val) := by
  by_cases h0 : t.val = 0
  · unfold restart
    rw [if_pos (first_at t h0), if_pos (first_at t h0)]
  · rw [← h h0]

theorem scr_succ (c : Dev nD) (t : Fin cfg0.N) : scr m c (t.val + 1) = stepC m c t (scr m c t.val) := by
  show (if h : t.val < cfg0.N then stepC m c ⟨t.val, h⟩ (scr m c t.val) else scr m c t.val) = _
  rw [dif_pos t.isLt]

theorem stepC_eq (c : Dev nD) (t : Fin cfg0.N) (C : Vec F S8x128 .f32) (h : t.val ≠ 0 → C = scr m c t.val) :
    stepC m c t C = scr m c (t.val + 1) := by
  rw [scr_succ]
  unfold stepC
  rw [restart_eq m c t C h]
  by_cases h1 : k0_cond1 (grid0.coords t) = 1#1
  · rw [if_pos h1, if_pos h1]
  · rw [if_neg h1, if_neg h1]
    exact h fun e => h1 ((cond1_at t).mpr (e ▸ (by decide)))

/-! ## The body at a point -/

/-! What the pipeline takes back of the outputs' buffers. -/

def left7 (c : Dev nD) (t : Fin cfg0.N) : sProp 𝕄 :=
  match cfg0.idle 7 (cfg0.grid.coords t) with
  | true => (match (cfg0.win 7).flush t with
    | false => iprop(∃ d, owns (c : Thread nD τ) (st0_7 t) fullShare ((dats m 0 c).before 7 t d))
    | true => owns (c : Thread nD τ) (st0_7 t) fullShare ((dats m 0 c).after 7 t))
  | false => owns (c : Thread nD τ) (st0_7 t) fullShare ((dats m 0 c).after 7 t)
def left8 (c : Dev nD) (t : Fin cfg0.N) : sProp 𝕄 :=
  match cfg0.idle 8 (cfg0.grid.coords t) with
  | true => (match (cfg0.win 8).flush t with
    | false => iprop(∃ d, owns (c : Thread nD τ) (st0_8 t) fullShare ((dats m 0 c).before 8 t d))
    | true => owns (c : Thread nD τ) (st0_8 t) fullShare ((dats m 0 c).after 8 t))
  | false => owns (c : Thread nD τ) (st0_8 t) fullShare ((dats m 0 c).after 8 t)
def left9 (c : Dev nD) (t : Fin cfg0.N) : sProp 𝕄 :=
  match cfg0.idle 9 (cfg0.grid.coords t) with
  | true => (match (cfg0.win 9).flush t with
    | false => iprop(∃ d, owns (c : Thread nD τ) (st0_9 t) fullShare ((dats m 0 c).before 9 t d))
    | true => owns (c : Thread nD τ) (st0_9 t) fullShare ((dats m 0 c).after 9 t))
  | false => owns (c : Thread nD τ) (st0_9 t) fullShare ((dats m 0 c).after 9 t)
def left10 (c : Dev nD) (t : Fin cfg0.N) : sProp 𝕄 :=
  match cfg0.idle 10 (cfg0.grid.coords t) with
  | true => (match (cfg0.win 10).flush t with
    | false => iprop(∃ d, owns (c : Thread nD τ) (st0_10 t) fullShare ((dats m 0 c).before 10 t d))
    | true => owns (c : Thread nD τ) (st0_10 t) fullShare ((dats m 0 c).after 10 t))
  | false => owns (c : Thread nD τ) (st0_10 t) fullShare ((dats m 0 c).after 10 t)
def left11 (c : Dev nD) (t : Fin cfg0.N) : sProp 𝕄 :=
  match cfg0.idle 11 (cfg0.grid.coords t) with
  | true => (match (cfg0.win 11).flush t with
    | false => iprop(∃ d, owns (c : Thread nD τ) (st0_11 t) fullShare ((dats m 0 c).before 11 t d))
    | true => owns (c : Thread nD τ) (st0_11 t) fullShare ((dats m 0 c).after 11 t))
  | false => owns (c : Thread nD τ) (st0_11 t) fullShare ((dats m 0 c).after 11 t)
def left12 (c : Dev nD) (t : Fin cfg0.N) : sProp 𝕄 :=
  match cfg0.idle 12 (cfg0.grid.coords t) with
  | true => (match (cfg0.win 12).flush t with
    | false => iprop(∃ d, owns (c : Thread nD τ) (st0_12 t) fullShare ((dats m 0 c).before 12 t d))
    | true => owns (c : Thread nD τ) (st0_12 t) fullShare ((dats m 0 c).after 12 t))
  | false => owns (c : Thread nD τ) (st0_12 t) fullShare ((dats m 0 c).after 12 t)
def left13 (c : Dev nD) (t : Fin cfg0.N) : sProp 𝕄 :=
  match cfg0.idle 13 (cfg0.grid.coords t) with
  | true => (match (cfg0.win 13).flush t with
    | false => iprop(∃ d, owns (c : Thread nD τ) (st0_13 t) fullShare ((dats m 0 c).before 13 t d))
    | true => owns (c : Thread nD τ) (st0_13 t) fullShare ((dats m 0 c).after 13 t))
  | false => owns (c : Thread nD τ) (st0_13 t) fullShare ((dats m 0 c).after 13 t)
def left14 (c : Dev nD) (t : Fin cfg0.N) : sProp 𝕄 :=
  match cfg0.idle 14 (cfg0.grid.coords t) with
  | true => (match (cfg0.win 14).flush t with
    | false => iprop(∃ d, owns (c : Thread nD τ) (st0_14 t) fullShare ((dats m 0 c).before 14 t d))
    | true => owns (c : Thread nD τ) (st0_14 t) fullShare ((dats m 0 c).after 14 t))
  | false => owns (c : Thread nD τ) (st0_14 t) fullShare ((dats m 0 c).after 14 t)
def left15 (c : Dev nD) (t : Fin cfg0.N) : sProp 𝕄 :=
  match cfg0.idle 15 (cfg0.grid.coords t) with
  | true => (match (cfg0.win 15).flush t with
    | false => iprop(∃ d, owns (c : Thread nD τ) (st0_15 t) fullShare ((dats m 0 c).before 15 t d))
    | true => owns (c : Thread nD τ) (st0_15 t) fullShare ((dats m 0 c).after 15 t))
  | false => owns (c : Thread nD τ) (st0_15 t) fullShare ((dats m 0 c).after 15 t)

theorem post7 (c : Dev nD) (t : Fin cfg0.N) (C : Vec F S8x128 .f32) (h0 : t.val ≠ 0 → C = scr m c t.val) (d) :
    (owns (c : Thread nD τ) (st0_7 t) fullShare (if k0_cond1 (grid0.coords t) = 1#1 then queriesOf (grid0.coords t) (iblk m c 0 t) (iblk m c 1 t) (iblk m c 2 t) (iblk m c 3 t) (iblk m c 4 t) (iblk m c 6 t) (restart (grid0.coords t) C) else (dats m 0 c).before 7 t d) : sProp 𝕄) ⊢ left7 m c t := by
  rw [restart_eq m c t C h0]
  change (owns (c : Thread nD τ) (st0_7 t) fullShare (if k0_cond1 (grid0.coords t) = 1#1 then qaB m c t else (dats m 0 c).before 7 t d) : sProp 𝕄) ⊢ left7 m c t
  unfold left7
  by_cases h : t.val < 32
  · have hi : cfg0.idle 7 (cfg0.grid.coords t) = false := (idle7 t).trans (by simp [h])
    have e : lastP t = t := Fin.ext (show min t.val 31 = t.val by omega)
    rw [hi, if_pos ((cond1_at t).mpr h), after0_7, e]
  · have hi : cfg0.idle 7 (cfg0.grid.coords t) = true := (idle7 t).trans (by simp [h])
    rw [hi, if_neg (fun e => h ((cond1_at t).mp e))]
    cases hf : (cfg0.win 7).flush t
    · dsimp only
      iintro H
      iexists d
      iexact H
    · rw [before7 m c t h, after0_7]

theorem post8 (c : Dev nD) (t : Fin cfg0.N) (C : Vec F S8x128 .f32) (h0 : t.val ≠ 0 → C = scr m c t.val) (d) :
    (owns (c : Thread nD τ) (st0_8 t) fullShare (if k0_cond1 (grid0.coords t) = 1#1 then keysOf (grid0.coords t) (iblk m c 0 t) (iblk m c 1 t) (iblk m c 3 t) (iblk m c 4 t) (iblk m c 5 t) (restart (grid0.coords t) C) else (dats m 0 c).before 8 t d) : sProp 𝕄) ⊢ left8 m c t := by
  rw [restart_eq m c t C h0]
  change (owns (c : Thread nD τ) (st0_8 t) fullShare (if k0_cond1 (grid0.coords t) = 1#1 then kaB m c t else (dats m 0 c).before 8 t d) : sProp 𝕄) ⊢ left8 m c t
  unfold left8
  by_cases h : t.val < 32
  · have hi : cfg0.idle 8 (cfg0.grid.coords t) = false := (idle8 t).trans (by simp [h])
    have e : lastP t = t := Fin.ext (show min t.val 31 = t.val by omega)
    rw [hi, if_pos ((cond1_at t).mpr h), after0_8, e]
  · have hi : cfg0.idle 8 (cfg0.grid.coords t) = true := (idle8 t).trans (by simp [h])
    rw [hi, if_neg (fun e => h ((cond1_at t).mp e))]
    cases hf : (cfg0.win 8).flush t
    · dsimp only
      iintro H
      iexists d
      iexact H
    · rw [before8 m c t h, after0_8]

theorem post9 (c : Dev nD) (t : Fin cfg0.N) (d) :
    (owns (c : Thread nD τ) (st0_9 t) fullShare (if k0_cond1 (grid0.coords t) = 1#1 then ktB m c t else (dats m 0 c).before 9 t d) : sProp 𝕄) ⊢ left9 m c t := by
  unfold left9
  by_cases h : t.val < 32
  · have hi : cfg0.idle 9 (cfg0.grid.coords t) = false := (idle9 t).trans (by simp [h])
    have e : lastP t = t := Fin.ext (show min t.val 31 = t.val by omega)
    rw [hi, if_pos ((cond1_at t).mpr h), after0_9, e]
  · have hi : cfg0.idle 9 (cfg0.grid.coords t) = true := (idle9 t).trans (by simp [h])
    rw [hi, if_neg (fun e => h ((cond1_at t).mp e))]
    cases hf : (cfg0.win 9).flush t
    · dsimp only
      iintro H
      iexists d
      iexact H
    · rw [before9 m c t h, after0_9]

theorem post10 (c : Dev nD) (t : Fin cfg0.N) (d) :
    (owns (c : Thread nD τ) (st0_10 t) fullShare (if k0_cond1 (grid0.coords t) = 1#1 then vtB m c t else (dats m 0 c).before 10 t d) : sProp 𝕄) ⊢ left10 m c t := by
  unfold left10
  by_cases h : t.val < 32
  · have hi : cfg0.idle 10 (cfg0.grid.coords t) = false := (idle10 t).trans (by simp [h])
    have e : lastP t = t := Fin.ext (show min t.val 31 = t.val by omega)
    rw [hi, if_pos ((cond1_at t).mpr h), after0_10, e]
  · have hi : cfg0.idle 10 (cfg0.grid.coords t) = true := (idle10 t).trans (by simp [h])
    rw [hi, if_neg (fun e => h ((cond1_at t).mp e))]
    cases hf : (cfg0.win 10).flush t
    · dsimp only
      iintro H
      iexists d
      iexact H
    · rw [before10 m c t h, after0_10]

theorem post11 (c : Dev nD) (t : Fin cfg0.N) (d) :
    (owns (c : Thread nD τ) (st0_11 t) fullShare (if k0_cond1 (grid0.coords t) = 1#1 then lfB m c t else (dats m 0 c).before 11 t d) : sProp 𝕄) ⊢ left11 m c t := by
  unfold left11
  by_cases h : t.val < 32
  · have hi : cfg0.idle 11 (cfg0.grid.coords t) = false := (idle11 t).trans (by simp [h])
    have e : lastP t = t := Fin.ext (show min t.val 31 = t.val by omega)
    rw [hi, if_pos ((cond1_at t).mpr h), after0_11, e]
  · have hi : cfg0.idle 11 (cfg0.grid.coords t) = true := (idle11 t).trans (by simp [h])
    rw [hi, if_neg (fun e => h ((cond1_at t).mp e))]
    cases hf : (cfg0.win 11).flush t
    · dsimp only
      iintro H
      iexists d
      iexact H
    · rw [before11 m c t h, after0_11]

theorem post12 (c : Dev nD) (t : Fin cfg0.N) (d) :
    (owns (c : Thread nD τ) (st0_12 t) fullShare (if k0_cond3 (grid0.coords t) = 1#1 then qsB m c t else (dats m 0 c).before 12 t d) : sProp 𝕄) ⊢ left12 m c t := by
  unfold left12
  by_cases h : t.val = 32
  · have hi : cfg0.idle 12 (cfg0.grid.coords t) = false := (idle12 t).trans (by simp [h])
    have e : sampleP = t := Fin.ext h.symm
    rw [hi, if_pos ((cond3_at t).mpr h), after0_12, e]
  · have hi : cfg0.idle 12 (cfg0.grid.coords t) = true := (idle12 t).trans (by simp [h])
    rw [hi, if_neg (fun e => h ((cond3_at t).mp e)), flush12 t h]
    dsimp only
    iintro H
    iexists d
    iexact H

theorem post13 (c : Dev nD) (t : Fin cfg0.N) (d) :
    (owns (c : Thread nD τ) (st0_13 t) fullShare (if k0_cond3 (grid0.coords t) = 1#1 then ksB m c t else (dats m 0 c).before 13 t d) : sProp 𝕄) ⊢ left13 m c t := by
  unfold left13
  by_cases h : t.val = 32
  · have hi : cfg0.idle 13 (cfg0.grid.coords t) = false := (idle13 t).trans (by simp [h])
    have e : sampleP = t := Fin.ext h.symm
    rw [hi, if_pos ((cond3_at t).mpr h), after0_13, e]
  · have hi : cfg0.idle 13 (cfg0.grid.coords t) = true := (idle13 t).trans (by simp [h])
    rw [hi, if_neg (fun e => h ((cond3_at t).mp e)), flush13 t h]
    dsimp only
    iintro H
    iexists d
    iexact H

theorem post14 (c : Dev nD) (t : Fin cfg0.N) (d) :
    (owns (c : Thread nD τ) (st0_14 t) fullShare (if k0_cond3 (grid0.coords t) = 1#1 then vsB m c t else (dats m 0 c).before 14 t d) : sProp 𝕄) ⊢ left14 m c t := by
  unfold left14
  by_cases h : t.val = 32
  · have hi : cfg0.idle 14 (cfg0.grid.coords t) = false := (idle14 t).trans (by simp [h])
    have e : sampleP = t := Fin.ext h.symm
    rw [hi, if_pos ((cond3_at t).mpr h), after0_14, e]
  · have hi : cfg0.idle 14 (cfg0.grid.coords t) = true := (idle14 t).trans (by simp [h])
    rw [hi, if_neg (fun e => h ((cond3_at t).mp e)), flush14 t h]
    dsimp only
    iintro H
    iexists d
    iexact H

theorem post15 (c : Dev nD) (t : Fin cfg0.N) (d) :
    (owns (c : Thread nD τ) (st0_15 t) fullShare (if k0_cond3 (grid0.coords t) = 1#1 then lsB m c t else (dats m 0 c).before 15 t d) : sProp 𝕄) ⊢ left15 m c t := by
  unfold left15
  by_cases h : t.val = 32
  · have hi : cfg0.idle 15 (cfg0.grid.coords t) = false := (idle15 t).trans (by simp [h])
    have e : sampleP = t := Fin.ext h.symm
    rw [hi, if_pos ((cond3_at t).mpr h), after0_15, e]
  · have hi : cfg0.idle 15 (cfg0.grid.coords t) = true := (idle15 t).trans (by simp [h])
    rw [hi, if_neg (fun e => h ((cond3_at t).mp e)), flush15 t h]
    dsimp only
    iintro H
    iexists d
    iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ left7 m c t ∗ left8 m c t ∗ left9 m c t ∗ left10 m c t ∗ left11 m c t ∗ left12 m c t ∗ left13 m c t ∗ left14 m c t ∗ left15 m c t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, after0_6]
  unfold inv
  iintro ⟨⟨%C, %hC, Hs, ⟨%r, Hs1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_odd c _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) C r _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [Hs]; · iexact Hs
  isplitl [Hs1]; · iexact Hs1
  iintro ⟨H0, H1, H2, H3, H4, H5, H6, H7, H8, H9, H10, H11, H12, H13, H14, H15, Hs, Hs1⟩
  isplitl [Hs Hs1 Hr]
  · iexists _
    isplitr
    swap
    · isplitl [Hs]; · iexact Hs
      isplitl [Hs1]; · iexact Hs1
      iexact Hr
    ipureintro
    exact fun _ => stepC_eq m c t C hC
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (post7 m c t C hC d7)
    iexact H7
  isplitl [H8]
  · iapply (post8 m c t C hC d8)
    iexact H8
  isplitl [H9]
  · iapply (post9 m c t d9)
    unfold ktB
    iexact H9
  isplitl [H10]
  · iapply (post10 m c t d10)
    unfold vtB
    iexact H10
  isplitl [H11]
  · iapply (post11 m c t d11)
    unfold lfB
    iexact H11
  isplitl [H12]
  · iapply (post12 m c t d12)
    unfold qsB
    iexact H12
  isplitl [H13]
  · iapply (post13 m c t d13)
    unfold ksB
    iexact H13
  isplitl [H14]
  · iapply (post14 m c t d14)
    unfold vsB
    iexact H14
  iapply (post15 m c t d15)
  unfold lsB
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The arrays after the host lines behind the call. -/
abbrev W (c : Dev nD) (b : Ref sig .tc) : Buf (Elt F) ((c : Thread nD τ).loc b) := Pipeline.afterTail₀ cfgs (dats m) 0 (V0 m) [hostOps1] c b

theorem inv_in (c : Dev nD) : Pipeline.ΦA spec0 c ⊢ (inv m c 0 : sProp 𝕄) := by
  unfold Pipeline.ΦA inv owns
  rw [scopedRest0_eq]
  iintro ⟨⟨⟨%f0, H0⟩, ⟨%f1, H1⟩⟩, Hr⟩
  iexists f0
  isplitr
  · ipureintro; exact fun h => absurd rfl h
  simp only [Memref.view_whole, View.set_whole]
  isplitl [H0]
  · iexists f0; isplitr
    · ipureintro; rfl
    iexact H0
  isplitl [H1]
  · iexists f1; iexists f1; isplitr
    · ipureintro; rfl
    iexact H1
  iexact Hr

theorem inv_out (c : Dev nD) (n : ℕ) : (inv m c n : sProp 𝕄) ⊢ Pipeline.ΦA spec0 c := by
  unfold Pipeline.ΦA inv owns
  rw [scopedRest0_eq]
  simp only [Memref.view_whole, View.set_whole]
  iintro ⟨%C, %hC, ⟨%f0, %e0, H0⟩, ⟨%r, ⟨%f1, %e1, H1⟩⟩, Hr⟩
  isplitr [Hr]
  · isplitl [H0]
    · iexists f0; iexact H0
    iexists f1; iexact H1
  iexact Hr

set_option backward.isDefEq.respectTransparency.types false in
/-- The launch: the arrays end as the proof data says, and every counter ends at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := fun c => inv_out m c _)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Proof.OI

end
-- ==== Proof.Odd.Same.lean ====
/-
  The odd layers' projection's ideal kernel has the kernel's text: the procedures they run are the same, so the run that is proved of one, over
  any float values, is a run of the other.
-/
module

public import proofs.«01_k».proof.Proof.Odd.Body
public import proofs.«01_k».proof.Proof.Gen.Kernel5

@[expose] public section

set_option maxRecDepth 16384

namespace Cert.Proof.OI

open Idealize.ShloMosaic Idealize.ShloMosaic.TcCoe Idealize.SL.Sem

variable {F : FTy → Type} [FloatOps F]

set_option maxHeartbeats 4000000 in
theorem same_body : Cert.Kernel5.defs₀ (F := F) = Cert.Kernel5Ideal.defs₀ (F := F) := by
  unfold Cert.Kernel5.defs₀ Cert.Kernel5Ideal.defs₀
  refine congrArg Defs.onTc (funext fun l => funext fun x => ?_)
  match l with
  | ⟨0, _⟩ => rfl
  | ⟨n + 1, h⟩ => exact absurd h (Nat.not_lt.2 (Nat.le_add_left _ _))

/-- The two programs call the same procedures. -/
theorem same : Cert.Kernel5.defs (F := F) = Cert.Kernel5Ideal.defs (F := F) := congrArg (Pipeline.defs Cert.Kernel5Ideal.pcfgs) same_body

end Cert.Proof.OI
-- ==== Proof.Visits.Host.lean ====
/-
  The tables the experts' kernel is launched with: what the host code leaves in their buffers are the stages of Words.
-/
module

public import proofs.«01_k».proof.Proof.Gen.Kernel2Ideal.Launch
public import proofs.«01_k».proof.Proof.Visits.Words
public import Idealize.ShloMosaic.Lib.StableHlo.RunRead
public import Idealize.ShloMosaic.Lib.Pipeline.Frame

@[expose] public section

noncomputable section

namespace Cert.Proof.VI

open Cert.Kernel2Ideal Cert.Kernel2Ideal.Gen
open Idealize.ShloMosaic Idealize.ShloMosaic.TcCoe
open Cert.Proof.Words

variable {F : FTy → Type} [FloatOps F]

/-- The host code before the kernel's launch. -/
abbrev opss : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16]

/-! ## The groups of the host code, each from any contents -/

section groups

variable (W : Valuation τ sig (Elt F))

theorem g0_io : StableHlo.after (hostOps0 (F := F)) W main_v0 = io16 := by after_reads_simp; rfl
theorem g0_incl : StableHlo.after (hostOps0 (F := F)) W main_v6 = extui 32 (cmpi .sle (row16 io16) (col16 io16)) natLt_1_32 := by
  after_reads_simp; rfl
theorem g0_end : StableHlo.after (hostOps0 (F := F)) W main_v10 = endW (W main_arg0) := by after_reads_simp; rfl
theorem g0_off : StableHlo.after (hostOps0 (F := F)) W main_v11 = offW (W main_arg0) := by after_reads_simp; rfl
theorem g0_c : StableHlo.after (hostOps0 (F := F)) W main_c_0 = constantI S_ 32 512#32 := by after_reads_simp
theorem g0_arg : StableHlo.after (hostOps0 (F := F)) W main_arg0 = W main_arg0 := by after_reads_simp

theorem g1_div : StableHlo.after (hostOps0_1 (F := F)) W main_v12 = Routing.pyDiv bcast_S_S16 (W main_v11) (W main_c_0) := by
  after_reads_simp; rfl
theorem g1_io : StableHlo.after (hostOps0_1 (F := F)) W main_v0 = W main_v0 := by after_reads_simp
theorem g1_incl : StableHlo.after (hostOps0_1 (F := F)) W main_v6 = W main_v6 := by after_reads_simp
theorem g1_end : StableHlo.after (hostOps0_1 (F := F)) W main_v10 = W main_v10 := by after_reads_simp
theorem g1_off : StableHlo.after (hostOps0_1 (F := F)) W main_v11 = W main_v11 := by after_reads_simp
theorem g1_arg : StableHlo.after (hostOps0_1 (F := F)) W main_arg0 = W main_arg0 := by after_reads_simp

theorem g2_pos : StableHlo.after (hostOps0_2 (F := F)) W main_v14 = cmpi .sgt (W main_arg0 : IVec S16 32) (c16 0#32) := by after_reads_simp; rfl
theorem g2_last : StableHlo.after (hostOps0_2 (F := F)) W main_v16 = subi (W main_v10 : IVec S16 32) (c16 1#32) := by after_reads_simp; rfl
theorem g2_c : StableHlo.after (hostOps0_2 (F := F)) W main_c_3 = constantI S_ 32 512#32 := by after_reads_simp
theorem g2_io : StableHlo.after (hostOps0_2 (F := F)) W main_v0 = W main_v0 := by after_reads_simp
theorem g2_incl : StableHlo.after (hostOps0_2 (F := F)) W main_v6 = W main_v6 := by after_reads_simp
theorem g2_end : StableHlo.after (hostOps0_2 (F := F)) W main_v10 = W main_v10 := by after_reads_simp
theorem g2_off : StableHlo.after (hostOps0_2 (F := F)) W main_v11 = W main_v11 := by after_reads_simp
theorem g2_div : StableHlo.after (hostOps0_2 (F := F)) W main_v12 = W main_v12 := by after_reads_simp

theorem g3_div2 : StableHlo.after (hostOps0_3 (F := F)) W main_v17 = Routing.pyDiv bcast_S_S16 (W main_v16) (W main_c_3) := by
  after_reads_simp; rfl
theorem g3_io : StableHlo.after (hostOps0_3 (F := F)) W main_v0 = W main_v0 := by after_reads_simp
theorem g3_incl : StableHlo.after (hostOps0_3 (F := F)) W main_v6 = W main_v6 := by after_reads_simp
theorem g3_end : StableHlo.after (hostOps0_3 (F := F)) W main_v10 = W main_v10 := by after_reads_simp
theorem g3_off : StableHlo.after (hostOps0_3 (F := F)) W main_v11 = W main_v11 := by after_reads_simp
theorem g3_div : StableHlo.after (hostOps0_3 (F := F)) W main_v12 = W main_v12 := by after_reads_simp
theorem g3_pos : StableHlo.after (hostOps0_3 (F := F)) W main_v14 = W main_v14 := by after_reads_simp

theorem g4_nv : StableHlo.after (hostOps0_4 ++ hostOps0_5 : List (HloOp τ sig (Elt F))) W main_v21
    = select (W main_v14 : IVec S16 1) (addi (subi (W main_v17) (W main_v12)) (c16 1#32)) (c16 0#32) := by
  after_reads_simp; rfl
theorem g4_io : StableHlo.after (hostOps0_4 ++ hostOps0_5 : List (HloOp τ sig (Elt F))) W main_v0 = W main_v0 := by after_reads_simp
theorem g4_incl : StableHlo.after (hostOps0_4 ++ hostOps0_5 : List (HloOp τ sig (Elt F))) W main_v6 = W main_v6 := by after_reads_simp
theorem g4_end : StableHlo.after (hostOps0_4 ++ hostOps0_5 : List (HloOp τ sig (Elt F))) W main_v10 = W main_v10 := by after_reads_simp
theorem g4_off : StableHlo.after (hostOps0_4 ++ hostOps0_5 : List (HloOp τ sig (Elt F))) W main_v11 = W main_v11 := by after_reads_simp
theorem g4_div : StableHlo.after (hostOps0_4 ++ hostOps0_5 : List (HloOp τ sig (Elt F))) W main_v12 = W main_v12 := by after_reads_simp

variable {n : IVec S16 32} (hio : W main_v0 = io16) (hincl : W main_v6 = extui 32 (cmpi .sle (row16 io16) (col16 io16)) natLt_1_32)
  (hnv : W main_v21 = nvW n) (hdiv : W main_v12 = fdiv (offW n))

section
include hincl hnv
theorem g6_valid : StableHlo.after (hostOps0_6 (F := F)) W main_v30 = validW n := by
  after_reads_simp; rw [hincl, hnv]; rfl
theorem g6_ex : StableHlo.after (hostOps0_6 (F := F)) W main_v39 = exW n := by
  after_reads_simp; rw [hincl, hnv]; rfl
include hio
theorem g6_pick : StableHlo.after (hostOps0_6 (F := F)) W main_v45 = extui 32 (cmpi .eq (col81 (exW n)) (row81 io16)) natLt_1_32 := by
  after_reads_simp; rw [hincl, hnv, hio]; rfl
include hdiv
theorem g6_tile : StableHlo.after (hostOps0_6 (F := F)) W main_v56
    = subi (addi (selW n (fdiv (offW n))) io81) (selW n (subi (vendW n) (nvW n))) := by
  after_reads_simp; rw [hincl, hnv, hio, hdiv]; rfl
end
theorem g6_c : StableHlo.after (hostOps0_6 (F := F)) W main_c_11 = constantI S_ 32 65#32 := by after_reads_simp
theorem g6_end : StableHlo.after (hostOps0_6 (F := F)) W main_v10 = W main_v10 := by after_reads_simp
theorem g6_off : StableHlo.after (hostOps0_6 (F := F)) W main_v11 = W main_v11 := by after_reads_simp

theorem g7_tile : StableHlo.after (hostOps0_7 (F := F)) W main_v57
    = select (W main_v30 : IVec S81 1) (W main_v56) (broadcastInDim S81 ![] bcast_S_S81 (W main_c_11)) := by
  after_reads_simp; rfl
theorem g7_end : StableHlo.after (hostOps0_7 (F := F)) W main_v10 = W main_v10 := by after_reads_simp
theorem g7_off : StableHlo.after (hostOps0_7 (F := F)) W main_v11 = W main_v11 := by after_reads_simp
theorem g7_valid : StableHlo.after (hostOps0_7 (F := F)) W main_v30 = W main_v30 := by after_reads_simp
theorem g7_ex : StableHlo.after (hostOps0_7 (F := F)) W main_v39 = W main_v39 := by after_reads_simp
theorem g7_pick : StableHlo.after (hostOps0_7 (F := F)) W main_v45 = W main_v45 := by after_reads_simp

variable (hvalid : W main_v30 = validW n) (hpick : W main_v45 = extui 32 (cmpi .eq (col81 (exW n)) (row81 io16)) natLt_1_32)
  (htile : W main_v57 = tileW n)

section
include hvalid hpick htile
theorem g8_lo (hoff : W main_v11 = offW n) :
    StableHlo.after (hostOps0_8 ++ (hostOps0_9 ++ (hostOps0_10 ++ hostOps0_11)) : List (HloOp τ sig (Elt F))) W main_v66 = edgeW n (offW n) := by
  after_reads_simp; rw [hvalid, hpick, htile, hoff]; rfl
theorem g12_hi (hend : W main_v10 = endW n) :
    StableHlo.after (hostOps0_12 ++ (hostOps0_13 ++ (hostOps0_14 ++ hostOps0_15)) : List (HloOp τ sig (Elt F))) W main_v75 = edgeW n (endW n) := by
  after_reads_simp; rw [hvalid, hpick, htile, hend]; rfl
end
theorem g8_end : StableHlo.after (hostOps0_8 ++ (hostOps0_9 ++ (hostOps0_10 ++ hostOps0_11)) : List (HloOp τ sig (Elt F))) W main_v10 = W main_v10 := by
  after_reads_simp
theorem g8_valid : StableHlo.after (hostOps0_8 ++ (hostOps0_9 ++ (hostOps0_10 ++ hostOps0_11)) : List (HloOp τ sig (Elt F))) W main_v30 = W main_v30 := by
  after_reads_simp
theorem g8_ex : StableHlo.after (hostOps0_8 ++ (hostOps0_9 ++ (hostOps0_10 ++ hostOps0_11)) : List (HloOp τ sig (Elt F))) W main_v39 = W main_v39 := by
  after_reads_simp
theorem g8_pick : StableHlo.after (hostOps0_8 ++ (hostOps0_9 ++ (hostOps0_10 ++ hostOps0_11)) : List (HloOp τ sig (Elt F))) W main_v45 = W main_v45 := by
  after_reads_simp
theorem g8_tile : StableHlo.after (hostOps0_8 ++ (hostOps0_9 ++ (hostOps0_10 ++ hostOps0_11)) : List (HloOp τ sig (Elt F))) W main_v57 = W main_v57 := by
  after_reads_simp

theorem g12_valid : StableHlo.after (hostOps0_12 ++ (hostOps0_13 ++ (hostOps0_14 ++ hostOps0_15)) : List (HloOp τ sig (Elt F))) W main_v30 = W main_v30 := by
  after_reads_simp
theorem g12_ex : StableHlo.after (hostOps0_12 ++ (hostOps0_13 ++ (hostOps0_14 ++ hostOps0_15)) : List (HloOp τ sig (Elt F))) W main_v39 = W main_v39 := by
  after_reads_simp
theorem g12_tile : StableHlo.after (hostOps0_12 ++ (hostOps0_13 ++ (hostOps0_14 ++ hostOps0_15)) : List (HloOp τ sig (Elt F))) W main_v57 = W main_v57 := by
  after_reads_simp
theorem g12_lo : StableHlo.after (hostOps0_12 ++ (hostOps0_13 ++ (hostOps0_14 ++ hostOps0_15)) : List (HloOp τ sig (Elt F))) W main_v66 = W main_v66 := by
  after_reads_simp

/-- The two parts of a vector moved on by one. -/
theorem concat_congr {a a' : IVec S1 32} {b b' : IVec S80 32} (ha : a = a') (hb : b = b') :
    concatenate S81 0 [⟨S1, a⟩, ⟨S80, b⟩] concatenates_S1_S80_S81_d0 = concatenate S81 0 [⟨S1, a'⟩, ⟨S80, b'⟩] concatenates_S1_S80_S81_d0 := by
  rw [ha, hb]

section
include hvalid
theorem g16_first (htile : W main_v57 = tileW n) : StableHlo.after (hostOps0_16 (F := F)) W main_v84 = changeW n (tileW n) := by
  have h1 : StableHlo.upto (hostOps0_16 (F := F)) W 3 main_v76 = broadcastInDim S1 ![] bcast_S_S1 (constantI S_ 32 4294967295#32) := by
    after_reads_simp
  have h2 : StableHlo.upto (hostOps0_16 (F := F)) W 3 main_v77 = extractStridedSlice S80 ![0] (tileW n) slices_S81_S80_0 := by
    after_reads_simp; rw [htile]
  after_reads_simp; rw [hvalid, htile, concat_congr h1 h2]; rfl
theorem g16_new (hex : W main_v39 = exW n) : StableHlo.after (hostOps0_16 (F := F)) W main_v87 = changeW n (exW n) := by
  have h1 : StableHlo.upto (hostOps0_16 (F := F)) W 7 main_v79 = broadcastInDim S1 ![] bcast_S_S1 (constantI S_ 32 4294967295#32) := by
    after_reads_simp
  have h2 : StableHlo.upto (hostOps0_16 (F := F)) W 7 main_v80 = extractStridedSlice S80 ![0] (exW n) slices_S81_S80_0 := by
    after_reads_simp; rw [hex]
  after_reads_simp; rw [hvalid, hex, concat_congr h1 h2]; rfl
end
theorem g16_tile : StableHlo.after (hostOps0_16 (F := F)) W main_v57 = W main_v57 := by after_reads_simp
theorem g16_ex : StableHlo.after (hostOps0_16 (F := F)) W main_v39 = W main_v39 := by after_reads_simp
theorem g16_lo : StableHlo.after (hostOps0_16 (F := F)) W main_v66 = W main_v66 := by after_reads_simp
theorem g16_hi : StableHlo.after (hostOps0_16 (F := F)) W main_v75 = W main_v75 := by after_reads_simp

end groups

/-! ## The tables -/

section tables

variable (V : Valuation τ sig (Elt F))

/-- The contents before the schedule's stages over the visits, -/
abbrev Wa : Valuation τ sig (Elt F) :=
  StableHlo.after (hostOps0_4 ++ hostOps0_5) (StableHlo.after hostOps0_3 (StableHlo.after hostOps0_2 (StableHlo.after hostOps0_1
    (StableHlo.after hostOps0 V))))
/-- with the visits' tiles, -/
abbrev Wb : Valuation τ sig (Elt F) := StableHlo.after hostOps0_7 (StableHlo.after hostOps0_6 (Wa V))
/-- with the lower bounds -/
abbrev Wc : Valuation τ sig (Elt F) := StableHlo.after (hostOps0_8 ++ (hostOps0_9 ++ (hostOps0_10 ++ hostOps0_11))) (Wb V)
/-- and the upper ones. -/
abbrev Wd : Valuation τ sig (Elt F) := StableHlo.after (hostOps0_12 ++ (hostOps0_13 ++ (hostOps0_14 ++ hostOps0_15))) (Wc V)

theorem after_eq : StableHlo.after (opss (F := F)).flatten V = StableHlo.after hostOps0_16 (Wd V) := by
  simp only [List.flatten_cons, List.flatten_nil, List.append_nil, StableHlo.after_append, Wa, Wb, Wc, Wd]

theorem a_io : Wa V main_v0 = io16 := by unfold Wa; rw [g4_io, g3_io, g2_io, g1_io, g0_io]
theorem a_incl : Wa V main_v6 = extui 32 (cmpi .sle (row16 io16) (col16 io16)) natLt_1_32 := by
  unfold Wa
  rw [g4_incl, g3_incl, g2_incl, g1_incl, g0_incl]
theorem a_end : Wa V main_v10 = endW (V main_arg0) := by unfold Wa; rw [g4_end, g3_end, g2_end, g1_end, g0_end]
theorem a_off : Wa V main_v11 = offW (V main_arg0) := by unfold Wa; rw [g4_off, g3_off, g2_off, g1_off, g0_off]
theorem a_div : Wa V main_v12 = fdiv (offW (V main_arg0)) := by
  unfold Wa
  rw [g4_div, g3_div, g2_div, g1_div, g0_off, g0_c]; rfl
theorem a_nv : Wa V main_v21 = nvW (V main_arg0) := by
  unfold Wa
  rw [g4_nv, g3_pos, g2_pos, g3_div2, g2_last, g2_c, g3_div, g2_div, g1_div, g1_end, g1_arg, g0_off, g0_c, g0_end, g0_arg]; rfl

theorem b_valid : Wb V main_v30 = validW (V main_arg0) := by unfold Wb; rw [g7_valid, g6_valid _ (a_incl V) (a_nv V)]
theorem b_ex : Wb V main_v39 = exW (V main_arg0) := by unfold Wb; rw [g7_ex, g6_ex _ (a_incl V) (a_nv V)]
theorem b_pick : Wb V main_v45 = extui 32 (cmpi .eq (col81 (exW (V main_arg0))) (row81 io16)) natLt_1_32 := by
  unfold Wb
  rw [g7_pick, g6_pick _ (a_io V) (a_incl V) (a_nv V)]
theorem b_tile : Wb V main_v57 = tileW (V main_arg0) := by
  unfold Wb
  rw [g7_tile, g6_valid _ (a_incl V) (a_nv V), g6_tile _ (a_io V) (a_incl V) (a_nv V) (a_div V), g6_c]; rfl
theorem b_end : Wb V main_v10 = endW (V main_arg0) := by unfold Wb; rw [g7_end, g6_end, a_end]
theorem b_off : Wb V main_v11 = offW (V main_arg0) := by unfold Wb; rw [g7_off, g6_off, a_off]

/-- The visits' tiles, -/
theorem read_tile : StableHlo.after (opss (F := F)).flatten V main_v57 = tileW (V main_arg0) := by
  rw [after_eq]; unfold Wd Wc; rw [g16_tile, g12_tile, g8_tile, b_tile]
/-- their experts, -/
theorem read_ex : StableHlo.after (opss (F := F)).flatten V main_v39 = exW (V main_arg0) := by
  rw [after_eq]; unfold Wd Wc; rw [g16_ex, g12_ex, g8_ex, b_ex]
/-- where the rows begin -/
theorem read_lo : StableHlo.after (opss (F := F)).flatten V main_v66 = edgeW (V main_arg0) (offW (V main_arg0)) := by
  rw [after_eq]; unfold Wd Wc; rw [g16_lo, g12_lo, g8_lo _ (b_valid V) (b_pick V) (b_tile V) (b_off V)]
/-- and end, -/
theorem read_hi : StableHlo.after (opss (F := F)).flatten V main_v75 = edgeW (V main_arg0) (endW (V main_arg0)) := by
  rw [after_eq]; unfold Wd Wc; rw [g16_hi, g12_hi _ ((g8_valid _).trans (b_valid V)) ((g8_pick _).trans (b_pick V)) ((g8_tile _).trans (b_tile V))
    ((g8_end _).trans (b_end V))]
/-- the marks of the new tiles -/
theorem read_first : StableHlo.after (opss (F := F)).flatten V main_v84 = changeW (V main_arg0) (tileW (V main_arg0)) := by
  rw [after_eq]; unfold Wd Wc; rw [g16_first _ (((g12_valid _).trans (g8_valid _)).trans (b_valid V)) (((g12_tile _).trans (g8_tile _)).trans (b_tile V))]
/-- and of the new experts. -/
theorem read_new : StableHlo.after (opss (F := F)).flatten V main_v87 = changeW (V main_arg0) (exW (V main_arg0)) := by
  rw [after_eq]; unfold Wd Wc; rw [g16_new _ (((g12_valid _).trans (g8_valid _)).trans (b_valid V)) (((g12_ex _).trans (g8_ex _)).trans (b_ex V))]

end tables

end Cert.Proof.VI

end
-- ==== Proof.Visits.Body.lean ====
/-
  The experts kernel's body at one visit, from whole blocks, the tables and the two weight scratch buffers.
-/
module

public import proofs.«01_k».proof.Proof.Gen.Kernel2Ideal.Launch
public import proofs.«01_k».proof.Proof.Gen.Kernel2Ideal.Skeleton
public import Idealize.ShloMosaic.Lib.Claim
public import Idealize.ShloMosaic.Lib.Pipeline.ValueKit
public import Idealize.ShloMosaic.Lib.Pipeline.TableIdle

@[expose] public section

noncomputable section

namespace Cert.Proof.VI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Bf (F : FTy → Type) (c : Dev nD) {sp : Space} {s : Shape} {e : EltTy} (M : Memref sig .tc sp s e) := Buf (Elt F) (M.view.loc (c : Thread nD τ))

abbrev pq (c : Dev nD) {sp : Space} {s : Shape} {e : EltTy} (M : Memref sig .tc sp s e) (q : PosShare TreeShare) (f : Bf F c M) : sProp 𝕄 :=
  (M.view.loc (c : Thread nD τ) ↦[M.view.set]{q} f)

/-! ## What a visit computes -/

section values

variable (lo hi nw fst : BitVec 32) (x7 : Vec F S512x1024 .f32) (x8 x9 : Vec F S1x1x1024x256 .f32) (x10 : Vec F S1x1x256x1024 .f32)
  (W : Vec F S1024x512 .bf16) (D : Vec F S256x1024 .bf16) (Y : Vec F S512x1024 .f32)

/-- Whether a visit takes new weights: it has rows, and its expert differs from the one before. -/
def condN : BitVec 1 := Scalar.cmpi .ne (Scalar.extui (Scalar.andi (Scalar.cmpi .sgt hi lo) (Scalar.cmpi .eq nw 1#32)) : BitVec 32) 0#32

/-- The gate's and the up-projection's weights side by side, -/
def wcat : Vec F S1024x512 .bf16 :=
  View.canon [⟨Rect.unit (s := S1024x512) ![0, 256] S1024x256.size inb_S1024x512_S1024x256_0_256, k0_pay2 (View.ld x9 (Rect.unit (s := S1x1x1024x256) ![0, 0, 0, 0] S1x1x1024x256.size inb_S1x1x1024x256_S1x1x1024x256_0_0_0_0))⟩,
    ⟨Rect.unit (s := S1024x512) ![0, 0] S1024x256.size inb_S1024x512_S1024x256_0_0, k0_pay1 (View.ld x8 (Rect.unit (s := S1x1x1024x256) ![0, 0, 0, 0] S1x1x1024x256.size inb_S1x1x1024x256_S1x1x1024x256_0_0_0_0))⟩]

/-- and the down-projection's, as the scratch buffers hold them. -/
def dcat : Vec F S256x1024 .bf16 :=
  k0_pay3 (View.ld x10 (Rect.unit (s := S1x1x256x1024) ![0, 0, 0, 0] S1x1x256x1024.size inb_S1x1x256x1024_S1x1x256x1024_0_0_0_0))

/-- The weights after a visit. -/
def nextW : Vec F S1024x512 .bf16 := if condN lo hi nw = 1#1 then wcat x8 x9 else W
def nextD : Vec F S256x1024 .bf16 := if condN lo hi nw = 1#1 then dcat x10 else D

/-- The tile's rows as the visit loads them, in two halves. -/
def rows0 : Vec F S256x1024 .f32 := View.ld x7 (Rect.unit (s := S512x1024) ![0, 0] S256x1024.size inb_S512x1024_S256x1024_0_0)
def rows1 : Vec F S256x1024 .f32 := View.ld x7 (Rect.unit (s := S512x1024) ![256, 0] S256x1024.size inb_S512x1024_S256x1024_256_0)

/-- What a visit's expert makes of the tile: zero but on the visit's rows. -/
def yv : Vec F S512x1024 .f32 :=
  k0_pay4 (k0_pay6 lo hi) D (k0_pay7 lo hi W D (rows0 x7)) (k0_pay9 W (rows1 x7)) (k0_pay10 W (rows1 x7)) (k0_pay11 W (rows1 x7)) k0_pay12

/-- The same added to what the output block held. -/
def yadd : Vec F S512x1024 .f32 :=
  k0_pay5 (k0_pay6 lo hi) D (k0_pay7 lo hi W D (rows0 x7)) (k0_pay9 W (rows1 x7)) (k0_pay10 W (rows1 x7)) (k0_pay11 W (rows1 x7)) k0_pay12 Y

/-- The output block after a visit: a tile's first visit stores, a later one adds, one without rows leaves it. -/
def nextY : Vec F S512x1024 .f32 :=
  if k0_cond2 lo hi = 1#1 then
    if k0_cond4 fst = 1#1 then yadd lo hi x7 W D (if k0_cond3 fst = 1#1 then yv lo hi x7 W D else Y)
    else if k0_cond3 fst = 1#1 then yv lo hi x7 W D else Y
  else Y

end values

theorem cover_wcat (p : (Rect.unit (s := S1024x512) ![0, 256] S1024x256.size inb_S1024x512_S1024x256_0_256).shape.Idx → Elt F .bf16)
    (p' : (Rect.unit (s := S1024x512) ![0, 0] S1024x256.size inb_S1024x512_S1024x256_0_0).shape.Idx → Elt F .bf16) (y : S1024x512.Idx) :
    ∃ q ∈ [(⟨Rect.unit (s := S1024x512) ![0, 256] S1024x256.size inb_S1024x512_S1024x256_0_256, p⟩ : View.Piece (Elt F) S1024x512 .bf16),
      ⟨Rect.unit (s := S1024x512) ![0, 0] S1024x256.size inb_S1024x512_S1024x256_0_0, p'⟩], y ∈ q.1.set := by
  have h0 : (y 0).val < 1024 := (y 0).isLt
  have h1 : (y 1).val < 512 := (y 1).isLt
  rcases Nat.lt_or_ge (y 1).val 256 with h | h
  · refine ⟨_, List.mem_cons_of_mem _ (List.mem_cons_self ..), ?_⟩
    rw [Rect.mem_set_unit]
    intro a
    refine Fin.cases ?_ (fun b => ?_) a
    · change 0 ≤ (y 0).val ∧ (y 0).val < 0 + 1024; omega
    · obtain rfl : b = 0 := Subsingleton.elim _ _
      change 0 ≤ (y 1).val ∧ (y 1).val < 0 + 256; omega
  · refine ⟨_, List.mem_cons_self .., ?_⟩
    rw [Rect.mem_set_unit]
    intro a
    refine Fin.cases ?_ (fun b => ?_) a
    · change 0 ≤ (y 0).val ∧ (y 0).val < 0 + 1024; omega
    · obtain rfl : b = 0 := Subsingleton.elim _ _
      change 256 ≤ (y 1).val ∧ (y 1).val < 256 + 256; omega

/-- A store of a whole buffer leaves what it stores. -/
theorem read_whole {sp : Space} {S : Shape} {e : EltTy} (M : Memref sig .tc sp S e) {off : Fin S.rank → Nat} (inb : ∀ a, off a + S.size a ≤ S.size a)
    (h : ∀ a, off a = 0) (f : M.view.ty.Contents (Elt F)) (w : S.Idx → Elt F e) :
    M.view.read (Elt F) (M.view.writes (Elt F) f [(⟨Rect.unit off S.size inb, w⟩ : View.Piece (Elt F) S e)]) = w := by
  rw [View.read_writes_eq_canon]
  · exact View.canon_cons_unit_lit inb w [] h
  · intro y
    refine ⟨_, List.mem_cons_self .., ?_⟩
    rw [Rect.mem_set_unit]
    intro a
    rw [h a]; exact ⟨Nat.zero_le _, by have := (y a).isLt; omega⟩

section body

variable (c : Dev nD) (i : grid0.Coords)
  (arg1 : Memref sig .tc .smem S81 .i32) (harg1 : arg1.IsWhole) (arg2 : Memref sig .tc .smem S81 .i32) (harg2 : arg2.IsWhole)
  (arg3 : Memref sig .tc .smem S81 .i32) (harg3 : arg3.IsWhole) (arg4 : Memref sig .tc .smem S81 .i32) (harg4 : arg4.IsWhole)
  (arg5 : Memref sig .tc .smem S81 .i32) (harg5 : arg5.IsWhole) (arg6 : Memref sig .tc .smem S81 .i32) (harg6 : arg6.IsWhole)
  (arg7 : Memref sig .tc .vmem S512x1024 .f32) (harg7 : arg7.IsWhole) (arg8 : Memref sig .tc .vmem S1x1x1024x256 .f32) (harg8 : arg8.IsWhole)
  (arg9 : Memref sig .tc .vmem S1x1x1024x256 .f32) (harg9 : arg9.IsWhole) (arg10 : Memref sig .tc .vmem S1x1x256x1024 .f32) (harg10 : arg10.IsWhole)
  (arg11 : Memref sig .tc .vmem S512x1024 .f32) (harg11 : arg11.IsWhole) (arg12 : Memref sig .tc .vmem S1024x512 .bf16) (harg12 : arg12.IsWhole)
  (arg13 : Memref sig .tc .vmem S256x1024 .bf16) (harg13 : arg13.IsWhole)

/-- The word of a table at a visit. -/
abbrev word (M : Memref sig .tc .smem S81 .i32) (f : Bf F c M) (off : Fin 1 → ℕ) (inb : ∀ a, off a + S1.size a ≤ S81.size a) : BitVec 32 :=
  M.view.readAt (Elt F) (Rect.unit (s := S81) off S1.size inb).toLoadRect f (Shape.Idx.first (by decide : 0 < S1.numel))

theorem sound_visit (q : PosShare TreeShare) (f3 : Bf F c arg3) (f4 : Bf F c arg4) (f5 : Bf F c arg5) (f6 : Bf F c arg6)
   (lo hi nw fst : BitVec 32)
   (hlo : word c arg3 f3 (k0_off1 i) (k0_off1_inb i) = lo) (hhi : word c arg4 f4 (k0_off1 i) (k0_off1_inb i) = hi)
   (hnw : word c arg6 f6 (k0_off1 i) (k0_off1_inb i) = nw) (hf2 : word c arg5 f5 (k0_off2 i) (k0_off2_inb i) = fst)
   (hf3 : word c arg5 f5 (k0_off3 i) (k0_off3_inb i) = fst)
   (x7 : Vec F S512x1024 .f32) (x8 x9 : Vec F S1x1x1024x256 .f32) (x10 : Vec F S1x1x256x1024 .f32)
   (Y : Vec F S512x1024 .f32) (W : Vec F S1024x512 .bf16) (D : Vec F S256x1024 .bf16) (K : PUnit → sProp 𝕄) :
    iprop((pq c arg3 q f3 ∗ pq c arg4 q f4 ∗ pq c arg5 q f5 ∗ pq c arg6 q f6)
      ∗ owns (c : Thread nD τ) arg7 fullShare x7 ∗ owns (c : Thread nD τ) arg8 fullShare x8 ∗ owns (c : Thread nD τ) arg9 fullShare x9 ∗ owns (c : Thread nD τ) arg10 fullShare x10
      ∗ owns (c : Thread nD τ) arg11 fullShare Y ∗ owns (c : Thread nD τ) arg12 fullShare W ∗ owns (c : Thread nD τ) arg13 fullShare D
      ∗ (iprop((pq c arg3 q f3 ∗ pq c arg4 q f4 ∗ pq c arg5 q f5 ∗ pq c arg6 q f6)
      ∗ owns (c : Thread nD τ) arg7 fullShare x7 ∗ owns (c : Thread nD τ) arg8 fullShare x8 ∗ owns (c : Thread nD τ) arg9 fullShare x9 ∗ owns (c : Thread nD τ) arg10 fullShare x10
      ∗ owns (c : Thread nD τ) arg11 fullShare (nextY lo hi fst x7 (nextW lo hi nw x8 x9 W) (nextD lo hi nw x10 D) Y)
      ∗ owns (c : Thread nD τ) arg12 fullShare (nextW lo hi nw x8 x9 W) ∗ owns (c : Thread nD τ) arg13 fullShare (nextD lo hi nw x10 D)) -∗ K ⟨⟩))
      ⊢ wp frame (wpE (defs₀ (F := F)) Variants.none (c : Thread nD τ) none) Set.univ (cc0_experts i arg1 harg1 arg2 harg2 arg3 harg3 arg4 harg4 arg5 harg5 arg6 harg6 arg7 harg7 arg8 harg8 arg9 harg9 arg10 harg10 arg11 harg11 arg12 harg12 arg13 harg13) K := by
  rw [cc0_experts_eq_skeleton]; unfold cc0_experts_skel
  unfold owns
  iintro ⟨⟨H3, H4, H5, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  sl_exec
  sl_step
  have e10 : sound_visit.sl.v10 c i arg3 arg4 arg6 f3 f4 f6 = condN lo hi nw := by rw [← hlo, ← hhi, ← hnw]; rfl
  have e12 : arg12.view.read (Elt F) (if hc : sound_visit.sl.v10 c i arg3 arg4 arg6 f3 f4 f6 = 1#1 then
      arg12.view.writes (Elt F) f12
        [⟨Rect.unit ![0, 256] S1024x256.size inb_S1024x512_S1024x256_0_256,
            k0_pay2
              (View.readAt (Elt F) arg9.view
                (Rect.unit ![0, 0, 0, 0] S1x1x1024x256.size inb_S1x1x1024x256_S1x1x1024x256_0_0_0_0).toLoadRect f9)⟩,
          ⟨Rect.unit ![0, 0] S1024x256.size inb_S1024x512_S1024x256_0_0,
            k0_pay1
              (View.readAt (Elt F) arg8.view
                (Rect.unit ![0, 0, 0, 0] S1x1x1024x256.size inb_S1x1x1024x256_S1x1x1024x256_0_0_0_0).toLoadRect f8)⟩]
    else f12) = nextW lo hi nw x8 x9 W := by
    rw [nextW, ← e10, ← hf8, ← hf9, ← hf12]
    split
    · exact View.read_writes_eq_canon _ _ _ (cover_wcat _ _)
    · rfl
  have e13 : arg13.view.read (Elt F) (if hc : sound_visit.sl.v10 c i arg3 arg4 arg6 f3 f4 f6 = 1#1 then
      arg13.view.writes (Elt F) f13
        [⟨Rect.unit ![0, 0] S256x1024.size inb_S256x1024_S256x1024_0_0,
            k0_pay3
              (View.readAt (Elt F) arg10.view
                (Rect.unit ![0, 0, 0, 0] S1x1x256x1024.size inb_S1x1x256x1024_S1x1x256x1024_0_0_0_0).toLoadRect f10)⟩]
    else f13) = nextD lo hi nw x10 D := by
    rw [nextD, ← e10, ← hf10, ← hf13]
    split
    · exact read_whole arg13 _ (fun a => by fin_cases a <;> rfl) _ _
    · rfl
  have h24 : sound_visit.sl.v24 c i arg3 arg4 arg6 arg10 arg13 f3 f4 f6 f10 f13 = nextD lo hi nw x10 D := by
    rw [← e13]; exact View.ld_unit_lit (e := .bf16) inb_S256x1024_S256x1024_0_0 _ (fun a => by fin_cases a <;> rfl)
  have h23 : sound_visit.sl.v23 c i arg3 arg4 arg6 arg8 arg9 arg12 f3 f4 f6 f8 f9 f12 = nextW lo hi nw x8 x9 W := by
    rw [← e12]; exact View.ld_unit_lit (e := .bf16) inb_S1024x512_S1024x512_0_0 _ (fun a => by fin_cases a <;> rfl)
  have r0 : sound_visit.sl.r c i arg3 f3 = lo := hlo
  have r1 : sound_visit.sl.r_1 c i arg4 f4 = hi := hhi
  have r3 : sound_visit.sl.r_3 c i arg3 arg4 f3 f4 = k0_pay6 lo hi := by rw [← r0, ← r1]; rfl
  have r8 : sound_visit.sl.r_8 c i arg5 f5 = fst := hf2
  have r9 : sound_visit.sl.r_9 c i arg5 f5 = fst := hf3
  have r4 : sound_visit.sl.r_4 c i arg3 arg4 arg6 arg7 arg8 arg9 arg10 arg12 arg13 f3 f4 f6 f7 f8 f9 f10 f12 f13
      = k0_pay7 lo hi (nextW lo hi nw x8 x9 W) (nextD lo hi nw x10 D) (rows0 x7) := by
    rw [← h24, ← h23, ← r0, ← r1, ← hf7]; rfl
  have r5 : sound_visit.sl.r_5 c i arg3 arg4 arg6 arg7 arg8 arg9 arg12 f3 f4 f6 f7 f8 f9 f12 = k0_pay9 (nextW lo hi nw x8 x9 W) (rows1 x7) := by
    rw [← h23, ← hf7]; rfl
  have r6 : sound_visit.sl.r_6 c i arg3 arg4 arg6 arg7 arg8 arg9 arg12 f3 f4 f6 f7 f8 f9 f12 = k0_pay10 (nextW lo hi nw x8 x9 W) (rows1 x7) := by
    rw [← h23, ← hf7]; rfl
  have r7 : sound_visit.sl.r_7 c i arg3 arg4 arg6 arg7 arg8 arg9 arg12 f3 f4 f6 f7 f8 f9 f12 = k0_pay11 (nextW lo hi nw x8 x9 W) (rows1 x7) := by
    rw [← h23, ← hf7]; rfl
  have h74 : sound_visit.sl.v74 c i arg3 arg4 arg5 arg6 arg7 arg8 arg9 arg10 arg11 arg12 arg13 f3 f4 f5 f6 f7 f8 f9 f10 f11 f12 f13
      = if k0_cond3 fst = 1#1 then yv lo hi x7 (nextW lo hi nw x8 x9 W) (nextD lo hi nw x10 D) else Y := by
    unfold sound_visit.sl.v74
    rw [r8, r3, r4, r5, r6, r7, h24]
    refine (View.ld_unit_lit (e := .f32) inb_S512x1024_S512x1024_0_0 _ (fun a => by fin_cases a <;> rfl)).trans ?_
    split
    · exact read_whole arg11 _ (fun a => by fin_cases a <;> rfl) _ _
    · exact hf11
  rw [r8, r9, r0, r1, r3, r4, r5, r6, r7, h24, h74]
  iapply Hk
  isplitl [H3 H4 H5 H6]
  · isplitl [H3]; · iexact H3
    isplitl [H4]; · iexact H4
    isplitl [H5]; · iexact H5
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists _; isplitr
    swap; · iexact H11
    ipureintro
    unfold nextY
    split
    · split
      · exact read_whole arg11 _ (fun a => by fin_cases a <;> rfl) _ _
      · split
        · exact read_whole arg11 _ (fun a => by fin_cases a <;> rfl) _ _
        · exact hf11
    · exact hf11
  isplitl [H12]
  · iexists _; isplitr
    swap; · iexact H12
    ipureintro; exact e12
  iexists _; isplitr
  swap; · iexact H13
  ipureintro; exact e13

end body
end Cert.Proof.VI
end
-- ==== Proof.Visits.Tables.lean ====
/-
  The tables the experts' kernel runs under, word by word, and the blocks they choose: every one lies inside its array.
-/
module

public import proofs.«01_k».proof.Proof.Visits.Host
public import proofs.«01_k».proof.Proof.Visits.Counted
public import proofs.«01_k».proof.Proof.Visits.Body

@[expose] public section

noncomputable section

namespace Cert.Proof.VI

open Cert.Kernel2Ideal Cert.Kernel2Ideal.Gen
open Idealize.ShloMosaic Idealize.ShloMosaic.TcCoe
open Cert.Proof.Words
open Idealize.ShloMosaic.WordCmp

variable {F : FTy → Type} [FloatOps F]

variable (m : (ℓ : Loc nD τ sig) → Buf (Elt F) ℓ)

/-- The buffers when the kernel is launched. -/
def V (c : Dev nD) (b : Ref sig .tc) : Buf (Elt F) ((c.tc : Thread nD τ).loc b) :=
  StableHlo.after (opss (F := F)).flatten (fun b => m (c, b)) b

/-- How many rows each expert takes, -/
def counts (c : Dev nD) : ℕ → ℕ := Counted.cnt (m ((c.tc : Thread nD τ).loc main_arg0))

/-- all the rows there are. -/
def Counted : Prop := ∀ c : Dev nD, Sched.off (counts m c) 16 = 33792

/-- The host code leaves the arguments as they were. -/
theorem V_arg0 (c : Dev nD) : V m c main_arg0 = m ((c.tc : Thread nD τ).loc main_arg0) := by unfold V; after_reads_simp
theorem V_arg1 (c : Dev nD) : V m c main_arg1 = m ((c.tc : Thread nD τ).loc main_arg1) := by unfold V; after_reads_simp
theorem V_arg2 (c : Dev nD) : V m c main_arg2 = m ((c.tc : Thread nD τ).loc main_arg2) := by unfold V; after_reads_simp
theorem V_arg3 (c : Dev nD) : V m c main_arg3 = m ((c.tc : Thread nD τ).loc main_arg3) := by unfold V; after_reads_simp
theorem V_arg4 (c : Dev nD) : V m c main_arg4 = m ((c.tc : Thread nD τ).loc main_arg4) := by unfold V; after_reads_simp

/-- The tables' contents (there is one device). -/
def tabs : pre0.Contents (Elt F) := fun k => V m 0 (pre0.ref k)

section words

variable {m} (hm : Counted m) (v : Fin 81)
include hm

theorem tile_at : (tabs m 0 : IVec S81 32) (ix1 v) = BitVec.ofNat 32 (Sched.tile (counts m 0) v) := by
  have e : (tabs m 0 : IVec S81 32) = tileW (m (((0 : Dev nD).tc : Thread nD τ).loc main_arg0)) := read_tile (fun b => m (0, b))
  rw [e]; exact tileW_at _ (Counted.cnt_at _) (hm 0) v
theorem ex_at : (tabs m 1 : IVec S81 32) (ix1 v) = BitVec.ofNat 32 (min 15 (Sched.ex (counts m 0) v)) := by
  have e : (tabs m 1 : IVec S81 32) = exW (m (((0 : Dev nD).tc : Thread nD τ).loc main_arg0)) := read_ex (fun b => m (0, b))
  rw [e]; exact exW_at _ (Counted.cnt_at _) (hm 0) v
theorem lo_at : (tabs m 2 : IVec S81 32) (ix1 v) = BitVec.ofNat 32 (Sched.lo (counts m 0) v) := by
  have e : (tabs m 2 : IVec S81 32) = edgeW (m (((0 : Dev nD).tc : Thread nD τ).loc main_arg0)) (offW (m (((0 : Dev nD).tc : Thread nD τ).loc main_arg0))) := read_lo (fun b => m (0, b))
  rw [e]; exact loW_at _ (Counted.cnt_at _) (hm 0) v
theorem hi_at : (tabs m 3 : IVec S81 32) (ix1 v) = BitVec.ofNat 32 (Sched.hi (counts m 0) v) := by
  have e : (tabs m 3 : IVec S81 32) = edgeW (m (((0 : Dev nD).tc : Thread nD τ).loc main_arg0)) (endW (m (((0 : Dev nD).tc : Thread nD τ).loc main_arg0))) := read_hi (fun b => m (0, b))
  rw [e]; exact hiW_at _ (Counted.cnt_at _) (hm 0) v

theorem ex_lt_two (v : ℕ) : Sched.ex (counts m 0) v ≤ 16 := (Sched.ex_spec (counts m 0) v).1

/-- The points that start a tile, -/
theorem first_at : (tabs m 4 : IVec S81 32) (ix1 v) = BitVec.ofNat 32
    (if v.val < Sched.total (counts m 0) ∧ (v.val = 0 ∨ Sched.tile (counts m 0) v ≠ Sched.tile (counts m 0) (v - 1)) then 1 else 0) := by
  have e : (tabs m 4 : IVec S81 32) = changeW (m (((0 : Dev nD).tc : Thread nD τ).loc main_arg0)) (tileW (m (((0 : Dev nD).tc : Thread nD τ).loc main_arg0))) := read_first (fun b => m (0, b))
  rw [e]
  exact changeW_at _ (Counted.cnt_at _) (hm 0) _ _ (tileW_at _ (Counted.cnt_at _) (hm 0))
    (fun v _ => lt_of_le_of_lt (Sched.tile_lt _ (hm 0) v) (by norm_num)) v
/-- and the ones that start an expert. -/
theorem new_at : (tabs m 5 : IVec S81 32) (ix1 v) = BitVec.ofNat 32
    (if v.val < Sched.total (counts m 0) ∧ (v.val = 0 ∨ min 15 (Sched.ex (counts m 0) v) ≠ min 15 (Sched.ex (counts m 0) (v - 1))) then 1 else 0) := by
  have e : (tabs m 5 : IVec S81 32) = changeW (m (((0 : Dev nD).tc : Thread nD τ).loc main_arg0)) (exW (m (((0 : Dev nD).tc : Thread nD τ).loc main_arg0))) := read_new (fun b => m (0, b))
  rw [e]
  exact changeW_at _ (Counted.cnt_at _) (hm 0) _ (fun v => min 15 (Sched.ex (counts m 0) v)) (exW_at _ (Counted.cnt_at _) (hm 0))
    (fun v _ => lt_of_le_of_lt (min_le_left _ _) (by norm_num)) v

end words

/-! ## The points -/

theorem coords_val : ∀ t : Fin grid0.N, (grid0.coords t 0).val = t.val := by decide +kernel

theorem off1_val : ∀ i : Fin 81, (Scalar.indexCast (BitVec.ofNat 32 i.val) : Index).toNat = i.val := by decide +kernel

/-- A point as a number below 81. -/
def pt81 (i : grid0.Coords) : Fin 81 := i 0

theorem emb_off (i : grid0.Coords) (off : Fin 1 → ℕ) (h : off 0 = (i 0).val) (inb : ∀ a, off a + S1.size a ≤ S81.size a) (h0 : 0 < (Rect.unit (s := S81) off S1.size inb).shape.numel) :
    (Rect.unit (s := S81) off S1.size inb).emb (Shape.Idx.first h0) = ix1 (pt81 i) := by
  funext a
  apply Fin.ext
  obtain rfl : a = 0 := Subsingleton.elim _ _
  show off 0 + 1 * 0 = (i 0).val
  omega

theorem off1_eq (i : grid0.Coords) : k0_off1 i 0 = (i 0).val := off1_val (pt81 i)
theorem off2_eq (i : grid0.Coords) : k0_off2 i 0 = (i 0).val := off1_val (pt81 i)
theorem off3_eq (i : grid0.Coords) : k0_off3 i 0 = (i 0).val := off1_val (pt81 i)

/-- An index map's word of table `k`. -/
theorem at0 (pf : pre0.Contents (Elt F)) (i : grid0.Coords) :
    pf.at 0 (Rect.unit (s := S81) (k0_off1 i) S1.size (k0_off1_inb i)) numel1_S1 = (pf 0 : IVec S81 32) (ix1 (pt81 i)) :=
  congrArg (pf 0 : IVec S81 32) (emb_off i _ (off1_eq i) _ _)
theorem at1 (pf : pre0.Contents (Elt F)) (i : grid0.Coords) :
    pf.at 1 (Rect.unit (s := S81) (k0_off1 i) S1.size (k0_off1_inb i)) numel1_S1 = (pf 1 : IVec S81 32) (ix1 (pt81 i)) :=
  congrArg (pf 1 : IVec S81 32) (emb_off i _ (off1_eq i) _ _)

theorem map0_of (pf : pre0.Contents (Elt F)) (i : grid0.Coords) (x : ℕ) (h : (pf 0 : IVec S81 32) (ix1 (pt81 i)) = BitVec.ofNat 32 x) (hx : x < 2 ^ 32) :
    cc0_transform_0 k0_off1_inb numel1_S1 pf i = ![x, 0] := by
  have e := (at0 pf i).trans h
  unfold cc0_transform_0
  dsimp only
  refine congrArg (fun y : ℕ => (![y, 0] : Fin 2 → ℕ)) ((congrArg BitVec.toNat e).trans ?_)
  rw [BitVec.toNat_ofNat, Nat.mod_eq_of_lt hx]

theorem map1_of (pf : pre0.Contents (Elt F)) (i : grid0.Coords) (x : ℕ) (h : (pf 1 : IVec S81 32) (ix1 (pt81 i)) = BitVec.ofNat 32 x) (hx : x < 2 ^ 32) :
    cc0_transform_1 k0_off1_inb numel1_S1 pf i = ![0, x, 0, 0] := by
  have e := (at1 pf i).trans h
  unfold cc0_transform_1
  dsimp only
  refine congrArg (fun y : ℕ => (![0, y, 0, 0] : Fin 4 → ℕ)) ((congrArg BitVec.toNat e).trans ?_)
  rw [BitVec.toNat_ofNat, Nat.mod_eq_of_lt hx]

theorem inX (x : ℕ) (h : x ≤ 65) (a : Fin 2) : ((![x, 0] : Fin 2 → ℕ) a + 1) * S512x1024.size a ≤ S33792x1024.size a := by
  fin_cases a
  · show (x + 1) * 512 ≤ 33792; omega
  · show (0 + 1) * 1024 ≤ 1024; omega
theorem inW (x : ℕ) (h : x ≤ 15) (a : Fin 4) : ((![0, x, 0, 0] : Fin 4 → ℕ) a + 1) * S1x1x1024x256.size a ≤ S4x16x1024x256.size a := by
  fin_cases a
  · show (0 + 1) * 1 ≤ 4; omega
  · show (x + 1) * 1 ≤ 16; omega
  · show (0 + 1) * 1024 ≤ 1024; omega
  · show (0 + 1) * 256 ≤ 256; omega
theorem inD (x : ℕ) (h : x ≤ 15) (a : Fin 4) : ((![0, x, 0, 0] : Fin 4 → ℕ) a + 1) * S1x1x256x1024.size a ≤ S4x16x256x1024.size a := by
  fin_cases a
  · show (0 + 1) * 1 ≤ 4; omega
  · show (x + 1) * 1 ≤ 16; omega
  · show (0 + 1) * 256 ≤ 256; omega
  · show (0 + 1) * 1024 ≤ 1024; omega

section maps

variable {m} (hm : Counted m) (i : grid0.Coords)
include hm

theorem map0 : cc0_transform_0 k0_off1_inb numel1_S1 (tabs m) i = ![Sched.tile (counts m 0) (i 0).val, 0] :=
  map0_of (tabs m) i _ (tile_at hm (pt81 i)) (by have := Sched.tile_lt (counts m 0) (hm 0) (i 0).val; omega)
theorem map4 : cc0_transform_4 k0_off1_inb numel1_S1 (tabs m) i = ![Sched.tile (counts m 0) (i 0).val, 0] := map0 hm i
theorem map1 : cc0_transform_1 k0_off1_inb numel1_S1 (tabs m) i = ![0, min 15 (Sched.ex (counts m 0) (i 0).val), 0, 0] :=
  map1_of (tabs m) i _ (ex_at hm (pt81 i)) (by omega)
theorem map2 : cc0_transform_2 k0_off1_inb numel1_S1 (tabs m) i = ![0, min 15 (Sched.ex (counts m 0) (i 0).val), 0, 0] := map1 hm i
theorem map3 : cc0_transform_3 k0_off1_inb numel1_S1 (tabs m) i = ![0, min 15 (Sched.ex (counts m 0) (i 0).val), 0, 0] := map1 hm i

omit i in
/-- Every block lies inside its array. -/
theorem ok_tabs : ok0 (tabs m) := by
  have ht := fun v => Sched.tile_lt (counts m 0) (hm 0) v
  have hw : ∀ i : grid0.Coords, ∀ a, (cc0_transform_1 k0_off1_inb numel1_S1 (tabs m) i a + 1) * S1x1x1024x256.size a ≤ S4x16x1024x256.size a := fun i => by
    rw [map1 hm]; exact inW _ (min_le_left _ _)
  have hd : ∀ i : grid0.Coords, ∀ a, (cc0_transform_3 k0_off1_inb numel1_S1 (tabs m) i a + 1) * S1x1x256x1024.size a ≤ S4x16x256x1024.size a := fun i => by
    rw [map3 hm]; exact inD _ (min_le_left _ _)
  have hw2 : ∀ i : grid0.Coords, ∀ a, (cc0_transform_2 k0_off1_inb numel1_S1 (tabs m) i a + 1) * S1x1x1024x256.size a ≤ S4x16x1024x256.size a := fun i => by
    rw [map2 hm]; exact inW _ (min_le_left _ _)
  have hx : ∀ i : grid0.Coords, ∀ a, (cc0_transform_0 k0_off1_inb numel1_S1 (tabs m) i a + 1) * S512x1024.size a ≤ S33792x1024.size a := fun i => by
    rw [map0 hm]; exact inX _ (ht _)
  have hy : ∀ i : grid0.Coords, ∀ a, (cc0_transform_4 k0_off1_inb numel1_S1 (tabs m) i a + 1) * S512x1024.size a ≤ S33792x1024.size a := fun i => by
    rw [map4 hm]; exact inX _ (ht _)
  unfold ok0
  exact ⟨fun i => ⟨hx i, Or.inl rfl⟩, fun i => ⟨hw i, Or.inl rfl⟩, fun i => ⟨hw2 i, Or.inl rfl⟩, fun i => ⟨hd i, Or.inl rfl⟩, fun i => ⟨hy i, Or.inl rfl⟩⟩

end maps

/-! ## The words at a point -/

/-- The tables as the kernel's contents, with the blocks inside. -/
def adm (hm : Counted m) : (p : Fin 1) → (pcfgs (F := F) p).Adm := fun _ => ⟨tabs m, ok_tabs hm⟩

def loW' (n : ℕ) : BitVec 32 := BitVec.ofNat 32 (Sched.lo (counts m 0) n)
def hiW' (n : ℕ) : BitVec 32 := BitVec.ofNat 32 (Sched.hi (counts m 0) n)
def fstW (n : ℕ) : BitVec 32 := BitVec.ofNat 32
  (if n < Sched.total (counts m 0) ∧ (n = 0 ∨ Sched.tile (counts m 0) n ≠ Sched.tile (counts m 0) (n - 1)) then 1 else 0)
def newW (n : ℕ) : BitVec 32 := BitVec.ofNat 32
  (if n < Sched.total (counts m 0) ∧ (n = 0 ∨ min 15 (Sched.ex (counts m 0) n) ≠ min 15 (Sched.ex (counts m 0) (n - 1))) then 1 else 0)

theorem bit_of {p : Prop} [Decidable p] : Scalar.cmpi .ne (Scalar.extui (BitVec.ofBool (decide p)) : BitVec 32) 0#32 = 1#1 ↔ p := by
  by_cases h : p <;> simp [h] <;> decide

theorem cond2_of {lo hi : ℕ} (hl : lo < 2 ^ 31) (hh : hi < 2 ^ 31) :
    k0_cond2 (BitVec.ofNat 32 lo) (BitVec.ofNat 32 hi) = 1#1 ↔ lo < hi := by
  show Scalar.cmpi .ne (Scalar.extui (Scalar.cmpi .sgt (BitVec.ofNat 32 hi) (BitVec.ofNat 32 lo)) : BitVec 32) 0#32 = 1#1 ↔ _
  rw [show Scalar.cmpi .sgt (BitVec.ofNat 32 hi) (BitVec.ofNat 32 lo) = BitVec.ofBool (decide (lo < hi)) from cmpi_sgt_ofNat (w := 32) hh hl]
  exact bit_of

theorem cond3_of {p : Prop} [Decidable p] : k0_cond3 (BitVec.ofNat 32 (if p then 1 else 0)) = 1#1 ↔ p := by
  by_cases h : p <;> simp [h] <;> decide
theorem cond4_of {p : Prop} [Decidable p] : k0_cond4 (BitVec.ofNat 32 (if p then 1 else 0)) = 1#1 ↔ ¬ p := by
  by_cases h : p <;> simp [h] <;> decide

theorem condN_of {lo hi : ℕ} (hl : lo < 2 ^ 31) (hh : hi < 2 ^ 31) {p : Prop} [Decidable p] :
    condN (BitVec.ofNat 32 lo) (BitVec.ofNat 32 hi) (BitVec.ofNat 32 (if p then 1 else 0)) = 1#1 ↔ lo < hi ∧ p := by
  unfold condN
  rw [show Scalar.cmpi .sgt (BitVec.ofNat 32 hi) (BitVec.ofNat 32 lo) = BitVec.ofBool (decide (lo < hi)) from cmpi_sgt_ofNat (w := 32) hh hl]
  by_cases h : p <;> by_cases h' : lo < hi <;> simp [h, h'] <;> decide

section conds

variable {m} (hm : Counted m) (n : ℕ)
include hm

theorem small : Sched.lo (counts m 0) n < 2 ^ 31 ∧ Sched.hi (counts m 0) n < 2 ^ 31
    ∧ (Sched.lo (counts m 0) n < Sched.hi (counts m 0) n ↔ n < Sched.total (counts m 0)) := by
  rcases Nat.lt_or_ge n (Sched.total (counts m 0)) with h | h
  · have := Sched.lo_lt_hi (counts m 0) (hm 0) h
    have hh : Sched.hi (counts m 0) n ≤ 512 := (if_pos h).trans_le (min_le_left _ _)
    exact ⟨by omega, by omega, ⟨fun _ => h, fun _ => this⟩⟩
  · have h1 : Sched.lo (counts m 0) n = 0 := if_neg (Nat.not_lt.mpr h)
    have h2 : Sched.hi (counts m 0) n = 0 := if_neg (Nat.not_lt.mpr h)
    rw [h1, h2]
    exact ⟨by norm_num, by norm_num, ⟨fun h => absurd h (lt_irrefl _), fun h' => absurd h' (Nat.not_lt.mpr h)⟩⟩

/-- A point has rows exactly if it is a visit. -/
theorem cond2_at : k0_cond2 (loW' m n) (hiW' m n) = 1#1 ↔ n < Sched.total (counts m 0) :=
by
  unfold loW' hiW'; exact (cond2_of (small hm n).1 (small hm n).2.1).trans (small hm n).2.2
theorem cond3_at : k0_cond3 (fstW m n) = 1#1 ↔ n < Sched.total (counts m 0) ∧ (n = 0 ∨ Sched.tile (counts m 0) n ≠ Sched.tile (counts m 0) (n - 1)) := by
  unfold fstW; exact cond3_of
theorem cond4_at : k0_cond4 (fstW m n) = 1#1 ↔ ¬ (n < Sched.total (counts m 0) ∧ (n = 0 ∨ Sched.tile (counts m 0) n ≠ Sched.tile (counts m 0) (n - 1))) := by
  unfold fstW; exact cond4_of
theorem condN_at : condN (loW' m n) (hiW' m n) (newW m n) = 1#1 ↔ n < Sched.total (counts m 0)
    ∧ (n = 0 ∨ min 15 (Sched.ex (counts m 0) n) ≠ min 15 (Sched.ex (counts m 0) (n - 1))) := by
  unfold loW' hiW' newW
  refine (condN_of (p := n < Sched.total (counts m 0) ∧ (n = 0 ∨ min 15 (Sched.ex (counts m 0) n) ≠ min 15 (Sched.ex (counts m 0) (n - 1)))) (small hm n).1 (small hm n).2.1).trans ?_
  rw [(small hm n).2.2]
  exact ⟨fun h => h.2, fun h => ⟨h.1, h⟩⟩

omit n in
/-- There are visits. -/
theorem total_pos : 0 < Sched.total (counts m 0) := by
  have := (Sched.visit_spec (counts m 0) (hm 0) (r := 0) (by norm_num)).1
  omega

theorem total_le : Sched.total (counts m 0) ≤ 81 := Sched.total_le (counts m 0) (hm 0)

end conds

section at_point

variable {m} (hm : Counted m) (i : grid0.Coords)
include hm

omit hm in
theorem atD_of (pf : pre0.Contents (Elt F)) (off : Fin 1 → ℕ) (h : off 0 = (i 0).val) :
    (pf.atD 2 off : BitVec 32) = (pf 2 : IVec S81 32) (ix1 (pt81 i)) ∧ (pf.atD 3 off : BitVec 32) = (pf 3 : IVec S81 32) (ix1 (pt81 i))
      ∧ (pf.atD 4 off : BitVec 32) = (pf 4 : IVec S81 32) (ix1 (pt81 i)) := by
  have hlt : (i 0).val < 81 := (i 0).isLt
  have hb : ∀ a : Fin 1, off a + 1 ≤ S81.size a := fun a => by
    obtain rfl : a = 0 := Subsingleton.elim _ _
    show off 0 + 1 ≤ 81; omega
  have hi : (fun a : Fin 1 => (⟨off a, hb a⟩ : Fin (S81.size a))) = ix1 (pt81 i) := by
    funext a; apply Fin.ext
    obtain rfl : a = 0 := Subsingleton.elim _ _
    exact h
  refine ⟨?_, ?_, ?_⟩
  · exact (dif_pos hb).trans (congrArg (pf 2 : IVec S81 32) hi)
  · exact (dif_pos hb).trans (congrArg (pf 3 : IVec S81 32) hi)
  · exact (dif_pos hb).trans (congrArg (pf 4 : IVec S81 32) hi)

/-- The points behind the visits leave the output's buffer alone, the others store into it. -/
theorem idle_at : idle0 (tabs m) 4 i = !decide ((i 0).val < Sched.total (counts m 0)) := by
  show (!(k0_cond2 ((tabs m).atD 2 (k0_off1 i)) ((tabs m).atD 3 (k0_off1 i)) == 1#1 && k0_cond3 ((tabs m).atD 4 (k0_off2 i)) == 1#1) && !(k0_cond2 ((tabs m).atD 2 (k0_off1 i)) ((tabs m).atD 3 (k0_off1 i)) == 1#1 && k0_cond4 ((tabs m).atD 4 (k0_off3 i)) == 1#1)) = _
  have e2 : ((tabs m).atD 2 (k0_off1 i) : BitVec 32) = loW' m (i 0).val := ((atD_of i (tabs m) _ (off1_eq i)).1).trans (lo_at hm (pt81 i))
  have e3 : ((tabs m).atD 3 (k0_off1 i) : BitVec 32) = hiW' m (i 0).val := ((atD_of i (tabs m) _ (off1_eq i)).2.1).trans (hi_at hm (pt81 i))
  have e4 : ((tabs m).atD 4 (k0_off2 i) : BitVec 32) = fstW m (i 0).val := ((atD_of i (tabs m) _ (off2_eq i)).2.2).trans (first_at hm (pt81 i))
  have e4' : ((tabs m).atD 4 (k0_off3 i) : BitVec 32) = fstW m (i 0).val := ((atD_of i (tabs m) _ (off3_eq i)).2.2).trans (first_at hm (pt81 i))
  rw [e2, e3, e4, e4']
  simp only [beq_eq_decide]
  simp only [cond2_at hm, cond3_at hm, cond4_at hm]
  by_cases h : (i 0).val < Sched.total (counts m 0)
  · by_cases h' : (i 0).val = 0 ∨ Sched.tile (counts m 0) (i 0).val ≠ Sched.tile (counts m 0) ((i 0).val - 1) <;> simp [h, h']
  · simp [h]

/-- The words the body loads. -/
theorem word_lo (c : Dev nD) : word c (Memref.whole main_v66) (tabs m 2) (k0_off1 i) (k0_off1_inb i) = loW' m (i 0).val :=
  (congrArg (tabs m 2 : IVec S81 32) (emb_off i _ (off1_eq i) _ _)).trans (lo_at hm (pt81 i))
theorem word_hi (c : Dev nD) : word c (Memref.whole main_v75) (tabs m 3) (k0_off1 i) (k0_off1_inb i) = hiW' m (i 0).val :=
  (congrArg (tabs m 3 : IVec S81 32) (emb_off i _ (off1_eq i) _ _)).trans (hi_at hm (pt81 i))
theorem word_new (c : Dev nD) : word c (Memref.whole main_v87) (tabs m 5) (k0_off1 i) (k0_off1_inb i) = newW m (i 0).val :=
  (congrArg (tabs m 5 : IVec S81 32) (emb_off i _ (off1_eq i) _ _)).trans (new_at hm (pt81 i))
theorem word_first2 (c : Dev nD) : word c (Memref.whole main_v84) (tabs m 4) (k0_off2 i) (k0_off2_inb i) = fstW m (i 0).val :=
  (congrArg (tabs m 4 : IVec S81 32) (emb_off i _ (off2_eq i) _ _)).trans (first_at hm (pt81 i))
theorem word_first3 (c : Dev nD) : word c (Memref.whole main_v84) (tabs m 4) (k0_off3 i) (k0_off3_inb i) = fstW m (i 0).val :=
  (congrArg (tabs m 4 : IVec S81 32) (emb_off i _ (off3_eq i) _ _)).trans (first_at hm (pt81 i))

end at_point

end Cert.Proof.VI

end
-- ==== Proof.Visits.Run.lean ====
/-
  The experts' kernel over all its points: the weights it carries and the output block after each point, the launch, and the
  frame.
-/
module

public import proofs.«01_k».proof.Proof.Visits.Tables

@[expose] public section

set_option maxRecDepth 16384

noncomputable section

namespace Cert.Proof.VI

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] tabs counts V

variable {m : (ℓ : Loc nD τ sig) → Buf (Elt F) ℓ} (hm : Counted m) (ρ : Dev nD → PrngReg)

/-- The pipeline at the tables. -/
abbrev cfgR : Pipeline.Cfg sig Λ₀ := cfg0 (adm m hm 0)

/-- An array's block at a point. -/
def iblk (c : Dev nD) (w : Fin 5) (t : Fin grid0.N) : ((cfgR hm).win w).block.Idx → Elt F ((cfgR hm).win w).elt :=
  (((cfgR hm).win w).blk t).view.read (Elt F) (V m c (Pipeline.arrRef spec0 w))

/-- The point of a number. -/
def ptOf (n : ℕ) : Fin grid0.N := ⟨min n 80, by rw [N_0]; omega⟩
theorem ptOf_val (t : Fin grid0.N) : ptOf t.val = t := Fin.ext (by have := t.isLt.trans_eq N_0; show min t.val 80 = t.val; omega)

def xB (c : Dev nD) (n : ℕ) : Vec F S512x1024 .f32 := iblk hm c 0 (ptOf n)
def gB (c : Dev nD) (n : ℕ) : Vec F S1x1x1024x256 .f32 := iblk hm c 1 (ptOf n)
def uB (c : Dev nD) (n : ℕ) : Vec F S1x1x1024x256 .f32 := iblk hm c 2 (ptOf n)
def dB (c : Dev nD) (n : ℕ) : Vec F S1x1x256x1024 .f32 := iblk hm c 3 (ptOf n)

/-- The weights the kernel holds before point `n` (from point 1 on), -/
def scrW (c : Dev nD) : ℕ → Vec F S1024x512 .bf16
  | 0 => wcat (gB hm c 0) (uB hm c 0)
  | n + 1 => nextW (loW' m n) (hiW' m n) (newW m n) (gB hm c n) (uB hm c n) (scrW c n)
def scrD (c : Dev nD) : ℕ → Vec F S256x1024 .bf16
  | 0 => dcat (dB hm c 0)
  | n + 1 => nextD (loW' m n) (hiW' m n) (newW m n) (dB hm c n) (scrD c n)
/-- and the output block. -/
def outY (c : Dev nD) : ℕ → Vec F S512x1024 .f32
  | 0 => xB hm c 0
  | n + 1 => nextY (loW' m n) (hiW' m n) (fstW m n) (xB hm c n) (scrW hm c (n + 1)) (scrD hm c (n + 1)) (outY c n)

theorem outY_succ (c : Dev nD) (n : ℕ) : outY hm c (n + 1)
    = nextY (loW' m n) (hiW' m n) (fstW m n) (xB hm c n) (scrW hm c (n + 1)) (scrD hm c (n + 1)) (outY hm c n) := rfl

/-- The first point takes its weights whatever the buffers hold. -/
theorem scrW_step (c : Dev nD) (n : ℕ) (W : Vec F S1024x512 .bf16) (h : n ≠ 0 → W = scrW hm c n) :
    nextW (loW' m n) (hiW' m n) (newW m n) (gB hm c n) (uB hm c n) W = scrW hm c (n + 1) := by
  show _ = nextW _ _ _ _ _ _
  rcases Nat.eq_zero_or_pos n with rfl | hn
  · have h0 := (condN_at hm 0).mpr ⟨total_pos hm, Or.inl rfl⟩
    unfold nextW
    rw [if_pos h0, if_pos h0]
  · rw [h (by omega)]
theorem scrD_step (c : Dev nD) (n : ℕ) (D : Vec F S256x1024 .bf16) (h : n ≠ 0 → D = scrD hm c n) :
    nextD (loW' m n) (hiW' m n) (newW m n) (dB hm c n) D = scrD hm c (n + 1) := by
  show _ = nextD _ _ _ _ _
  rcases Nat.eq_zero_or_pos n with rfl | hn
  · have h0 := (condN_at hm 0).mpr ⟨total_pos hm, Or.inl rfl⟩
    unfold nextD
    rw [if_pos h0, if_pos h0]
  · rw [h (by omega)]

section steps

include hm

/-- A point behind the visits leaves the output block, -/
theorem nextY_idle {n : ℕ} (h : ¬ n < Sched.total (counts m 0)) (x : Vec F S512x1024 .f32) (W D) (Y : Vec F S512x1024 .f32) :
    nextY (loW' m n) (hiW' m n) (fstW m n) x W D Y = Y := by
  unfold nextY
  rw [if_neg (fun e => h ((cond2_at hm n).mp e))]
/-- a tile's first visit stores whatever it held, -/
theorem nextY_first {n : ℕ} (h : n < Sched.total (counts m 0) ∧ (n = 0 ∨ Sched.tile (counts m 0) n ≠ Sched.tile (counts m 0) (n - 1)))
    (x : Vec F S512x1024 .f32) (W D) (Y : Vec F S512x1024 .f32) :
    nextY (loW' m n) (hiW' m n) (fstW m n) x W D Y = yv (loW' m n) (hiW' m n) x W D := by
  unfold nextY
  rw [if_pos ((cond2_at hm n).mpr h.1), if_neg (fun e => (cond4_at hm n).mp e h), if_pos ((cond3_at hm n).mpr h)]
/-- and a later one adds. -/
theorem nextY_add {n : ℕ} (h : n < Sched.total (counts m 0)) (h' : ¬ (n = 0 ∨ Sched.tile (counts m 0) n ≠ Sched.tile (counts m 0) (n - 1)))
    (x : Vec F S512x1024 .f32) (W D) (Y : Vec F S512x1024 .f32) :
    nextY (loW' m n) (hiW' m n) (fstW m n) x W D Y = yadd (loW' m n) (hiW' m n) x W D Y := by
  unfold nextY
  rw [if_pos ((cond2_at hm n).mpr h), if_pos ((cond4_at hm n).mpr fun e => h' e.2), if_neg (fun e => h' ((cond3_at hm n).mp e).2)]

end steps

attribute [local irreducible] outY scrW scrD

/-! ## The proof data -/

/-- The tables' halves the body reads. -/
def tables (c : Dev nD) : sProp 𝕄 := Pipeline.ΦT pre0 (tabs m) c

/-- Before point `n`: the two weight buffers (at anything before the first point), the tables, the generator's register. -/
def inv (c : Dev nD) (n : ℕ) : sProp 𝕄 :=
  iprop(∃ W, ∃ D, ⌜n ≠ 0 → W = scrW hm c n ∧ D = scrD hm c n⌝ ∗ owns (c : Thread nD τ) (Memref.whole cc0_scratch0) fullShare W
    ∗ owns (c : Thread nD τ) (Memref.whole cc0_scratch1) fullShare D ∗ tables (m := m) c ∗ ∃ r, prngReg c r)

/-- Five blocks by their windows. -/
def pick (a0 : Vec F S512x1024 .f32) (a1 a2 : Vec F S1x1x1024x256 .f32) (a3 : Vec F S1x1x256x1024 .f32) (a4 : Vec F S512x1024 .f32) :
    (w : Fin 5) → ((cfgR hm).win w).block.Idx → Elt F ((cfgR hm).win w).elt
  | 0 => a0 | 1 => a1 | 2 => a2 | 3 => a3 | 4 => a4

/-- The arrays as the launch finds them; after a point each input's buffer at its block, the output's as named. -/
def dats (p : Fin 1) (c : Dev nD) : Dat τ (Elt F) Unit ℕ (UR sig nD τ) ℕ (Pipeline.pin pcfgs (adm m hm) p) c where
  A w := V m c (Pipeline.arrRef spec0 w)
  after w t := pick hm (iblk hm c 0 t) (iblk hm c 1 t) (iblk hm c 2 t) (iblk hm c 3 t) (outY hm c (t.val + 1)) w
  Φ t := inv hm c t.val
  q _ := fullShare
  owed _ := 0

/-- The proof data of the one kernel. -/
abbrev dat (c : Dev nD) : Dat τ (Elt F) Unit ℕ (UR sig nD τ) ℕ (cfgR hm) c := dats hm 0 c

theorem A_eq (c : Dev nD) (w : Fin 5) : (dat hm c).A w = V m c (Pipeline.arrRef spec0 w) := rfl
theorem after0 (c : Dev nD) (t : Fin grid0.N) : (dat hm c).after 0 t = iblk hm c 0 t := by
  dsimp only [dat, dats]; rfl
theorem after1 (c : Dev nD) (t : Fin grid0.N) : (dat hm c).after 1 t = iblk hm c 1 t := by
  dsimp only [dat, dats]; rfl
theorem after2 (c : Dev nD) (t : Fin grid0.N) : (dat hm c).after 2 t = iblk hm c 2 t := by
  dsimp only [dat, dats]; rfl
theorem after3 (c : Dev nD) (t : Fin grid0.N) : (dat hm c).after 3 t = iblk hm c 3 t := by
  dsimp only [dat, dats]; rfl
theorem after4 (c : Dev nD) (t : Fin grid0.N) : (dat hm c).after 4 t = outY hm c (t.val + 1) := by
  dsimp only [dat, dats]; rfl

theorem before0 (c : Dev nD) (t : Fin grid0.N) (d) : (dat hm c).before 0 t d = iblk hm c 0 t :=
  ((dat hm c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin grid0.N) (d) : (dat hm c).before 1 t d = iblk hm c 1 t :=
  ((dat hm c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin grid0.N) (d) : (dat hm c).before 2 t d = iblk hm c 2 t :=
  ((dat hm c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin grid0.N) (d) : (dat hm c).before 3 t d = iblk hm c 3 t :=
  ((dat hm c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The output's buffer between points -/

theorem idle4 (t : Fin grid0.N) : (cfgR hm).idle 4 ((cfgR hm).grid.coords t) = !decide (t.val < Sched.total (counts m 0)) := by
  exact (idle_at hm (grid0.coords t)).trans (congrArg (fun n => !decide (n < Sched.total (counts m 0))) (coords_val t))

theorem vec2_inj {a b : ℕ} (h : (![a, 0] : Fin 2 → ℕ) = ![b, 0]) : a = b := congrFun h (0 : Fin 2)

theorem index4 (t : Fin grid0.N) : ((cfgR hm).win 4).index t = ![Sched.tile (counts m 0) t.val, 0] := by
  exact (map4 hm (grid0.coords t)).trans (congrArg (fun n => (![Sched.tile (counts m 0) n, 0] : Fin 2 → ℕ)) (coords_val t))

/-- The output's block is written back when the tile changes, and at the last point. -/
theorem flush4 (t : Fin grid0.N) : ((cfgR hm).win 4).flush t = true ↔ t.val + 1 = 81 ∨ Sched.tile (counts m 0) (t.val + 1) ≠ Sched.tile (counts m 0) t.val := by
  have ht : t.val < 81 := t.isLt.trans_eq N_0
  rw [Window.flush_eq_flushF]
  unfold Window.flushF
  rw [show ((cfgR hm).win 4).isOut = true from rfl, Bool.true_and, Bool.or_eq_true, decide_eq_true_eq, decide_eq_true_eq]
  refine or_congr ⟨fun h => h.trans N_0, fun h => h.trans N_0.symm⟩ ?_
  constructor
  · rintro ⟨h, a, ha⟩ e
    apply ha
    rw [index4, index4, ← e]
  · intro h
    have h81 : t.val + 1 ≠ 81 → t.val + 1 < grid0.N := fun h => lt_of_lt_of_eq (show t.val + 1 < 81 by omega) N_0.symm
    by_cases h8 : t.val + 1 = 81
    · exact absurd (show Sched.tile (counts m 0) (t.val + 1) = Sched.tile (counts m 0) t.val by
        have h1 := Sched.tile_mono (counts m 0) (hm 0) (show t.val ≤ t.val + 1 by omega)
        have h2 := Sched.tile_lt (counts m 0) (hm 0) (t.val + 1)
        have h3 : Sched.tile (counts m 0) t.val = 65 := by
          have := total_le hm
          rcases Nat.lt_or_ge t.val (Sched.total (counts m 0)) with hl | hl
          · exact Sched.tile_last (counts m 0) (hm 0) (by omega)
          · exact if_neg (Nat.not_lt.mpr hl)
        omega) h
    · refine ⟨h81 h8, ?_⟩
      by_contra hc
      have e := not_exists_not.mp hc
      have e0 : ((cfgR hm).win 4).index ⟨t.val + 1, h81 h8⟩ = ((cfgR hm).win 4).index t := funext e
      have e1 : (![Sched.tile (counts m 0) (t.val + 1), 0] : Fin 2 → ℕ) = ![Sched.tile (counts m 0) t.val, 0] :=
        (index4 hm ⟨t.val + 1, h81 h8⟩).symm.trans (e0.trans (index4 hm t))
      exact h (vec2_inj e1)

include hm in
/-- Behind the visits the tile is the last one, as at the last visit. -/
theorem tile_end {n : ℕ} (h : Sched.total (counts m 0) ≤ n + 1) : Sched.tile (counts m 0) n = 65 := by
  rcases Nat.lt_or_ge n (Sched.total (counts m 0)) with hl | hl
  · exact Sched.tile_last (counts m 0) (hm 0) (by omega)
  · exact if_neg (Nat.not_lt.mpr hl)

/-- Where nothing of the tile has been stored yet, the point is its first visit. -/
theorem fresh_first : ∀ n, n < 81 → (cfgR hm).fresh 4 n = true →
    n < Sched.total (counts m 0) ∧ (n = 0 ∨ Sched.tile (counts m 0) n ≠ Sched.tile (counts m 0) (n - 1))
  | 0, _, _ => ⟨total_pos hm, Or.inl rfl⟩
  | n + 1, hn, h => by
    have hN : n < grid0.N := by rw [N_0]; omega
    rw [Cfg.fresh_succ _ _ n hN, Bool.or_eq_true, Bool.and_eq_true] at h
    rcases h with h | ⟨h, h'⟩
    · rcases (flush4 hm ⟨n, hN⟩).mp h with h | h
      · change n + 1 = 81 at h; omega
      · change Sched.tile (counts m 0) (n + 1) ≠ Sched.tile (counts m 0) n at h
        refine ⟨?_, Or.inr h⟩
        by_contra hc
        exact h (by rw [tile_end hm (n := n + 1) (by omega), tile_end hm (n := n) (by omega)])
    · have h1 := (fresh_first n (by omega) h').1
      have h2 : (!decide (n < Sched.total (counts m 0))) = true := (idle4 hm ⟨n, hN⟩).symm.trans h
      simp [h1] at h2

/-- What the body finds in the output's buffer: anything where nothing has been stored, else what the point before left. -/
theorem before4 (c : Dev nD) (t : Fin grid0.N) (d) : (dat hm c).before 4 t d
    = if (cfgR hm).fresh 4 t.val then d else (dat hm c).after 4 ⟨t.val - 1, lt_of_le_of_lt (Nat.sub_le _ _) t.isLt⟩ := by
  refine (dat hm c).before_out_traj 4 rfl (fun _ _ => rfl) (fun t ht hi hf => ?_) t.val t rfl d
  have hi' : (!decide (t.val < Sched.total (counts m 0))) = true := (idle4 hm t).symm.trans hi
  have hi'' : ¬ t.val < Sched.total (counts m 0) := by simpa using hi'
  refine (after4 hm c t).trans (Eq.trans ?_ (after4 hm c ⟨t.val - 1, _⟩).symm)
  show outY hm c (t.val + 1) = outY hm c (t.val - 1 + 1)
  rw [show t.val - 1 + 1 = t.val by omega, outY_succ, nextY_idle hm hi'']

theorem before4_kept (c : Dev nD) (t : Fin grid0.N) (d) (hf : (cfgR hm).fresh 4 t.val = false) : (dat hm c).before 4 t d = outY hm c t.val := by
  have h0 : t.val ≠ 0 := fun h0 => by rw [h0, Cfg.fresh_zero] at hf; exact absurd hf (by decide)
  refine (before4 hm c t d).trans ((if_neg (by rw [hf]; decide)).trans ((after4 hm c _).trans ?_))
  show outY hm c (t.val - 1 + 1) = _
  rw [show t.val - 1 + 1 = t.val by omega]

/-- Whatever the pipeline hands the body, the output block after the point is the one named. -/
theorem nextY_before (c : Dev nD) (t : Fin grid0.N) (d) :
    nextY (loW' m t.val) (hiW' m t.val) (fstW m t.val) (xB hm c t.val) (scrW hm c (t.val + 1)) (scrD hm c (t.val + 1)) ((dat hm c).before 4 t d)
      = outY hm c (t.val + 1) := by
  have ht : t.val < 81 := t.isLt.trans_eq N_0
  rw [outY_succ]
  cases hf : (cfgR hm).fresh 4 t.val
  · rw [before4_kept hm c t d hf]
  · have h := fresh_first hm t.val ht hf
    exact (nextY_first hm h _ _ _ _).trans (nextY_first hm h _ _ _ _).symm

/-! ## The body at a point -/

abbrev st (t : Fin grid0.N) (w : Fin 5) := ((cfgR hm).win w).stage ((cfgR hm).slots t w)

/-- The tables one by one. -/
theorem tables_eq (c : Dev nD) : (tables (m := m) c : sProp 𝕄)
    = iprop(pq c (Memref.whole main_v57) fullShare.right (tabs m 0) ∗ pq c (Memref.whole main_v39) fullShare.right (tabs m 1)
      ∗ pq c (Memref.whole main_v66) fullShare.right (tabs m 2) ∗ pq c (Memref.whole main_v75) fullShare.right (tabs m 3)
      ∗ pq c (Memref.whole main_v84) fullShare.right (tabs m 4) ∗ pq c (Memref.whole main_v87) fullShare.right (tabs m 5)) := by
  unfold tables Pipeline.ΦT Pipeline.prefHeld
  rw [bigSep_univ_eq_bigSepL [(0 : Fin 6), (1 : Fin 6), (2 : Fin 6), (3 : Fin 6), (4 : Fin 6), (5 : Fin 6)] (by decide) (by decide)]
  simp only [pq, Memref.view_whole, View.set_whole]
  rfl

/-- The body at a point. -/
abbrev bodyAt (t : Fin grid0.N) : Prog (TpuEff nD τ sig (Elt F) Λ₀ .tc) PUnit :=
  cc0_experts (grid0.coords t) (Memref.whole main_v57) (Memref.isWhole_whole _) (Memref.whole main_v39) (Memref.isWhole_whole _) (Memref.whole main_v66) (Memref.isWhole_whole _) (Memref.whole main_v75) (Memref.isWhole_whole _) (Memref.whole main_v84) (Memref.isWhole_whole _) (Memref.whole main_v87) (Memref.isWhole_whole _)
    (spec0_0.stage ((cfgR hm).slots t 0)) (hstage0_0 (((cfgR hm).slots t 0).cast nbuf0_0)) (spec0_1.stage ((cfgR hm).slots t 1)) (hstage0_1 (((cfgR hm).slots t 1).cast nbuf0_1)) (spec0_2.stage ((cfgR hm).slots t 2)) (hstage0_2 (((cfgR hm).slots t 2).cast nbuf0_2)) (spec0_3.stage ((cfgR hm).slots t 3)) (hstage0_3 (((cfgR hm).slots t 3).cast nbuf0_3)) (spec0_4.stage ((cfgR hm).slots t 4)) (hstage0_4 (((cfgR hm).slots t 4).cast nbuf0_4))
    (Memref.whole cc0_scratch0) (Memref.isWhole_whole _) (Memref.whole cc0_scratch1) (Memref.isWhole_whole _)

/-- What a point's body takes and leaves. -/
def bodyPre (c : Dev nD) (t : Fin grid0.N) (Y : Vec F S512x1024 .f32) : sProp 𝕄 :=
  iprop(inv hm c t.val
    ∗ owns (c : Thread nD τ) (spec0_0.stage ((cfgR hm).slots t 0)) fullShare (xB hm c t.val)
    ∗ owns (c : Thread nD τ) (spec0_1.stage ((cfgR hm).slots t 1)) fullShare (gB hm c t.val)
    ∗ owns (c : Thread nD τ) (spec0_2.stage ((cfgR hm).slots t 2)) fullShare (uB hm c t.val)
    ∗ owns (c : Thread nD τ) (spec0_3.stage ((cfgR hm).slots t 3)) fullShare (dB hm c t.val)
    ∗ owns (c : Thread nD τ) (spec0_4.stage ((cfgR hm).slots t 4)) fullShare Y)

theorem sound_point (c : Dev nD) (t : Fin grid0.N) (Y : Vec F S512x1024 .f32) (K : PUnit → sProp 𝕄) :
    iprop(bodyPre hm c t Y ∗ (iprop(inv hm c (t.val + 1)
      ∗ owns (c : Thread nD τ) (spec0_0.stage ((cfgR hm).slots t 0)) fullShare (xB hm c t.val)
      ∗ owns (c : Thread nD τ) (spec0_1.stage ((cfgR hm).slots t 1)) fullShare (gB hm c t.val)
      ∗ owns (c : Thread nD τ) (spec0_2.stage ((cfgR hm).slots t 2)) fullShare (uB hm c t.val)
      ∗ owns (c : Thread nD τ) (spec0_3.stage ((cfgR hm).slots t 3)) fullShare (dB hm c t.val)
      ∗ owns (c : Thread nD τ) (spec0_4.stage ((cfgR hm).slots t 4)) fullShare
        (nextY (loW' m t.val) (hiW' m t.val) (fstW m t.val) (xB hm c t.val) (scrW hm c (t.val + 1)) (scrD hm c (t.val + 1)) Y)) -∗ K ⟨⟩))
    ⊢ wp frame (wpE (defs₀ (F := F)) Variants.none (c : Thread nD τ) none) Set.univ (bodyAt hm t) K := by
  unfold bodyPre inv
  rw [tables_eq]
  iintro ⟨⟨⟨%W, %D, %hWD, Hw, Hd, ⟨T0, T1, T2, T3, T4, T5⟩, Hr⟩, H0, H1, H2, H3, H4⟩, Hk⟩
  have ev : (grid0.coords t 0).val = t.val := coords_val t
  have eW := scrW_step hm c t.val W (fun h => (hWD h).1)
  have eD := scrD_step hm c t.val D (fun h => (hWD h).2)
  iapply (sound_visit c (grid0.coords t) _ _ _ _ _ _ _ _ _ _ _ _ _ _ _ _ _ _ _ _ _ _ _ _ _ _ fullShare.right (tabs m 2) (tabs m 3) (tabs m 4) (tabs m 5)
    (loW' m t.val) (hiW' m t.val) (newW m t.val) (fstW m t.val)
    ((word_lo hm (grid0.coords t) c).trans (congrArg (loW' m) ev)) ((word_hi hm (grid0.coords t) c).trans (congrArg (hiW' m) ev))
    ((word_new hm (grid0.coords t) c).trans (congrArg (newW m) ev)) ((word_first2 hm (grid0.coords t) c).trans (congrArg (fstW m) ev))
    ((word_first3 hm (grid0.coords t) c).trans (congrArg (fstW m) ev))
    (xB hm c t.val) (gB hm c t.val) (uB hm c t.val) (dB hm c t.val) Y W D _)
  rw [eW, eD]
  isplitl [T2 T3 T4 T5]
  · isplitl [T2]; · iexact T2
    isplitl [T3]; · iexact T3
    isplitl [T4]; · iexact T4
    iexact T5
  isplitl [H0]; · iexact H0
  isplitl [H1]; · iexact H1
  isplitl [H2]; · iexact H2
  isplitl [H3]; · iexact H3
  isplitl [H4]; · iexact H4
  isplitl [Hw]; · iexact Hw
  isplitl [Hd]; · iexact Hd
  iintro ⟨⟨T2, T3, T4, T5⟩, H0, H1, H2, H3, H4, Hw, Hd⟩
  iapply Hk
  isplitl [T0 T1 T2 T3 T4 T5 Hw Hd Hr]
  · iexists _, _
    isplitr
    · ipureintro; exact fun _ => ⟨rfl, rfl⟩
    isplitl [Hw]; · iexact Hw
    isplitl [Hd]; · iexact Hd
    isplitr [Hr]
    · isplitl [T0]; · iexact T0
      isplitl [T1]; · iexact T1
      isplitl [T2]; · iexact T2
      isplitl [T3]; · iexact T3
      isplitl [T4]; · iexact T4
      iexact T5
    iexact Hr
  isplitl [H0]; · iexact H0
  isplitl [H1]; · iexact H1
  isplitl [H2]; · iexact H2
  isplitl [H3]; · iexact H3
  iexact H4

theorem defs₀_row (t : Fin grid0.N) :
    defs₀ (F := F) .tc (cfgR hm).body ((cfgR hm).bodyArgs t ((cfgR hm).slots t)) = bodyAt hm t := by
  unfold defs₀; rw [Defs.onTc_tc]

theorem xB_eq (c : Dev nD) (t : Fin grid0.N) : xB hm c t.val = iblk hm c 0 t := by unfold xB; rw [ptOf_val]
theorem gB_eq (c : Dev nD) (t : Fin grid0.N) : gB hm c t.val = iblk hm c 1 t := by unfold gB; rw [ptOf_val]
theorem uB_eq (c : Dev nD) (t : Fin grid0.N) : uB hm c t.val = iblk hm c 2 t := by unfold uB; rw [ptOf_val]
theorem dB_eq (c : Dev nD) (t : Fin grid0.N) : dB hm c t.val = iblk hm c 3 t := by unfold dB; rw [ptOf_val]

/-- What the pipeline takes back of the output's buffer: the named block, or, at an idle point, what it handed over. -/
theorem post4 (c : Dev nD) (t : Fin grid0.N) (d) :
    (owns (c : Thread nD τ) (spec0_4.stage ((cfgR hm).slots t 4)) fullShare (nextY (loW' m t.val) (hiW' m t.val) (fstW m t.val) (xB hm c t.val) (scrW hm c (t.val + 1)) (scrD hm c (t.val + 1)) ((dat hm c).before 4 t d)) : sProp 𝕄)
      ⊢ (match (cfgR hm).idle 4 ((cfgR hm).grid.coords t) with
          | true => (match ((cfgR hm).win 4).flush t with
            | false => iprop(∃ d, owns (c : Thread nD τ) (spec0_4.stage ((cfgR hm).slots t 4)) fullShare ((dat hm c).before 4 t d))
            | true => owns (c : Thread nD τ) (spec0_4.stage ((cfgR hm).slots t 4)) fullShare ((dat hm c).after 4 t))
          | false => owns (c : Thread nD τ) (spec0_4.stage ((cfgR hm).slots t 4)) fullShare ((dat hm c).after 4 t)) := by
  have e1 := nextY_before hm c t d
  have e2 := after4 hm c t
  cases hi : (cfgR hm).idle 4 ((cfgR hm).grid.coords t)
  · rw [e1, e2]
  · cases hf : ((cfgR hm).win 4).flush t
    · have hi' : (!decide (t.val < Sched.total (counts m 0))) = true := (idle4 hm t).symm.trans hi
      have hi'' : ¬ t.val < Sched.total (counts m 0) := by simpa using hi'
      have e3 := nextY_idle hm hi'' (xB hm c t.val) (scrW hm c (t.val + 1)) (scrD hm c (t.val + 1)) ((dat hm c).before 4 t d)
      rw [e3]
      iintro H
      iexists d
      iexact H
    · rw [e1, e2]

theorem sound_body (c : Dev nD) (t : Fin grid0.N) :
    iprop(inv hm c t.val ∗ (dat hm c).owesAt () t.castSucc
      ∗ (∃ d, owns (c : Thread nD τ) (spec0_0.stage ((cfgR hm).slots t 0)) fullShare ((dat hm c).before 0 t d))
      ∗ (∃ d, owns (c : Thread nD τ) (spec0_1.stage ((cfgR hm).slots t 1)) fullShare ((dat hm c).before 1 t d))
      ∗ (∃ d, owns (c : Thread nD τ) (spec0_2.stage ((cfgR hm).slots t 2)) fullShare ((dat hm c).before 2 t d))
      ∗ (∃ d, owns (c : Thread nD τ) (spec0_3.stage ((cfgR hm).slots t 3)) fullShare ((dat hm c).before 3 t d))
      ∗ (∃ d, owns (c : Thread nD τ) (spec0_4.stage ((cfgR hm).slots t 4)) fullShare ((dat hm c).before 4 t d)))
    ⊢ wp frame (wpE (defs₀ (F := F)) Variants.none (c : Thread nD τ) none) Set.univ (bodyAt hm t) (fun _ =>
      iprop(inv hm c (t.val + 1) ∗ (dat hm c).owesAt () t.castSucc
      ∗ owns (c : Thread nD τ) (spec0_0.stage ((cfgR hm).slots t 0)) fullShare ((dat hm c).after 0 t)
      ∗ owns (c : Thread nD τ) (spec0_1.stage ((cfgR hm).slots t 1)) fullShare ((dat hm c).after 1 t)
      ∗ owns (c : Thread nD τ) (spec0_2.stage ((cfgR hm).slots t 2)) fullShare ((dat hm c).after 2 t)
      ∗ owns (c : Thread nD τ) (spec0_3.stage ((cfgR hm).slots t 3)) fullShare ((dat hm c).after 3 t)
      ∗ (match (cfgR hm).idle 4 ((cfgR hm).grid.coords t) with
          | true => (match ((cfgR hm).win 4).flush t with
            | false => iprop(∃ d, owns (c : Thread nD τ) (spec0_4.stage ((cfgR hm).slots t 4)) fullShare ((dat hm c).before 4 t d))
            | true => owns (c : Thread nD τ) (spec0_4.stage ((cfgR hm).slots t 4)) fullShare ((dat hm c).after 4 t))
          | false => owns (c : Thread nD τ) (spec0_4.stage ((cfgR hm).slots t 4)) fullShare ((dat hm c).after 4 t)))) := by
  simp only [before0, before1, before2, before3, after0, after1, after2, after3, ← xB_eq, ← gB_eq, ← uB_eq, ← dB_eq]
  iintro ⟨Hi, Ho, ⟨%d0, H0⟩, ⟨%d1, H1⟩, ⟨%d2, H2⟩, ⟨%d3, H3⟩, ⟨%d4, H4⟩⟩
  iapply (sound_point hm c t ((dat hm c).before 4 t d4) _)
  unfold bodyPre
  isplitl [Hi H0 H1 H2 H3 H4]
  · isplitl [Hi]; · iexact Hi
    isplitl [H0]; · iexact H0
    isplitl [H1]; · iexact H1
    isplitl [H2]; · iexact H2
    isplitl [H3]; · iexact H3
    iexact H4
  iintro ⟨Hi, H0, H1, H2, H3, H4⟩
  isplitl [Hi]; · iexact Hi
  isplitl [Ho]; · iexact Ho
  isplitl [H0]; · iexact H0
  isplitl [H1]; · iexact H1
  isplitl [H2]; · iexact H2
  isplitl [H3]; · iexact H3
  iapply (post4 hm c t d4)
  iexact H4

theorem body_obligation (c : Dev nD) : BodyObligation (dat hm c) (defs₀ (F := F)) Variants.none () Set.univ := fun t => by
  rw [bigSep_W0, bigSep_W0, defs₀_row]
  exact triple_restated (sound_body hm c t) rfl .rfl fun _ => .rfl

/-! ## The run and the frame -/

theorem hmain : Pipeline.HMainP (Ix := Unit) (Name := ℕ) (U := UR sig nD τ) (Lvl := ℕ) pcfgs 0 defs₀ Variants.none m (main (F := F)) (V m) := by
  unfold V
  exact Pipeline.hmainP_prefixes pcfgs 0 defs₀ Variants.none m main opss
    ⟨hostOps0_sub, hostOps0_1_sub, hostOps0_2_sub, hostOps0_3_sub, hostOps0_4_sub, hostOps0_5_sub, hostOps0_6_sub, hostOps0_7_sub, hostOps0_8_sub,
      hostOps0_9_sub, hostOps0_10_sub, hostOps0_11_sub, hostOps0_12_sub, hostOps0_13_sub, hostOps0_14_sub, hostOps0_15_sub, hostOps0_16_sub⟩
    (by simp only [opss, List.forall_cons, List.Forall]; repeat' first | exact rfl | apply And.intro) (fun c => (main_chain c).trans rfl)

theorem inv_in (c : Dev nD) : iprop(Pipeline.ΦA spec0 c ∗ tables (m := m) c) ⊢ (inv hm c 0 : sProp 𝕄) := by
  unfold Pipeline.ΦA inv owns
  rw [scopedRest0_eq]
  iintro ⟨⟨⟨⟨%f0, H0⟩, ⟨%f1, H1⟩⟩, Hr⟩, Ht⟩
  iexists f0, f1
  isplitr
  · ipureintro; exact fun h => absurd rfl h
  simp only [Memref.view_whole, View.set_whole]
  isplitl [H0]
  · iexists f0; isplitr
    · ipureintro; rfl
    iexact H0
  isplitl [H1]
  · iexists f1; isplitr
    · ipureintro; rfl
    iexact H1
  isplitl [Ht]; · iexact Ht
  iexact Hr

theorem inv_out (c : Dev nD) (n : ℕ) : (inv hm c n : sProp 𝕄) ⊢ Pipeline.ΦA spec0 c := by
  unfold Pipeline.ΦA inv owns
  rw [scopedRest0_eq]
  simp only [Memref.view_whole, View.set_whole]
  iintro ⟨%W, %D, %hWD, ⟨%f0, %e0, H0⟩, ⟨%f1, %e1, H1⟩, Ht, Hr⟩
  isplitr [Hr]
  · isplitl [H0]
    · iexists f0; iexact H0
    iexists f1; iexact H1
  iexact Hr

set_option backward.isDefEq.respectTransparency.types false in
/-- The launch: the arrays end as the proof data says, and every counter ends at zero. -/
theorem run_main_quiescent : θ_run defs (onTc (τ := τ) (main (F := F))) (s₀ m ρ)
    (fun r => (Pipeline.FramePost (Pipeline.pin pcfgs (adm m hm)) (dats hm) 0 (V m)) r ∧ r.2.sem = fun _ => 0) :=
  Pipeline.θ_run_frameP_track (Q' := _) pcfgs (adm m hm) (dats hm) (0 : Fin 1) launch0 defs₀ Variants.none m ρ main
    (hbody := fun c => (body_obligation hm c).loose) (hshare := fun c => (dats hm 0 c).share_full fun _ => rfl)
    (howed := fun _ _ => rfl) (V := V m) (hmain := hmain) (hA := A_eq hm)
    (hpf := fun c k => by obtain rfl : c = 0 := Subsingleton.elim _ _; unfold adm tabs; rfl)
    (hin := inv_in hm) (hout := fun c => inv_out hm c _)

theorem arg0_rest : main_arg0 ∈ Pipeline.restRefs sig spec0 := by decide

/-- The argument arrays end as they began. -/
theorem unchanged (r) (h : Pipeline.FramePost (Pipeline.pin pcfgs (adm m hm)) (dats hm) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 arg0_rest).trans (V_arg0 m c),
   ((h c).1 0).trans (((dats hm 0 c).arrAt_in 0 rfl _).trans ((A_eq hm c 0).trans (V_arg1 m c))),
   ((h c).1 1).trans (((dats hm 0 c).arrAt_in 1 rfl _).trans ((A_eq hm c 1).trans (V_arg2 m c))),
   ((h c).1 2).trans (((dats hm 0 c).arrAt_in 2 rfl _).trans ((A_eq hm c 2).trans (V_arg3 m c))),
   ((h c).1 3).trans (((dats hm 0 c).arrAt_in 3 rfl _).trans ((A_eq hm c 3).trans (V_arg4 m c)))⟩

include hm in
/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => unchanged hm r h.1 c, h.2⟩) (run_main_quiescent hm ρ)

end Cert.Proof.VI

end
-- ==== Proof.Visits.Val.lean ====
/-
  What a visit's expert makes of a row: nothing outside the visit's rows, the expert's own value on them.
-/
module

public import proofs.«01_k».proof.Proof.Visits.Body
public import Idealize.ShloMosaic.Lib.Pointwise
public import Idealize.ShloMosaic.Lib.WordCmp

@[expose] public section

noncomputable section

namespace Cert.Proof.VI

open Cert.Kernel2Ideal Cert.Kernel2Ideal.Gen
open Idealize.ShloMosaic Idealize.ShloMosaic.TcCoe Idealize.ShloMosaic.WordCmp

/-- An expert's hidden value from the gate's and the up-projection's. -/
def hid (g u : EReal) : EReal := g * Ideal.div 1 (1 + Ideal.exp (-g)) * u

/-- A row's gate or up-projection at a lane: its product with a column of weights. -/
def proj (x : Fin 1024 → EReal) (w : Fin 1024 → Fin 256 → EReal) (f : Fin 256) : EReal := ∑ k : Fin 1024, x k * w k f

/-- An expert's value of a row at a lane, scaled by `a`. -/
def ffn (x : Fin 1024 → EReal) (wg wu : Fin 1024 → Fin 256 → EReal) (wd : Fin 256 → Fin 1024 → EReal) (a : EReal) (d : Fin 1024) : EReal :=
  ∑ f : Fin 256, hid (proj x wg f) (proj x wu f) * a * wd f d

theorem ffn_zero (x wg wu wd d) : ffn x wg wu wd 0 d = 0 := Finset.sum_eq_zero fun f _ => by rw [mul_zero, zero_mul]

theorem zero_word : (Ideal.ofBits FTy.f32 0#32 : EReal) = 0 := by simp [Ideal.ofBits, Ideal.ieee]

/-- The mask of a visit's rows. -/
theorem mask_at (lo hi : ℕ) (hlo : lo < 2 ^ 31) (hhi : hi < 2 ^ 31) (r : Fin 512) (z : Fin 1) :
    (k0_pay6 (BitVec.ofNat 32 lo) (BitVec.ofNat 32 hi) : FVec Ideal S512x1 .f32) (ix2 r z) = if lo ≤ r.val ∧ r.val < hi then 1 else 0 := by
  unfold k0_pay6
  pointwise []
  have hr : r.val < 2 ^ 31 := by have := r.isLt; omega
  rw [cmpi_sge_ofNat (w := 32) hr hlo, cmpi_slt_ofNat (w := 32) hr hhi, andi_ofBool]
  by_cases h1 : lo ≤ r.val <;> by_cases h2 : r.val < hi <;> simp [h1, h2, Scalar.select]

variable (x : Vec Ideal S256x1024 .f32) (W : Vec Ideal S1024x512 .bf16) (D : Vec Ideal S256x1024 .bf16)

/-- The two halves of the weights the first scratch buffer holds. -/
abbrev gateW (W : Vec Ideal S1024x512 .bf16) (k : Fin 1024) (f : Fin 256) : EReal := W (ix2 k (⟨f.val, by omega⟩ : Fin 512))
abbrev upW (W : Vec Ideal S1024x512 .bf16) (k : Fin 1024) (f : Fin 256) : EReal := W (ix2 k (⟨256 + f.val, by omega⟩ : Fin 512))

theorem pay9_at (r f : Fin 256) : k0_pay9 W x (ix2 r f) = proj (fun k => x (ix2 r k)) (gateW W) f := by
  unfold k0_pay9 k0_pay8 proj
  pointwise []
theorem pay10_at (r f : Fin 256) : k0_pay10 W x (ix2 r f) = proj (fun k => x (ix2 r k)) (upW W) f := by
  unfold k0_pay10 k0_pay8 proj
  pointwise []
theorem pay11_at (r f : Fin 256) : k0_pay11 W x (ix2 r f) = 1 + Ideal.exp (-proj (fun k => x (ix2 r k)) (gateW W) f) := by
  unfold k0_pay11
  pointwise []
  rw [pay9_at, zero_sub]
theorem pay12_at (r f : Fin 256) : (k0_pay12 : FVec Ideal S256x256 .f32) (ix2 r f) = 1 := by
  unfold k0_pay12
  pointwise []

theorem pay7_at (lo hi : BitVec 32) (r : Fin 256) (d : Fin 1024) : k0_pay7 lo hi W D x (ix2 r d)
    = ffn (fun k => x (ix2 r k)) (gateW W) (upW W) (fun f d => D (ix2 f d)) ((k0_pay6 lo hi : FVec Ideal S512x1 .f32) (ix2 (⟨r.val, by omega⟩ : Fin 512) (0 : Fin 1))) d := by
  unfold k0_pay7 ffn hid proj
  pointwise []
  simp only [zero_sub]

/-- What a visit makes of the tile, at a row and a lane. -/
theorem yv_at (lo hi : ℕ) (hlo : lo < 2 ^ 31) (hhi : hi < 2 ^ 31) (X : Vec Ideal S512x1024 .f32) (r : Fin 512) (d : Fin 1024) :
    yv (BitVec.ofNat 32 lo) (BitVec.ofNat 32 hi) X W D (ix2 r d)
      = if lo ≤ r.val ∧ r.val < hi then ffn (fun k => X (ix2 r k)) (gateW W) (upW W) (fun f d => D (ix2 f d)) 1 d else 0 := by
  have hm := mask_at lo hi hlo hhi r 0
  have key : yv (BitVec.ofNat 32 lo) (BitVec.ofNat 32 hi) X W D (ix2 r d)
      = ffn (fun k => X (ix2 r k)) (gateW W) (upW W) (fun f d => D (ix2 f d)) (if lo ≤ r.val ∧ r.val < hi then 1 else 0) d := by
    unfold yv k0_pay4
    pointwise []
    split
    · next h =>
      rw [pay7_at, hm]
      refine congrArg (fun g : Fin 1024 → EReal => ffn g _ _ _ _ d) (funext fun k => ?_)
      unfold rows0
      refine View.ld_unit_apply_of (Val := Elt Ideal) (e := .f32) _ _ _ _ _ _ (fun a => ?_)
      fin_cases a
      · show r.val = 0 + r.val; omega
      · show k.val = 0 + k.val; omega
    · next h =>
      have hx : ∀ k : Fin 1024, rows1 X (ix2 (⟨r.val - 256, by omega⟩ : Fin 256) k) = X (ix2 r k) := fun k => by
        unfold rows1
        refine View.ld_unit_apply_of (Val := Elt Ideal) (e := .f32) _ _ _ _ _ _ (fun a => ?_)
        fin_cases a
        · show r.val = 256 + (r.val - 256); omega
        · show k.val = 0 + k.val; omega
      have hr : (⟨256 + (r.val - 256), by omega⟩ : Fin 512) = r := Fin.ext (by show 256 + (r.val - 256) = r.val; omega)
      unfold ffn hid
      refine Finset.sum_congr rfl fun f _ => ?_
      rw [pay9_at, pay10_at, pay11_at, pay12_at, hr, hm]
      simp only [hx]
  rw [key]
  split
  · rfl
  · exact ffn_zero _ _ _ _ _

theorem yadd_at (lo hi : BitVec 32) (X Y : Vec Ideal S512x1024 .f32) (r : Fin 512) (d : Fin 1024) :
    yadd lo hi X W D Y (ix2 r d) = Y (ix2 r d) + yv lo hi X W D (ix2 r d) := by
  unfold yadd k0_pay5 yv
  pointwise []

/-! ## The weights as the scratch buffers hold them -/

variable (x8 x9 : Vec Ideal S1x1x1024x256 .f32) (x10 : Vec Ideal S1x1x256x1024 .f32)

theorem pay1_at (v : Vec Ideal S1x1x1024x256 .f32) (k : Fin 1024) (f : Fin 256) : k0_pay1 v (ix2 k f) = v (ix4 (0 : Fin 1) (0 : Fin 1) k f) := by
  unfold k0_pay1
  pointwise []
theorem pay2_at (v : Vec Ideal S1x1x1024x256 .f32) (k : Fin 1024) (f : Fin 256) : k0_pay2 v (ix2 k f) = v (ix4 (0 : Fin 1) (0 : Fin 1) k f) := by
  unfold k0_pay2
  pointwise []
theorem pay3_at (v : Vec Ideal S1x1x256x1024 .f32) (f : Fin 256) (d : Fin 1024) : k0_pay3 v (ix2 f d) = v (ix4 (0 : Fin 1) (0 : Fin 1) f d) := by
  unfold k0_pay3
  pointwise []

theorem dcat_at (f : Fin 256) (d : Fin 1024) : dcat x10 (ix2 f d) = x10 (ix4 (0 : Fin 1) (0 : Fin 1) f d) := by
  unfold dcat
  rw [View.ld_unit_lit (e := .f32) inb_S1x1x256x1024_S1x1x256x1024_0_0_0_0 _ (fun a => by fin_cases a <;> rfl)]
  exact pay3_at _ f d

/-- The two weights side by side, as one function. -/
def wcatF (y : S1024x512.Idx) : EReal :=
  if h : (y 1).val < 256 then x8 (ix4 (0 : Fin 1) (0 : Fin 1) (y 0) (⟨(y 1).val, h⟩ : Fin 256))
  else x9 (ix4 (0 : Fin 1) (0 : Fin 1) (y 0) (⟨(y 1).val - 256, by have : (y 1).val < 512 := (y 1).isLt; omega⟩ : Fin 256))

theorem wcatF_lo (y : S1024x512.Idx) (k : Fin 1024) (f : Fin 256) (h0 : (y 0).val = k.val) (h1 : (y 1).val = f.val) :
    wcatF x8 x9 y = x8 (ix4 (0 : Fin 1) (0 : Fin 1) k f) := by
  have hf := f.isLt
  unfold wcatF
  rw [dif_pos (show (y 1).val < 256 by omega)]
  exact congrArg₂ (fun (a : Fin 1024) (b : Fin 256) => x8 (ix4 (0 : Fin 1) (0 : Fin 1) a b)) (Fin.ext h0) (Fin.ext h1)
theorem wcatF_hi (y : S1024x512.Idx) (k : Fin 1024) (f : Fin 256) (h0 : (y 0).val = k.val) (h1 : (y 1).val = 256 + f.val) :
    wcatF x8 x9 y = x9 (ix4 (0 : Fin 1) (0 : Fin 1) k f) := by
  unfold wcatF
  rw [dif_neg (show ¬ (y 1).val < 256 by omega)]
  exact congrArg₂ (fun (a : Fin 1024) (b : Fin 256) => x9 (ix4 (0 : Fin 1) (0 : Fin 1) a b)) (Fin.ext h0) (Fin.ext (by show (y 1).val - 256 = f.val; omega))

theorem wcat_eq (y : S1024x512.Idx) : wcat x8 x9 y = wcatF x8 x9 y := by
  unfold wcat
  rw [View.ld_unit_lit (e := .f32) inb_S1x1x1024x256_S1x1x1024x256_0_0_0_0 x9 (fun a => by fin_cases a <;> rfl),
    View.ld_unit_lit (e := .f32) inb_S1x1x1024x256_S1x1x1024x256_0_0_0_0 x8 (fun a => by fin_cases a <;> rfl)]
  refine View.canon_apply_of_pieces (Val := Elt Ideal) (e := .bf16) (wcatF x8 x9) _ (fun p hp z => ?_) y (cover_wcat _ _ y)
  rcases List.mem_cons.mp hp with rfl | hp
  · obtain ⟨k, f, rfl⟩ : ∃ (k : Fin 1024) (f : Fin 256), z = ix2 k f := ⟨z 0, z 1, by funext d; fin_cases d <;> rfl⟩
    refine (pay2_at x9 k f).trans (wcatF_hi x8 x9 _ k f ?_ ?_).symm
    · exact (Rect.idx_unit_val _ _ inb_S1024x512_S1024x256_0_256 _ 0).trans (Nat.zero_add _)
    · exact Rect.idx_unit_val _ _ inb_S1024x512_S1024x256_0_256 _ 1
  · obtain rfl := List.mem_singleton.mp hp
    obtain ⟨k, f, rfl⟩ : ∃ (k : Fin 1024) (f : Fin 256), z = ix2 k f := ⟨z 0, z 1, by funext d; fin_cases d <;> rfl⟩
    refine (pay1_at x8 k f).trans (wcatF_lo x8 x9 _ k f ?_ ?_).symm
    · exact (Rect.idx_unit_val _ _ inb_S1024x512_S1024x256_0_0 _ 0).trans (Nat.zero_add _)
    · exact (Rect.idx_unit_val _ _ inb_S1024x512_S1024x256_0_0 _ 1).trans (Nat.zero_add _)

theorem gateW_wcat : gateW (wcat x8 x9) = fun k f => x8 (ix4 (0 : Fin 1) (0 : Fin 1) k f) := by
  funext k f
  unfold gateW
  rw [wcat_eq]
  unfold wcatF
  exact dif_pos f.isLt
theorem upW_wcat : upW (wcat x8 x9) = fun k f => x9 (ix4 (0 : Fin 1) (0 : Fin 1) k f) := by
  funext k f
  unfold upW
  rw [wcat_eq]
  unfold wcatF
  refine (dif_neg (by show ¬ 256 + f.val < 256; omega)).trans ?_
  exact congrArg (fun g : Fin 256 => x9 (ix4 (0 : Fin 1) (0 : Fin 1) k g)) (Fin.ext (by show 256 + f.val - 256 = f.val; omega))

end Cert.Proof.VI
end
-- ==== Proof.Visits.Rows.lean ====
/-
  The experts' output block after each point: the rows of the tile whose visits are done hold their expert's values, the
  others nothing.
-/
module

public import proofs.«01_k».proof.Proof.Visits.Run
public import proofs.«01_k».proof.Proof.Visits.Val

@[expose] public section

set_option maxRecDepth 16384

noncomputable section

namespace Cert.Proof.VI

open Cert.Kernel2Ideal Cert.Kernel2Ideal.Gen
open Idealize.ShloMosaic Idealize.ShloMosaic.TcCoe
open Idealize.SL Idealize.SL.Sem
open Idealize.ShloMosaic.Pipeline (Dat Cfg Window)

attribute [local irreducible] tabs counts V outY scrW scrD

variable {m : (ℓ : Loc nD τ sig) → Buf (Elt Ideal) ℓ} (hm : Counted m)

/-- A row's and an expert's index. -/
def rowF (r : ℕ) : Fin 33792 := ⟨min r 33791, by omega⟩
def exF (e : ℕ) : Fin 16 := ⟨min 15 e, by omega⟩

theorem index0 (t : Fin grid0.N) : ((cfgR hm).win 0).index t = ![Sched.tile (counts m 0) t.val, 0] := by
  exact (map0 hm (grid0.coords t)).trans (congrArg (fun n => (![Sched.tile (counts m 0) n, 0] : Fin 2 → ℕ)) (coords_val t))
theorem index1 (t : Fin grid0.N) : ((cfgR hm).win 1).index t = ![0, min 15 (Sched.ex (counts m 0) t.val), 0, 0] := by
  exact (map1 hm (grid0.coords t)).trans (congrArg (fun n => (![0, min 15 (Sched.ex (counts m 0) n), 0, 0] : Fin 4 → ℕ)) (coords_val t))
theorem index2 (t : Fin grid0.N) : ((cfgR hm).win 2).index t = ![0, min 15 (Sched.ex (counts m 0) t.val), 0, 0] := by
  exact (map2 hm (grid0.coords t)).trans (congrArg (fun n => (![0, min 15 (Sched.ex (counts m 0) n), 0, 0] : Fin 4 → ℕ)) (coords_val t))
theorem index3 (t : Fin grid0.N) : ((cfgR hm).win 3).index t = ![0, min 15 (Sched.ex (counts m 0) t.val), 0, 0] := by
  exact (map3 hm (grid0.coords t)).trans (congrArg (fun n => (![0, min 15 (Sched.ex (counts m 0) n), 0, 0] : Fin 4 → ℕ)) (coords_val t))

abbrev A1 (m : (ℓ : Loc nD τ sig) → Buf (Elt Ideal) ℓ) (c : Dev nD) : S33792x1024.Idx → EReal := m ((c.tc : Thread nD τ).loc main_arg1)
abbrev A2 (m : (ℓ : Loc nD τ sig) → Buf (Elt Ideal) ℓ) (c : Dev nD) : S4x16x1024x256.Idx → EReal := m ((c.tc : Thread nD τ).loc main_arg2)
abbrev A3 (m : (ℓ : Loc nD τ sig) → Buf (Elt Ideal) ℓ) (c : Dev nD) : S4x16x1024x256.Idx → EReal := m ((c.tc : Thread nD τ).loc main_arg3)
abbrev A4 (m : (ℓ : Loc nD τ sig) → Buf (Elt Ideal) ℓ) (c : Dev nD) : S4x16x256x1024.Idx → EReal := m ((c.tc : Thread nD τ).loc main_arg4)

variable (c : Dev nD)

theorem ptOf_lt {n : ℕ} (h : n < 81) : (ptOf n).val = n := by show min n 80 = n; omega

/-! Where a point's blocks lie in their arrays, from the block's index. -/

theorem emb0 (pf : (pcfgs (F := Ideal) 0).Adm) (t : Fin grid0.N) (x : ℕ) (e : ((cfg0 pf).win 0).index t = (![x, 0] : Fin 2 → ℕ)) (r : Fin 512) (k : Fin 1024) (hx : x ≤ 65) :
    (((cfg0 pf).win 0).blk t).view.emb (ix2 r k) = ix2 (rowF (512 * x + r.val)) k := by
  have e0 := congrFun e (0 : Fin 2)
  have e1 := congrFun e (1 : Fin 2)
  funext a
  apply Fin.ext
  fin_cases a
  · blk_simp
    erw [e0]
    show x * 512 + r.val = min (512 * x + r.val) 33791
    omega
  · blk_simp
    erw [e1]
    show 0 * 1024 + k.val = k.val
    omega

theorem emb4 (pf : (pcfgs (F := Ideal) 0).Adm) (t : Fin grid0.N) (x : ℕ) (e : ((cfg0 pf).win 4).index t = (![x, 0] : Fin 2 → ℕ)) (r : Fin 512) (k : Fin 1024) (hx : x ≤ 65) :
    (((cfg0 pf).win 4).blk t).view.emb (ix2 r k) = ix2 (rowF (512 * x + r.val)) k := by
  have e0 := congrFun e (0 : Fin 2)
  have e1 := congrFun e (1 : Fin 2)
  funext a
  apply Fin.ext
  fin_cases a
  · blk_simp
    erw [e0]
    show x * 512 + r.val = min (512 * x + r.val) 33791
    omega
  · blk_simp
    erw [e1]
    show 0 * 1024 + k.val = k.val
    omega

theorem emb1 (pf : (pcfgs (F := Ideal) 0).Adm) (t : Fin grid0.N) (x : ℕ) (e : ((cfg0 pf).win 1).index t = (![0, min 15 x, 0, 0] : Fin 4 → ℕ)) (k : Fin 1024) (f : Fin 256) :
    (((cfg0 pf).win 1).blk t).view.emb (ix4 (0 : Fin 1) (0 : Fin 1) k f) = ix4 (0 : Fin 4) (exF x) k f := by
  have e0 := congrFun e (0 : Fin 4)
  have e1 := congrFun e (1 : Fin 4)
  have e2 := congrFun e (2 : Fin 4)
  have e3 := congrFun e (3 : Fin 4)
  funext a
  apply Fin.ext
  fin_cases a
  · blk_simp
    erw [e0]
    rfl
  · blk_simp
    erw [e1]
    rfl
  · blk_simp
    erw [e2]
    show 0 * 1024 + k.val = k.val
    omega
  · blk_simp
    erw [e3]
    show 0 * 256 + f.val = f.val
    omega

theorem emb2 (pf : (pcfgs (F := Ideal) 0).Adm) (t : Fin grid0.N) (x : ℕ) (e : ((cfg0 pf).win 2).index t = (![0, min 15 x, 0, 0] : Fin 4 → ℕ)) (k : Fin 1024) (f : Fin 256) :
    (((cfg0 pf).win 2).blk t).view.emb (ix4 (0 : Fin 1) (0 : Fin 1) k f) = ix4 (0 : Fin 4) (exF x) k f := by
  have e0 := congrFun e (0 : Fin 4)
  have e1 := congrFun e (1 : Fin 4)
  have e2 := congrFun e (2 : Fin 4)
  have e3 := congrFun e (3 : Fin 4)
  funext a
  apply Fin.ext
  fin_cases a
  · blk_simp
    erw [e0]
    rfl
  · blk_simp
    erw [e1]
    rfl
  · blk_simp
    erw [e2]
    show 0 * 1024 + k.val = k.val
    omega
  · blk_simp
    erw [e3]
    show 0 * 256 + f.val = f.val
    omega

theorem emb3 (pf : (pcfgs (F := Ideal) 0).Adm) (t : Fin grid0.N) (x : ℕ) (e : ((cfg0 pf).win 3).index t = (![0, min 15 x, 0, 0] : Fin 4 → ℕ)) (f : Fin 256) (d : Fin 1024) :
    (((cfg0 pf).win 3).blk t).view.emb (ix4 (0 : Fin 1) (0 : Fin 1) f d) = ix4 (0 : Fin 4) (exF x) f d := by
  have e0 := congrFun e (0 : Fin 4)
  have e1 := congrFun e (1 : Fin 4)
  have e2 := congrFun e (2 : Fin 4)
  have e3 := congrFun e (3 : Fin 4)
  funext a
  apply Fin.ext
  fin_cases a
  · blk_simp
    erw [e0]
    rfl
  · blk_simp
    erw [e1]
    rfl
  · blk_simp
    erw [e2]
    show 0 * 256 + f.val = f.val
    omega
  · blk_simp
    erw [e3]
    show 0 * 1024 + d.val = d.val
    omega

theorem xB_at {n : ℕ} (h : n < 81) (r : Fin 512) (k : Fin 1024) :
    xB hm c n (ix2 r k) = A1 m c (ix2 (rowF (512 * Sched.tile (counts m 0) n + r.val)) k) := by
  have ht := Sched.tile_lt (counts m 0) (hm 0) n
  have e := index0 hm (ptOf n)
  rw [ptOf_lt h] at e
  unfold xB iblk
  rw [show V m c (Pipeline.arrRef spec0 0) = A1 m c from V_arg1 m c]
  exact congrArg (A1 m c) (emb0 (adm m hm 0) (ptOf n) _ e r k ht)
theorem gB_at {n : ℕ} (h : n < 81) (k : Fin 1024) (f : Fin 256) :
    gB hm c n (ix4 (0 : Fin 1) (0 : Fin 1) k f) = A2 m c (ix4 (0 : Fin 4) (exF (Sched.ex (counts m 0) n)) k f) := by
  have e := index1 hm (ptOf n)
  rw [ptOf_lt h] at e
  unfold gB iblk
  rw [show V m c (Pipeline.arrRef spec0 1) = A2 m c from V_arg2 m c]
  exact congrArg (A2 m c) (emb1 (adm m hm 0) (ptOf n) _ e k f)
theorem uB_at {n : ℕ} (h : n < 81) (k : Fin 1024) (f : Fin 256) :
    uB hm c n (ix4 (0 : Fin 1) (0 : Fin 1) k f) = A3 m c (ix4 (0 : Fin 4) (exF (Sched.ex (counts m 0) n)) k f) := by
  have e := index2 hm (ptOf n)
  rw [ptOf_lt h] at e
  unfold uB iblk
  rw [show V m c (Pipeline.arrRef spec0 2) = A3 m c from V_arg3 m c]
  exact congrArg (A3 m c) (emb2 (adm m hm 0) (ptOf n) _ e k f)
theorem dB_at {n : ℕ} (h : n < 81) (f : Fin 256) (d : Fin 1024) :
    dB hm c n (ix4 (0 : Fin 1) (0 : Fin 1) f d) = A4 m c (ix4 (0 : Fin 4) (exF (Sched.ex (counts m 0) n)) f d) := by
  have e := index3 hm (ptOf n)
  rw [ptOf_lt h] at e
  unfold dB iblk
  rw [show V m c (Pipeline.arrRef spec0 3) = A4 m c from V_arg4 m c]
  exact congrArg (A4 m c) (emb3 (adm m hm 0) (ptOf n) _ e f d)

/-- At a visit the scratch buffers hold its expert's weights: taken at it, or kept from the visit before, of the same
    expert. -/
theorem weights_at : ∀ n, n < Sched.total (counts m 0) →
    (gateW (scrW hm c (n + 1)) = (fun k f => A2 m c (ix4 (0 : Fin 4) (exF (Sched.ex (counts m 0) n)) k f)))
    ∧ (upW (scrW hm c (n + 1)) = (fun k f => A3 m c (ix4 (0 : Fin 4) (exF (Sched.ex (counts m 0) n)) k f)))
    ∧ ((fun f d => scrD hm c (n + 1) (ix2 f d)) = (fun (f : Fin 256) (d : Fin 1024) => A4 m c (ix4 (0 : Fin 4) (exF (Sched.ex (counts m 0) n)) f d)))
  | n, h => by
    have h81 : n < 81 := lt_of_lt_of_le h (total_le hm)
    by_cases hn : n = 0 ∨ min 15 (Sched.ex (counts m 0) n) ≠ min 15 (Sched.ex (counts m 0) (n - 1))
    · have hc := (condN_at hm n).mpr ⟨h, hn⟩
      have eW : scrW hm c (n + 1) = wcat (gB hm c n) (uB hm c n) := (scrW_step hm c n _ fun _ => rfl).symm.trans (if_pos hc)
      have eD : scrD hm c (n + 1) = dcat (dB hm c n) := (scrD_step hm c n _ fun _ => rfl).symm.trans (if_pos hc)
      rw [eW, eD, gateW_wcat, upW_wcat]
      refine ⟨?_, ?_, ?_⟩
      · funext k f; exact gB_at hm c h81 k f
      · funext k f; exact uB_at hm c h81 k f
      · funext f d; exact (dcat_at _ f d).trans (dB_at hm c h81 f d)
    · obtain ⟨n', rfl⟩ : ∃ n', n = n' + 1 := ⟨n - 1, by omega⟩
      have hc : ¬ condN (loW' m (n' + 1)) (hiW' m (n' + 1)) (newW m (n' + 1)) = 1#1 := fun e => hn ((condN_at hm _).mp e).2
      have eW : scrW hm c (n' + 1 + 1) = scrW hm c (n' + 1) := (scrW_step hm c (n' + 1) _ fun _ => rfl).symm.trans (if_neg hc)
      have eD : scrD hm c (n' + 1 + 1) = scrD hm c (n' + 1) := (scrD_step hm c (n' + 1) _ fun _ => rfl).symm.trans (if_neg hc)
      have he : exF (Sched.ex (counts m 0) (n' + 1)) = exF (Sched.ex (counts m 0) n') := Fin.ext (by
        show min 15 _ = min 15 _
        have := not_or.mp hn
        exact not_not.mp this.2)
      rw [eW, eD, he]
      exact weights_at n' (by omega)

/-- A row's value: what its expert makes of it. -/
def rowVal (m : (ℓ : Loc nD τ sig) → Buf (Elt Ideal) ℓ) (c : Dev nD) (r : ℕ) (d : Fin 1024) : EReal :=
  ffn (fun k => A1 m c (ix2 (rowF r) k)) (fun k f => A2 m c (ix4 (0 : Fin 4) (exF (Sched.rowEx (counts m 0) r)) k f))
    (fun k f => A3 m c (ix4 (0 : Fin 4) (exF (Sched.rowEx (counts m 0) r)) k f)) (fun f d => A4 m c (ix4 (0 : Fin 4) (exF (Sched.rowEx (counts m 0) r)) f d)) 1 d

/-- A visit gives its rows their values, and the tile's others nothing. -/
theorem visit_at {n : ℕ} (h : n < Sched.total (counts m 0)) (r : Fin 512) (d : Fin 1024) :
    yv (loW' m n) (hiW' m n) (xB hm c n) (scrW hm c (n + 1)) (scrD hm c (n + 1)) (ix2 r d)
      = if n = Sched.visit (counts m 0) (512 * Sched.tile (counts m 0) n + r.val) then rowVal m c (512 * Sched.tile (counts m 0) n + r.val) d else 0 := by
  have h81 : n < 81 := lt_of_lt_of_le h (total_le hm)
  have ht := Sched.tile_lt (counts m 0) (hm 0) n
  have hr := r.isLt
  obtain ⟨hw1, hw2, hw3⟩ := weights_at hm c n h
  obtain ⟨s1, s2, -⟩ := small hm n
  have hrow : 512 * Sched.tile (counts m 0) n + r.val < 33792 := by omega
  have hmod : (512 * Sched.tile (counts m 0) n + r.val) % 512 = r.val := by omega
  have hdiv : (512 * Sched.tile (counts m 0) n + r.val) / 512 = Sched.tile (counts m 0) n := by omega
  obtain ⟨v1, v2, v3, v4, v5⟩ := Sched.visit_spec (counts m 0) (hm 0) hrow
  rw [hmod] at v4 v5
  refine (yv_at _ _ _ _ s1 s2 _ r d).trans ?_
  refine (if_congr (Q := n = Sched.visit (counts m 0) (512 * Sched.tile (counts m 0) n + r.val)) ⟨fun hh => ?_, fun hh => ?_⟩ rfl rfl).trans ?_
  · exact Sched.visit_unique (counts m 0) (hm 0) h hdiv.symm (by rw [hmod]; exact hh.1) (by rw [hmod]; exact hh.2)
  · rw [← hh] at v4 v5; exact ⟨v4, v5⟩
  · by_cases hh : n = Sched.visit (counts m 0) (512 * Sched.tile (counts m 0) n + r.val)
    · have hx : (fun k => xB hm c n (ix2 r k)) = fun k => A1 m c (ix2 (rowF (512 * Sched.tile (counts m 0) n + r.val)) k) :=
        funext fun k => xB_at hm c h81 r k
      have hv : Sched.ex (counts m 0) n = Sched.rowEx (counts m 0) (512 * Sched.tile (counts m 0) n + r.val) :=
        (congrArg (Sched.ex (counts m 0)) hh).trans v2
      refine (if_pos hh).trans (Eq.trans ?_ (if_pos hh).symm)
      rw [hx, hw1, hw2, hw3]
      unfold rowVal
      rw [← hv]
    · exact (if_neg hh).trans (if_neg hh).symm

/-- The output block after a point: the rows whose visit is done hold their values, the others nothing. -/
def OutAt (n : ℕ) : Prop := ∀ (r : Fin 512) (d : Fin 1024), outY hm c (n + 1) (ix2 r d)
    = if Sched.visit (counts m 0) (512 * Sched.tile (counts m 0) n + r.val) ≤ n then rowVal m c (512 * Sched.tile (counts m 0) n + r.val) d else 0

theorem outAt_step (n : ℕ) (hn : n < 81) (ih : ∀ n', n = n' + 1 → OutAt hm c n') : OutAt hm c n := by
    intro r d
    have ht := Sched.tile_lt (counts m 0) (hm 0) n
    have hr := r.isLt
    have hrow : 512 * Sched.tile (counts m 0) n + r.val < 33792 := by omega
    have hdiv : (512 * Sched.tile (counts m 0) n + r.val) / 512 = Sched.tile (counts m 0) n := by omega
    obtain ⟨v1, v2, v3, -, -⟩ := Sched.visit_spec (counts m 0) (hm 0) hrow
    rw [hdiv] at v3
    rw [outY_succ]
    by_cases h : n < Sched.total (counts m 0)
    · by_cases hf : n = 0 ∨ Sched.tile (counts m 0) n ≠ Sched.tile (counts m 0) (n - 1)
      · rw [nextY_first hm ⟨h, hf⟩]
        refine (visit_at hm c h r d).trans (if_congr ⟨fun e => e.symm.le, fun e => ?_⟩ rfl rfl)
        by_contra hne
        have hlt : Sched.visit (counts m 0) (512 * Sched.tile (counts m 0) n + r.val) ≤ n - 1 := by omega
        rcases hf with hf | hf
        · omega
        · have h1 := Sched.tile_mono (counts m 0) (hm 0) hlt
          have h2 := Sched.tile_mono (counts m 0) (hm 0) (show n - 1 ≤ n by omega)
          omega
      · obtain ⟨n', rfl⟩ : ∃ n', n = n' + 1 := ⟨n - 1, by omega⟩
        rw [nextY_add hm h hf, yadd_at, visit_at hm c h r d, ih n' rfl r d]
        have he : Sched.tile (counts m 0) (n' + 1) = Sched.tile (counts m 0) n' := not_not.mp (not_or.mp hf).2
        rw [← he]
        by_cases e1 : Sched.visit (counts m 0) (512 * Sched.tile (counts m 0) (n' + 1) + r.val) ≤ n'
        · rw [if_pos e1, if_neg (by omega), if_pos (by omega), add_zero]
        · rw [if_neg e1, zero_add]
          exact if_congr (by omega) rfl rfl
    · obtain ⟨n', rfl⟩ : ∃ n', n = n' + 1 := ⟨n - 1, by have := total_pos hm; omega⟩
      rw [nextY_idle hm h, ih n' rfl r d]
      have he : Sched.tile (counts m 0) (n' + 1) = Sched.tile (counts m 0) n' := by
        rw [tile_end hm (n := n' + 1) (by omega), tile_end hm (n := n') (by omega)]
      rw [← he]
      exact if_congr (by omega) rfl rfl

theorem outY_at : ∀ n, n < 81 → OutAt hm c n := fun n => Nat.recOn n
  (fun h => outAt_step hm c 0 h fun n' e => absurd e (by omega))
  (fun n ih h => outAt_step hm c (n + 1) h fun n' e => Nat.succ.inj e ▸ ih (by omega))

end Cert.Proof.VI

end
-- ==== Proof.Visits.Whole.lean ====
/-
  The experts' result: every tile's block is written back when its visits are done, so every row ends at its value.
-/
module

public import proofs.«01_k».proof.Proof.Visits.Rows

@[expose] public section

set_option maxRecDepth 16384

noncomputable section

namespace Cert.Proof.VI

open Cert.Kernel2Ideal Cert.Kernel2Ideal.Gen
open Idealize.ShloMosaic Idealize.ShloMosaic.TcCoe
open Idealize.SL Idealize.SL.Sem
open Idealize.ShloMosaic.Pipeline (Dat Cfg Window)

attribute [local irreducible] tabs counts V outY scrW scrD

variable {m : (ℓ : Loc nD τ sig) → Buf (Elt Ideal) ℓ} (hm : Counted m)

/-- The result. -/
def result (m : (ℓ : Loc nD τ sig) → Buf (Elt Ideal) ℓ) (c : Dev nD) : S33792x1024.Idx → EReal :=
  fun y => rowVal m c (y 0).val (y 1)

include hm in
/-- Where a block is written back, its rows' visits are done. -/
theorem done_at {t : ℕ} (ht : t < 81) (hf : t + 1 = 81 ∨ Sched.tile (counts m 0) (t + 1) ≠ Sched.tile (counts m 0) t) (r : Fin 512) :
    Sched.visit (counts m 0) (512 * Sched.tile (counts m 0) t + r.val) ≤ t := by
  have hT := Sched.tile_lt (counts m 0) (hm 0) t
  have hr := r.isLt
  obtain ⟨v1, -, v3, -, -⟩ := Sched.visit_spec (counts m 0) (hm 0) (r := 512 * Sched.tile (counts m 0) t + r.val) (by omega)
  rw [show (512 * Sched.tile (counts m 0) t + r.val) / 512 = Sched.tile (counts m 0) t by omega] at v3
  have htot := total_le hm
  by_contra hc
  have h1 := Sched.tile_mono (counts m 0) (hm 0) (show t + 1 ≤ Sched.visit (counts m 0) (512 * Sched.tile (counts m 0) t + r.val) by omega)
  have h2 := Sched.tile_mono (counts m 0) (hm 0) (show t ≤ t + 1 by omega)
  omega

include hm in
/-- Every tile has a point at which its block is written back. -/
theorem written (T : ℕ) (hT : T ≤ 65) : ∃ t, t < 81 ∧ Sched.tile (counts m 0) t = T
    ∧ (t + 1 = 81 ∨ Sched.tile (counts m 0) (t + 1) ≠ Sched.tile (counts m 0) t) := by
  obtain ⟨v1, -, v3, -, -⟩ := Sched.visit_spec (counts m 0) (hm 0) (r := 512 * T) (by omega)
  have htot := total_le hm
  rw [show 512 * T / 512 = T by omega] at v3
  have h1 : Sched.tile (counts m 0) (Nat.findGreatest (fun t => Sched.tile (counts m 0) t = T) 80) = T :=
    Nat.findGreatest_spec (P := fun t => Sched.tile (counts m 0) t = T) (show Sched.visit (counts m 0) (512 * T) ≤ 80 by omega) v3
  have h2 := Nat.findGreatest_le (P := fun t => Sched.tile (counts m 0) t = T) 80
  refine ⟨_, by omega, h1, ?_⟩
  by_contra hc
  obtain ⟨hc1, hc2⟩ := not_or.mp hc
  exact absurd ((not_not.mp hc2).trans h1) (Nat.findGreatest_is_greatest (P := fun t => Sched.tile (counts m 0) t = T) (Nat.lt_succ_self _) (by omega))

variable (c : Dev nD)

theorem block_at (t : Fin grid0.N) (hf : ((cfgR hm).win 4).flush t = true) (r : Fin 512) (d : Fin 1024) :
    outY hm c (t.val + 1) (ix2 r d) = result m c ((((cfgR hm).win 4).blk t).view.emb (ix2 r d)) := by
  have ht : t.val < 81 := t.isLt.trans_eq N_0
  have hT := Sched.tile_lt (counts m 0) (hm 0) t.val
  have hr := r.isLt
  refine (outY_at hm c t.val ht r d).trans ((if_pos (done_at hm ht ((flush4 hm t).mp hf) r)).trans ?_)
  refine Eq.trans ?_ (congrArg (result m c) (emb4 (adm m hm 0) t _ (index4 hm t) r d hT)).symm
  show rowVal m c _ d = rowVal m c (min _ 33791) d
  rw [Nat.min_eq_left (by omega)]

theorem covered (i : S33792x1024.Idx) : ∃ t : Fin grid0.N, ((cfgR hm).win 4).flush t = true ∧ i ∈ (((cfgR hm).win 4).blk t).view.set := by
  have hi : (i 0).val < 33792 := (i 0).isLt
  obtain ⟨t, ht, hT, hf⟩ := written hm ((i 0).val / 512) (by omega)
  refine ⟨⟨t, lt_of_lt_of_eq ht N_0.symm⟩, (flush4 hm _).mpr hf, ?_⟩
  have e := emb4 (adm m hm 0) ⟨t, lt_of_lt_of_eq ht N_0.symm⟩ _ (index4 hm _) (⟨(i 0).val % 512, by omega⟩ : Fin 512) (i 1) (Sched.tile_lt (counts m 0) (hm 0) t)
  have e' : ix2 (rowF (512 * Sched.tile (counts m 0) t + (i 0).val % 512)) (i 1) = i := by
    funext a
    fin_cases a
    · apply Fin.ext
      show min (512 * Sched.tile (counts m 0) t + (i 0).val % 512) 33791 = (i 0).val
      omega
    · rfl
  rw [← e.trans e']
  exact View.emb_mem_set _ _

theorem final_y : (dats hm 0 c).arrAt 4 (cfgR hm).N = result m c := by
  refine (dats hm 0 c).arrAt_eq_of_emb 4 _ (fun t hf y => ?_) (covered hm)
  have e : ∀ x : S512x1024.Idx, (outY hm c (t.val + 1) x : EReal) = result m c ((((cfgR hm).win 4).blk t).view.emb x) := fun x => by
    have h := block_at hm c t hf (x 0) (x 1)
    have hx : (ix2 (x 0) (x 1) : S512x1024.Idx) = x := by funext a; fin_cases a <;> rfl
    rw [hx] at h
    exact h
  exact (congrFun (after4 hm c t) y).trans (e y)

include hm in
/-- The run: the result, and the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v88) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final_y hm c), unchanged hm r h.1 c⟩) (run_main_quiescent hm ρ)

end Cert.Proof.VI

end
-- ==== Proof.Visits.RefFrame.lean ====
/-
  The experts' reference runs without fault, leaves its arguments unchanged, and has no semaphore.
-/
module

public import proofs.«01_k».proof.Proof.Gen.Reference2Ideal.Run

@[expose] public section

namespace Cert.Proof.VR

open Cert.Reference2Ideal Cert.Reference2Ideal.Gen Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, by
    funext x
    obtain ⟨_, s | s⟩ := x
    · exact s.elim0
    · exact s.elim0⟩) (Value.run m ρ)

end Cert.Proof.VR
-- ==== Proof.Visits.Ref.lean ====
/-
  The experts' reference read at an index: of the sum over experts and hidden features, only the row's expert counts.
-/
module

public import proofs.«01_k».proof.Proof.Gen.Reference2Ideal.Run
public import proofs.«01_k».proof.Proof.Visits.Whole
public import Idealize.ShloMosaic.Lib.Pointwise
public import Idealize.ShloMosaic.Lib.WordCmp

@[expose] public section

set_option maxRecDepth 16384

noncomputable section

namespace Cert.Proof.VR

open Cert.Reference2Ideal Cert.Reference2Ideal.Gen
open Idealize.ShloMosaic Idealize.ShloMosaic.TcCoe
open Idealize.SL Idealize.SL.Sem
open Idealize.ShloMosaic.Routing Idealize.ShloMosaic.WordCmp

variable (N : IVec S16 32) (X : FVec Ideal S33792x1024 .f32) (W : FVec Ideal S4x16x1024x256 .f32) (D : FVec Ideal S4x16x256x1024 .f32)

/-- The products of the rows with every expert's weights, -/
def prods : FVec Ideal S33792x16x256 .f32 :=
  Host.dotGeneral dot_S33792x1024_S16x1024x256_S33792x16x256_1_1_0_02_n_n none X (shapeCast _ (extractStridedSlice S1x16x1024x256 ![0, 0, 0, 0] W slices_S4x16x1024x256_S1x16x1024x256_0_0_0_0) shapeCasts_S1x16x1024x256_S16x1024x256)
/-- the gates, from products `G`, -/
def gates (G : FVec Ideal S33792x16x256 .f32) : FVec Ideal S33792x16x256 .f32 :=
  mulf G (Host.divf (broadcastInDim S33792x16x256 ![] bcast_S_S33792x16x256 (constant S_ .f32 0x3F800000#32)) (addf (broadcastInDim S33792x16x256 ![] bcast_S_S33792x16x256 (constant S_ .f32 0x3F800000#32)) (Host.exp (Host.negf G))))
/-- the ends of the experts' rows, -/
def ends : IVec S16 32 :=
  Host.reduceWindow IntOp.addi ![16] ![1] ![15] ![0] N (broadcastInDim S_ ![] bcast_S_S_ (constantI S_ 32 0#32)) reduceWindows_S16_S16_w16s1p15_0 h_S_
def rowsOf : IVec S33792x16 32 := broadcastInDim S33792x16 ![0, 1] bcast_S33792x1_S33792x16_0_1 (broadcastInDim S33792x1 ![0] bcast_S33792_S33792x1_0 (iotaInDim S33792 32 0))
def overRows (E : IVec S16 32) : IVec S33792x16 32 := broadcastInDim S33792x16 ![0, 1] bcast_S1x16_S33792x16_0_1 (broadcastInDim S1x16 ![1] bcast_S16_S1x16_1 E)
/-- which expert a row is of, for ends `E`, -/
def oneHot (E : IVec S16 32) : IVec S33792x16 1 :=
  andi (cmpi .sge rowsOf (overRows (subi E N))) (cmpi .slt rowsOf (overRows E))
/-- the hidden values, the other experts' left out, -/
def hidden (M : IVec S33792x16 1) (G U : FVec Ideal S33792x16x256 .f32) : FVec Ideal S33792x16x256 .f32 :=
  mulf (mulf (gates G) U) (broadcastInDim S33792x16x256 ![0, 1, 2] bcast_S33792x16x1_S33792x16x256_0_1_2 (broadcastInDim S33792x16x1 ![0, 1] bcast_S33792x16_S33792x16x1_0_1 (uitofp .f32 M)))
/-- and the result. -/
def mixed (H : FVec Ideal S33792x16x256 .f32) : FVec Ideal S33792x1024 .f32 :=
  Host.dotGeneral dot_S33792x16x256_S16x256x1024_S33792x1024_12_01_0_2_n_n none H (shapeCast _ (extractStridedSlice S1x16x256x1024 ![0, 0, 0, 0] D slices_S4x16x256x1024_S1x16x256x1024_0_0_0_0) shapeCasts_S1x16x256x1024_S16x256x1024)

theorem prods_at (r : Fin 33792) (e : Fin 16) (f : Fin 256) : prods X W (ix3 r e f) = ∑ k : Fin 1024, X (ix2 r k) * W (ix4 (0 : Fin 4) e k f) := by
  unfold prods
  pointwise []

theorem gates_at (G : FVec Ideal S33792x16x256 .f32) (r : Fin 33792) (e : Fin 16) (f : Fin 256) :
    gates G (ix3 r e f) = G (ix3 r e f) * Ideal.div 1 (1 + Ideal.exp (-G (ix3 r e f))) := by
  unfold gates
  pointwise []

theorem hidden_at (M : IVec S33792x16 1) (G U : FVec Ideal S33792x16x256 .f32) (r : Fin 33792) (e : Fin 16) (f : Fin 256) :
    hidden M G U (ix3 r e f) = gates G (ix3 r e f) * U (ix3 r e f) * (if M (ix2 r e) = 1#1 then 1 else 0) := by
  unfold hidden
  pointwise []
  refine congrArg (gates G (ix3 r e f) * U (ix3 r e f) * ·) ?_
  show (((M (ix2 r e)).toNat : ℝ) : EReal) = _
  rcases BitVec.eq_zero_or_eq_one (M (ix2 r e)) with h | h <;> simp [h]

theorem mixed_at (H : FVec Ideal S33792x16x256 .f32) (r : Fin 33792) (d : Fin 1024) :
    mixed D H (ix2 r d) = ∑ e : Fin 16, ∑ f : Fin 256, H (ix3 r e f) * D (ix4 (0 : Fin 4) e f d) := by
  unfold mixed
  pointwise []

theorem ends_at (e : Fin 16) : ends N (ix1 e) = BitVec.ofNat 32 (Sched.off (Counted.cnt N) (e.val + 1)) := by
  unfold ends
  exact cumsum1 (N := 16) (Nm1 := 15) rfl N (Counted.cnt N) (Counted.cnt_at N) _ rfl _ _ e

/-- A row is of the expert whose rows it is among. -/
theorem oneHot_at (h : Sched.off (Counted.cnt N) 16 = 33792) (r : Fin 33792) (e : Fin 16) :
    oneHot N (ends N) (ix2 r e) = 1#1 ↔ Sched.rowEx (Counted.cnt N) r.val = e.val := by
  unfold oneHot rowsOf overRows
  pointwise []
  have hr := r.isLt
  have he := e.isLt
  have h1 : Sched.off (Counted.cnt N) (e.val + 1) ≤ 33792 := h ▸ Sched.off_mono _ (by omega)
  have h2 := Sched.off_succ (Counted.cnt N) e.val
  have hs : IntOp.subi (ends N (ix1 e)) (N (ix1 e)) = BitVec.ofNat 32 (Sched.off (Counted.cnt N) e.val) := by
    rw [ends_at, Counted.cnt_at N e]
    refine (ofNat32_sub (by omega)).trans ?_
    rw [h2, Nat.add_sub_cancel]
  rw [hs, ends_at, cmpi_sge_ofNat (w := 32) (by omega) (by omega), cmpi_slt_ofNat (w := 32) (by omega) (by omega), andi_ofBool, ofBool_eq_one_iff]
  constructor
  · intro hh
    simp only [Bool.and_eq_true, decide_eq_true_eq] at hh
    exact Sched.rowEx_eq (Counted.cnt N) he hh.1 hh.2
  · intro hh
    obtain ⟨-, h3, h4⟩ := Sched.rowEx_lt (Counted.cnt N) h hr
    rw [hh] at h3 h4
    simp only [Bool.and_eq_true, decide_eq_true_eq]
    exact ⟨h3, h4⟩

/-- The reference's result: a row through its expert. -/
theorem whole_at (Wu : FVec Ideal S4x16x1024x256 .f32) (h : Sched.off (Counted.cnt N) 16 = 33792) (r : Fin 33792) (d : Fin 1024) :
    mixed D (hidden (oneHot N (ends N)) (prods X W) (prods X Wu)) (ix2 r d)
      = VI.ffn (fun k => X (ix2 r k)) (fun k f => W (ix4 (0 : Fin 4) (VI.exF (Sched.rowEx (Counted.cnt N) r.val)) k f))
          (fun k f => Wu (ix4 (0 : Fin 4) (VI.exF (Sched.rowEx (Counted.cnt N) r.val)) k f))
          (fun f d => D (ix4 (0 : Fin 4) (VI.exF (Sched.rowEx (Counted.cnt N) r.val)) f d)) 1 d := by
  have hx := (Sched.rowEx_lt (Counted.cnt N) h r.isLt).1
  have hv : (VI.exF (Sched.rowEx (Counted.cnt N) r.val)).val = Sched.rowEx (Counted.cnt N) r.val := Nat.min_eq_right (by omega)
  rw [mixed_at, Finset.sum_eq_single (VI.exF (Sched.rowEx (Counted.cnt N) r.val))]
  · unfold VI.ffn VI.hid VI.proj
    refine Finset.sum_congr rfl fun f _ => ?_
    rw [hidden_at, gates_at, prods_at, prods_at, if_pos ((oneHot_at N h r _).mpr hv.symm)]
  · intro e _ hne
    refine Finset.sum_eq_zero fun f _ => ?_
    rw [hidden_at, if_neg (fun hh => hne (Fin.ext (((oneHot_at N h r e).mp hh).symm.trans hv.symm))), mul_zero, zero_mul]
  · exact fun hh => absurd (Finset.mem_univ _) hh

/-- The run: the result, and the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v27) = mixed (m ((c.tc : Thread nD τ).loc main_arg4)) (hidden (oneHot (m ((c.tc : Thread nD τ).loc main_arg0)) (ends (m ((c.tc : Thread nD τ).loc main_arg0))))
        (prods (m ((c.tc : Thread nD τ).loc main_arg1)) (m ((c.tc : Thread nD τ).loc main_arg2))) (prods (m ((c.tc : Thread nD τ).loc main_arg1)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans rfl, (h c).2⟩) (Value.run m ρ)

end Cert.Proof.VR

end
-- ==== Proof.Norm.Val.lean ====
/-
  What a point of the layer norm's kernel computes at a row and a lane, at the ideal instance.
-/
module

public import proofs.«01_k».proof.Proof.Norm.Body
public import Idealize.ShloMosaic.Lib.Pointwise

@[expose] public section

set_option maxRecDepth 16384

noncomputable section

namespace Cert.Proof.NI

open Cert.Kernel3Ideal Cert.Kernel3Ideal.Gen
open Idealize.ShloMosaic Idealize.ShloMosaic.TcCoe
open Idealize.SL Idealize.SL.Sem

/-- The scaled residual plus the two experts' outputs, each by its weight. -/
def mix (x a b p q : EReal) : EReal := Ideal.ofBits .f32 0x3FD744FD#32 * x + (p * a + q * b)

/-- A row's mean, -/
def meanOf (v : Fin 1024 → EReal) : EReal := Ideal.div (∑ k, v k) (Ideal.ofBits .f32 0x44800000#32)

/-- and the row normed: less its mean, over the root of its variance, scaled and shifted. -/
def normOf (v : Fin 1024 → EReal) (g b : EReal) (d : Fin 1024) : EReal :=
  (v d - meanOf v) * Ideal.rsqrt (meanOf (fun k => (v k - meanOf v) * (v k - meanOf v)) + Ideal.ofBits .f32 0x3727C5AC#32) * g + b

/-- The mixed rows of a block, -/
def mixV (x1 x2 x3 : Vec Ideal S512x1024 .f32) (x4 : Vec Ideal S512x128 .f32) : FVec Ideal S512x1024 .f32 :=
  addf (mulf (broadcast S512x1024 (Scalar.ofBits .f32 0x3FD744FD#32)) x1)
    (addf (mulf (broadcastTo S512x1024 (extractStridedSlice S512x1 ![0, 2] x4 slices_S512x128_o0_2_S512x1) broadcasts_S512x1_S512x1024) x2)
      (mulf (broadcastTo S512x1024 (extractStridedSlice S512x1 ![0, 3] x4 slices_S512x128_o0_3_S512x1) broadcasts_S512x1_S512x1024) x3))
/-- a block's row means, -/
def meanV (v : FVec Ideal S512x1024 .f32) : FVec Ideal S512x1 .f32 :=
  divf (shapeCast S512x1 (multiReduction .add [1] S512 v 0x00000000#32 reduces_S512x1024_S512 (.inl rfl) rfl) shapeCasts_S512_S512x1) (broadcast S512x1 (Scalar.ofBits .f32 0x44800000#32))
/-- a block less its row means, -/
def centV (v : FVec Ideal S512x1024 .f32) : FVec Ideal S512x1024 .f32 :=
  subf v (broadcastTo S512x1024 (meanV v) broadcasts_S512x1_S512x1024)
/-- and the block normed. -/
def normV (v : FVec Ideal S512x1024 .f32) (x5 x6 : Vec Ideal S1x1024 .f32) : FVec Ideal S512x1024 .f32 :=
  addf (mulf (mulf (centV v) (broadcastTo S512x1024 (rsqrt (addf (meanV (mulf (centV v) (centV v))) (broadcast S512x1 (Scalar.ofBits .f32 0x3727C5AC#32)))) broadcasts_S512x1_S512x1024))
    (broadcastTo S512x1024 (shapeCast S1x1024 x5 shapeCasts_S1x1024_S1x1024) broadcasts_S1x1024_S512x1024))
    (broadcastTo S512x1024 (shapeCast S1x1024 x6 shapeCasts_S1x1024_S1x1024) broadcasts_S1x1024_S512x1024)

theorem normed_eq (x1 x2 x3 : Vec Ideal S512x1024 .f32) (x4 : Vec Ideal S512x128 .f32) (x5 x6 : Vec Ideal S1x1024 .f32) :
    normed x1 x2 x3 x4 x5 x6 = normV (mixV x1 x2 x3 x4) x5 x6 := rfl

theorem mixV_at (x1 x2 x3 : Vec Ideal S512x1024 .f32) (x4 : Vec Ideal S512x128 .f32) (r : Fin 512) (d : Fin 1024) :
    mixV x1 x2 x3 x4 (ix2 r d) = mix (x1 (ix2 r d)) (x2 (ix2 r d)) (x3 (ix2 r d)) (x4 (ix2 r (2 : Fin 128))) (x4 (ix2 r (3 : Fin 128))) := by
  unfold mixV mix
  pointwise []

theorem meanV_at (v : FVec Ideal S512x1024 .f32) (r : Fin 512) (j : Fin 1) : meanV v (ix2 r j) = meanOf (fun k => v (ix2 r k)) := by
  unfold meanV meanOf
  pointwise []

theorem centV_at (v : FVec Ideal S512x1024 .f32) (r : Fin 512) (d : Fin 1024) : centV v (ix2 r d) = v (ix2 r d) - meanOf (fun k => v (ix2 r k)) := by
  unfold centV
  pointwise [meanV_at]

theorem normV_at (v : FVec Ideal S512x1024 .f32) (x5 x6 : Vec Ideal S1x1024 .f32) (r : Fin 512) (d : Fin 1024) :
    normV v x5 x6 (ix2 r d) = normOf (fun k => v (ix2 r k)) (x5 (ix2 (0 : Fin 1) d)) (x6 (ix2 (0 : Fin 1) d)) d := by
  unfold normV normOf
  pointwise [meanV_at, centV_at]

theorem normed_at (x1 x2 x3 : Vec Ideal S512x1024 .f32) (x4 : Vec Ideal S512x128 .f32) (x5 x6 : Vec Ideal S1x1024 .f32) (r : Fin 512) (d : Fin 1024) :
    normed x1 x2 x3 x4 x5 x6 (ix2 r d)
      = normOf (fun k => mix (x1 (ix2 r k)) (x2 (ix2 r k)) (x3 (ix2 r k)) (x4 (ix2 r (2 : Fin 128))) (x4 (ix2 r (3 : Fin 128)))) (x5 (ix2 (0 : Fin 1) d)) (x6 (ix2 (0 : Fin 1) d)) d := by
  rw [normed_eq, normV_at]
  simp only [mixV_at]

end Cert.Proof.NI

end
-- ==== Proof.Norm.Whole.lean ====
/-
  The layer norm kernel's result arrays: each row of tokens normed.
-/
module

public import proofs.«01_k».proof.Proof.Norm.Val
public import Idealize.ShloMosaic.Lib.StableHlo.Run

@[expose] public section

set_option maxRecDepth 16384

noncomputable section

namespace Cert.Proof.NI

open Cert.Kernel3Ideal Cert.Kernel3Ideal.Gen
open Idealize.ShloMosaic Idealize.ShloMosaic.TcCoe
open Idealize.SL Idealize.SL.Sem

/-- A token's row normed, from the whole arrays. -/
def rowVal (X A B : S16896x1024.Idx → EReal) (R : S16896x128.Idx → EReal) (G H : S4x2x1024.Idx → EReal) (n : Fin 16896) (d : Fin 1024) : EReal :=
  normOf (fun k => mix (X (ix2 n k)) (A (ix2 n k)) (B (ix2 n k)) (R (ix2 n (2 : Fin 128))) (R (ix2 n (3 : Fin 128))))
    (G (ix3 (3 : Fin 4) (1 : Fin 2) d)) (H (ix3 (3 : Fin 4) (1 : Fin 2) d)) d

variable (m : (ℓ : Loc nD τ sig) → Buf (Elt Ideal) ℓ) (ρ : Dev nD → PrngReg)

/-- The row of the arguments' arrays. -/
def row (c : Dev nD) (n : Fin 16896) (d : Fin 1024) : EReal :=
  rowVal (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) n d

theorem V_gain (c : Dev nD) (d : Fin 1024) : V m c main_v2 (ix2 (0 : Fin 1) d) = m ((c.tc : Thread nD τ).loc main_arg4) (ix3 (3 : Fin 4) (1 : Fin 2) d) := by
  have e : V m c main_v2 = broadcastInDim S1x1024 ![1] bcast_S1024_S1x1024_1 (shapeCast S1024 (extractStridedSlice S1x1x1024 ![3, 1, 0] (m ((c.tc : Thread nD τ).loc main_arg4)) slices_S4x2x1024_S1x1x1024_3_1_0) shapeCasts_S1x1x1024_S1024) := by
    unfold V V0
    simp only [List.flatten_cons, List.flatten_nil, List.append_nil]
    after_results_simp <;> rfl
  rw [e]
  pointwise []
theorem V_bias (c : Dev nD) (d : Fin 1024) : V m c main_v5 (ix2 (0 : Fin 1) d) = m ((c.tc : Thread nD τ).loc main_arg5) (ix3 (3 : Fin 4) (1 : Fin 2) d) := by
  have e : V m c main_v5 = broadcastInDim S1x1024 ![1] bcast_S1024_S1x1024_1 (shapeCast S1024 (extractStridedSlice S1x1x1024 ![3, 1, 0] (m ((c.tc : Thread nD τ).loc main_arg5)) slices_S4x2x1024_S1x1x1024_3_1_0) shapeCasts_S1x1x1024_S1024) := by
    unfold V V0
    simp only [List.flatten_cons, List.flatten_nil, List.append_nil]
    after_results_simp <;> rfl
  rw [e]
  pointwise []

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(lastP t).val, 0] := (by decide +kernel : ∀ t : Fin grid0.N, _)
theorem idx7 : ∀ t : Fin cfg0.N, win0_7.index t = ![0, 0] := (by decide +kernel : ∀ t : Fin grid0.N, _)

/-- The token a block's row is of. -/
def tok (t : Fin cfg0.N) (r : Fin 512) : Fin 16896 := ⟨512 * t.val + r.val, by have := t.isLt.trans_eq N_0; omega⟩

theorem blk0 (c : Dev nD) (t : Fin cfg0.N) (r : Fin 512) (k : Fin 1024) : (iblk m c 0 t : S512x1024.Idx → EReal) (ix2 r k) = m ((c.tc : Thread nD τ).loc main_arg0) (ix2 (tok t r) k) := by
  blk_simp [iblk]; rw [V_main_arg0]; exact congrArg (m ((c.tc : Thread nD τ).loc main_arg0)) (by unfold tok; blk_ext [idx0])
theorem blk1 (c : Dev nD) (t : Fin cfg0.N) (r : Fin 512) (k : Fin 1024) : (iblk m c 1 t : S512x1024.Idx → EReal) (ix2 r k) = m ((c.tc : Thread nD τ).loc main_arg1) (ix2 (tok t r) k) := by
  blk_simp [iblk]; rw [V_main_arg1]; exact congrArg (m ((c.tc : Thread nD τ).loc main_arg1)) (by unfold tok; blk_ext [idx1])
theorem blk2 (c : Dev nD) (t : Fin cfg0.N) (r : Fin 512) (k : Fin 1024) : (iblk m c 2 t : S512x1024.Idx → EReal) (ix2 r k) = m ((c.tc : Thread nD τ).loc main_arg2) (ix2 (tok t r) k) := by
  blk_simp [iblk]; rw [V_main_arg2]; exact congrArg (m ((c.tc : Thread nD τ).loc main_arg2)) (by unfold tok; blk_ext [idx2])
theorem blk3 (c : Dev nD) (t : Fin cfg0.N) (r : Fin 512) (k : Fin 128) : (iblk m c 3 t : S512x128.Idx → EReal) (ix2 r k) = m ((c.tc : Thread nD τ).loc main_arg3) (ix2 (tok t r) k) := by
  blk_simp [iblk]; rw [V_main_arg3]; exact congrArg (m ((c.tc : Thread nD τ).loc main_arg3)) (by unfold tok; blk_ext [idx3])
theorem blk4 (c : Dev nD) (t : Fin cfg0.N) (d : Fin 1024) : (iblk m c 4 t : S1x1024.Idx → EReal) (ix2 (0 : Fin 1) d) = m ((c.tc : Thread nD τ).loc main_arg4) (ix3 (3 : Fin 4) (1 : Fin 2) d) := by
  refine Eq.trans ?_ (V_gain m c d)
  blk_simp [iblk]; exact congrArg (V m c main_v2) (by blk_ext [idx4])
theorem blk5 (c : Dev nD) (t : Fin cfg0.N) (d : Fin 1024) : (iblk m c 5 t : S1x1024.Idx → EReal) (ix2 (0 : Fin 1) d) = m ((c.tc : Thread nD τ).loc main_arg5) (ix3 (3 : Fin 4) (1 : Fin 2) d) := by
  refine Eq.trans ?_ (V_bias m c d)
  blk_simp [iblk]; exact congrArg (V m c main_v5) (by blk_ext [idx5])

theorem row_congr (c : Dev nD) {n n' : Fin 16896} {d d' : Fin 1024} (hn : n.val = n'.val) (hd : d.val = d'.val) : row m c n d = row m c n' d' := by
  rw [Fin.ext hn, Fin.ext hd]

/-- The first window's array, -/
def arrP (c : Dev nD) (y : S16384x1024.Idx) : EReal :=
  row m c ⟨(y 0).val, by have : (y 0).val < 16384 := (y 0).isLt; omega⟩ (y 1)
/-- and the second's. -/
def arrS (c : Dev nD) (y : S512x1024.Idx) : EReal :=
  row m c ⟨16384 + (y 0).val, by have : (y 0).val < 512 := (y 0).isLt; omega⟩ (y 1)

/-- A point's block holds its tokens' rows. -/
theorem yB_at (c : Dev nD) (t : Fin cfg0.N) (r : Fin 512) (d : Fin 1024) : yB m c t (ix2 r d) = row m c (tok t r) d := by
  unfold yB row rowVal
  rw [normed_at, blk4, blk5]
  simp only [blk0, blk1, blk2, blk3]

theorem emb6 (t : Fin cfg0.N) (r : Fin 512) (k : Fin 1024) : ((win0_6.blk t).view.emb (ix2 r k : S512x1024.Idx) 0).val = 512 * (lastP t).val + r.val ∧ ((win0_6.blk t).view.emb (ix2 r k : S512x1024.Idx) 1).val = k.val := by
  constructor
  · blk_simp
    rw [idx6]
    dsimp only [Matrix.cons_val_zero]
    omega
  · blk_simp
    rw [idx6]
    simp

theorem emb7 (t : Fin cfg0.N) (r : Fin 512) (k : Fin 1024) : ((win0_7.blk t).view.emb (ix2 r k : S512x1024.Idx) 0).val = r.val ∧ ((win0_7.blk t).view.emb (ix2 r k : S512x1024.Idx) 1).val = k.val := by
  constructor
  · blk_simp
    rw [idx7]
    simp
  · blk_simp
    rw [idx7]
    simp

theorem final_p (c : Dev nD) : (dats m 0 c).arrAt 6 cfg0.N = arrP m c := by
  refine (dats m 0 c).arrAt_eq_of_covers 6 (arrP m c) (by decide +kernel) fun t hf y => ?_
  blk_simp
  rw [after0_6]
  have e : ∀ x : S512x1024.Idx, yB m c (lastP t) x = arrP m c ((win0_6.blk t).view.emb x) := fun x => by
    obtain ⟨r, k, rfl⟩ : ∃ r k, x = ix2 r k := ⟨x 0, x 1, by funext d; fin_cases d <;> rfl⟩
    rw [yB_at]
    exact row_congr m c (emb6 t r k).1.symm (emb6 t r k).2.symm
  exact e y

theorem final_s (c : Dev nD) : (dats m 0 c).arrAt 7 cfg0.N = arrS m c := by
  refine (dats m 0 c).arrAt_eq_of_covers 7 (arrS m c) (by decide +kernel) fun t hf y => ?_
  blk_simp
  rw [after0_7]
  have e : ∀ x : S512x1024.Idx, yB m c sampleP x = arrS m c ((win0_7.blk t).view.emb x) := fun x => by
    obtain ⟨r, k, rfl⟩ : ∃ r k, x = ix2 r k := ⟨x 0, x 1, by funext d; fin_cases d <;> rfl⟩
    rw [yB_at]
    exact row_congr m c (congrArg (16384 + ·) (emb7 t r k).1.symm) (emb7 t r k).2.symm
  exact e y

/-- The prompt's result, -/
def resP (c : Dev nD) (y : S4x4096x1024.Idx) : EReal :=
  row m c (⟨4096 * (y 0).val + (y 1).val, by have : (y 0).val < 4 := (y 0).isLt; have : (y 1).val < 4096 := (y 1).isLt; omega⟩ : Fin 16896) (y 2)
/-- and the sample's. -/
def resS (c : Dev nD) (y : S128x1x1024.Idx) : EReal :=
  row m c (⟨16384 + (y 0).val, by have : (y 0).val < 128 := (y 0).isLt; omega⟩ : Fin 16896) (y 2)

theorem split_at (X : S16384x1024.Idx → EReal) (a : Fin 4) (b : Fin 4096) (d : Fin 1024) :
    shapeCast S4x4096x1024 X shapeCasts_S16384x1024_S4x4096x1024 (ix3 a b d) = X (ix2 (⟨4096 * a.val + b.val, by omega⟩ : Fin 16384) d) := by
  pointwise []
  exact congrArg (fun n => X (ix2 n d)) (Fin.ext (by dsimp only; omega))

theorem W_prompt (c : Dev nD) : W m c main_v7 = resP m c := by
  have e : W m c main_v7 = shapeCast S4x4096x1024 ((dats m 0 c).arrAt 6 cfg0.N) shapeCasts_S16384x1024_S4x4096x1024 := by
    unfold W Pipeline.afterTail₀
    rw [← Pipeline.withArrays_arr spec0 launch0.win.arr_inj c (V0 m c) (fun w => (dats m 0 c).arrAt w cfg0.N) 6]
    simp only [List.flatten_cons, List.flatten_nil, List.append_nil]
    after_results_simp <;> rfl
  rw [e, final_p]
  funext y
  have ey : y = ix3 (y 0) (y 1) (y 2) := by funext d; fin_cases d <;> rfl
  rw [ey]
  exact (split_at _ _ _ _).trans (row_congr m c rfl rfl)

theorem W_sample (c : Dev nD) : W m c main_v9 = resS m c := by
  have e : W m c main_v9 = shapeCast S128x1x1024 (extractStridedSlice S128x1024 ![0, 0] ((dats m 0 c).arrAt 7 cfg0.N) slices_S512x1024_S128x1024_0_0) shapeCasts_S128x1024_S128x1x1024 := by
    unfold W Pipeline.afterTail₀
    rw [← Pipeline.withArrays_arr spec0 launch0.win.arr_inj c (V0 m c) (fun w => (dats m 0 c).arrAt w cfg0.N) 7]
    simp only [List.flatten_cons, List.flatten_nil, List.append_nil]
    after_results_simp <;> rfl
  rw [e, final_s]
  funext y
  have ey : y = ix3 (y 0) (y 1) (y 2) := by funext d; fin_cases d <;> rfl
  rw [ey]
  unfold arrS resS
  pointwise []

/-- The run: the result arrays hold the normed rows, the arguments are unchanged. -/
theorem run_value : θ_run defs (onTc (τ := τ) (main (F := Ideal))) ⟨m, fun _ => 0, ρ⟩ (fun r => ∀ c : Dev nD,
      r.2.mem ((c.tc : Thread nD τ).loc main_v7) = resP m c ∧ r.2.mem ((c.tc : Thread nD τ).loc main_v9) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1.1 c).2 main_v7 (Pipeline.mem_restRefs_of main_v7 (by decide) (by decide))).trans (W_prompt m c),
       ((h.1.1 c).2 main_v9 (Pipeline.mem_restRefs_of main_v9 (by decide) (by decide))).trans (W_sample m c), h.2.1 c⟩)
    (θ_run_and (run_main_quiescent m ρ) (frame m ρ))

end Cert.Proof.NI

end
-- ==== Proof.Norm.Ref.lean ====
/-
  The layer norm's reference read at an index.
-/
module

public import proofs.«01_k».proof.Proof.Gen.Reference3Ideal.Run
public import proofs.«01_k».proof.Proof.Norm.Whole
public import Idealize.ShloMosaic.Lib.Pointwise

@[expose] public section

set_option maxRecDepth 8192

noncomputable section

namespace Cert.Proof.NR

open Cert.Reference3Ideal Cert.Reference3Ideal.Gen
open Idealize.ShloMosaic Idealize.ShloMosaic.TcCoe

variable (A0 A1 A2 : FVec Ideal S16896x1024 .f32) (A3 : FVec Ideal S16896x128 .f32) (A4 A5 : FVec Ideal S4x2x1024 .f32)

/-- The residual and the experts' mixture, -/
def mixed : FVec Ideal S16896x1024 .f32 :=
  addf (mulf (broadcastInDim S16896x1024 ![] bcast_S_S16896x1024 (constant S_ .f32 0x3FD744FD#32)) A0) (addf (mulf (broadcastInDim S16896x1024 ![0, 1] bcast_S16896x1_S16896x1024_0_1 (extractStridedSlice S16896x1 ![0, 2] A3 slices_S16896x128_S16896x1_0_2)) A1) (mulf (broadcastInDim S16896x1024 ![0, 1] bcast_S16896x1_S16896x1024_0_1 (extractStridedSlice S16896x1 ![0, 3] A3 slices_S16896x128_S16896x1_0_3)) A2))
/-- for rows `v`, their means, -/
def means (v : FVec Ideal S16896x1024 .f32) : FVec Ideal S16896x1 .f32 :=
  Host.divf (broadcastInDim S16896x1 ![0] bcast_S16896_S16896x1_0 (Host.reduceAdd v (constant S_ .f32 0x00000000#32) reducesTo_S16896x1024_S16896_d1 h_S_)) (broadcastInDim S16896x1 ![] bcast_S_S16896x1 (constant S_ .f32 0x44800000#32))
/-- their distances from the means, -/
def centred (v : FVec Ideal S16896x1024 .f32) : FVec Ideal S16896x1024 .f32 :=
  subf v (broadcastInDim S16896x1024 ![0, 1] bcast_S16896x1_S16896x1024_0_1 (means v))
/-- and, for distances `u`, the norm. -/
def scaled (u : FVec Ideal S16896x1024 .f32) : FVec Ideal S16896x1024 .f32 :=
  addf (mulf (mulf u (broadcastInDim S16896x1024 ![0, 1] bcast_S16896x1_S16896x1024_0_1 (Host.rsqrt (addf (means (mulf u u)) (broadcastInDim S16896x1 ![] bcast_S_S16896x1 (constant S_ .f32 0x3727C5AC#32))))))
    (broadcastInDim S16896x1024 ![0, 1] bcast_S1x1024_S16896x1024_0_1 (broadcastInDim S1x1024 ![1] bcast_S1024_S1x1024_1 (shapeCast S1024 (extractStridedSlice S1x1x1024 ![3, 1, 0] A4 slices_S4x2x1024_S1x1x1024_3_1_0) shapeCasts_S1x1x1024_S1024))))
    (broadcastInDim S16896x1024 ![0, 1] bcast_S1x1024_S16896x1024_0_1 (broadcastInDim S1x1024 ![1] bcast_S1024_S1x1024_1 (shapeCast S1024 (extractStridedSlice S1x1x1024 ![3, 1, 0] A5 slices_S4x2x1024_S1x1x1024_3_1_0) shapeCasts_S1x1x1024_S1024)))

theorem means_at (v : FVec Ideal S16896x1024 .f32) (n : Fin 16896) : means v (ix2 n (0 : Fin 1)) = NI.meanOf (fun k => v (ix2 n k)) := by
  unfold means NI.meanOf
  pointwise []
theorem centred_at (v : FVec Ideal S16896x1024 .f32) (n : Fin 16896) (d : Fin 1024) : centred v (ix2 n d) = v (ix2 n d) - NI.meanOf (fun k => v (ix2 n k)) := by
  unfold centred
  pointwise [means_at]
theorem scaled_at (u : FVec Ideal S16896x1024 .f32) (n : Fin 16896) (d : Fin 1024) : scaled A4 A5 u (ix2 n d)
    = u (ix2 n d) * Ideal.rsqrt (NI.meanOf (fun k => u (ix2 n k) * u (ix2 n k)) + Ideal.ofBits .f32 0x3727C5AC#32) * A4 (ix3 (3 : Fin 4) (1 : Fin 2) d) + A5 (ix3 (3 : Fin 4) (1 : Fin 2) d) := by
  unfold scaled
  pointwise [means_at]
theorem mixed_at (n : Fin 16896) (d : Fin 1024) : mixed A0 A1 A2 A3 (ix2 n d)
    = NI.mix (A0 (ix2 n d)) (A1 (ix2 n d)) (A2 (ix2 n d)) (A3 (ix2 n (2 : Fin 128))) (A3 (ix2 n (3 : Fin 128))) := by
  unfold mixed NI.mix
  pointwise []

/-- The rows normed. -/
theorem normed_at (n : Fin 16896) (d : Fin 1024) : scaled A4 A5 (centred (mixed A0 A1 A2 A3)) (ix2 n d) = NI.rowVal A0 A1 A2 A3 A4 A5 n d := by
  rw [scaled_at]
  simp only [centred_at, mixed_at]
  rfl

/-- The prompt's part of the rows, -/
def prompt (w : FVec Ideal S16896x1024 .f32) : FVec Ideal S4x4096x1024 .f32 :=
  shapeCast _ (extractStridedSlice S16384x1024 ![0, 0] w slices_S16896x1024_S16384x1024_0_0) shapeCasts_S16384x1024_S4x4096x1024
/-- and the sample's. -/
def sample (w : FVec Ideal S16896x1024 .f32) : FVec Ideal S128x1x1024 .f32 :=
  shapeCast _ (extractStridedSlice S128x1024 ![16384, 0] w slices_S16896x1024_S128x1024_16384_0) shapeCasts_S128x1024_S128x1x1024

theorem prompt_at (w : FVec Ideal S16896x1024 .f32) (a : Fin 4) (b : Fin 4096) (d : Fin 1024) :
    prompt w (ix3 a b d) = w (ix2 (⟨4096 * a.val + b.val, by omega⟩ : Fin 16896) d) := by
  unfold prompt
  pointwise []
  exact congrArg (fun n => w (ix2 n d)) (Fin.ext (by dsimp only; omega))
theorem sample_at (w : FVec Ideal S16896x1024 .f32) (a : Fin 128) (d : Fin 1024) :
    sample w (ix3 a (0 : Fin 1) d) = w (ix2 (⟨16384 + a.val, by omega⟩ : Fin 16896) d) := by
  unfold sample
  pointwise []

variable (m : (ℓ : Loc nD τ sig) → Buf (Elt Ideal) ℓ) (c : Dev nD)

/-- All rows of the arguments' arrays normed. -/
def rows : FVec Ideal S16896x1024 .f32 :=
  scaled (m ((c.tc : Thread nD τ).loc main_arg4)) (m ((c.tc : Thread nD τ).loc main_arg5)) (centred (mixed (m ((c.tc : Thread nD τ).loc main_arg0))
    (m ((c.tc : Thread nD τ).loc main_arg1)) (m ((c.tc : Thread nD τ).loc main_arg2)) (m ((c.tc : Thread nD τ).loc main_arg3))))

theorem res0_eq : Value.res_main_v39 m c = prompt (rows m c) := rfl
theorem res1_eq : Value.res_main_v41 m c = sample (rows m c) := rfl

end Cert.Proof.NR

end
-- ==== Proof.Norm.RefFrame.lean ====
/-
  The layer norm reference runs without fault, leaves its arguments unchanged, and has no semaphore.
-/
module

public import proofs.«01_k».proof.Proof.Gen.Reference3Ideal.Run

@[expose] public section

namespace Cert.Proof.NR

open Cert.Reference3Ideal Cert.Reference3Ideal.Gen Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2, by
    funext x
    obtain ⟨_, s | s⟩ := x
    · exact s.elim0
    · exact s.elim0⟩) (Value.run m ρ)

end Cert.Proof.NR
-- ==== Proof.Even.Val.lean ====
/-
  What a point of the even layers' projection computes at a row and a column, at the ideal instance, and the blocks it reads.
-/
module

public import proofs.«01_k».proof.Proof.Even.Body
public import Idealize.ShloMosaic.Lib.Pointwise
public import Idealize.ShloMosaic.Lib.StableHlo.Run

@[expose] public section

set_option maxRecDepth 16384

noncomputable section

namespace Cert.Proof.EI

open Cert.Kernel4Ideal Cert.Kernel4Ideal.Gen
open Idealize.ShloMosaic Idealize.ShloMosaic.TcCoe
open Idealize.SL Idealize.SL.Sem

/-- A token's row: the prompts' tokens, then the samples', then zeros. -/
def xrow (P : S4x4096x1024.Idx → EReal) (Q : S128x1x1024.Idx → EReal) (n : Fin 16896) (k : Fin 1024) : EReal :=
  if h : n.val < 16384 then P (ix3 (⟨n.val / 4096, by omega⟩ : Fin 4) (⟨n.val % 4096, by omega⟩ : Fin 4096) k)
  else if h' : n.val < 16512 then Q (ix3 (⟨n.val - 16384, by omega⟩ : Fin 128) (0 : Fin 1) k) else 0

/-- A token's row times a column of the first layer's weights, -/
def proj (P : S4x4096x1024.Idx → EReal) (Q : S128x1x1024.Idx → EReal) (U : S2x1024x2304.Idx → EReal) (n : Fin 16896) (e : Fin 2304) : EReal :=
  ∑ k : Fin 1024, xrow P Q n k * U (ix3 (0 : Fin 2) k e)

/-- and the gated input: two of its columns multiplied. -/
def gate (P : S4x4096x1024.Idx → EReal) (Q : S128x1x1024.Idx → EReal) (U : S2x1024x2304.Idx → EReal) (n : Fin 16896) (d : Fin 512) : EReal :=
  proj P Q U n ⟨1280 + d.val, by omega⟩ * proj P Q U n ⟨1792 + d.val, by omega⟩

/-- The rows times the weights, on whole blocks. -/
def mm (x : Vec Ideal S512x1024 .f32) (w : FVec Ideal S1024x2304 .bf16) : FVec Ideal S512x2304 .f32 :=
  matmul (F := Ideal) dot_S512x1024_S1024x2304_S512x2304_1_0_0_1_n_n none (truncf .bf16 (shapeCast S512x1024 x shapeCasts_S512x1024_S512x1024) bitsLt_bf16_f32)
    (shapeCast S1024x2304 w shapeCasts_S1024x2304_S1024x2304) (constant S512x2304 .f32 0x00000000#32)

theorem mm_at (x : Vec Ideal S512x1024 .f32) (w : FVec Ideal S1024x2304 .bf16) (r : Fin 512) (e : Fin 2304) :
    mm x w (ix2 r e) = ∑ k : Fin 1024, x (ix2 r k) * w (ix2 k e) := by
  unfold mm
  pointwise []

theorem slt_at : ∀ t : Fin cfg0.N, (Scalar.cmpi .slt (BitVec.ofNat 32 (grid0.coords t 0).val) 32#32 = 1#1 ↔ t.val < 32) := by decide +kernel

/-- A point multiplies the prompts' tile, the last one the samples'. -/
theorem pay6_eq (t : Fin cfg0.N) (x1 x2 : Vec Ideal S512x1024 .f32) (x3 : Vec Ideal S1024x2304 .bf16) :
    k0_pay6 (grid0.coords t) x1 x2 x3 = mm (if t.val < 32 then x1 else x2) x3 := by
  unfold k0_pay6 mm
  dsimp only
  by_cases h : t.val < 32
  · rw [if_pos h, (slt_at t).mpr h]
    rfl
  · have e : Scalar.cmpi .slt (BitVec.ofNat 32 (grid0.coords t 0).val) 32#32 = 0#1 := by
      have := fun e => h ((slt_at t).mp e)
      generalize Scalar.cmpi .slt (BitVec.ofNat 32 (grid0.coords t 0).val) 32#32 = b at this ⊢
      revert b; decide
    rw [if_neg h, e]
    rfl

section Cuts
variable (t : Fin cfg0.N) (x1 x2 : Vec Ideal S512x1024 .f32) (x3 : Vec Ideal S1024x2304 .bf16)

theorem pay7_at (r : Fin 512) (d : Fin 512) : k0_pay7 (grid0.coords t) x1 x2 x3 (ix2 r d) = k0_pay6 (grid0.coords t) x1 x2 x3 (ix2 r (⟨d.val, by omega⟩ : Fin 2304)) := by
  unfold k0_pay7; pointwise []
theorem pay8_at (r : Fin 512) (d : Fin 128) : k0_pay8 (grid0.coords t) x1 x2 x3 (ix2 r d) = k0_pay6 (grid0.coords t) x1 x2 x3 (ix2 r (⟨512 + d.val, by omega⟩ : Fin 2304)) := by
  unfold k0_pay8; pointwise []
theorem pay9_at (r : Fin 512) (d : Fin 128) : k0_pay9 (grid0.coords t) x1 x2 x3 (ix2 r d) = k0_pay6 (grid0.coords t) x1 x2 x3 (ix2 r (⟨640 + d.val, by omega⟩ : Fin 2304)) := by
  unfold k0_pay9; pointwise []
theorem pay11_at (r : Fin 512) (d : Fin 512) : k0_pay11 (grid0.coords t) x1 x2 x3 (ix2 r d)
    = k0_pay6 (grid0.coords t) x1 x2 x3 (ix2 r (⟨1280 + d.val, by omega⟩ : Fin 2304)) * k0_pay6 (grid0.coords t) x1 x2 x3 (ix2 r (⟨1792 + d.val, by omega⟩ : Fin 2304)) := by
  unfold k0_pay11; pointwise []
theorem pay16_at (j : Fin 2) (d : Fin 512) : k0_pay16 (grid0.coords t) x1 x2 x3 (ix3 (0 : Fin 1) j d) = k0_pay11 (grid0.coords t) x1 x2 x3 (ix2 (⟨510 + j.val, by omega⟩ : Fin 512) d) := by
  unfold k0_pay16; pointwise []
theorem pay17_at (a b : Fin 128) : k0_pay17 (grid0.coords t) x1 x2 x3 (ix3 (0 : Fin 1) a b) = k0_pay6 (grid0.coords t) x1 x2 x3 (ix2 (⟨384 + b.val, by omega⟩ : Fin 512) (⟨512 + a.val, by omega⟩ : Fin 2304)) := by
  unfold k0_pay17; pointwise []
theorem pay18_at (a b : Fin 128) : k0_pay18 (grid0.coords t) x1 x2 x3 (ix3 (0 : Fin 1) a b) = k0_pay6 (grid0.coords t) x1 x2 x3 (ix2 (⟨384 + b.val, by omega⟩ : Fin 512) (⟨640 + a.val, by omega⟩ : Fin 2304)) := by
  unfold k0_pay18; pointwise []
theorem pay1_at (y : FVec Ideal S512x512 .f32) (a : Fin 128) (d : Fin 512) : k0_pay1 y (ix2 a d) = y (ix2 (⟨a.val, by omega⟩ : Fin 512) d) := by
  unfold k0_pay1; pointwise []
end Cuts

/-! ## The blocks -/

variable (m : (ℓ : Loc nD τ sig) → Buf (Elt Ideal) ℓ)

theorem join_at (X : S4x4096x1024.Idx → EReal) (a : Fin 4) (b : Fin 4096) (k : Fin 1024) :
    shapeCast S16384x1024 X shapeCasts_S4x4096x1024_S16384x1024 (ix2 (⟨4096 * a.val + b.val, by omega⟩ : Fin 16384) k) = X (ix3 a b k) := by
  pointwise []

theorem V_prompt (c : Dev nD) (n : Fin 16384) (k : Fin 1024) : V m c main_v0 (ix2 n k)
    = m ((c.tc : Thread nD τ).loc main_arg0) (ix3 (⟨n.val / 4096, by omega⟩ : Fin 4) (⟨n.val % 4096, by omega⟩ : Fin 4096) k) := by
  have e : V m c main_v0 = shapeCast S16384x1024 (m ((c.tc : Thread nD τ).loc main_arg0)) shapeCasts_S4x4096x1024_S16384x1024 := by
    unfold V V0
    simp only [List.flatten_cons, List.flatten_nil, List.append_nil]
    after_results_simp <;> rfl
  rw [e]
  exact (congrArg (fun j : Fin 16384 => shapeCast S16384x1024 (m ((c.tc : Thread nD τ).loc main_arg0)) shapeCasts_S4x4096x1024_S16384x1024 (ix2 j k))
    (Fin.ext (by dsimp only; omega))).trans (join_at (m ((c.tc : Thread nD τ).loc main_arg0)) ⟨n.val / 4096, by omega⟩ ⟨n.val % 4096, by omega⟩ k)

theorem V_sample (c : Dev nD) (r : Fin 512) (k : Fin 1024) : V m c main_v3 (ix2 r k)
    = if h : r.val < 128 then m ((c.tc : Thread nD τ).loc main_arg1) (ix3 (⟨r.val, h⟩ : Fin 128) (0 : Fin 1) k) else (0 : EReal) := by
  have e : V m c main_v3 = concatenate S512x1024 0 [⟨S128x1024, shapeCast S128x1024 (m ((c.tc : Thread nD τ).loc main_arg1)) shapeCasts_S128x1x1024_S128x1024⟩,
      ⟨S384x1024, broadcastInDim S384x1024 ![] bcast_S_S384x1024 (constant (F := Ideal) S_ .f32 0x00000000#32)⟩] concatenates_S128x1024_S384x1024_S512x1024_d0 := by
    unfold V V0
    simp only [List.flatten_cons, List.flatten_nil, List.append_nil]
    after_results_simp <;> rfl
  rw [e]
  by_cases h : r.val < 128
  · pointwise [h]
  · pointwise [h]

theorem V_weights (c : Dev nD) (k : Fin 1024) (e : Fin 2304) : V m c main_v10 (ix2 k e) = m ((c.tc : Thread nD τ).loc main_arg5) (ix3 (0 : Fin 2) k e) := by
  have h : V m c main_v10 = truncf (F := Ideal) .bf16 (shapeCast S1024x2304 (extractStridedSlice S1x1024x2304 ![0, 0, 0] (m ((c.tc : Thread nD τ).loc main_arg5)) slices_S2x1024x2304_S1x1024x2304_0_0_0) shapeCasts_S1x1024x2304_S1024x2304) bitsLt_bf16_f32 := by
    unfold V V0
    simp only [List.flatten_cons, List.flatten_nil, List.append_nil]
    after_results_simp <;> rfl
  rw [h]
  pointwise []

theorem V_state (c : Dev nD) (a : Fin 128) (d : Fin 512) : V m c main_v7 (ix2 a d) = m ((c.tc : Thread nD τ).loc main_arg4) (ix4 (0 : Fin 2) a (1 : Fin 2) d) := by
  have h : V m c main_v7 = shapeCast S128x512 (extractStridedSlice S1x128x1x512 ![0, 0, 1, 0] (m ((c.tc : Thread nD τ).loc main_arg4)) slices_S2x128x2x512_S1x128x1x512_0_0_1_0) shapeCasts_S1x128x1x512_S128x512 := by
    unfold V V0
    simp only [List.flatten_cons, List.flatten_nil, List.append_nil]
    after_results_simp <;> rfl
  rw [h]
  pointwise []

theorem idx0 : ∀ t : Fin cfg0.N, win0_0.index t = ![(lastP t).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem lastP_lt (t : Fin cfg0.N) : (lastP t).val < 32 := by show min t.val 31 < 32; omega

theorem blk0 (c : Dev nD) (t : Fin cfg0.N) (r : Fin 512) (k : Fin 1024) : (iblk m c 0 t : S512x1024.Idx → EReal) (ix2 r k)
    = V m c main_v0 (ix2 (⟨512 * (lastP t).val + r.val, by have := lastP_lt t; omega⟩ : Fin 16384) k) := by
  blk_simp [iblk]; exact congrArg (V m c main_v0) (by blk_ext [idx0])
theorem blk1 (c : Dev nD) (t : Fin cfg0.N) (r : Fin 512) (k : Fin 1024) : (iblk m c 1 t : S512x1024.Idx → EReal) (ix2 r k) = V m c main_v3 (ix2 r k) := by
  blk_simp [iblk]; exact congrArg (V m c main_v3) (by blk_ext [idx1])
theorem blk2 (c : Dev nD) (t : Fin cfg0.N) (k : Fin 1024) (e : Fin 2304) : (iblk m c 2 t : S1024x2304.Idx → EReal) (ix2 k e) = V m c main_v10 (ix2 k e) := by
  blk_simp [iblk]; exact congrArg (V m c main_v10) (by blk_ext [idx2])

/-- The token a block's row is of. -/
def tok (t : Fin cfg0.N) (r : Fin 512) : Fin 16896 := ⟨512 * t.val + r.val, by have := t.isLt.trans_eq N_0; omega⟩

/-- The projection of the arguments' arrays. -/
def prj (c : Dev nD) (n : Fin 16896) (e : Fin 2304) : EReal :=
  proj (m ((c.tc : Thread nD τ).loc main_arg0)) (m ((c.tc : Thread nD τ).loc main_arg1)) (m ((c.tc : Thread nD τ).loc main_arg5)) n e
def gat (c : Dev nD) (n : Fin 16896) (d : Fin 512) : EReal :=
  gate (m ((c.tc : Thread nD τ).loc main_arg0)) (m ((c.tc : Thread nD τ).loc main_arg1)) (m ((c.tc : Thread nD τ).loc main_arg5)) n d

theorem prj_congr (c : Dev nD) {n n' : Fin 16896} {e e' : Fin 2304} (hn : n.val = n'.val) (he : e.val = e'.val) : prj m c n e = prj m c n' e' := by
  rw [Fin.ext hn, Fin.ext he]
theorem gat_congr (c : Dev nD) {n n' : Fin 16896} {e e' : Fin 512} (hn : n.val = n'.val) (he : e.val = e'.val) : gat m c n e = gat m c n' e' := by
  rw [Fin.ext hn, Fin.ext he]

theorem xrow_at (c : Dev nD) (t : Fin cfg0.N) (r : Fin 512) (k : Fin 1024) :
    (if t.val < 32 then iblk m c 0 t else iblk m c 1 t : S512x1024.Idx → EReal) (ix2 r k)
      = xrow (m ((c.tc : Thread nD τ).loc main_arg0)) (m ((c.tc : Thread nD τ).loc main_arg1)) (tok t r) k := by
  have ht := t.isLt.trans_eq N_0
  have hk : (tok t r).val = 512 * t.val + r.val := rfl
  unfold xrow
  by_cases h : t.val < 32
  · have hl : (lastP t).val = t.val := show min t.val 31 = t.val by omega
    rw [if_pos h, dif_pos (by omega), blk0, V_prompt]
    refine congrArg₂ (fun a b => m ((c.tc : Thread nD τ).loc main_arg0) (ix3 a b k)) (Fin.ext ?_) (Fin.ext ?_)
    · show (512 * (lastP t).val + r.val) / 4096 = (tok t r).val / 4096
      rw [hl, hk]
    · show (512 * (lastP t).val + r.val) % 4096 = (tok t r).val % 4096
      rw [hl, hk]
  · rw [if_neg h, dif_neg (by omega), blk1, V_sample]
    by_cases h' : r.val < 128
    · rw [dif_pos h', dif_pos (by omega)]
      exact congrArg (fun a => m ((c.tc : Thread nD τ).loc main_arg1) (ix3 a (0 : Fin 1) k)) (Fin.ext (show r.val = (tok t r).val - 16384 by omega))
    · rw [dif_neg h', dif_neg (by omega)]

/-- A point's product holds its tokens' projections. -/
theorem pay6_at (c : Dev nD) (t : Fin cfg0.N) (r : Fin 512) (e : Fin 2304) :
    k0_pay6 (grid0.coords t) (iblk m c 0 t) (iblk m c 1 t) (iblk m c 2 t) (ix2 r e) = prj m c (tok t r) e := by
  rw [pay6_eq, mm_at]
  unfold prj proj
  refine Finset.sum_congr rfl fun k _ => ?_
  rw [blk2, V_weights]
  exact congrArg (· * _) (xrow_at m c t r k)

end Cert.Proof.EI

end
-- ==== Proof.Even.Whole.lean ====
/-
  The projection kernel's result arrays: the tokens' projections, the caches moved on by a token, and the convolution's states.
-/
module

public import proofs.«01_k».proof.Proof.Even.Val

@[expose] public section

set_option maxRecDepth 16384

noncomputable section

namespace Cert.Proof.EI

open Cert.Kernel4Ideal Cert.Kernel4Ideal.Gen
open Idealize.ShloMosaic Idealize.ShloMosaic.TcCoe
open Idealize.SL Idealize.SL.Sem

section Spec
variable (P : S4x4096x1024.Idx → EReal) (Q : S128x1x1024.Idx → EReal) (K : S2x128x128x2x64.Idx → EReal) (S : S2x128x2x512.Idx → EReal) (U : S2x1024x2304.Idx → EReal)

/-- All tokens' queries, -/
def queries (y : S16896x512.Idx) : EReal := proj P Q U (y 0) ⟨(y 1).val, by have : (y 1).val < 512 := (y 1).isLt; omega⟩
/-- their keys (columns from 512) or values (columns from 640), -/
def heads (o : Fin 641) (y : S16896x128.Idx) : EReal := proj P Q U (y 0) ⟨o.val + (y 1).val, by have : (y 1).val < 128 := (y 1).isLt; omega⟩
/-- the prompts' last 128 tokens' keys or values, -/
def lastHeads (o : Fin 641) (y : S4x128x2x64.Idx) : EReal :=
  proj P Q U ⟨4096 * (y 0).val + 3968 + (y 1).val, by have : (y 0).val < 4 := (y 0).isLt; have : (y 1).val < 128 := (y 1).isLt; omega⟩
    ⟨o.val + 64 * (y 2).val + (y 3).val, by have : (y 2).val < 2 := (y 2).isLt; have : (y 3).val < 64 := (y 3).isLt; omega⟩
/-- a cache without its oldest token and with the new one, -/
def moved (o : Fin 641) (y : S128x128x2x64.Idx) : EReal :=
  if h : (y 1).val < 127 then K (ix5 (0 : Fin 2) (y 0) (⟨1 + (y 1).val, by omega⟩ : Fin 128) (y 2) (y 3))
  else proj P Q U ⟨16384 + (y 0).val, by have : (y 0).val < 128 := (y 0).isLt; omega⟩
    ⟨o.val + 64 * (y 2).val + (y 3).val, by have : (y 2).val < 2 := (y 2).isLt; have : (y 3).val < 64 := (y 3).isLt; omega⟩
/-- the prompts' last two gated inputs, -/
def lastGates (y : S4x2x512.Idx) : EReal :=
  gate P Q U ⟨4096 * (y 0).val + 4094 + (y 1).val, by have : (y 0).val < 4 := (y 0).isLt; have : (y 1).val < 2 := (y 1).isLt; omega⟩ (y 2)
/-- and the samples' state: its newer entry and the new gated input. -/
def movedState (y : S128x2x512.Idx) : EReal :=
  if (y 1).val < 1 then S (ix4 (0 : Fin 2) (y 0) (1 : Fin 2) (y 2))
  else gate P Q U ⟨16384 + (y 0).val, by have : (y 0).val < 128 := (y 0).isLt; omega⟩ (y 2)
end Spec

variable (m : (ℓ : Loc nD τ sig) → Buf (Elt Ideal) ℓ) (ρ : Dev nD → PrngReg)

/-! ## The blocks -/

theorem qB_at (c : Dev nD) (t : Fin cfg0.N) (r : Fin 512) (d : Fin 512) : qB m c t (ix2 r d) = prj m c (tok t r) ⟨d.val, by omega⟩ := by
  unfold qB; rw [pay7_at, pay6_at]
theorem kB_at (c : Dev nD) (t : Fin cfg0.N) (r : Fin 512) (d : Fin 128) : kB m c t (ix2 r d) = prj m c (tok t r) ⟨512 + d.val, by omega⟩ := by
  unfold kB; rw [pay8_at, pay6_at]
theorem vB_at (c : Dev nD) (t : Fin cfg0.N) (r : Fin 512) (d : Fin 128) : vB m c t (ix2 r d) = prj m c (tok t r) ⟨640 + d.val, by omega⟩ := by
  unfold vB; rw [pay9_at, pay6_at]
theorem stB_at (c : Dev nD) (t : Fin cfg0.N) (j : Fin 2) (d : Fin 512) : stB m c t (ix3 (0 : Fin 1) j d) = gat m c (tok t ⟨510 + j.val, by omega⟩) d := by
  unfold stB; rw [pay16_at, pay11_at, pay6_at, pay6_at]; rfl
theorem usB_at (c : Dev nD) (t : Fin cfg0.N) (a : Fin 128) (d : Fin 512) : usB m c t (ix2 a d) = gat m c (tok t ⟨a.val, by omega⟩) d := by
  unfold usB; rw [pay1_at, pay11_at, pay6_at, pay6_at]; rfl
theorem ktB_at (c : Dev nD) (t : Fin cfg0.N) (a b : Fin 128) : ktB m c t (ix3 (0 : Fin 1) a b) = prj m c (tok t ⟨384 + b.val, by omega⟩) ⟨512 + a.val, by omega⟩ := by
  unfold ktB; rw [pay17_at, pay6_at]
theorem vtB_at (c : Dev nD) (t : Fin cfg0.N) (a b : Fin 128) : vtB m c t (ix3 (0 : Fin 1) a b) = prj m c (tok t ⟨384 + b.val, by omega⟩) ⟨640 + a.val, by omega⟩ := by
  unfold vtB; rw [pay18_at, pay6_at]

/-! ## The windows' arrays -/

/-- The prompt a point belongs to. -/
def ofP (t : Fin cfg0.N) : Fin 4 := ⟨min (t.val / 8) 3, by omega⟩

theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx10 : ∀ t : Fin cfg0.N, win0_10.index t = ![(ofP t).val, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![(ofP t).val, 0, 0] := (by decide +kernel : ∀ t : Fin grid0.N, _)
theorem idx13 : ∀ t : Fin cfg0.N, win0_13.index t = ![(ofP t).val, 0, 0] := (by decide +kernel : ∀ t : Fin grid0.N, _)

theorem emb6 (t : Fin cfg0.N) (r : Fin 512) (k : Fin 512) : ((win0_6.blk t).view.emb (ix2 r k : S512x512.Idx) 0).val = 512 * t.val + r.val ∧ ((win0_6.blk t).view.emb (ix2 r k : S512x512.Idx) 1).val = k.val := by
  constructor <;> blk_simp <;> rw [idx6]
  · dsimp only [Matrix.cons_val_zero]; omega
  · simp
theorem emb7 (t : Fin cfg0.N) (r : Fin 512) (k : Fin 128) : ((win0_7.blk t).view.emb (ix2 r k : S512x128.Idx) 0).val = 512 * t.val + r.val ∧ ((win0_7.blk t).view.emb (ix2 r k : S512x128.Idx) 1).val = k.val := by
  constructor <;> blk_simp <;> rw [idx7]
  · dsimp only [Matrix.cons_val_zero]; omega
  · simp
theorem emb8 (t : Fin cfg0.N) (r : Fin 512) (k : Fin 128) : ((win0_8.blk t).view.emb (ix2 r k : S512x128.Idx) 0).val = 512 * t.val + r.val ∧ ((win0_8.blk t).view.emb (ix2 r k : S512x128.Idx) 1).val = k.val := by
  constructor <;> blk_simp <;> rw [idx8]
  · dsimp only [Matrix.cons_val_zero]; omega
  · simp
theorem emb10 (t : Fin cfg0.N) (j : Fin 2) (k : Fin 512) : ((win0_10.blk t).view.emb (ix3 (0 : Fin 1) j k : S1x2x512.Idx) 0).val = (ofP t).val
    ∧ ((win0_10.blk t).view.emb (ix3 (0 : Fin 1) j k : S1x2x512.Idx) 1).val = j.val ∧ ((win0_10.blk t).view.emb (ix3 (0 : Fin 1) j k : S1x2x512.Idx) 2).val = k.val := by
  refine ⟨?_, ?_, ?_⟩ <;> blk_simp <;> rw [idx10] <;> simp
theorem emb11 (t : Fin cfg0.N) (r : Fin 128) (k : Fin 512) : ((win0_11.blk t).view.emb (ix2 r k : S128x512.Idx) 0).val = r.val ∧ ((win0_11.blk t).view.emb (ix2 r k : S128x512.Idx) 1).val = k.val := by
  constructor <;> blk_simp <;> rw [idx11] <;> simp
theorem emb12 (t : Fin cfg0.N) (j k : Fin 128) : ((win0_12.blk t).view.emb (ix3 (0 : Fin 1) j k : S1x128x128.Idx) 0).val = (ofP t).val
    ∧ ((win0_12.blk t).view.emb (ix3 (0 : Fin 1) j k : S1x128x128.Idx) 1).val = j.val ∧ ((win0_12.blk t).view.emb (ix3 (0 : Fin 1) j k : S1x128x128.Idx) 2).val = k.val := by
  refine ⟨?_, ?_, ?_⟩ <;> blk_simp <;> rw [idx12] <;> simp
theorem emb13 (t : Fin cfg0.N) (j k : Fin 128) : ((win0_13.blk t).view.emb (ix3 (0 : Fin 1) j k : S1x128x128.Idx) 0).val = (ofP t).val
    ∧ ((win0_13.blk t).view.emb (ix3 (0 : Fin 1) j k : S1x128x128.Idx) 1).val = j.val ∧ ((win0_13.blk t).view.emb (ix3 (0 : Fin 1) j k : S1x128x128.Idx) 2).val = k.val := by
  refine ⟨?_, ?_, ?_⟩ <;> blk_simp <;> rw [idx13] <;> simp

/-- The states' block is written back after a prompt's last point. -/
theorem last10 : ∀ t : Fin cfg0.N, (cfg0.win 10).flush t = true → (lastP t).val = 8 * (ofP t).val + 7 :=
  (by decide +kernel : ∀ t : Fin grid0.N, win0_10.flush t = true → (lastP t).val = 8 * (ofP t).val + 7)
theorem endP_eq : ∀ t : Fin cfg0.N, (endP t).val = 8 * (ofP t).val + 7 := (by decide +kernel : ∀ t : Fin grid0.N, _)

def arrQ (c : Dev nD) (y : S16896x512.Idx) : EReal := prj m c (y 0) ⟨(y 1).val, by have : (y 1).val < 512 := (y 1).isLt; omega⟩
def arrK (c : Dev nD) (y : S16896x128.Idx) : EReal := prj m c (y 0) ⟨512 + (y 1).val, by have : (y 1).val < 128 := (y 1).isLt; omega⟩
def arrV (c : Dev nD) (y : S16896x128.Idx) : EReal := prj m c (y 0) ⟨640 + (y 1).val, by have : (y 1).val < 128 := (y 1).isLt; omega⟩
def arrSt (c : Dev nD) (y : S4x2x512.Idx) : EReal :=
  gat m c ⟨4096 * (y 0).val + 4094 + (y 1).val, by have : (y 0).val < 4 := (y 0).isLt; have : (y 1).val < 2 := (y 1).isLt; omega⟩ (y 2)
def arrUs (c : Dev nD) (y : S128x512.Idx) : EReal := gat m c ⟨16384 + (y 0).val, by have : (y 0).val < 128 := (y 0).isLt; omega⟩ (y 1)
def arrKt (c : Dev nD) (y : S4x128x128.Idx) : EReal :=
  prj m c ⟨4096 * (y 0).val + 3968 + (y 2).val, by have : (y 0).val < 4 := (y 0).isLt; have : (y 2).val < 128 := (y 2).isLt; omega⟩ ⟨512 + (y 1).val, by have : (y 1).val < 128 := (y 1).isLt; omega⟩
def arrVt (c : Dev nD) (y : S4x128x128.Idx) : EReal :=
  prj m c ⟨4096 * (y 0).val + 3968 + (y 2).val, by have : (y 0).val < 4 := (y 0).isLt; have : (y 2).val < 128 := (y 2).isLt; omega⟩ ⟨640 + (y 1).val, by have : (y 1).val < 128 := (y 1).isLt; omega⟩

theorem final_q (c : Dev nD) : (dats m 0 c).arrAt 6 cfg0.N = arrQ m c := by
  refine (dats m 0 c).arrAt_eq_of_covers 6 (arrQ m c) (by decide +kernel) fun t hf y => ?_
  blk_simp
  rw [after0_6]
  have e : ∀ x : S512x512.Idx, qB m c t x = arrQ m c ((win0_6.blk t).view.emb x) := fun x => by
    obtain ⟨r, k, rfl⟩ : ∃ r k, x = ix2 r k := ⟨x 0, x 1, by funext d; fin_cases d <;> rfl⟩
    rw [qB_at]
    exact prj_congr m c (emb6 t r k).1.symm (emb6 t r k).2.symm
  exact e y

theorem final_k (c : Dev nD) : (dats m 0 c).arrAt 7 cfg0.N = arrK m c := by
  refine (dats m 0 c).arrAt_eq_of_covers 7 (arrK m c) (by decide +kernel) fun t hf y => ?_
  blk_simp
  rw [after0_7]
  have e : ∀ x : S512x128.Idx, kB m c t x = arrK m c ((win0_7.blk t).view.emb x) := fun x => by
    obtain ⟨r, k, rfl⟩ : ∃ r k, x = ix2 r k := ⟨x 0, x 1, by funext d; fin_cases d <;> rfl⟩
    rw [kB_at]
    exact prj_congr m c (emb7 t r k).1.symm (congrArg (512 + ·) (emb7 t r k).2.symm)
  exact e y

theorem final_v (c : Dev nD) : (dats m 0 c).arrAt 8 cfg0.N = arrV m c := by
  refine (dats m 0 c).arrAt_eq_of_covers 8 (arrV m c) (by decide +kernel) fun t hf y => ?_
  blk_simp
  rw [after0_8]
  have e : ∀ x : S512x128.Idx, vB m c t x = arrV m c ((win0_8.blk t).view.emb x) := fun x => by
    obtain ⟨r, k, rfl⟩ : ∃ r k, x = ix2 r k := ⟨x 0, x 1, by funext d; fin_cases d <;> rfl⟩
    rw [vB_at]
    exact prj_congr m c (emb8 t r k).1.symm (congrArg (640 + ·) (emb8 t r k).2.symm)
  exact e y

theorem final_st (c : Dev nD) : (dats m 0 c).arrAt 10 cfg0.N = arrSt m c := by
  refine (dats m 0 c).arrAt_eq_of_covers 10 (arrSt m c) (by decide +kernel) fun t hf y => ?_
  have hl := last10 t hf
  blk_simp
  rw [after0_10]
  have e : ∀ x : S1x2x512.Idx, stB m c (lastP t) x = arrSt m c ((win0_10.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [stB_at]
    obtain ⟨e0, e1, e2⟩ := emb10 t j k
    refine gat_congr m c ?_ e2.symm
    show 512 * (lastP t).val + (510 + j.val) = 4096 * ((win0_10.blk t).view.emb (ix3 (0 : Fin 1) j k : S1x2x512.Idx) 0).val + 4094 + ((win0_10.blk t).view.emb (ix3 (0 : Fin 1) j k : S1x2x512.Idx) 1).val
    rw [e0, e1, hl]; omega
  exact e y

theorem final_us (c : Dev nD) : (dats m 0 c).arrAt 11 cfg0.N = arrUs m c := by
  refine (dats m 0 c).arrAt_eq_of_covers 11 (arrUs m c) (by decide +kernel) fun t hf y => ?_
  blk_simp
  rw [after0_11]
  have e : ∀ x : S128x512.Idx, usB m c sampleP x = arrUs m c ((win0_11.blk t).view.emb x) := fun x => by
    obtain ⟨r, k, rfl⟩ : ∃ r k, x = ix2 r k := ⟨x 0, x 1, by funext d; fin_cases d <;> rfl⟩
    rw [usB_at]
    exact gat_congr m c (congrArg (16384 + ·) (emb11 t r k).1.symm) (emb11 t r k).2.symm
  exact e y

theorem final_kt (c : Dev nD) : (dats m 0 c).arrAt 12 cfg0.N = arrKt m c := by
  refine (dats m 0 c).arrAt_eq_of_covers 12 (arrKt m c) (by decide +kernel) fun t hf y => ?_
  have hl := endP_eq t
  blk_simp
  rw [after0_12]
  have e : ∀ x : S1x128x128.Idx, ktB m c (endP t) x = arrKt m c ((win0_12.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [ktB_at]
    obtain ⟨e0, e1, e2⟩ := emb12 t j k
    refine prj_congr m c ?_ (congrArg (512 + ·) e1.symm)
    show 512 * (endP t).val + (384 + k.val) = 4096 * ((win0_12.blk t).view.emb (ix3 (0 : Fin 1) j k : S1x128x128.Idx) 0).val + 3968 + ((win0_12.blk t).view.emb (ix3 (0 : Fin 1) j k : S1x128x128.Idx) 2).val
    rw [e0, e2, hl]; omega
  exact e y

theorem final_vt (c : Dev nD) : (dats m 0 c).arrAt 13 cfg0.N = arrVt m c := by
  refine (dats m 0 c).arrAt_eq_of_covers 13 (arrVt m c) (by decide +kernel) fun t hf y => ?_
  have hl := endP_eq t
  blk_simp
  rw [after0_13]
  have e : ∀ x : S1x128x128.Idx, vtB m c (endP t) x = arrVt m c ((win0_13.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [vtB_at]
    obtain ⟨e0, e1, e2⟩ := emb13 t j k
    refine prj_congr m c ?_ (congrArg (640 + ·) e1.symm)
    show 512 * (endP t).val + (384 + k.val) = 4096 * ((win0_13.blk t).view.emb (ix3 (0 : Fin 1) j k : S1x128x128.Idx) 0).val + 3968 + ((win0_13.blk t).view.emb (ix3 (0 : Fin 1) j k : S1x128x128.Idx) 2).val
    rw [e0, e2, hl]; omega
  exact e y

end Cert.Proof.EI

end
-- ==== Proof.Even.Tail.lean ====
/-
  The host's lines after the call: the caches and states it returns, and the whole run's results.
-/
module

public import proofs.«01_k».proof.Proof.Even.Whole

@[expose] public section

set_option maxRecDepth 16384

noncomputable section

namespace Cert.Proof.EI

open Cert.Kernel4Ideal Cert.Kernel4Ideal.Gen
open Idealize.ShloMosaic Idealize.ShloMosaic.TcCoe
open Idealize.SL Idealize.SL.Sem

/-! ## The lines at an index -/

/-- Heads and columns split, and the tokens brought to the front. -/
def turned (X : S4x128x128.Idx → EReal) : S4x128x2x64.Idx → EReal :=
  transpose S4x128x2x64 [0, 3, 1, 2] (shapeCast S4x2x64x128 X shapeCasts_S4x128x128_S4x2x64x128) transposes_S4x2x64x128_S4x128x2x64_0_3_1_2
/-- A cache without its oldest token, followed by the samples' new one. -/
def appended (K : S2x128x128x2x64.Idx → EReal) (X : S16896x128.Idx → EReal) : S128x128x2x64.Idx → EReal :=
  concatenate S128x128x2x64 1 [⟨S128x127x2x64, extractStridedSlice S128x127x2x64 ![0, 1, 0, 0] (shapeCast S128x128x2x64
      (extractStridedSlice S1x128x128x2x64 ![0, 0, 0, 0, 0] K slices_S2x128x128x2x64_S1x128x128x2x64_0_0_0_0_0) shapeCasts_S1x128x128x2x64_S128x128x2x64) slices_S128x128x2x64_S128x127x2x64_0_1_0_0⟩,
    ⟨S128x1x2x64, shapeCast S128x1x2x64 (extractStridedSlice S128x128 ![16384, 0] X slices_S16896x128_S128x128_16384_0) shapeCasts_S128x128_S128x1x2x64⟩]
    concatenates_S128x127x2x64_S128x1x2x64_S128x128x2x64_d1
/-- Two entries of the states side by side. -/
def paired (A B : S128x512.Idx → EReal) : S128x2x512.Idx → EReal :=
  concatenate S128x2x512 1 [⟨S128x1x512, broadcastInDim S128x1x512 ![0, 2] bcast_S128x512_S128x1x512_0_2 A⟩,
    ⟨S128x1x512, broadcastInDim S128x1x512 ![0, 2] bcast_S128x512_S128x1x512_0_2 B⟩] concatenates_S128x1x512_S128x1x512_S128x2x512_d1

theorem turned_at (X : S4x128x128.Idx → EReal) (a : Fin 4) (b : Fin 128) (h : Fin 2) (d : Fin 64) :
    turned X (ix4 a b h d) = X (ix3 a (⟨64 * h.val + d.val, by omega⟩ : Fin 128) b) := by
  unfold turned
  pointwise []
  exact congrArg (fun e => X (ix3 a e b)) (Fin.ext (by dsimp only; omega))
theorem appended_old (K : S2x128x128x2x64.Idx → EReal) (X : S16896x128.Idx → EReal) (a : Fin 128) (b : Fin 128) (h : Fin 2) (d : Fin 64) (hb : b.val < 127) :
    appended K X (ix4 a b h d) = K (ix5 (0 : Fin 2) a (⟨1 + b.val, by omega⟩ : Fin 128) h d) := by
  unfold appended
  pointwise [hb]
theorem appended_new (K : S2x128x128x2x64.Idx → EReal) (X : S16896x128.Idx → EReal) (a : Fin 128) (b : Fin 128) (h : Fin 2) (d : Fin 64) (hb : ¬ b.val < 127) :
    appended K X (ix4 a b h d) = X (ix2 (⟨16384 + a.val, by omega⟩ : Fin 16896) (⟨64 * h.val + d.val, by omega⟩ : Fin 128)) := by
  unfold appended
  pointwise [hb]
  exact congrArg (fun e => X (ix2 (⟨16384 + a.val, by omega⟩ : Fin 16896) e)) (Fin.ext (by dsimp only; omega))
theorem paired_old (A B : S128x512.Idx → EReal) (a : Fin 128) (j : Fin 2) (d : Fin 512) (hj : j.val < 1) : paired A B (ix3 a j d) = A (ix2 a d) := by
  unfold paired
  pointwise [hj]
theorem paired_new (A B : S128x512.Idx → EReal) (a : Fin 128) (j : Fin 2) (d : Fin 512) (hj : ¬ j.val < 1) : paired A B (ix3 a j d) = B (ix2 a d) := by
  unfold paired
  pointwise [hj]

section Read
variable (P : S4x4096x1024.Idx → EReal) (Q : S128x1x1024.Idx → EReal) (K : S2x128x128x2x64.Idx → EReal) (S : S2x128x2x512.Idx → EReal) (U : S2x1024x2304.Idx → EReal)

theorem moved_old (o : Fin 641) (a b : Fin 128) (h : Fin 2) (d : Fin 64) (hb : b.val < 127) :
    moved P Q K U o (ix4 a b h d) = K (ix5 (0 : Fin 2) a (⟨1 + b.val, by omega⟩ : Fin 128) h d) := dif_pos hb
theorem moved_new (o : Fin 641) (a b : Fin 128) (h : Fin 2) (d : Fin 64) (hb : ¬ b.val < 127) :
    moved P Q K U o (ix4 a b h d) = proj P Q U ⟨16384 + a.val, by omega⟩ ⟨o.val + 64 * h.val + d.val, by omega⟩ := dif_neg hb
theorem movedState_old (a : Fin 128) (j : Fin 2) (d : Fin 512) (hj : j.val < 1) :
    movedState P Q S U (ix3 a j d) = S (ix4 (0 : Fin 2) a (1 : Fin 2) d) := if_pos hj
theorem movedState_new (a : Fin 128) (j : Fin 2) (d : Fin 512) (hj : ¬ j.val < 1) :
    movedState P Q S U (ix3 a j d) = gate P Q U ⟨16384 + a.val, by omega⟩ d := if_neg hj
end Read

variable (m : (ℓ : Loc nD τ sig) → Buf (Elt Ideal) ℓ) (ρ : Dev nD → PrngReg)

/-! ## The results -/

def resQ (c : Dev nD) : S16896x512.Idx → EReal :=
  queries (m ((c.tc : Thread nD τ).loc main_arg0)) (m ((c.tc : Thread nD τ).loc main_arg1)) (m ((c.tc : Thread nD τ).loc main_arg5))
def resH (c : Dev nD) (o : Fin 641) : S16896x128.Idx → EReal :=
  heads (m ((c.tc : Thread nD τ).loc main_arg0)) (m ((c.tc : Thread nD τ).loc main_arg1)) (m ((c.tc : Thread nD τ).loc main_arg5)) o
def resL (c : Dev nD) (o : Fin 641) : S4x128x2x64.Idx → EReal :=
  lastHeads (m ((c.tc : Thread nD τ).loc main_arg0)) (m ((c.tc : Thread nD τ).loc main_arg1)) (m ((c.tc : Thread nD τ).loc main_arg5)) o
def resM (c : Dev nD) (K : S2x128x128x2x64.Idx → EReal) (o : Fin 641) : S128x128x2x64.Idx → EReal :=
  moved (m ((c.tc : Thread nD τ).loc main_arg0)) (m ((c.tc : Thread nD τ).loc main_arg1)) K (m ((c.tc : Thread nD τ).loc main_arg5)) o
def resG (c : Dev nD) : S4x2x512.Idx → EReal :=
  lastGates (m ((c.tc : Thread nD τ).loc main_arg0)) (m ((c.tc : Thread nD τ).loc main_arg1)) (m ((c.tc : Thread nD τ).loc main_arg5))
def resS (c : Dev nD) : S128x2x512.Idx → EReal :=
  movedState (m ((c.tc : Thread nD τ).loc main_arg0)) (m ((c.tc : Thread nD τ).loc main_arg1)) (m ((c.tc : Thread nD τ).loc main_arg4)) (m ((c.tc : Thread nD τ).loc main_arg5))

/-- A buffer no window's array is, after the call. -/
theorem kept2 (c : Dev nD) : Pipeline.withArrays spec0 c (V0 m c) (fun w => (dats m 0 c).arrAt w cfg0.N) (Proc.devRef .tc main_arg2) = m ((c.tc : Thread nD τ).loc main_arg2) :=
  (Pipeline.withArrays_of_ne spec0 c (V0 m c) (fun w => (dats m 0 c).arrAt w cfg0.N) main_arg2 (by decide)).trans (V_main_arg2 m c)
theorem kept3 (c : Dev nD) : Pipeline.withArrays spec0 c (V0 m c) (fun w => (dats m 0 c).arrAt w cfg0.N) (Proc.devRef .tc main_arg3) = m ((c.tc : Thread nD τ).loc main_arg3) :=
  (Pipeline.withArrays_of_ne spec0 c (V0 m c) (fun w => (dats m 0 c).arrAt w cfg0.N) main_arg3 (by decide)).trans (V_main_arg3 m c)

theorem W_kp (c : Dev nD) : W m c main_v19 = resL m c 512 := by
  have e : W m c main_v19 = turned ((dats m 0 c).arrAt 12 cfg0.N) := by
    unfold W Pipeline.afterTail₀
    rw [← Pipeline.withArrays_arr spec0 launch0.win.arr_inj c (V0 m c) (fun w => (dats m 0 c).arrAt w cfg0.N) 12]
    simp only [List.flatten_cons, List.flatten_nil, List.append_nil]
    after_results_simp <;> rfl
  rw [e, final_kt]
  funext y
  have ey : y = ix4 (y 0) (y 1) (y 2) (y 3) := by funext d; fin_cases d <;> rfl
  rw [ey]
  exact (turned_at _ _ _ _ _).trans (prj_congr m c rfl (Nat.add_assoc 512 _ _).symm)

theorem W_vp (c : Dev nD) : W m c main_v21 = resL m c 640 := by
  have e : W m c main_v21 = turned ((dats m 0 c).arrAt 13 cfg0.N) := by
    unfold W Pipeline.afterTail₀
    rw [← Pipeline.withArrays_arr spec0 launch0.win.arr_inj c (V0 m c) (fun w => (dats m 0 c).arrAt w cfg0.N) 13]
    simp only [List.flatten_cons, List.flatten_nil, List.append_nil]
    after_results_simp <;> rfl
  rw [e, final_vt]
  funext y
  have ey : y = ix4 (y 0) (y 1) (y 2) (y 3) := by funext d; fin_cases d <;> rfl
  rw [ey]
  exact (turned_at _ _ _ _ _).trans (prj_congr m c rfl (Nat.add_assoc 640 _ _).symm)

theorem W_ks (c : Dev nD) : W m c main_v25 = resM m c (m ((c.tc : Thread nD τ).loc main_arg2)) 512 := by
  have e : W m c main_v25 = appended (m ((c.tc : Thread nD τ).loc main_arg2)) ((dats m 0 c).arrAt 7 cfg0.N) := by
    unfold W Pipeline.afterTail₀
    rw [← Pipeline.withArrays_arr spec0 launch0.win.arr_inj c (V0 m c) (fun w => (dats m 0 c).arrAt w cfg0.N) 7, ← kept2 m c]
    simp only [List.flatten_cons, List.flatten_nil, List.append_nil]
    after_results_simp <;> rfl
  rw [e, final_k]
  funext y
  have ey : y = ix4 (y 0) (y 1) (y 2) (y 3) := by funext d; fin_cases d <;> rfl
  rw [ey]
  by_cases h : (y 1).val < 127
  · exact (appended_old _ _ _ _ _ _ h).trans (moved_old _ _ _ _ _ _ _ _ _ h).symm
  · exact ((appended_new _ _ _ _ _ _ h).trans (prj_congr m c rfl (Nat.add_assoc 512 _ _).symm)).trans (moved_new _ _ _ _ _ _ _ _ _ h).symm

theorem W_vs (c : Dev nD) : W m c main_v29 = resM m c (m ((c.tc : Thread nD τ).loc main_arg3)) 640 := by
  have e : W m c main_v29 = appended (m ((c.tc : Thread nD τ).loc main_arg3)) ((dats m 0 c).arrAt 8 cfg0.N) := by
    unfold W Pipeline.afterTail₀
    rw [← Pipeline.withArrays_arr spec0 launch0.win.arr_inj c (V0 m c) (fun w => (dats m 0 c).arrAt w cfg0.N) 8, ← kept3 m c]
    simp only [List.flatten_cons, List.flatten_nil, List.append_nil]
    after_results_simp <;> rfl
  rw [e, final_v]
  funext y
  have ey : y = ix4 (y 0) (y 1) (y 2) (y 3) := by funext d; fin_cases d <;> rfl
  rw [ey]
  by_cases h : (y 1).val < 127
  · exact (appended_old _ _ _ _ _ _ h).trans (moved_old _ _ _ _ _ _ _ _ _ h).symm
  · exact ((appended_new _ _ _ _ _ _ h).trans (prj_congr m c rfl (Nat.add_assoc 640 _ _).symm)).trans (moved_new _ _ _ _ _ _ _ _ _ h).symm

theorem W_st (c : Dev nD) : W m c main_v32 = resS m c := by
  have e : W m c main_v32 = paired (V m c main_v7) ((dats m 0 c).arrAt 11 cfg0.N) := by
    unfold W Pipeline.afterTail₀
    have h5 : (dats m 0 c).arrAt 5 cfg0.N = V m c main_v7 := (dats m 0 c).arrAt_in 5 rfl cfg0.N
    rw [← h5, ← Pipeline.withArrays_arr spec0 launch0.win.arr_inj c (V0 m c) (fun w => (dats m 0 c).arrAt w cfg0.N) 11,
      ← Pipeline.withArrays_arr spec0 launch0.win.arr_inj c (V0 m c) (fun w => (dats m 0 c).arrAt w cfg0.N) 5]
    simp only [List.flatten_cons, List.flatten_nil, List.append_nil]
    after_results_simp <;> rfl
  rw [e, final_us]
  funext y
  have ey : y = ix3 (y 0) (y 1) (y 2) := by funext d; fin_cases d <;> rfl
  rw [ey]
  by_cases h : (y 1).val < 1
  · exact ((paired_old _ _ _ _ _ h).trans (V_state m c _ _)).trans (movedState_old _ _ _ _ _ _ _ h).symm
  · exact (paired_new _ _ _ _ _ h).trans (movedState_new _ _ _ _ _ _ _ h).symm

/-- The run: the results are the projections, the moved caches and states, the arguments are unchanged. -/
theorem run_value : θ_run defs (onTc (τ := τ) (main (F := Ideal))) ⟨m, fun _ => 0, ρ⟩ (fun r => ∀ c : Dev nD,
      r.2.mem ((c.tc : Thread nD τ).loc main_v13_0) = resQ m c ∧ r.2.mem ((c.tc : Thread nD τ).loc main_v13_1) = resH m c 512
      ∧ r.2.mem ((c.tc : Thread nD τ).loc main_v13_2) = resH m c 640
      ∧ r.2.mem ((c.tc : Thread nD τ).loc main_v19) = resL m c 512 ∧ r.2.mem ((c.tc : Thread nD τ).loc main_v21) = resL m c 640
      ∧ r.2.mem ((c.tc : Thread nD τ).loc main_v25) = resM m c (m ((c.tc : Thread nD τ).loc main_arg2)) 512
      ∧ r.2.mem ((c.tc : Thread nD τ).loc main_v29) = resM m c (m ((c.tc : Thread nD τ).loc main_arg3)) 640
      ∧ r.2.mem ((c.tc : Thread nD τ).loc main_v13_4) = resG m c ∧ r.2.mem ((c.tc : Thread nD τ).loc main_v32) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨((h.1.1 c).1 6).trans (final_q m c), ((h.1.1 c).1 7).trans (final_k m c), ((h.1.1 c).1 8).trans (final_v m c),
       ((h.1.1 c).2 main_v19 (Pipeline.mem_restRefs_of main_v19 (by decide) (by decide))).trans (W_kp m c),
       ((h.1.1 c).2 main_v21 (Pipeline.mem_restRefs_of main_v21 (by decide) (by decide))).trans (W_vp m c),
       ((h.1.1 c).2 main_v25 (Pipeline.mem_restRefs_of main_v25 (by decide) (by decide))).trans (W_ks m c),
       ((h.1.1 c).2 main_v29 (Pipeline.mem_restRefs_of main_v29 (by decide) (by decide))).trans (W_vs m c),
       ((h.1.1 c).1 10).trans (final_st m c),
       ((h.1.1 c).2 main_v32 (Pipeline.mem_restRefs_of main_v32 (by decide) (by decide))).trans (W_st m c), h.2.1 c⟩)
    (θ_run_and (run_main_quiescent m ρ) (frame m ρ))

end Cert.Proof.EI

end
-- ==== Proof.Even.Ref.lean ====
/-
  The projection's reference read at an index.
-/
module

public import proofs.«01_k».proof.Proof.Gen.Reference4Ideal.Run
public import proofs.«01_k».proof.Proof.Even.Tail
public import Idealize.ShloMosaic.Lib.Pointwise

@[expose] public section

set_option maxRecDepth 16384

noncomputable section

namespace Cert.Proof.ER

open Cert.Reference4Ideal Cert.Reference4Ideal.Gen
open Idealize.ShloMosaic Idealize.ShloMosaic.TcCoe

variable (P : FVec Ideal S4x4096x1024 .f32) (Q : FVec Ideal S128x1x1024 .f32) (K : FVec Ideal S2x128x128x2x64 .f32) (S : FVec Ideal S2x128x2x512 .f32)
  (U : FVec Ideal S2x1024x2304 .f32)

/-- The first layer's weights, -/
def weights : FVec Ideal S1024x2304 .f32 :=
  shapeCast _ (extractStridedSlice S1x1024x2304 ![0, 0, 0] U slices_S2x1024x2304_S1x1024x2304_0_0_0) shapeCasts_S1x1024x2304_S1024x2304
/-- the prompts' projections, -/
def prompts : FVec Ideal S4x4096x2304 .f32 := Host.dotGeneral dot_S4x4096x1024_S1024x2304_S4x4096x2304_2_0_01_1_n_n none P (weights U)
/-- and the samples'. -/
def samples : FVec Ideal S128x1x2304 .f32 := Host.dotGeneral dot_S128x1x1024_S1024x2304_S128x1x2304_2_0_01_1_n_n none Q (weights U)

theorem prompts_at (a : Fin 4) (b : Fin 4096) (e : Fin 2304) : prompts P U (ix3 a b e) = EI.proj P Q U ⟨4096 * a.val + b.val, by omega⟩ e := by
  unfold prompts weights EI.proj EI.xrow
  pointwise []
  refine Finset.sum_congr rfl fun k _ => ?_
  rw [dif_pos (show 4096 * a.val + b.val < 16384 by omega)]
  exact congrArg₂ (fun x y => P (ix3 x y k) * U (ix3 (0 : Fin 2) k e)) (Fin.ext (by dsimp only; omega)) (Fin.ext (by dsimp only; omega))
theorem samples_at (a : Fin 128) (e : Fin 2304) : samples Q U (ix3 a (0 : Fin 1) e) = EI.proj P Q U ⟨16384 + a.val, by omega⟩ e := by
  unfold samples weights EI.proj EI.xrow
  pointwise []
  refine Finset.sum_congr rfl fun k _ => ?_
  rw [dif_pos (show 16384 + a.val < 16512 by omega)]
theorem rest_at (n : Fin 16896) (e : Fin 2304) (h : ¬ n.val < 16512) : EI.proj P Q U n e = 0 := by
  unfold EI.proj EI.xrow
  refine Finset.sum_eq_zero fun k _ => ?_
  rw [dif_neg (by omega), dif_neg h, zero_mul]

/-- All tokens' queries: the prompts', the samples', zeros. -/
def queries : FVec Ideal S16896x512 .f32 :=
  concatenate S16896x512 0 [⟨S16384x512, shapeCast _ (extractStridedSlice S4x4096x512 ![0, 0, 0] (prompts P U) slices_S4x4096x2304_S4x4096x512_0_0_0) shapeCasts_S4x4096x512_S16384x512⟩,
    ⟨S128x512, shapeCast _ (extractStridedSlice S128x1x512 ![0, 0, 0] (samples Q U) slices_S128x1x2304_S128x1x512_0_0_0) shapeCasts_S128x1x512_S128x512⟩,
    ⟨S384x512, broadcastInDim S384x512 ![] bcast_S_S384x512 (constant S_ .f32 0x00000000#32)⟩] concatenates_S16384x512_S128x512_S384x512_S16896x512_d0

/-- The keys' columns, -/
def keysP : FVec Ideal S4x4096x128 .f32 := extractStridedSlice S4x4096x128 ![0, 0, 512] (prompts P U) slices_S4x4096x2304_S4x4096x128_0_0_512
def keysS : FVec Ideal S128x1x128 .f32 := extractStridedSlice S128x1x128 ![0, 0, 512] (samples Q U) slices_S128x1x2304_S128x1x128_0_0_512
/-- and the values'. -/
def valuesP : FVec Ideal S4x4096x128 .f32 := extractStridedSlice S4x4096x128 ![0, 0, 640] (prompts P U) slices_S4x4096x2304_S4x4096x128_0_0_640
def valuesS : FVec Ideal S128x1x128 .f32 := extractStridedSlice S128x1x128 ![0, 0, 640] (samples Q U) slices_S128x1x2304_S128x1x128_0_0_640

/-- The prompts', the samples', zeros, -/
def together (A : FVec Ideal S4x4096x128 .f32) (B : FVec Ideal S128x1x128 .f32) : FVec Ideal S16896x128 .f32 :=
  concatenate S16896x128 0 [⟨S16384x128, shapeCast _ A shapeCasts_S4x4096x128_S16384x128⟩, ⟨S128x128, shapeCast _ B shapeCasts_S128x1x128_S128x128⟩,
    ⟨S384x128, broadcastInDim S384x128 ![] bcast_S_S384x128 (constant S_ .f32 0x00000000#32)⟩] concatenates_S16384x128_S128x128_S384x128_S16896x128_d0
/-- the prompts' last ones by heads, -/
def lasts (A : FVec Ideal S4x4096x128 .f32) : FVec Ideal S4x128x2x64 .f32 :=
  extractStridedSlice S4x128x2x64 ![0, 3968, 0, 0] (shapeCast _ A shapeCasts_S4x4096x128_S4x4096x2x64) slices_S4x4096x2x64_S4x128x2x64_0_3968_0_0
/-- a cache followed by the samples', without its first, -/
def moved (B : FVec Ideal S128x1x128 .f32) : FVec Ideal S128x128x2x64 .f32 :=
  extractStridedSlice S128x128x2x64 ![0, 1, 0, 0] (concatenate S128x129x2x64 1 [⟨S128x128x2x64, (shapeCast _ (extractStridedSlice S1x128x128x2x64 ![0, 0, 0, 0, 0] K slices_S2x128x128x2x64_S1x128x128x2x64_0_0_0_0_0) shapeCasts_S1x128x128x2x64_S128x128x2x64)⟩,
    ⟨S128x1x2x64, (shapeCast _ B shapeCasts_S128x1x128_S128x1x2x64)⟩] concatenates_S128x128x2x64_S128x1x2x64_S128x129x2x64_d1) slices_S128x129x2x64_S128x128x2x64_0_1_0_0
/-- the prompts' last two gated inputs, -/
def gates : FVec Ideal S4x2x512 .f32 :=
  extractStridedSlice S4x2x512 ![0, 4094, 0] (mulf (extractStridedSlice S4x4096x512 ![0, 0, 1280] (prompts P U) slices_S4x4096x2304_S4x4096x512_0_0_1280)
    (extractStridedSlice S4x4096x512 ![0, 0, 1792] (prompts P U) slices_S4x4096x2304_S4x4096x512_0_0_1792)) slices_S4x4096x512_S4x2x512_0_4094_0
/-- and the state followed by the samples' one, without its first. -/
def state : FVec Ideal S128x2x512 .f32 :=
  extractStridedSlice S128x2x512 ![0, 1, 0] (concatenate S128x3x512 1 [⟨S128x2x512, (shapeCast _ (extractStridedSlice S1x128x2x512 ![0, 0, 0, 0] S slices_S2x128x2x512_S1x128x2x512_0_0_0_0) shapeCasts_S1x128x2x512_S128x2x512)⟩,
    ⟨S128x1x512, (mulf (extractStridedSlice S128x1x512 ![0, 0, 1280] (samples Q U) slices_S128x1x2304_S128x1x512_0_0_1280) (extractStridedSlice S128x1x512 ![0, 0, 1792] (samples Q U) slices_S128x1x2304_S128x1x512_0_0_1792))⟩]
    concatenates_S128x2x512_S128x1x512_S128x3x512_d1) slices_S128x3x512_S128x2x512_0_1_0

theorem keysP_at (a : Fin 4) (b : Fin 4096) (e : Fin 128) : keysP P U (ix3 a b e) = EI.proj P Q U ⟨4096 * a.val + b.val, by omega⟩ ⟨512 + e.val, by omega⟩ := by
  unfold keysP
  pointwise []
  exact prompts_at P Q U _ _ _
theorem valuesP_at (a : Fin 4) (b : Fin 4096) (e : Fin 128) : valuesP P U (ix3 a b e) = EI.proj P Q U ⟨4096 * a.val + b.val, by omega⟩ ⟨640 + e.val, by omega⟩ := by
  unfold valuesP
  pointwise []
  exact prompts_at P Q U _ _ _
theorem keysS_at (a : Fin 128) (e : Fin 128) : keysS Q U (ix3 a (0 : Fin 1) e) = EI.proj P Q U ⟨16384 + a.val, by omega⟩ ⟨512 + e.val, by omega⟩ := by
  unfold keysS
  pointwise []
  exact samples_at P Q U _ _
theorem valuesS_at (a : Fin 128) (e : Fin 128) : valuesS Q U (ix3 a (0 : Fin 1) e) = EI.proj P Q U ⟨16384 + a.val, by omega⟩ ⟨640 + e.val, by omega⟩ := by
  unfold valuesS
  pointwise []
  exact samples_at P Q U _ _

section Rows512
variable (A : S16384x512.Idx → EReal) (B : S128x512.Idx → EReal) (C : S384x512.Idx → EReal)
/-- Three pieces of rows, one after another: in the first, -/
theorem rows512_0 (n : Fin 16896) (e : Fin 512) (h : n.val < 16384) :
    concatenate S16896x512 0 [⟨S16384x512, A⟩, ⟨S128x512, B⟩, ⟨S384x512, C⟩] concatenates_S16384x512_S128x512_S384x512_S16896x512_d0 (ix2 n e) = A (ix2 (⟨n.val, h⟩ : Fin 16384) e) := by
  pointwise [h]
/-- in the second, -/
theorem rows512_1 (n : Fin 16896) (e : Fin 512) (h : ¬ n.val < 16384) (h' : n.val - 16384 < 128) :
    concatenate S16896x512 0 [⟨S16384x512, A⟩, ⟨S128x512, B⟩, ⟨S384x512, C⟩] concatenates_S16384x512_S128x512_S384x512_S16896x512_d0 (ix2 n e) = B (ix2 (⟨n.val - 16384, h'⟩ : Fin 128) e) := by
  pointwise [h, h']
/-- in the third. -/
theorem rows512_2 (n : Fin 16896) (e : Fin 512) (h : ¬ n.val < 16384) (h' : ¬ n.val - 16384 < 128) :
    concatenate S16896x512 0 [⟨S16384x512, A⟩, ⟨S128x512, B⟩, ⟨S384x512, C⟩] concatenates_S16384x512_S128x512_S384x512_S16896x512_d0 (ix2 n e) = C (ix2 (⟨n.val - 16512, by omega⟩ : Fin 384) e) := by
  pointwise [h, h']
  exact congrArg (fun x => C (ix2 x e)) (Fin.ext (by dsimp only; omega))
end Rows512

section Rows128
variable (A : S16384x128.Idx → EReal) (B : S128x128.Idx → EReal) (C : S384x128.Idx → EReal)
/-- Three pieces of rows, one after another: in the first, -/
theorem rows128_0 (n : Fin 16896) (e : Fin 128) (h : n.val < 16384) :
    concatenate S16896x128 0 [⟨S16384x128, A⟩, ⟨S128x128, B⟩, ⟨S384x128, C⟩] concatenates_S16384x128_S128x128_S384x128_S16896x128_d0 (ix2 n e) = A (ix2 (⟨n.val, h⟩ : Fin 16384) e) := by
  pointwise [h]
/-- in the second, -/
theorem rows128_1 (n : Fin 16896) (e : Fin 128) (h : ¬ n.val < 16384) (h' : n.val - 16384 < 128) :
    concatenate S16896x128 0 [⟨S16384x128, A⟩, ⟨S128x128, B⟩, ⟨S384x128, C⟩] concatenates_S16384x128_S128x128_S384x128_S16896x128_d0 (ix2 n e) = B (ix2 (⟨n.val - 16384, h'⟩ : Fin 128) e) := by
  pointwise [h, h']
/-- in the third. -/
theorem rows128_2 (n : Fin 16896) (e : Fin 128) (h : ¬ n.val < 16384) (h' : ¬ n.val - 16384 < 128) :
    concatenate S16896x128 0 [⟨S16384x128, A⟩, ⟨S128x128, B⟩, ⟨S384x128, C⟩] concatenates_S16384x128_S128x128_S384x128_S16896x128_d0 (ix2 n e) = C (ix2 (⟨n.val - 16512, by omega⟩ : Fin 384) e) := by
  pointwise [h, h']
  exact congrArg (fun x => C (ix2 x e)) (Fin.ext (by dsimp only; omega))
end Rows128

/-- A prompt's tokens in a row. -/
theorem flat512_at (A : S4x4096x512.Idx → EReal) (a : Fin 4) (b : Fin 4096) (e : Fin 512) :
    shapeCast S16384x512 A shapeCasts_S4x4096x512_S16384x512 (ix2 (⟨4096 * a.val + b.val, by omega⟩ : Fin 16384) e) = A (ix3 a b e) := by
  pointwise []
theorem flat128_at (A : S4x4096x128.Idx → EReal) (a : Fin 4) (b : Fin 4096) (e : Fin 128) :
    shapeCast S16384x128 A shapeCasts_S4x4096x128_S16384x128 (ix2 (⟨4096 * a.val + b.val, by omega⟩ : Fin 16384) e) = A (ix3 a b e) := by
  pointwise []

theorem token512_at (A : S4x4096x512.Idx → EReal) (n : Fin 16896) (h : n.val < 16384) (e : Fin 512) :
    shapeCast S16384x512 A shapeCasts_S4x4096x512_S16384x512 (ix2 (⟨n.val, h⟩ : Fin 16384) e) = A (ix3 (⟨n.val / 4096, by omega⟩ : Fin 4) (⟨n.val % 4096, by omega⟩ : Fin 4096) e) :=
  (congrArg (fun j : Fin 16384 => shapeCast S16384x512 A shapeCasts_S4x4096x512_S16384x512 (ix2 j e)) (Fin.ext (by dsimp only; omega))).trans
    (flat512_at A ⟨n.val / 4096, by omega⟩ ⟨n.val % 4096, by omega⟩ e)
theorem token128_at (A : S4x4096x128.Idx → EReal) (n : Fin 16896) (h : n.val < 16384) (e : Fin 128) :
    shapeCast S16384x128 A shapeCasts_S4x4096x128_S16384x128 (ix2 (⟨n.val, h⟩ : Fin 16384) e) = A (ix3 (⟨n.val / 4096, by omega⟩ : Fin 4) (⟨n.val % 4096, by omega⟩ : Fin 4096) e) :=
  (congrArg (fun j : Fin 16384 => shapeCast S16384x128 A shapeCasts_S4x4096x128_S16384x128 (ix2 j e)) (Fin.ext (by dsimp only; omega))).trans
    (flat128_at A ⟨n.val / 4096, by omega⟩ ⟨n.val % 4096, by omega⟩ e)
theorem step512_at (B : S128x1x512.Idx → EReal) (a : Fin 128) (e : Fin 512) : shapeCast S128x512 B shapeCasts_S128x1x512_S128x512 (ix2 a e) = B (ix3 a (0 : Fin 1) e) := by
  pointwise []
theorem step128_at (B : S128x1x128.Idx → EReal) (a : Fin 128) (e : Fin 128) : shapeCast S128x128 B shapeCasts_S128x1x128_S128x128 (ix2 a e) = B (ix3 a (0 : Fin 1) e) := by
  pointwise []
theorem zero512_at (a : Fin 384) (e : Fin 512) : broadcastInDim S384x512 ![] bcast_S_S384x512 (constant (F := Ideal) S_ .f32 0x00000000#32) (ix2 a e) = (0 : EReal) := by
  pointwise []
theorem zero128_at (a : Fin 384) (e : Fin 128) : broadcastInDim S384x128 ![] bcast_S_S384x128 (constant (F := Ideal) S_ .f32 0x00000000#32) (ix2 a e) = (0 : EReal) := by
  pointwise []
theorem queriesP_at (a : Fin 4) (b : Fin 4096) (e : Fin 512) : extractStridedSlice S4x4096x512 ![0, 0, 0] (prompts P U) slices_S4x4096x2304_S4x4096x512_0_0_0 (ix3 a b e)
    = EI.proj P Q U ⟨4096 * a.val + b.val, by omega⟩ ⟨e.val, by omega⟩ := by
  pointwise []
  exact prompts_at P Q U _ _ _
theorem queriesS_at (a : Fin 128) (e : Fin 512) : extractStridedSlice S128x1x512 ![0, 0, 0] (samples Q U) slices_S128x1x2304_S128x1x512_0_0_0 (ix3 a (0 : Fin 1) e)
    = EI.proj P Q U ⟨16384 + a.val, by omega⟩ ⟨e.val, by omega⟩ := by
  pointwise []
  exact samples_at P Q U _ _

theorem proj_congr {n n' : Fin 16896} (h : n.val = n'.val) (e : Fin 2304) : EI.proj P Q U n e = EI.proj P Q U n' e := by rw [Fin.ext h]

theorem lasts_at (A : FVec Ideal S4x4096x128 .f32) (a : Fin 4) (b : Fin 128) (h : Fin 2) (d : Fin 64) :
    lasts A (ix4 a b h d) = A (ix3 a (⟨3968 + b.val, by omega⟩ : Fin 4096) (⟨64 * h.val + d.val, by omega⟩ : Fin 128)) := by
  unfold lasts
  pointwise []
  exact congrArg (fun e => A (ix3 a (⟨3968 + b.val, by omega⟩ : Fin 4096) e)) (Fin.ext (by dsimp only; omega))
theorem moved_old (B : FVec Ideal S128x1x128 .f32) (a b : Fin 128) (h : Fin 2) (d : Fin 64) (hb : b.val < 127) :
    moved K B (ix4 a b h d) = K (ix5 (0 : Fin 2) a (⟨1 + b.val, by omega⟩ : Fin 128) h d) := by
  unfold moved
  have h1 : 1 + b.val < 128 := by omega
  pointwise [h1]
theorem moved_new (B : FVec Ideal S128x1x128 .f32) (a b : Fin 128) (h : Fin 2) (d : Fin 64) (hb : ¬ b.val < 127) :
    moved K B (ix4 a b h d) = B (ix3 a (0 : Fin 1) (⟨64 * h.val + d.val, by omega⟩ : Fin 128)) := by
  unfold moved
  have h1 : ¬ 1 + b.val < 128 := by omega
  pointwise [h1]
  exact congrArg (fun e => B (ix3 a (0 : Fin 1) e)) (Fin.ext (by dsimp only; omega))
theorem gates_at (a : Fin 4) (j : Fin 2) (d : Fin 512) : gates P U (ix3 a j d) = EI.gate P Q U ⟨4096 * a.val + 4094 + j.val, by omega⟩ d := by
  unfold gates
  pointwise []
  rw [prompts_at P Q U, prompts_at P Q U]
  have e : 4096 * a.val + 4094 + j.val = 4096 * a.val + (4094 + j.val) := by omega
  unfold EI.gate
  simp only [e]
theorem state_old (a : Fin 128) (j : Fin 2) (d : Fin 512) (hj : j.val < 1) : state Q S U (ix3 a j d) = S (ix4 (0 : Fin 2) a (1 : Fin 2) d) := by
  obtain rfl : j = 0 := Fin.ext (by have : ((0 : Fin 2)).val = 0 := rfl; omega)
  unfold state
  pointwise []
theorem state_new (a : Fin 128) (j : Fin 2) (d : Fin 512) (hj : ¬ j.val < 1) : state Q S U (ix3 a j d) = EI.gate P Q U ⟨16384 + a.val, by omega⟩ d := by
  obtain rfl : j = 1 := Fin.ext (by have : ((1 : Fin 2)).val = 1 := rfl; omega)
  unfold state
  pointwise []
  rw [samples_at P Q U, samples_at P Q U]
  rfl

/-! ## The results -/

theorem queries_eq : queries P Q U = EI.queries P Q U := by
  funext y
  obtain ⟨n, e, rfl⟩ : ∃ (n : Fin 16896) (e : Fin 512), y = ix2 n e := ⟨y 0, y 1, by funext d; fin_cases d <;> rfl⟩
  show _ = EI.proj P Q U n ⟨e.val, by omega⟩
  unfold queries
  by_cases h : n.val < 16384
  · exact (rows512_0 _ _ _ n e h).trans ((token512_at _ n h e).trans ((queriesP_at P Q U _ _ e).trans (proj_congr P Q U (by dsimp only; omega) _)))
  · by_cases h' : n.val - 16384 < 128
    · exact (rows512_1 _ _ _ n e h h').trans ((step512_at _ _ e).trans ((queriesS_at P Q U _ e).trans (proj_congr P Q U (by dsimp only; omega) _)))
    · exact (rows512_2 _ _ _ n e h h').trans ((zero512_at _ e).trans (rest_at P Q U n _ (by omega)).symm)

/-- Keys or values, of all tokens. -/
theorem together_eq (o : Fin 641) (A : FVec Ideal S4x4096x128 .f32) (B : FVec Ideal S128x1x128 .f32)
    (hA : ∀ (a : Fin 4) (b : Fin 4096) (e : Fin 128), A (ix3 a b e) = EI.proj P Q U ⟨4096 * a.val + b.val, by omega⟩ ⟨o.val + e.val, by omega⟩)
    (hB : ∀ (a : Fin 128) (e : Fin 128), B (ix3 a (0 : Fin 1) e) = EI.proj P Q U ⟨16384 + a.val, by omega⟩ ⟨o.val + e.val, by omega⟩) :
    together A B = EI.heads P Q U o := by
  funext y
  obtain ⟨n, e, rfl⟩ : ∃ (n : Fin 16896) (e : Fin 128), y = ix2 n e := ⟨y 0, y 1, by funext d; fin_cases d <;> rfl⟩
  show _ = EI.proj P Q U n ⟨o.val + e.val, by omega⟩
  unfold together
  by_cases h : n.val < 16384
  · exact (rows128_0 _ _ _ n e h).trans ((token128_at _ n h e).trans ((hA _ _ e).trans (proj_congr P Q U (by dsimp only; omega) _)))
  · by_cases h' : n.val - 16384 < 128
    · exact (rows128_1 _ _ _ n e h h').trans ((step128_at _ _ e).trans ((hB _ e).trans (proj_congr P Q U (by dsimp only; omega) _)))
    · exact (rows128_2 _ _ _ n e h h').trans ((zero128_at _ e).trans (rest_at P Q U n _ (by omega)).symm)

theorem lasts_eq (o : Fin 641) (A : FVec Ideal S4x4096x128 .f32)
    (hA : ∀ (a : Fin 4) (b : Fin 4096) (e : Fin 128), A (ix3 a b e) = EI.proj P Q U ⟨4096 * a.val + b.val, by omega⟩ ⟨o.val + e.val, by omega⟩) :
    lasts A = EI.lastHeads P Q U o := by
  funext y
  obtain ⟨a, b, h, d, rfl⟩ : ∃ (a : Fin 4) (b : Fin 128) (h : Fin 2) (d : Fin 64), y = ix4 a b h d := ⟨y 0, y 1, y 2, y 3, by funext d; fin_cases d <;> rfl⟩
  refine ((lasts_at A a b h d).trans (hA _ _ _)).trans ?_
  exact congrArg₂ (EI.proj P Q U) (Fin.ext (Nat.add_assoc _ _ _).symm) (Fin.ext (Nat.add_assoc _ _ _).symm)

theorem moved_eq (o : Fin 641) (B : FVec Ideal S128x1x128 .f32)
    (hB : ∀ (a : Fin 128) (e : Fin 128), B (ix3 a (0 : Fin 1) e) = EI.proj P Q U ⟨16384 + a.val, by omega⟩ ⟨o.val + e.val, by omega⟩) :
    moved K B = EI.moved P Q K U o := by
  funext y
  obtain ⟨a, b, h, d, rfl⟩ : ∃ (a b : Fin 128) (h : Fin 2) (d : Fin 64), y = ix4 a b h d := ⟨y 0, y 1, y 2, y 3, by funext d; fin_cases d <;> rfl⟩
  by_cases hb : b.val < 127
  · exact (moved_old K B a b h d hb).trans (EI.moved_old P Q K U o a b h d hb).symm
  · refine ((moved_new K B a b h d hb).trans (hB _ _)).trans (Eq.trans ?_ (EI.moved_new P Q K U o a b h d hb).symm)
    exact congrArg (EI.proj P Q U _) (Fin.ext (Nat.add_assoc _ _ _).symm)

theorem gates_eq : gates P U = EI.lastGates P Q U := by
  funext y
  obtain ⟨a, j, d, rfl⟩ : ∃ (a : Fin 4) (j : Fin 2) (d : Fin 512), y = ix3 a j d := ⟨y 0, y 1, y 2, by funext d; fin_cases d <;> rfl⟩
  exact gates_at P Q U a j d

theorem state_eq : state Q S U = EI.movedState P Q S U := by
  funext y
  obtain ⟨a, j, d, rfl⟩ : ∃ (a : Fin 128) (j : Fin 2) (d : Fin 512), y = ix3 a j d := ⟨y 0, y 1, y 2, by funext d; fin_cases d <;> rfl⟩
  by_cases hj : j.val < 1
  · exact (state_old Q S U a j d hj).trans (EI.movedState_old P Q S U a j d hj).symm
  · exact (state_new P Q S U a j d hj).trans (EI.movedState_new P Q S U a j d hj).symm

end Cert.Proof.ER

end
-- ==== Proof.Even.RefFrame.lean ====
/-
  The projection's reference runs without fault, leaves its arguments unchanged, and has no semaphore.
-/
module

public import proofs.«01_k».proof.Proof.Gen.Reference4Ideal.Run

@[expose] public section

namespace Cert.Proof.ER

open Cert.Reference4Ideal Cert.Reference4Ideal.Gen Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2.2.2, by
    funext x
    obtain ⟨_, s | s⟩ := x
    · exact s.elim0
    · exact s.elim0⟩) (Value.run m ρ)

end Cert.Proof.ER
-- ==== Proof.Odd.Val.lean ====
/-
  What a point of the odd layers' projection computes at a column and a token, at the ideal instance, and the blocks it reads.
-/
module

public import proofs.«01_k».proof.Proof.Odd.Body
public import Idealize.ShloMosaic.Lib.Pointwise
public import Idealize.ShloMosaic.Lib.StableHlo.Run

@[expose] public section

set_option maxRecDepth 16384

noncomputable section

namespace Cert.Proof.OI

open Cert.Kernel5Ideal Cert.Kernel5Ideal.Gen
open Idealize.ShloMosaic Idealize.ShloMosaic.TcCoe
open Idealize.SL Idealize.SL.Sem

/-- A token's row: the prompts' tokens, then the samples', then zeros. -/
def xrow (P : S4x4096x1024.Idx → EReal) (Q : S128x1x1024.Idx → EReal) (n : Fin 16896) (k : Fin 1024) : EReal :=
  if h : n.val < 16384 then P (ix3 (⟨n.val / 4096, by omega⟩ : Fin 4) (⟨n.val % 4096, by omega⟩ : Fin 4096) k)
  else if h' : n.val < 16512 then Q (ix3 (⟨n.val - 16384, by omega⟩ : Fin 128) (0 : Fin 1) k) else 0

/-- A token's row times a column of the first layer's weights, -/
def proj (P : S4x4096x1024.Idx → EReal) (Q : S128x1x1024.Idx → EReal) (U : S2x1024x1552.Idx → EReal) (n : Fin 16896) (e : Fin 1552) : EReal :=
  ∑ k : Fin 1024, xrow P Q n k * U (ix3 (0 : Fin 2) k e)

/-- the logarithm of the logistic function, -/
def lsig (z : EReal) : EReal := 0 - (max (0 - z) 0 + Ideal.log1p (Ideal.exp (0 - max z (-z))))

/-- and the logarithm of a forget gate. -/
def gate (P : S4x4096x1024.Idx → EReal) (Q : S128x1x1024.Idx → EReal) (U : S2x1024x1552.Idx → EReal) (B : S2x16.Idx → EReal) (n : Fin 16896) (j : Fin 16) : EReal :=
  lsig (proj P Q U n ⟨1536 + j.val, by omega⟩ + B (ix2 (0 : Fin 2) j))

/-! ## The payloads at an index -/

theorem slt_at : ∀ t : Fin cfg0.N, (Scalar.cmpi .slt (BitVec.ofNat 32 (grid0.coords t 0).val) 32#32 = 1#1 ↔ t.val < 32) := by decide +kernel

/-- A tile's rows. -/
theorem pay57_at (t : Fin cfg0.N) (x1 x2 : Vec Ideal S512x1024 .f32) (r : Fin 512) (k : Fin 1024) :
    k0_pay57 (grid0.coords t) x1 x2 (ix2 r k) = (if t.val < 32 then x1 else x2 : S512x1024.Idx → EReal) (ix2 r k) := by
  unfold k0_pay57
  dsimp only
  by_cases h : t.val < 32
  · rw [if_pos h, (slt_at t).mpr h]
    show shapeCast S512x1024 x1 shapeCasts_S512x1024_S512x1024 (ix2 r k) = _
    pointwise []
  · have e : Scalar.cmpi .slt (BitVec.ofNat 32 (grid0.coords t 0).val) 32#32 = 0#1 := by
      have := fun e => h ((slt_at t).mp e)
      generalize Scalar.cmpi .slt (BitVec.ofNat 32 (grid0.coords t 0).val) 32#32 = b at this ⊢
      revert b; decide
    rw [if_neg h, e]
    show shapeCast S512x1024 x2 shapeCasts_S512x1024_S512x1024 (ix2 r k) = _
    pointwise []

section Products
variable (y : FVec Ideal S512x1024 .bf16) (w : FVec Ideal S1536x1024 .bf16)

theorem pay7_at (e : Fin 1536) (r : Fin 512) : k0_pay7 y w (ix2 e r) = ∑ k : Fin 1024, w (ix2 e k) * y (ix2 r k) := by
  unfold k0_pay7; pointwise []
theorem pay1_at (e : Fin 1536) (r : Fin 128) : k0_pay1 y w (ix2 e r) = ∑ k : Fin 1024, w (ix2 e k) * y (ix2 (⟨r.val, by omega⟩ : Fin 512) k) := by
  unfold k0_pay1; pointwise []
theorem pay3_at (d : Fin 256) (r : Fin 128) : k0_pay3 y w (ix2 d r) = k0_pay1 y w (ix2 (⟨1024 + d.val, by omega⟩ : Fin 1536) r) := by
  unfold k0_pay3; pointwise []
theorem pay4_at (d : Fin 256) (r : Fin 128) : k0_pay4 y w (ix2 d r) = k0_pay1 y w (ix2 (⟨1280 + d.val, by omega⟩ : Fin 1536) r) := by
  unfold k0_pay4; pointwise []
theorem pay55_at (v : FVec Ideal S1536x512 .f32) (d : Fin 256) (r : Fin 512) : k0_pay55 v (ix3 (0 : Fin 1) d r) = v (ix2 (⟨1024 + d.val, by omega⟩ : Fin 1536) r) := by
  unfold k0_pay55; pointwise []
theorem pay56_at (v : FVec Ideal S1536x512 .f32) (d : Fin 256) (r : Fin 512) : k0_pay56 v (ix3 (0 : Fin 1) d r) = v (ix2 (⟨1280 + d.val, by omega⟩ : Fin 1536) r) := by
  unfold k0_pay56; pointwise []
theorem pay5_at (v : FVec Ideal S16x512 .f32) (j : Fin 16) (r : Fin 128) : k0_pay5 v (ix2 j r) = v (ix2 j (⟨r.val, by omega⟩ : Fin 512)) := by
  unfold k0_pay5; pointwise []
end Products

section Gates
variable (t : Fin cfg0.N) (x1 x2 : Vec Ideal S512x1024 .f32) (x4 : FVec Ideal S1024x384 .bf16) (x5 : Vec Ideal S1x128 .f32)

theorem pay58_at (r : Fin 512) (e : Fin 384) : k0_pay58 (grid0.coords t) x1 x2 x4 (ix2 r e)
    = ∑ k : Fin 1024, k0_pay57 (grid0.coords t) x1 x2 (ix2 r k) * x4 (ix2 k e) := by
  unfold k0_pay58; pointwise []

theorem lane_lt (j : Fin 128) (h : j.val < 16) : IntOp.cmpi .slt (BitVec.ofNat 32 j.val) 16#32 = 1#1 := by
  revert j; decide

theorem pay59_at (r : Fin 512) (j : Fin 128) (h : j.val < 16) : k0_pay59 (grid0.coords t) x1 x2 x4 x5 (ix2 r j)
    = lsig (k0_pay58 (grid0.coords t) x1 x2 x4 (ix2 r (⟨256 + j.val, by omega⟩ : Fin 384)) + x5 (ix2 (0 : Fin 1) j)) := by
  unfold k0_pay59 lsig
  pointwise []
  rw [lane_lt j h]
  rfl

theorem pay60_at (r : Fin 512) (j : Fin 16) : k0_pay60 (grid0.coords t) x1 x2 x4 x5 (ix2 j r)
    = k0_pay59 (grid0.coords t) x1 x2 x4 x5 (ix2 r (⟨j.val, by omega⟩ : Fin 128)) := by
  unfold k0_pay60; pointwise []
theorem pay61_at (r : Fin 512) (j : Fin 16) : k0_pay61 (grid0.coords t) x1 x2 x4 x5 (ix3 (0 : Fin 1) j r)
    = k0_pay60 (grid0.coords t) x1 x2 x4 x5 (ix2 j r) := by
  unfold k0_pay61; pointwise []
end Gates

/-! ## The blocks -/

variable (m : (ℓ : Loc nD τ sig) → Buf (Elt Ideal) ℓ)

theorem join_at (X : S4x4096x1024.Idx → EReal) (a : Fin 4) (b : Fin 4096) (k : Fin 1024) :
    shapeCast S16384x1024 X shapeCasts_S4x4096x1024_S16384x1024 (ix2 (⟨4096 * a.val + b.val, by omega⟩ : Fin 16384) k) = X (ix3 a b k) := by
  pointwise []

theorem V_prompt (c : Dev nD) (n : Fin 16384) (k : Fin 1024) : V m c main_v0 (ix2 n k)
    = m ((c.tc : Thread nD τ).loc main_arg0) (ix3 (⟨n.val / 4096, by omega⟩ : Fin 4) (⟨n.val % 4096, by omega⟩ : Fin 4096) k) := by
  have e : V m c main_v0 = shapeCast S16384x1024 (m ((c.tc : Thread nD τ).loc main_arg0)) shapeCasts_S4x4096x1024_S16384x1024 := by
    unfold V V0
    simp only [List.flatten_cons, List.flatten_nil, List.append_nil]
    after_results_simp <;> rfl
  rw [e]
  exact (congrArg (fun j : Fin 16384 => shapeCast S16384x1024 (m ((c.tc : Thread nD τ).loc main_arg0)) shapeCasts_S4x4096x1024_S16384x1024 (ix2 j k))
    (Fin.ext (by dsimp only; omega))).trans (join_at (m ((c.tc : Thread nD τ).loc main_arg0)) ⟨n.val / 4096, by omega⟩ ⟨n.val % 4096, by omega⟩ k)

theorem V_sample (c : Dev nD) (r : Fin 512) (k : Fin 1024) : V m c main_v3 (ix2 r k)
    = if h : r.val < 128 then m ((c.tc : Thread nD τ).loc main_arg1) (ix3 (⟨r.val, h⟩ : Fin 128) (0 : Fin 1) k) else (0 : EReal) := by
  have e : V m c main_v3 = concatenate S512x1024 0 [⟨S128x1024, shapeCast S128x1024 (m ((c.tc : Thread nD τ).loc main_arg1)) shapeCasts_S128x1x1024_S128x1024⟩,
      ⟨S384x1024, broadcastInDim S384x1024 ![] bcast_S_S384x1024 (constant (F := Ideal) S_ .f32 0x00000000#32)⟩] concatenates_S128x1024_S384x1024_S512x1024_d0 := by
    unfold V V0
    simp only [List.flatten_cons, List.flatten_nil, List.append_nil]
    after_results_simp <;> rfl
  rw [e]
  by_cases h : r.val < 128
  · pointwise [h]
  · pointwise [h]

theorem V_columns (c : Dev nD) (e : Fin 1536) (k : Fin 1024) : V m c main_v8 (ix2 e k) = m ((c.tc : Thread nD τ).loc main_arg2) (ix3 (0 : Fin 2) k (⟨e.val, by omega⟩ : Fin 1552)) := by
  have h : V m c main_v8 = truncf (F := Ideal) .bf16 (transpose S1536x1024 [1, 0] (extractStridedSlice S1024x1536 ![0, 0] (shapeCast S1024x1552 (extractStridedSlice S1x1024x1552 ![0, 0, 0] (m ((c.tc : Thread nD τ).loc main_arg2)) slices_S2x1024x1552_S1x1024x1552_0_0_0) shapeCasts_S1x1024x1552_S1024x1552)
      slices_S1024x1552_S1024x1536_0_0) transposes_S1024x1536_S1536x1024_1_0) bitsLt_bf16_f32 := by
    unfold V V0
    simp only [List.flatten_cons, List.flatten_nil, List.append_nil]
    after_results_simp <;> rfl
  rw [h]
  pointwise []

/-- The keys' and the gates' columns side by side: a gate's column. -/
theorem beside_at (X : S1024x256.Idx → EReal) (Y : S1024x16.Idx → EReal) (Z : S1024x112.Idx → EReal) (k : Fin 1024) (j : Fin 16) :
    concatenate S1024x384 1 [⟨S1024x256, X⟩, ⟨S1024x16, Y⟩, ⟨S1024x112, Z⟩] concatenates_S1024x256_S1024x16_S1024x112_S1024x384_d1 (ix2 k (⟨256 + j.val, by omega⟩ : Fin 384)) = Y (ix2 k j) := by
  have h : ¬ 256 + j.val < 256 := by omega
  have h' : 256 + j.val - 256 < 16 := by omega
  pointwise [h, h']

theorem V_gates (c : Dev nD) (k : Fin 1024) (j : Fin 16) : V m c main_v17 (ix2 k (⟨256 + j.val, by omega⟩ : Fin 384))
    = m ((c.tc : Thread nD τ).loc main_arg2) (ix3 (0 : Fin 2) k (⟨1536 + j.val, by omega⟩ : Fin 1552)) := by
  have h : V m c main_v17 = truncf (F := Ideal) .bf16 (concatenate S1024x384 1
      [⟨S1024x256, extractStridedSlice S1024x256 ![0, 1024] (shapeCast S1024x1552 (extractStridedSlice S1x1024x1552 ![0, 0, 0] (m ((c.tc : Thread nD τ).loc main_arg2)) slices_S2x1024x1552_S1x1024x1552_0_0_0) shapeCasts_S1x1024x1552_S1024x1552) slices_S1024x1552_S1024x256_0_1024⟩,
       ⟨S1024x16, extractStridedSlice S1024x16 ![0, 1536] (shapeCast S1024x1552 (extractStridedSlice S1x1024x1552 ![0, 0, 0] (m ((c.tc : Thread nD τ).loc main_arg2)) slices_S2x1024x1552_S1x1024x1552_0_0_0) shapeCasts_S1x1024x1552_S1024x1552) slices_S1024x1552_S1024x16_0_1536⟩,
       ⟨S1024x112, broadcastInDim S1024x112 ![] bcast_S_S1024x112 (constant (F := Ideal) S_ .f32 0x00000000#32)⟩] concatenates_S1024x256_S1024x16_S1024x112_S1024x384_d1) bitsLt_bf16_f32 := by
    unfold V V0
    simp only [List.flatten_cons, List.flatten_nil, List.append_nil]
    after_results_simp <;> rfl
  rw [h]
  refine (beside_at _ _ _ k j).trans ?_
  pointwise []

theorem V_shifts (c : Dev nD) (j : Fin 16) : V m c main_v22 (ix2 (0 : Fin 1) (⟨j.val, by omega⟩ : Fin 128)) = m ((c.tc : Thread nD τ).loc main_arg3) (ix2 (0 : Fin 2) j) := by
  have h : V m c main_v22 = broadcastInDim S1x128 ![1] bcast_S128_S1x128_1 (concatenate S128 0
      [⟨S16, shapeCast S16 (extractStridedSlice S1x16 ![0, 0] (m ((c.tc : Thread nD τ).loc main_arg3)) slices_S2x16_S1x16_0_0) shapeCasts_S1x16_S16⟩,
       ⟨S112, broadcastInDim S112 ![] bcast_S_S112 (constant (F := Ideal) S_ .f32 0x00000000#32)⟩] concatenates_S16_S112_S128_d0) := by
    unfold V V0
    simp only [List.flatten_cons, List.flatten_nil, List.append_nil]
    after_results_simp <;> rfl
  rw [h]
  have hj := j.isLt
  pointwise [hj]

theorem idx0 : ∀ t : Fin cfg0.N, win0_0.index t = ![(lastP t).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

theorem lastP_lt (t : Fin cfg0.N) : (lastP t).val < 32 := by show min t.val 31 < 32; omega

theorem blk0 (c : Dev nD) (t : Fin cfg0.N) (r : Fin 512) (k : Fin 1024) : (iblk m c 0 t : S512x1024.Idx → EReal) (ix2 r k)
    = V m c main_v0 (ix2 (⟨512 * (lastP t).val + r.val, by have := lastP_lt t; omega⟩ : Fin 16384) k) := by
  blk_simp [iblk]; exact congrArg (V m c main_v0) (by blk_ext [idx0])
theorem blk1 (c : Dev nD) (t : Fin cfg0.N) (r : Fin 512) (k : Fin 1024) : (iblk m c 1 t : S512x1024.Idx → EReal) (ix2 r k) = V m c main_v3 (ix2 r k) := by
  blk_simp [iblk]; exact congrArg (V m c main_v3) (by blk_ext [idx1])
theorem blk2 (c : Dev nD) (t : Fin cfg0.N) (e : Fin 1536) (k : Fin 1024) : (iblk m c 2 t : S1536x1024.Idx → EReal) (ix2 e k) = V m c main_v8 (ix2 e k) := by
  blk_simp [iblk]; exact congrArg (V m c main_v8) (by blk_ext [idx2])
theorem blk3 (c : Dev nD) (t : Fin cfg0.N) (k : Fin 1024) (e : Fin 384) : (iblk m c 3 t : S1024x384.Idx → EReal) (ix2 k e) = V m c main_v17 (ix2 k e) := by
  blk_simp [iblk]; exact congrArg (V m c main_v17) (by blk_ext [idx3])
theorem blk4 (c : Dev nD) (t : Fin cfg0.N) (j : Fin 128) : (iblk m c 4 t : S1x128.Idx → EReal) (ix2 (0 : Fin 1) j) = V m c main_v22 (ix2 (0 : Fin 1) j) := by
  blk_simp [iblk]; exact congrArg (V m c main_v22) (by blk_ext [idx4])

/-- The token a block's row is of. -/
def tok (t : Fin cfg0.N) (r : Fin 512) : Fin 16896 := ⟨512 * t.val + r.val, by have := t.isLt.trans_eq N_0; omega⟩

/-- The projection and the gates of the arguments' arrays. -/
def prj (c : Dev nD) (n : Fin 16896) (e : Fin 1552) : EReal :=
  proj (m ((c.tc : Thread nD τ).loc main_arg0)) (m ((c.tc : Thread nD τ).loc main_arg1)) (m ((c.tc : Thread nD τ).loc main_arg2)) n e
def gat (c : Dev nD) (n : Fin 16896) (j : Fin 16) : EReal :=
  gate (m ((c.tc : Thread nD τ).loc main_arg0)) (m ((c.tc : Thread nD τ).loc main_arg1)) (m ((c.tc : Thread nD τ).loc main_arg2)) (m ((c.tc : Thread nD τ).loc main_arg3)) n j

theorem prj_congr (c : Dev nD) {n n' : Fin 16896} {e e' : Fin 1552} (hn : n.val = n'.val) (he : e.val = e'.val) : prj m c n e = prj m c n' e' := by
  rw [Fin.ext hn, Fin.ext he]
theorem gat_congr (c : Dev nD) {n n' : Fin 16896} {e e' : Fin 16} (hn : n.val = n'.val) (he : e.val = e'.val) : gat m c n e = gat m c n' e' := by
  rw [Fin.ext hn, Fin.ext he]

theorem xrow_at (c : Dev nD) (t : Fin cfg0.N) (r : Fin 512) (k : Fin 1024) :
    (if t.val < 32 then iblk m c 0 t else iblk m c 1 t : S512x1024.Idx → EReal) (ix2 r k)
      = xrow (m ((c.tc : Thread nD τ).loc main_arg0)) (m ((c.tc : Thread nD τ).loc main_arg1)) (tok t r) k := by
  have ht := t.isLt.trans_eq N_0
  have hk : (tok t r).val = 512 * t.val + r.val := rfl
  unfold xrow
  by_cases h : t.val < 32
  · have hl : (lastP t).val = t.val := show min t.val 31 = t.val by omega
    rw [if_pos h, dif_pos (by omega), blk0, V_prompt]
    refine congrArg₂ (fun a b => m ((c.tc : Thread nD τ).loc main_arg0) (ix3 a b k)) (Fin.ext ?_) (Fin.ext ?_)
    · show (512 * (lastP t).val + r.val) / 4096 = (tok t r).val / 4096
      rw [hl, hk]
    · show (512 * (lastP t).val + r.val) % 4096 = (tok t r).val % 4096
      rw [hl, hk]
  · rw [if_neg h, dif_neg (by omega), blk1, V_sample]
    by_cases h' : r.val < 128
    · rw [dif_pos h', dif_pos (by omega)]
      exact congrArg (fun a => m ((c.tc : Thread nD τ).loc main_arg1) (ix3 a (0 : Fin 1) k)) (Fin.ext (show r.val = (tok t r).val - 16384 by omega))
    · rw [dif_neg h', dif_neg (by omega)]

theorem row_at (c : Dev nD) (t : Fin cfg0.N) (r : Fin 512) (k : Fin 1024) : k0_pay57 (grid0.coords t) (iblk m c 0 t) (iblk m c 1 t) (ix2 r k)
    = xrow (m ((c.tc : Thread nD τ).loc main_arg0)) (m ((c.tc : Thread nD τ).loc main_arg1)) (tok t r) k :=
  (pay57_at t _ _ r k).trans (xrow_at m c t r k)

/-- A point's products hold its tokens' projections, -/
theorem prods_at (c : Dev nD) (t : Fin cfg0.N) (e : Fin 1536) (r : Fin 512) :
    prods (grid0.coords t) (iblk m c 0 t) (iblk m c 1 t) (iblk m c 2 t) (ix2 e r) = prj m c (tok t r) ⟨e.val, by omega⟩ := by
  unfold prods prj proj
  refine (pay7_at _ _ e r).trans (Finset.sum_congr rfl fun k _ => ?_)
  exact (congrArg₂ (fun a b : EReal => a * b) ((blk2 m c t e k).trans (V_columns m c e k)) (row_at m c t r k)).trans (mul_comm _ _)
/-- the samples' among them, -/
theorem few_at (c : Dev nD) (t : Fin cfg0.N) (e : Fin 1536) (r : Fin 128) :
    k0_pay1 (k0_pay57 (grid0.coords t) (iblk m c 0 t) (iblk m c 1 t)) (iblk m c 2 t) (ix2 e r) = prj m c (tok t ⟨r.val, by omega⟩) ⟨e.val, by omega⟩ := by
  unfold prj proj
  refine (pay1_at _ _ e r).trans (Finset.sum_congr rfl fun k _ => ?_)
  exact (congrArg₂ (fun a b : EReal => a * b) ((blk2 m c t e k).trans (V_columns m c e k)) (row_at m c t _ k)).trans (mul_comm _ _)
/-- and the gates. -/
theorem gates_at (c : Dev nD) (t : Fin cfg0.N) (j : Fin 16) (r : Fin 512) :
    k0_pay60 (grid0.coords t) (iblk m c 0 t) (iblk m c 1 t) (iblk m c 3 t) (iblk m c 4 t) (ix2 j r) = gat m c (tok t r) j := by
  refine (pay60_at t _ _ _ _ r j).trans ((pay59_at t _ _ _ _ r _ j.isLt).trans ?_)
  unfold gat gate
  refine congrArg lsig (congrArg₂ (· + ·) ((pay58_at t _ _ _ r _).trans ?_) ((blk4 m c t _).trans (V_shifts m c j)))
  unfold proj
  exact Finset.sum_congr rfl fun k _ => congrArg₂ (· * ·) (row_at m c t r k) ((blk3 m c t k _).trans (V_gates m c k j))

end Cert.Proof.OI

end
-- ==== Proof.Odd.Whole.lean ====
/-
  The projection kernel's result arrays: the tokens' keys, values and forget gates.
-/
module

public import proofs.«01_k».proof.Proof.Odd.Val

@[expose] public section

set_option maxRecDepth 16384

noncomputable section

namespace Cert.Proof.OI

open Cert.Kernel5Ideal Cert.Kernel5Ideal.Gen
open Idealize.ShloMosaic Idealize.ShloMosaic.TcCoe
open Idealize.SL Idealize.SL.Sem

section Spec
variable (P : S4x4096x1024.Idx → EReal) (Q : S128x1x1024.Idx → EReal) (U : S2x1024x1552.Idx → EReal) (B : S2x16.Idx → EReal)

/-- The prompts' keys (columns from 1024) or values (columns from 1280), by heads, -/
def headsP (o : Fin 1281) (y : S4x4096x4x64.Idx) : EReal :=
  proj P Q U ⟨4096 * (y 0).val + (y 1).val, by have : (y 0).val < 4 := (y 0).isLt; have : (y 1).val < 4096 := (y 1).isLt; omega⟩
    ⟨o.val + 64 * (y 2).val + (y 3).val, by have : (y 2).val < 4 := (y 2).isLt; have : (y 3).val < 64 := (y 3).isLt; omega⟩
/-- the samples', -/
def headsS (o : Fin 1281) (y : S128x1x4x64.Idx) : EReal :=
  proj P Q U ⟨16384 + (y 0).val, by have : (y 0).val < 128 := (y 0).isLt; omega⟩
    ⟨o.val + 64 * (y 2).val + (y 3).val, by have : (y 2).val < 4 := (y 2).isLt; have : (y 3).val < 64 := (y 3).isLt; omega⟩
/-- the logarithms of the prompts' forget gates, -/
def gatesP (y : S4x4096x16.Idx) : EReal :=
  gate P Q U B ⟨4096 * (y 0).val + (y 1).val, by have : (y 0).val < 4 := (y 0).isLt; have : (y 1).val < 4096 := (y 1).isLt; omega⟩ (y 2)
/-- and of the samples'. -/
def gatesS (y : S128x1x16.Idx) : EReal :=
  gate P Q U B ⟨16384 + (y 0).val, by have : (y 0).val < 128 := (y 0).isLt; omega⟩ (y 2)
end Spec

variable (m : (ℓ : Loc nD τ sig) → Buf (Elt Ideal) ℓ) (ρ : Dev nD → PrngReg)

/-! ## The blocks -/

theorem ktB_at (c : Dev nD) (t : Fin cfg0.N) (d : Fin 256) (r : Fin 512) : ktB m c t (ix3 (0 : Fin 1) d r) = prj m c (tok t r) ⟨1024 + d.val, by omega⟩ := by
  unfold ktB; exact (pay55_at _ d r).trans (prods_at m c t _ r)
theorem vtB_at (c : Dev nD) (t : Fin cfg0.N) (d : Fin 256) (r : Fin 512) : vtB m c t (ix3 (0 : Fin 1) d r) = prj m c (tok t r) ⟨1280 + d.val, by omega⟩ := by
  unfold vtB; exact (pay56_at _ d r).trans (prods_at m c t _ r)
theorem lfB_at (c : Dev nD) (t : Fin cfg0.N) (j : Fin 16) (r : Fin 512) : lfB m c t (ix3 (0 : Fin 1) j r) = gat m c (tok t r) j := by
  unfold lfB; exact (pay61_at t _ _ _ _ r j).trans (gates_at m c t j r)
theorem ksB_at (c : Dev nD) (t : Fin cfg0.N) (d : Fin 256) (r : Fin 128) : ksB m c t (ix2 d r) = prj m c (tok t ⟨r.val, by omega⟩) ⟨1024 + d.val, by omega⟩ := by
  unfold ksB; exact (pay3_at _ _ d r).trans (few_at m c t _ r)
theorem vsB_at (c : Dev nD) (t : Fin cfg0.N) (d : Fin 256) (r : Fin 128) : vsB m c t (ix2 d r) = prj m c (tok t ⟨r.val, by omega⟩) ⟨1280 + d.val, by omega⟩ := by
  unfold vsB; exact (pay4_at _ _ d r).trans (few_at m c t _ r)
theorem lsB_at (c : Dev nD) (t : Fin cfg0.N) (j : Fin 16) (r : Fin 128) : lsB m c t (ix2 j r) = gat m c (tok t ⟨r.val, by omega⟩) j := by
  unfold lsB; exact (pay5_at _ j r).trans (gates_at m c t j _)

/-! ## The windows' arrays -/

theorem idx9 : ∀ t : Fin cfg0.N, win0_9.index t = ![(lastP t).val / 8, 0, (lastP t).val % 8] := (by decide +kernel : ∀ t : Fin grid0.N, _)
theorem emb9 (t : Fin cfg0.N) (j : Fin 256) (k : Fin 512) : ((win0_9.blk t).view.emb (ix3 (0 : Fin 1) j k : S1x256x512.Idx) 0).val = (lastP t).val / 8
    ∧ ((win0_9.blk t).view.emb (ix3 (0 : Fin 1) j k : S1x256x512.Idx) 1).val = j.val ∧ ((win0_9.blk t).view.emb (ix3 (0 : Fin 1) j k : S1x256x512.Idx) 2).val = 512 * ((lastP t).val % 8) + k.val := by
  refine ⟨?_, ?_, ?_⟩ <;> blk_simp <;> rw [idx9]
  · simp
  · simp
  · show (lastP t).val % 8 * 512 + k.val = _
    omega
theorem idx10 : ∀ t : Fin cfg0.N, win0_10.index t = ![(lastP t).val / 8, 0, (lastP t).val % 8] := (by decide +kernel : ∀ t : Fin grid0.N, _)
theorem emb10 (t : Fin cfg0.N) (j : Fin 256) (k : Fin 512) : ((win0_10.blk t).view.emb (ix3 (0 : Fin 1) j k : S1x256x512.Idx) 0).val = (lastP t).val / 8
    ∧ ((win0_10.blk t).view.emb (ix3 (0 : Fin 1) j k : S1x256x512.Idx) 1).val = j.val ∧ ((win0_10.blk t).view.emb (ix3 (0 : Fin 1) j k : S1x256x512.Idx) 2).val = 512 * ((lastP t).val % 8) + k.val := by
  refine ⟨?_, ?_, ?_⟩ <;> blk_simp <;> rw [idx10]
  · simp
  · simp
  · show (lastP t).val % 8 * 512 + k.val = _
    omega
theorem idx11 : ∀ t : Fin cfg0.N, win0_11.index t = ![(lastP t).val / 8, 0, (lastP t).val % 8] := (by decide +kernel : ∀ t : Fin grid0.N, _)
theorem emb11 (t : Fin cfg0.N) (j : Fin 16) (k : Fin 512) : ((win0_11.blk t).view.emb (ix3 (0 : Fin 1) j k : S1x16x512.Idx) 0).val = (lastP t).val / 8
    ∧ ((win0_11.blk t).view.emb (ix3 (0 : Fin 1) j k : S1x16x512.Idx) 1).val = j.val ∧ ((win0_11.blk t).view.emb (ix3 (0 : Fin 1) j k : S1x16x512.Idx) 2).val = 512 * ((lastP t).val % 8) + k.val := by
  refine ⟨?_, ?_, ?_⟩ <;> blk_simp <;> rw [idx11]
  · simp
  · simp
  · show (lastP t).val % 8 * 512 + k.val = _
    omega
theorem idx13 : ∀ t : Fin cfg0.N, win0_13.index t = ![0, 0] := (by decide +kernel : ∀ t : Fin grid0.N, _)
theorem emb13 (t : Fin cfg0.N) (j : Fin 256) (k : Fin 128) : ((win0_13.blk t).view.emb (ix2 j k : S256x128.Idx) 0).val = j.val ∧ ((win0_13.blk t).view.emb (ix2 j k : S256x128.Idx) 1).val = k.val := by
  constructor <;> blk_simp <;> rw [idx13] <;> simp
theorem idx14 : ∀ t : Fin cfg0.N, win0_14.index t = ![0, 0] := (by decide +kernel : ∀ t : Fin grid0.N, _)
theorem emb14 (t : Fin cfg0.N) (j : Fin 256) (k : Fin 128) : ((win0_14.blk t).view.emb (ix2 j k : S256x128.Idx) 0).val = j.val ∧ ((win0_14.blk t).view.emb (ix2 j k : S256x128.Idx) 1).val = k.val := by
  constructor <;> blk_simp <;> rw [idx14] <;> simp
theorem idx15 : ∀ t : Fin cfg0.N, win0_15.index t = ![0, 0] := (by decide +kernel : ∀ t : Fin grid0.N, _)
theorem emb15 (t : Fin cfg0.N) (j : Fin 16) (k : Fin 128) : ((win0_15.blk t).view.emb (ix2 j k : S16x128.Idx) 0).val = j.val ∧ ((win0_15.blk t).view.emb (ix2 j k : S16x128.Idx) 1).val = k.val := by
  constructor <;> blk_simp <;> rw [idx15] <;> simp

def arrKp (c : Dev nD) (y : S4x256x4096.Idx) : EReal := prj m c ⟨4096 * (y 0).val + (y 2).val, by have : (y 0).val < 4 := (y 0).isLt; have : (y 2).val < 4096 := (y 2).isLt; omega⟩ ⟨1024 + (y 1).val, by have : (y 1).val < 256 := (y 1).isLt; omega⟩
def arrVp (c : Dev nD) (y : S4x256x4096.Idx) : EReal := prj m c ⟨4096 * (y 0).val + (y 2).val, by have : (y 0).val < 4 := (y 0).isLt; have : (y 2).val < 4096 := (y 2).isLt; omega⟩ ⟨1280 + (y 1).val, by have : (y 1).val < 256 := (y 1).isLt; omega⟩
def arrLp (c : Dev nD) (y : S4x16x4096.Idx) : EReal := gat m c ⟨4096 * (y 0).val + (y 2).val, by have : (y 0).val < 4 := (y 0).isLt; have : (y 2).val < 4096 := (y 2).isLt; omega⟩ (y 1)
def arrKs (c : Dev nD) (y : S256x128.Idx) : EReal := prj m c ⟨16384 + (y 1).val, by have : (y 1).val < 128 := (y 1).isLt; omega⟩ ⟨1024 + (y 0).val, by have : (y 0).val < 256 := (y 0).isLt; omega⟩
def arrVs (c : Dev nD) (y : S256x128.Idx) : EReal := prj m c ⟨16384 + (y 1).val, by have : (y 1).val < 128 := (y 1).isLt; omega⟩ ⟨1280 + (y 0).val, by have : (y 0).val < 256 := (y 0).isLt; omega⟩
def arrLs (c : Dev nD) (y : S16x128.Idx) : EReal := gat m c ⟨16384 + (y 1).val, by have : (y 1).val < 128 := (y 1).isLt; omega⟩ (y 0)

theorem final_Kp (c : Dev nD) : (dats m 0 c).arrAt 9 cfg0.N = arrKp m c := by
  refine (dats m 0 c).arrAt_eq_of_covers 9 (arrKp m c) (by decide +kernel) fun t hf y => ?_
  blk_simp
  rw [after0_9]
  have e : ∀ x : S1x256x512.Idx, ktB m c (lastP t) x = arrKp m c ((win0_9.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [ktB_at]
    obtain ⟨e0, e1, e2⟩ := emb9 t j k
    refine prj_congr m c ?_ (congrArg (1024 + ·) e1.symm)
    show 512 * (lastP t).val + k.val = 4096 * ((win0_9.blk t).view.emb (ix3 (0 : Fin 1) j k : S1x256x512.Idx) 0).val + ((win0_9.blk t).view.emb (ix3 (0 : Fin 1) j k : S1x256x512.Idx) 2).val
    rw [e0, e2]; omega
  exact e y

theorem final_Vp (c : Dev nD) : (dats m 0 c).arrAt 10 cfg0.N = arrVp m c := by
  refine (dats m 0 c).arrAt_eq_of_covers 10 (arrVp m c) (by decide +kernel) fun t hf y => ?_
  blk_simp
  rw [after0_10]
  have e : ∀ x : S1x256x512.Idx, vtB m c (lastP t) x = arrVp m c ((win0_10.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [vtB_at]
    obtain ⟨e0, e1, e2⟩ := emb10 t j k
    refine prj_congr m c ?_ (congrArg (1280 + ·) e1.symm)
    show 512 * (lastP t).val + k.val = 4096 * ((win0_10.blk t).view.emb (ix3 (0 : Fin 1) j k : S1x256x512.Idx) 0).val + ((win0_10.blk t).view.emb (ix3 (0 : Fin 1) j k : S1x256x512.Idx) 2).val
    rw [e0, e2]; omega
  exact e y

theorem final_Lp (c : Dev nD) : (dats m 0 c).arrAt 11 cfg0.N = arrLp m c := by
  refine (dats m 0 c).arrAt_eq_of_covers 11 (arrLp m c) (by decide +kernel) fun t hf y => ?_
  blk_simp
  rw [after0_11]
  have e : ∀ x : S1x16x512.Idx, lfB m c (lastP t) x = arrLp m c ((win0_11.blk t).view.emb x) := fun x => by
    obtain ⟨j, k, rfl⟩ : ∃ j k, x = ix3 (0 : Fin 1) j k := ⟨x 1, x 2, by funext d; fin_cases d; exact Subsingleton.elim (α := Fin 1) _ _; all_goals rfl⟩
    rw [lfB_at]
    obtain ⟨e0, e1, e2⟩ := emb11 t j k
    refine gat_congr m c ?_ e1.symm
    show 512 * (lastP t).val + k.val = 4096 * ((win0_11.blk t).view.emb (ix3 (0 : Fin 1) j k : S1x16x512.Idx) 0).val + ((win0_11.blk t).view.emb (ix3 (0 : Fin 1) j k : S1x16x512.Idx) 2).val
    rw [e0, e2]; omega
  exact e y

theorem final_Ks (c : Dev nD) : (dats m 0 c).arrAt 13 cfg0.N = arrKs m c := by
  refine (dats m 0 c).arrAt_eq_of_covers 13 (arrKs m c) (by decide +kernel) fun t hf y => ?_
  blk_simp
  rw [after0_13]
  have e : ∀ x : S256x128.Idx, ksB m c sampleP x = arrKs m c ((win0_13.blk t).view.emb x) := fun x => by
    obtain ⟨j, k, rfl⟩ : ∃ j k, x = ix2 j k := ⟨x 0, x 1, by funext d; fin_cases d <;> rfl⟩
    rw [ksB_at]
    exact prj_congr m c (congrArg (16384 + ·) (emb13 t j k).2.symm) (congrArg (1024 + ·) (emb13 t j k).1.symm)
  exact e y

theorem final_Vs (c : Dev nD) : (dats m 0 c).arrAt 14 cfg0.N = arrVs m c := by
  refine (dats m 0 c).arrAt_eq_of_covers 14 (arrVs m c) (by decide +kernel) fun t hf y => ?_
  blk_simp
  rw [after0_14]
  have e : ∀ x : S256x128.Idx, vsB m c sampleP x = arrVs m c ((win0_14.blk t).view.emb x) := fun x => by
    obtain ⟨j, k, rfl⟩ : ∃ j k, x = ix2 j k := ⟨x 0, x 1, by funext d; fin_cases d <;> rfl⟩
    rw [vsB_at]
    exact prj_congr m c (congrArg (16384 + ·) (emb14 t j k).2.symm) (congrArg (1280 + ·) (emb14 t j k).1.symm)
  exact e y

theorem final_Ls (c : Dev nD) : (dats m 0 c).arrAt 15 cfg0.N = arrLs m c := by
  refine (dats m 0 c).arrAt_eq_of_covers 15 (arrLs m c) (by decide +kernel) fun t hf y => ?_
  blk_simp
  rw [after0_15]
  have e : ∀ x : S16x128.Idx, lsB m c sampleP x = arrLs m c ((win0_15.blk t).view.emb x) := fun x => by
    obtain ⟨j, k, rfl⟩ : ∃ j k, x = ix2 j k := ⟨x 0, x 1, by funext d; fin_cases d <;> rfl⟩
    rw [lsB_at]
    exact gat_congr m c (congrArg (16384 + ·) (emb15 t j k).2.symm) (emb15 t j k).1.symm
  exact e y

end Cert.Proof.OI

end
-- ==== Proof.Odd.Tail.lean ====
/-
  The host's lines after the call: keys, values and gates by tokens, and the whole run's results.
-/
module

public import proofs.«01_k».proof.Proof.Odd.Whole

@[expose] public section

set_option maxRecDepth 16384

noncomputable section

namespace Cert.Proof.OI

open Cert.Kernel5Ideal Cert.Kernel5Ideal.Gen
open Idealize.ShloMosaic Idealize.ShloMosaic.TcCoe
open Idealize.SL Idealize.SL.Sem

/-! ## The lines at an index -/

/-- The prompts' columns by heads, and the tokens brought to the front, -/
def turnedP (X : S4x256x4096.Idx → EReal) : S4x4096x4x64.Idx → EReal :=
  transpose S4x4096x4x64 [0, 3, 1, 2] (shapeCast S4x4x64x4096 X shapeCasts_S4x256x4096_S4x4x64x4096) transposes_S4x4x64x4096_S4x4096x4x64_0_3_1_2
/-- the samples' likewise, -/
def turnedS (X : S256x128.Idx → EReal) : S128x1x4x64.Idx → EReal :=
  broadcastInDim S128x1x4x64 ![0, 2, 3] bcast_S128x4x64_S128x1x4x64_0_2_3 (transpose S128x4x64 [2, 0, 1] (shapeCast S4x64x128 X shapeCasts_S256x128_S4x64x128) transposes_S4x64x128_S128x4x64_2_0_1)
/-- and the gates. -/
def spunP (X : S4x16x4096.Idx → EReal) : S4x4096x16.Idx → EReal := transpose S4x4096x16 [0, 2, 1] X transposes_S4x16x4096_S4x4096x16_0_2_1
def spunS (X : S16x128.Idx → EReal) : S128x1x16.Idx → EReal :=
  broadcastInDim S128x1x16 ![0, 2] bcast_S128x16_S128x1x16_0_2 (transpose S128x16 [1, 0] X transposes_S16x128_S128x16_1_0)

theorem turnedP_at (X : S4x256x4096.Idx → EReal) (a : Fin 4) (b : Fin 4096) (h : Fin 4) (d : Fin 64) :
    turnedP X (ix4 a b h d) = X (ix3 a (⟨64 * h.val + d.val, by omega⟩ : Fin 256) b) := by
  unfold turnedP
  pointwise []
  exact congrArg (fun e => X (ix3 a e b)) (Fin.ext (by dsimp only; omega))
theorem turnedS_at (X : S256x128.Idx → EReal) (a : Fin 128) (h : Fin 4) (d : Fin 64) :
    turnedS X (ix4 a (0 : Fin 1) h d) = X (ix2 (⟨64 * h.val + d.val, by omega⟩ : Fin 256) a) := by
  unfold turnedS
  pointwise []
  exact congrArg (fun e => X (ix2 e a)) (Fin.ext (by dsimp only; omega))
theorem spunP_at (X : S4x16x4096.Idx → EReal) (a : Fin 4) (b : Fin 4096) (j : Fin 16) : spunP X (ix3 a b j) = X (ix3 a j b) := by
  unfold spunP
  pointwise []
theorem spunS_at (X : S16x128.Idx → EReal) (a : Fin 128) (j : Fin 16) : spunS X (ix3 a (0 : Fin 1) j) = X (ix2 j a) := by
  unfold spunS
  pointwise []

variable (m : (ℓ : Loc nD τ sig) → Buf (Elt Ideal) ℓ) (ρ : Dev nD → PrngReg)

/-! ## The results -/

def resP (c : Dev nD) (o : Fin 1281) : S4x4096x4x64.Idx → EReal :=
  headsP (m ((c.tc : Thread nD τ).loc main_arg0)) (m ((c.tc : Thread nD τ).loc main_arg1)) (m ((c.tc : Thread nD τ).loc main_arg2)) o
def resS (c : Dev nD) (o : Fin 1281) : S128x1x4x64.Idx → EReal :=
  headsS (m ((c.tc : Thread nD τ).loc main_arg0)) (m ((c.tc : Thread nD τ).loc main_arg1)) (m ((c.tc : Thread nD τ).loc main_arg2)) o
def resGP (c : Dev nD) : S4x4096x16.Idx → EReal :=
  gatesP (m ((c.tc : Thread nD τ).loc main_arg0)) (m ((c.tc : Thread nD τ).loc main_arg1)) (m ((c.tc : Thread nD τ).loc main_arg2)) (m ((c.tc : Thread nD τ).loc main_arg3))
def resGS (c : Dev nD) : S128x1x16.Idx → EReal :=
  gatesS (m ((c.tc : Thread nD τ).loc main_arg0)) (m ((c.tc : Thread nD τ).loc main_arg1)) (m ((c.tc : Thread nD τ).loc main_arg2)) (m ((c.tc : Thread nD τ).loc main_arg3))

theorem W_kp (c : Dev nD) : W m c main_v25 = resP m c 1024 := by
  have e : W m c main_v25 = turnedP ((dats m 0 c).arrAt 9 cfg0.N) := by
    unfold W Pipeline.afterTail₀
    rw [← Pipeline.withArrays_arr spec0 launch0.win.arr_inj c (V0 m c) (fun w => (dats m 0 c).arrAt w cfg0.N) 9]
    simp only [List.flatten_cons, List.flatten_nil, List.append_nil]
    after_results_simp <;> rfl
  rw [e, final_Kp]
  funext y
  have ey : y = ix4 (y 0) (y 1) (y 2) (y 3) := by funext d; fin_cases d <;> rfl
  rw [ey]
  exact (turnedP_at _ _ _ _ _).trans (prj_congr m c rfl (Nat.add_assoc 1024 _ _).symm)

theorem W_vp (c : Dev nD) : W m c main_v27 = resP m c 1280 := by
  have e : W m c main_v27 = turnedP ((dats m 0 c).arrAt 10 cfg0.N) := by
    unfold W Pipeline.afterTail₀
    rw [← Pipeline.withArrays_arr spec0 launch0.win.arr_inj c (V0 m c) (fun w => (dats m 0 c).arrAt w cfg0.N) 10]
    simp only [List.flatten_cons, List.flatten_nil, List.append_nil]
    after_results_simp <;> rfl
  rw [e, final_Vp]
  funext y
  have ey : y = ix4 (y 0) (y 1) (y 2) (y 3) := by funext d; fin_cases d <;> rfl
  rw [ey]
  exact (turnedP_at _ _ _ _ _).trans (prj_congr m c rfl (Nat.add_assoc 1280 _ _).symm)

theorem W_lp (c : Dev nD) : W m c main_v28 = resGP m c := by
  have e : W m c main_v28 = spunP ((dats m 0 c).arrAt 11 cfg0.N) := by
    unfold W Pipeline.afterTail₀
    rw [← Pipeline.withArrays_arr spec0 launch0.win.arr_inj c (V0 m c) (fun w => (dats m 0 c).arrAt w cfg0.N) 11]
    simp only [List.flatten_cons, List.flatten_nil, List.append_nil]
    after_results_simp <;> rfl
  rw [e, final_Lp]
  funext y
  have ey : y = ix3 (y 0) (y 1) (y 2) := by funext d; fin_cases d <;> rfl
  rw [ey]
  exact (spunP_at _ _ _ _).trans rfl

theorem W_ks (c : Dev nD) : W m c main_v31 = resS m c 1024 := by
  have e : W m c main_v31 = turnedS ((dats m 0 c).arrAt 13 cfg0.N) := by
    unfold W Pipeline.afterTail₀
    rw [← Pipeline.withArrays_arr spec0 launch0.win.arr_inj c (V0 m c) (fun w => (dats m 0 c).arrAt w cfg0.N) 13]
    simp only [List.flatten_cons, List.flatten_nil, List.append_nil]
    after_results_simp <;> rfl
  rw [e, final_Ks]
  funext y
  have ey : y = ix4 (y 0) (0 : Fin 1) (y 2) (y 3) := by funext d; fin_cases d; rfl; exact Subsingleton.elim (α := Fin 1) _ _; all_goals rfl
  rw [ey]
  exact (turnedS_at _ _ _ _).trans (prj_congr m c rfl (Nat.add_assoc 1024 _ _).symm)

theorem W_vs (c : Dev nD) : W m c main_v34 = resS m c 1280 := by
  have e : W m c main_v34 = turnedS ((dats m 0 c).arrAt 14 cfg0.N) := by
    unfold W Pipeline.afterTail₀
    rw [← Pipeline.withArrays_arr spec0 launch0.win.arr_inj c (V0 m c) (fun w => (dats m 0 c).arrAt w cfg0.N) 14]
    simp only [List.flatten_cons, List.flatten_nil, List.append_nil]
    after_results_simp <;> rfl
  rw [e, final_Vs]
  funext y
  have ey : y = ix4 (y 0) (0 : Fin 1) (y 2) (y 3) := by funext d; fin_cases d; rfl; exact Subsingleton.elim (α := Fin 1) _ _; all_goals rfl
  rw [ey]
  exact (turnedS_at _ _ _ _).trans (prj_congr m c rfl (Nat.add_assoc 1280 _ _).symm)

theorem W_ls (c : Dev nD) : W m c main_v36 = resGS m c := by
  have e : W m c main_v36 = spunS ((dats m 0 c).arrAt 15 cfg0.N) := by
    unfold W Pipeline.afterTail₀
    rw [← Pipeline.withArrays_arr spec0 launch0.win.arr_inj c (V0 m c) (fun w => (dats m 0 c).arrAt w cfg0.N) 15]
    simp only [List.flatten_cons, List.flatten_nil, List.append_nil]
    after_results_simp <;> rfl
  rw [e, final_Ls]
  funext y
  have ey : y = ix3 (y 0) (0 : Fin 1) (y 2) := by funext d; fin_cases d; rfl; exact Subsingleton.elim (α := Fin 1) _ _; all_goals rfl
  rw [ey]
  exact (spunS_at _ _ _).trans rfl

/-- The run: the results are the projected heads and the gates, the arguments are unchanged. -/
theorem run_value : θ_run defs (onTc (τ := τ) (main (F := Ideal))) ⟨m, fun _ => 0, ρ⟩ (fun r => ∀ c : Dev nD,
      r.2.mem ((c.tc : Thread nD τ).loc main_v25) = resP m c 1024
      ∧ r.2.mem ((c.tc : Thread nD τ).loc main_v27) = resP m c 1280
      ∧ r.2.mem ((c.tc : Thread nD τ).loc main_v28) = resGP m c
      ∧ r.2.mem ((c.tc : Thread nD τ).loc main_v31) = resS m c 1024
      ∧ r.2.mem ((c.tc : Thread nD τ).loc main_v34) = resS m c 1280
      ∧ r.2.mem ((c.tc : Thread nD τ).loc main_v36) = resGS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨((h.1.1 c).2 main_v25 (Pipeline.mem_restRefs_of main_v25 (by decide) (by decide))).trans (W_kp m c),
       ((h.1.1 c).2 main_v27 (Pipeline.mem_restRefs_of main_v27 (by decide) (by decide))).trans (W_vp m c),
       ((h.1.1 c).2 main_v28 (Pipeline.mem_restRefs_of main_v28 (by decide) (by decide))).trans (W_lp m c),
       ((h.1.1 c).2 main_v31 (Pipeline.mem_restRefs_of main_v31 (by decide) (by decide))).trans (W_ks m c),
       ((h.1.1 c).2 main_v34 (Pipeline.mem_restRefs_of main_v34 (by decide) (by decide))).trans (W_vs m c),
       ((h.1.1 c).2 main_v36 (Pipeline.mem_restRefs_of main_v36 (by decide) (by decide))).trans (W_ls m c), h.2.1 c⟩)
    (θ_run_and (run_main_quiescent m ρ) (frame m ρ))

end Cert.Proof.OI

end
-- ==== Proof.Odd.Ref.lean ====
/-
  The odd layers' projection's reference read at an index.
-/
module

public import proofs.«01_k».proof.Proof.Gen.Reference5Ideal.Run
public import proofs.«01_k».proof.Proof.Odd.Tail
public import Idealize.ShloMosaic.Lib.Pointwise

@[expose] public section

set_option maxRecDepth 16384

noncomputable section

namespace Cert.Proof.OR

open Cert.Reference5Ideal Cert.Reference5Ideal.Gen
open Idealize.ShloMosaic Idealize.ShloMosaic.TcCoe

/-- The reference's logarithm of the logistic function: `-softplus (-z)`, where softplus keeps a value that differs from itself (none does). -/
theorem lsig_eq (z : EReal) :
    -(Scalar.select (Ideal.cmp .une (-z - 0) (-z - 0)) (-z + 0) (max (-z) 0 + Ideal.log1p (Ideal.exp (-(max (-z - 0) (-(-z - 0))))))) = OI.lsig z := by
  have h : Ideal.cmp .une (-z - 0) (-z - 0) = 0#1 := by simp [Ideal.cmp]
  rw [h]
  show -(max (-z) 0 + Ideal.log1p (Ideal.exp (-(max (-z - 0) (-(-z - 0)))))) = _
  unfold OI.lsig
  rw [sub_zero, neg_neg, max_comm (-z) z, zero_sub, zero_sub, zero_sub]

variable (P : FVec Ideal S4x4096x1024 .f32) (Q : FVec Ideal S128x1x1024 .f32) (U : FVec Ideal S2x1024x1552 .f32) (B : FVec Ideal S2x16 .f32)

/-- The first layer's weights, -/
def weights : FVec Ideal S1024x1552 .f32 :=
  shapeCast _ (extractStridedSlice S1x1024x1552 ![0, 0, 0] U slices_S2x1024x1552_S1x1024x1552_0_0_0) shapeCasts_S1x1024x1552_S1024x1552
/-- the prompts' projections, -/
def prompts : FVec Ideal S4x4096x1552 .f32 := Host.dotGeneral dot_S4x4096x1024_S1024x1552_S4x4096x1552_2_0_01_1_n_n none P (weights U)
/-- and the samples'. -/
def samples : FVec Ideal S128x1x1552 .f32 := Host.dotGeneral dot_S128x1x1024_S1024x1552_S128x1x1552_2_0_01_1_n_n none Q (weights U)
/-- The gates' shifts. -/
def shifts : FVec Ideal S1x1x16 .f32 := broadcastInDim S1x1x16 ![2] bcast_S16_S1x1x16_2 (shapeCast _ (extractStridedSlice S1x16 ![0, 0] B slices_S2x16_S1x16_0_0) shapeCasts_S1x16_S16)

theorem prompts_at (a : Fin 4) (b : Fin 4096) (e : Fin 1552) : prompts P U (ix3 a b e) = OI.proj P Q U ⟨4096 * a.val + b.val, by omega⟩ e := by
  unfold prompts weights OI.proj OI.xrow
  pointwise []
  refine Finset.sum_congr rfl fun k _ => ?_
  rw [dif_pos (show 4096 * a.val + b.val < 16384 by omega)]
  exact congrArg₂ (fun x y => P (ix3 x y k) * U (ix3 (0 : Fin 2) k e)) (Fin.ext (by dsimp only; omega)) (Fin.ext (by dsimp only; omega))
theorem samples_at (a : Fin 128) (e : Fin 1552) : samples Q U (ix3 a (0 : Fin 1) e) = OI.proj P Q U ⟨16384 + a.val, by omega⟩ e := by
  unfold samples weights OI.proj OI.xrow
  pointwise []
  refine Finset.sum_congr rfl fun k _ => ?_
  rw [dif_pos (show 16384 + a.val < 16512 by omega)]
theorem shifts_at (j : Fin 16) : shifts B (ix3 (0 : Fin 1) (0 : Fin 1) j) = B (ix2 (0 : Fin 2) j) := by
  unfold shifts
  pointwise []

/-- The keys' or values' columns by heads. -/
def splitP (X : FVec Ideal S4x4096x256 .f32) : FVec Ideal S4x4096x4x64 .f32 := shapeCast _ X shapeCasts_S4x4096x256_S4x4096x4x64
def splitS (X : FVec Ideal S128x1x256 .f32) : FVec Ideal S128x1x4x64 .f32 := shapeCast _ X shapeCasts_S128x1x256_S128x1x4x64
def keysP : FVec Ideal S4x4096x256 .f32 := extractStridedSlice S4x4096x256 ![0, 0, 1024] (prompts P U) slices_S4x4096x1552_S4x4096x256_0_0_1024
def keysS : FVec Ideal S128x1x256 .f32 := extractStridedSlice S128x1x256 ![0, 0, 1024] (samples Q U) slices_S128x1x1552_S128x1x256_0_0_1024
def valuesP : FVec Ideal S4x4096x256 .f32 := extractStridedSlice S4x4096x256 ![0, 0, 1280] (prompts P U) slices_S4x4096x1552_S4x4096x256_0_0_1280
def valuesS : FVec Ideal S128x1x256 .f32 := extractStridedSlice S128x1x256 ![0, 0, 1280] (samples Q U) slices_S128x1x1552_S128x1x256_0_0_1280

/-- The gates' arguments, -/
def argP : FVec Ideal S4x4096x16 .f32 := addf (extractStridedSlice S4x4096x16 ![0, 0, 1536] (prompts P U) slices_S4x4096x1552_S4x4096x16_0_0_1536)
  (broadcastInDim S4x4096x16 ![0, 1, 2] bcast_S1x1x16_S4x4096x16_0_1_2 (shifts B))
def argS : FVec Ideal S128x1x16 .f32 := addf (extractStridedSlice S128x1x16 ![0, 0, 1536] (samples Q U) slices_S128x1x1552_S128x1x16_0_0_1536)
  (broadcastInDim S128x1x16 ![0, 1, 2] bcast_S1x1x16_S128x1x16_0_1_2 (shifts B))
/-- and the gates' logarithms of them. -/
def logP (Z : FVec Ideal S4x4096x16 .f32) : FVec Ideal S4x4096x16 .f32 :=
  Host.negf (select (cmpf .une (subf (Host.negf Z) (broadcastInDim S4x4096x16 ![] bcast_S_S4x4096x16 (constant S_ .f32 0x00000000#32))) (subf (Host.negf Z) (broadcastInDim S4x4096x16 ![] bcast_S_S4x4096x16 (constant S_ .f32 0x00000000#32))))
    (addf (Host.negf Z) (broadcastInDim S4x4096x16 ![] bcast_S_S4x4096x16 (constant S_ .f32 0x00000000#32)))
    (addf (maximumf (Host.negf Z) (broadcastInDim S4x4096x16 ![] bcast_S_S4x4096x16 (constant S_ .f32 0x00000000#32)))
      (Host.log1p (Host.exp (Host.negf (Host.absf (subf (Host.negf Z) (broadcastInDim S4x4096x16 ![] bcast_S_S4x4096x16 (constant S_ .f32 0x00000000#32)))))))))
/-- and the gates' logarithms of them. -/
def logS (Z : FVec Ideal S128x1x16 .f32) : FVec Ideal S128x1x16 .f32 :=
  Host.negf (select (cmpf .une (subf (Host.negf Z) (broadcastInDim S128x1x16 ![] bcast_S_S128x1x16 (constant S_ .f32 0x00000000#32))) (subf (Host.negf Z) (broadcastInDim S128x1x16 ![] bcast_S_S128x1x16 (constant S_ .f32 0x00000000#32))))
    (addf (Host.negf Z) (broadcastInDim S128x1x16 ![] bcast_S_S128x1x16 (constant S_ .f32 0x00000000#32)))
    (addf (maximumf (Host.negf Z) (broadcastInDim S128x1x16 ![] bcast_S_S128x1x16 (constant S_ .f32 0x00000000#32)))
      (Host.log1p (Host.exp (Host.negf (Host.absf (subf (Host.negf Z) (broadcastInDim S128x1x16 ![] bcast_S_S128x1x16 (constant S_ .f32 0x00000000#32)))))))))

theorem keysP_at (a : Fin 4) (b : Fin 4096) (e : Fin 256) : keysP P U (ix3 a b e) = OI.proj P Q U ⟨4096 * a.val + b.val, by omega⟩ ⟨1024 + e.val, by omega⟩ := by
  unfold keysP
  pointwise []
  exact prompts_at P Q U _ _ _
theorem valuesP_at (a : Fin 4) (b : Fin 4096) (e : Fin 256) : valuesP P U (ix3 a b e) = OI.proj P Q U ⟨4096 * a.val + b.val, by omega⟩ ⟨1280 + e.val, by omega⟩ := by
  unfold valuesP
  pointwise []
  exact prompts_at P Q U _ _ _
theorem keysS_at (a : Fin 128) (e : Fin 256) : keysS Q U (ix3 a (0 : Fin 1) e) = OI.proj P Q U ⟨16384 + a.val, by omega⟩ ⟨1024 + e.val, by omega⟩ := by
  unfold keysS
  pointwise []
  exact samples_at P Q U _ _
theorem valuesS_at (a : Fin 128) (e : Fin 256) : valuesS Q U (ix3 a (0 : Fin 1) e) = OI.proj P Q U ⟨16384 + a.val, by omega⟩ ⟨1280 + e.val, by omega⟩ := by
  unfold valuesS
  pointwise []
  exact samples_at P Q U _ _
theorem argP_at (a : Fin 4) (b : Fin 4096) (j : Fin 16) : argP P U B (ix3 a b j)
    = OI.proj P Q U ⟨4096 * a.val + b.val, by omega⟩ ⟨1536 + j.val, by omega⟩ + B (ix2 (0 : Fin 2) j) := by
  unfold argP
  pointwise []
  exact congrArg₂ (fun a b : EReal => a + b) (prompts_at P Q U _ _ _) (shifts_at B j)
theorem argS_at (a : Fin 128) (j : Fin 16) : argS Q U B (ix3 a (0 : Fin 1) j)
    = OI.proj P Q U ⟨16384 + a.val, by omega⟩ ⟨1536 + j.val, by omega⟩ + B (ix2 (0 : Fin 2) j) := by
  unfold argS
  pointwise []
  exact congrArg₂ (fun a b : EReal => a + b) (samples_at P Q U _ _) (shifts_at B j)
theorem logP_at (Z : FVec Ideal S4x4096x16 .f32) (a : Fin 4) (b : Fin 4096) (j : Fin 16) : logP Z (ix3 a b j) = OI.lsig (Z (ix3 a b j)) := by
  refine Eq.trans ?_ (lsig_eq _)
  unfold logP
  pointwise []
  rfl
theorem logS_at (Z : FVec Ideal S128x1x16 .f32) (a : Fin 128) (j : Fin 16) : logS Z (ix3 a (0 : Fin 1) j) = OI.lsig (Z (ix3 a (0 : Fin 1) j)) := by
  refine Eq.trans ?_ (lsig_eq _)
  unfold logS
  pointwise []
  rfl
theorem splitP_at (X : FVec Ideal S4x4096x256 .f32) (a : Fin 4) (b : Fin 4096) (h : Fin 4) (d : Fin 64) :
    splitP X (ix4 a b h d) = X (ix3 a b (⟨64 * h.val + d.val, by omega⟩ : Fin 256)) := by
  unfold splitP
  pointwise []
  exact congrArg (fun e => X (ix3 a b e)) (Fin.ext (by dsimp only; omega))
theorem splitS_at (X : FVec Ideal S128x1x256 .f32) (a : Fin 128) (h : Fin 4) (d : Fin 64) :
    splitS X (ix4 a (0 : Fin 1) h d) = X (ix3 a (0 : Fin 1) (⟨64 * h.val + d.val, by omega⟩ : Fin 256)) := by
  unfold splitS
  pointwise []
  exact congrArg (fun e => X (ix3 a (0 : Fin 1) e)) (Fin.ext (by dsimp only; omega))

/-! ## The results -/

theorem splitP_eq (o : Fin 1281) (X : FVec Ideal S4x4096x256 .f32)
    (hX : ∀ (a : Fin 4) (b : Fin 4096) (e : Fin 256), X (ix3 a b e) = OI.proj P Q U ⟨4096 * a.val + b.val, by omega⟩ ⟨o.val + e.val, by omega⟩) :
    splitP X = OI.headsP P Q U o := by
  funext y
  obtain ⟨a, b, h, d, rfl⟩ : ∃ (a : Fin 4) (b : Fin 4096) (h : Fin 4) (d : Fin 64), y = ix4 a b h d := ⟨y 0, y 1, y 2, y 3, by funext d; fin_cases d <;> rfl⟩
  refine ((splitP_at X a b h d).trans (hX _ _ _)).trans ?_
  exact congrArg (OI.proj P Q U _) (Fin.ext (Nat.add_assoc _ _ _).symm)
theorem splitS_eq (o : Fin 1281) (X : FVec Ideal S128x1x256 .f32)
    (hX : ∀ (a : Fin 128) (e : Fin 256), X (ix3 a (0 : Fin 1) e) = OI.proj P Q U ⟨16384 + a.val, by omega⟩ ⟨o.val + e.val, by omega⟩) :
    splitS X = OI.headsS P Q U o := by
  funext y
  obtain ⟨a, h, d, rfl⟩ : ∃ (a : Fin 128) (h : Fin 4) (d : Fin 64), y = ix4 a (0 : Fin 1) h d :=
    ⟨y 0, y 2, y 3, by funext d; fin_cases d; rfl; exact Subsingleton.elim (α := Fin 1) _ _; all_goals rfl⟩
  refine ((splitS_at X a h d).trans (hX _ _)).trans ?_
  exact congrArg (OI.proj P Q U _) (Fin.ext (Nat.add_assoc _ _ _).symm)
theorem logP_eq : logP (argP P U B) = OI.gatesP P Q U B := by
  funext y
  obtain ⟨a, b, j, rfl⟩ : ∃ (a : Fin 4) (b : Fin 4096) (j : Fin 16), y = ix3 a b j := ⟨y 0, y 1, y 2, by funext d; fin_cases d <;> rfl⟩
  exact (logP_at _ a b j).trans (congrArg OI.lsig (argP_at P Q U B a b j))
theorem logS_eq : logS (argS Q U B) = OI.gatesS P Q U B := by
  funext y
  obtain ⟨a, j, rfl⟩ : ∃ (a : Fin 128) (j : Fin 16), y = ix3 a (0 : Fin 1) j := ⟨y 0, y 2, by funext d; fin_cases d; rfl; exact Subsingleton.elim (α := Fin 1) _ _; all_goals rfl⟩
  exact (logS_at _ a j).trans (congrArg OI.lsig (argS_at P Q U B a j))

end Cert.Proof.OR

end
-- ==== Proof.Odd.RefFrame.lean ====
/-
  The projection's reference runs without fault, leaves its arguments unchanged, and has no semaphore.
-/
module

public import proofs.«01_k».proof.Proof.Gen.Reference5Ideal.Run

@[expose] public section

namespace Cert.Proof.OR

open Cert.Reference5Ideal Cert.Reference5Ideal.Gen Idealize.ShloMosaic Idealize.ShloMosaic.TcCoe Idealize.SL.Sem

theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2.2, by
    funext x
    obtain ⟨_, s | s⟩ := x
    · exact s.elim0
    · exact s.elim0⟩) (Value.run m ρ)

end Cert.Proof.OR
-- ==== Proof.lean ====
/-
  The certificate: the kernels' frames, the mask's constant, the references' frames, and the
  attention's, the experts', the layer norm's and the projection's results, of each kernel and its reference the same function of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Pre_counted
public import proofs.«01_k».proof.Proof.Gen.Kernel3
public import proofs.«01_k».proof.Proof.Gen.Kernel3.Launch
public import proofs.«01_k».proof.Proof.Gen.Kernel3.Skeleton
public import proofs.«01_k».proof.Proof.Gen.Kernel3.Frame
public import proofs.«01_k».proof.Proof.Gen.Kernel3.Points
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Launch
public import proofs.«01_k».proof.Proof.Gen.Kernel4.Skeleton
public import proofs.«01_k».proof.Proof.Gen.Kernel4.Frame
public import proofs.«01_k».proof.Proof.Gen.Kernel4.Points
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Kernel4Ideal.Frame
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel5
public import proofs.«01_k».proof.Proof.Gen.Kernel5.Launch
public import proofs.«01_k».proof.Proof.Gen.Kernel5.Skeleton
public import proofs.«01_k».proof.Proof.Gen.Kernel5.Frame
public import proofs.«01_k».proof.Proof.Gen.Kernel5.Points
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Kernel5Ideal.Frame
public import proofs.«01_k».proof.Proof.Gen.Kernel5Ideal.Points
public import proofs.«01_k».proof.Proof.Gen.Reference5Ideal
public import proofs.«01_k».proof.Proof.Gen.Reference5Ideal.Run
public import proofs.«01_k».proof.Proof.Arr
public import proofs.«01_k».proof.Proof.Bits.Body
public import proofs.«01_k».proof.Proof.Ref
public import proofs.«01_k».proof.Proof.RefFrame
public import proofs.«01_k».proof.Proof.Pre
public import proofs.«01_k».proof.Proof.Visits.Bits.Run
public import proofs.«01_k».proof.Proof.Norm.Same
public import proofs.«01_k».proof.Proof.Even.Same
public import proofs.«01_k».proof.Proof.Odd.Same
public import proofs.«01_k».proof.Proof.Visits.Counted
public import proofs.«01_k».proof.Proof.Visits.Whole
public import proofs.«01_k».proof.Proof.Visits.RefFrame
public import proofs.«01_k».proof.Proof.Visits.Ref
public import proofs.«01_k».proof.Proof.Norm.Ref
public import proofs.«01_k».proof.Proof.Norm.RefFrame
public import proofs.«01_k».proof.Proof.Even.Ref
public import proofs.«01_k».proof.Proof.Even.RefFrame
public import proofs.«01_k».proof.Proof.Odd.Tail
public import proofs.«01_k».proof.Proof.Odd.Ref
public import proofs.«01_k».proof.Proof.Odd.RefFrame

@[expose] public section

namespace Cert.Proof

open Idealize.ShloMosaic Idealize.ShloMosaic.TcCoe Idealize.SL.Sem

/-- The reference's result of real arguments is the attention the kernel computes. -/
theorem reference_whole (A0 : Cert.ReferenceIdeal.S4x16x128x4096.Idx → EReal) (A1 : Cert.ReferenceIdeal.S16384x512.Idx → EReal) (A2 : Cert.ReferenceIdeal.S4x256x4096.Idx → EReal)
    (h0 : ∀ i, A0 i ≠ ⊤ ∧ A0 i ≠ ⊥) (h1 : ∀ i, A1 i ≠ ⊤ ∧ A1 i ≠ ⊥) (h2 : ∀ i, A2 i ≠ ⊤ ∧ A2 i ≠ ⊥) :
    RI.mixed A2 (RI.quots (RI.weights (RI.scores A0 A1))) = PI.wholeAttn A0 A1 A2 := by
  funext y
  have e : y = ix2 (y 0) (y 1) := by funext d; fin_cases d <;> rfl
  have hr : (y 0).val < 16384 := (y 0).isLt
  have hl : (y 1).val < 1024 := (y 1).isLt
  have hh : (y 1).val / 256 * 4 + (y 1).val / 64 % 4 = (y 1).val / 64 := by omega
  rw [e]
  refine (RI.result_at A0 A1 A2 (y 0) (y 1) h0 h1 h2).trans ?_
  unfold PI.wholeAttn
  simp only [hh, mul_comm (4096 : ℕ), mul_comm (128 : ℕ), mul_comm (64 : ℕ)]
  refine congrArg (fun x : Fin 4096 → EReal => ((Online.attn x _ _ : ℝ) : EReal)) (funext fun s => Finset.sum_congr rfl fun k _ => mul_comm _ _)

/-- Arrays that hold a row through its expert at every index are the experts' result. -/
theorem experts_whole (m : (ℓ : Loc Cert.Kernel2Ideal.nD Cert.Kernel2Ideal.τ Cert.Kernel2Ideal.sig) → Buf (Elt Ideal) ℓ) (hm : VI.Counted m) :
    VR.mixed (VI.A4 m 0) (VR.hidden (VR.oneHot (m (((0 : Dev Cert.Kernel2Ideal.nD).tc : Thread Cert.Kernel2Ideal.nD Cert.Kernel2Ideal.τ).loc Cert.Kernel2Ideal.main_arg0))
        (VR.ends (m (((0 : Dev Cert.Kernel2Ideal.nD).tc : Thread Cert.Kernel2Ideal.nD Cert.Kernel2Ideal.τ).loc Cert.Kernel2Ideal.main_arg0))))
      (VR.prods (VI.A1 m 0) (VI.A2 m 0)) (VR.prods (VI.A1 m 0) (VI.A3 m 0))) = VI.result m 0 := by
  funext y
  have e : y = ix2 (y 0) (y 1) := by funext d; fin_cases d <;> rfl
  have hr : (y 0).val < 33792 := (y 0).isLt
  have hf : VI.rowF (y 0).val = y 0 := Fin.ext (Nat.min_eq_left (by omega))
  refine (congrArg _ e).trans ((VR.whole_at _ _ _ _ _ (hm 0) (y 0) (y 1)).trans ?_)
  show _ = VI.rowVal m 0 (y 0).val (y 1)
  unfold VI.rowVal
  exact congrArg (fun r : Fin 33792 => VI.ffn (fun k => VI.A1 m 0 (ix2 r k)) _ _ _ 1 (y 1)) hf.symm

theorem experts_algebraic : Cert.algebraic_Kernel2Ideal_Reference2Ideal (hKernel2Ideal := Cert.Kernel2Ideal.Gen.facts)
    (hReference2Ideal := Cert.Reference2Ideal.Gen.facts) (hPre_counted := Cert.Pre_counted.Gen.facts) := by
  intro m ρ m' ρ' hpre hm
  have hc : VI.Counted m := fun c => Counted.counted_of _ _ _ _ _ (hpre c)
  refine ⟨_, VI.run_value hc ρ, (θ_run _ _ _).mono (fun r h c => ⟨(h c).1.trans ?_, (h c).2⟩) (VR.run_value m' ρ')⟩
  obtain rfl : c = 0 := Subsingleton.elim _ _
  obtain ⟨e0, e1, e2, e3, e4⟩ := hm 0
  rw [e0, e1, e2, e3, e4]
  exact experts_whole m hc

theorem attention_algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hm
  have hf := fun c => Pre.finite_of _ _ _ (hpre c)
  refine ⟨_, PI.run_value m ρ (fun c => (hf c).1) (fun c => (hf c).2.1) (fun c => (hf c).2.2),
    (θ_run _ _ _).mono (fun r h c => ⟨(h c).1.trans ?_, (h c).2⟩) (Cert.ReferenceIdeal.Value.run m' ρ')⟩
  rw [RI.res_eq, (hm c).1, (hm c).2.1, (hm c).2.2]
  exact reference_whole _ _ _ (hf c).1 (hf c).2.1 (hf c).2.2

theorem norm_prompt (m : (ℓ : Loc Cert.Reference3Ideal.nD Cert.Reference3Ideal.τ Cert.Reference3Ideal.sig) → Buf (Elt Ideal) ℓ) (c : Dev Cert.Reference3Ideal.nD)
    (y : Cert.Reference3Ideal.S4x4096x1024.Idx) : NR.prompt (NR.rows m c) y
      = NI.rowVal (m ((c.tc : Thread _ Cert.Reference3Ideal.τ).loc Cert.Reference3Ideal.main_arg0)) (m ((c.tc : Thread _ Cert.Reference3Ideal.τ).loc Cert.Reference3Ideal.main_arg1))
          (m ((c.tc : Thread _ Cert.Reference3Ideal.τ).loc Cert.Reference3Ideal.main_arg2)) (m ((c.tc : Thread _ Cert.Reference3Ideal.τ).loc Cert.Reference3Ideal.main_arg3))
          (m ((c.tc : Thread _ Cert.Reference3Ideal.τ).loc Cert.Reference3Ideal.main_arg4)) (m ((c.tc : Thread _ Cert.Reference3Ideal.τ).loc Cert.Reference3Ideal.main_arg5))
          (⟨4096 * (y 0).val + (y 1).val, by have : (y 0).val < 4 := (y 0).isLt; have : (y 1).val < 4096 := (y 1).isLt; omega⟩ : Fin 16896) (y 2) := by
  have e : y = ix3 (y 0) (y 1) (y 2) := by funext d; fin_cases d <;> rfl
  exact (congrArg _ e).trans ((NR.prompt_at _ _ _ _).trans (NR.normed_at _ _ _ _ _ _ _ _))

theorem norm_sample (m : (ℓ : Loc Cert.Reference3Ideal.nD Cert.Reference3Ideal.τ Cert.Reference3Ideal.sig) → Buf (Elt Ideal) ℓ) (c : Dev Cert.Reference3Ideal.nD)
    (y : Cert.Reference3Ideal.S128x1x1024.Idx) : NR.sample (NR.rows m c) y
      = NI.rowVal (m ((c.tc : Thread _ Cert.Reference3Ideal.τ).loc Cert.Reference3Ideal.main_arg0)) (m ((c.tc : Thread _ Cert.Reference3Ideal.τ).loc Cert.Reference3Ideal.main_arg1))
          (m ((c.tc : Thread _ Cert.Reference3Ideal.τ).loc Cert.Reference3Ideal.main_arg2)) (m ((c.tc : Thread _ Cert.Reference3Ideal.τ).loc Cert.Reference3Ideal.main_arg3))
          (m ((c.tc : Thread _ Cert.Reference3Ideal.τ).loc Cert.Reference3Ideal.main_arg4)) (m ((c.tc : Thread _ Cert.Reference3Ideal.τ).loc Cert.Reference3Ideal.main_arg5))
          (⟨16384 + (y 0).val, by have : (y 0).val < 128 := (y 0).isLt; omega⟩ : Fin 16896) (y 2) := by
  have e : y = ix3 (y 0) (0 : Fin 1) (y 2) := by
    funext d; fin_cases d
    · rfl
    · exact Subsingleton.elim (α := Fin 1) _ _
    · rfl
  exact (congrArg _ e).trans ((NR.sample_at _ _ _).trans (NR.normed_at _ _ _ _ _ _ _ _))

theorem norm_algebraic : Cert.algebraic_Kernel3Ideal_Reference3Ideal (hKernel3Ideal := Cert.Kernel3Ideal.Gen.facts)
    (hReference3Ideal := Cert.Reference3Ideal.Gen.facts) := by
  intro m ρ m' ρ' _ hm
  refine ⟨_, _, NI.run_value m ρ, (θ_run _ _ _).mono (fun r h c => ⟨(h c).1.trans ?_, (h c).2.1.trans ?_, (h c).2.2⟩) (Cert.Reference3Ideal.Value.run m' ρ')⟩
  · obtain ⟨e0, e1, e2, e3, e4, e5⟩ := hm c
    rw [NR.res0_eq]
    funext y
    refine (norm_prompt m' c y).trans ?_
    rw [e0, e1, e2, e3, e4, e5]
    rfl
  · obtain ⟨e0, e1, e2, e3, e4, e5⟩ := hm c
    rw [NR.res1_eq]
    funext y
    refine (norm_sample m' c y).trans ?_
    rw [e0, e1, e2, e3, e4, e5]
    rfl

theorem even_algebraic : Cert.algebraic_Kernel4Ideal_Reference4Ideal (hKernel4Ideal := Cert.Kernel4Ideal.Gen.facts)
    (hReference4Ideal := Cert.Reference4Ideal.Gen.facts) := by
  intro m ρ m' ρ' _ hm
  refine ⟨_, _, _, _, _, _, _, _, _, EI.run_value m ρ, (θ_run _ _ _).mono (fun r h c => ?_) (Cert.Reference4Ideal.Value.run m' ρ')⟩
  obtain ⟨h0, h1, h2, h3, h4, h5, h6, h7, h8, hr⟩ := h c
  obtain ⟨e0, e1, e2, e3, e4, e5, e6⟩ := hm c
  refine ⟨h0.trans ?_, h1.trans ?_, h2.trans ?_, h3.trans ?_, h4.trans ?_, h5.trans ?_, h6.trans ?_, h7.trans ?_, h8.trans ?_, hr⟩
  · refine (ER.queries_eq _ _ _).trans ?_
    rw [e0, e1, e5]; rfl
  · refine (ER.together_eq _ _ _ 512 _ _ (ER.keysP_at _ _ _) (ER.keysS_at _ _ _)).trans ?_
    rw [e0, e1, e5]; rfl
  · refine (ER.together_eq _ _ _ 640 _ _ (ER.valuesP_at _ _ _) (ER.valuesS_at _ _ _)).trans ?_
    rw [e0, e1, e5]; rfl
  · refine (ER.lasts_eq _ (m' ((c.tc : Thread Cert.Reference4Ideal.nD Cert.Reference4Ideal.τ).loc Cert.Reference4Ideal.main_arg1)) _ 512 _ (ER.keysP_at _ _ _)).trans ?_
    rw [e0, e1, e5]; rfl
  · refine (ER.lasts_eq _ (m' ((c.tc : Thread Cert.Reference4Ideal.nD Cert.Reference4Ideal.τ).loc Cert.Reference4Ideal.main_arg1)) _ 640 _ (ER.valuesP_at _ _ _)).trans ?_
    rw [e0, e1, e5]; rfl
  · refine (ER.moved_eq (m' ((c.tc : Thread Cert.Reference4Ideal.nD Cert.Reference4Ideal.τ).loc Cert.Reference4Ideal.main_arg0)) _ _ _ 512 _ (ER.keysS_at _ _ _)).trans ?_
    rw [e0, e1, e2, e5]; rfl
  · refine (ER.moved_eq (m' ((c.tc : Thread Cert.Reference4Ideal.nD Cert.Reference4Ideal.τ).loc Cert.Reference4Ideal.main_arg0)) _ _ _ 640 _ (ER.valuesS_at _ _ _)).trans ?_
    rw [e0, e1, e3, e5]; rfl
  · refine (ER.gates_eq _ (m' ((c.tc : Thread Cert.Reference4Ideal.nD Cert.Reference4Ideal.τ).loc Cert.Reference4Ideal.main_arg1)) _).trans ?_
    rw [e0, e1, e5]; rfl
  · refine (ER.state_eq (m' ((c.tc : Thread Cert.Reference4Ideal.nD Cert.Reference4Ideal.τ).loc Cert.Reference4Ideal.main_arg0)) _ _ _).trans ?_
    rw [e0, e1, e4, e5]; rfl

theorem odd_algebraic : Cert.algebraic_Kernel5Ideal_Reference5Ideal (hKernel5Ideal := Cert.Kernel5Ideal.Gen.facts)
    (hReference5Ideal := Cert.Reference5Ideal.Gen.facts) := by
  intro m ρ m' ρ' _ hm
  refine ⟨_, _, _, _, _, _, OI.run_value m ρ, (θ_run _ _ _).mono (fun r h c => ?_) (Cert.Reference5Ideal.Value.run m' ρ')⟩
  obtain ⟨h0, h1, h2, h3, h4, h5, hr⟩ := h c
  obtain ⟨e0, e1, e2, e3, e4, e5⟩ := hm c
  refine ⟨h0.trans ?_, h1.trans ?_, h2.trans ?_, h3.trans ?_, h4.trans ?_, h5.trans ?_, hr⟩
  · refine (OR.splitP_eq _ (m' ((c.tc : Thread Cert.Reference5Ideal.nD Cert.Reference5Ideal.τ).loc Cert.Reference5Ideal.main_arg1)) _ 1024 _ (OR.keysP_at _ _ _)).trans ?_
    rw [e0, e1, e2]; rfl
  · refine (OR.splitP_eq _ (m' ((c.tc : Thread Cert.Reference5Ideal.nD Cert.Reference5Ideal.τ).loc Cert.Reference5Ideal.main_arg1)) _ 1280 _ (OR.valuesP_at _ _ _)).trans ?_
    rw [e0, e1, e2]; rfl
  · refine (OR.logP_eq _ (m' ((c.tc : Thread Cert.Reference5Ideal.nD Cert.Reference5Ideal.τ).loc Cert.Reference5Ideal.main_arg1)) _ _).trans ?_
    rw [e0, e1, e2, e3]; rfl
  · refine (OR.splitS_eq (m' ((c.tc : Thread Cert.Reference5Ideal.nD Cert.Reference5Ideal.τ).loc Cert.Reference5Ideal.main_arg0)) _ _ 1024 _ (OR.keysS_at _ _ _)).trans ?_
    rw [e0, e1, e2]; rfl
  · refine (OR.splitS_eq (m' ((c.tc : Thread Cert.Reference5Ideal.nD Cert.Reference5Ideal.τ).loc Cert.Reference5Ideal.main_arg0)) _ _ 1280 _ (OR.valuesS_at _ _ _)).trans ?_
    rw [e0, e1, e2]; rfl
  · refine (OR.logS_eq (m' ((c.tc : Thread Cert.Reference5Ideal.nD Cert.Reference5Ideal.τ).loc Cert.Reference5Ideal.main_arg0)) _ _ _).trans ?_
    rw [e0, e1, e2, e3]; rfl

/-- The norm's run, of the printed kernel: its text is the ideal kernel's. -/
theorem norm_frame : Cert.quiescent_Kernel3 (hKernel3 := Cert.Kernel3.Gen.facts) := fun m ρ _ =>
  Eq.mpr (congrArg (fun D => θ_run D (onTc (τ := Cert.Kernel3Ideal.τ) (Cert.Kernel3Ideal.main (F := Bits))) ⟨m, fun _ => 0, ρ⟩ _) NI.same) (NI.frame (F := Bits) m ρ)

set_option maxHeartbeats 4000000 in
/-- The even layers' projection's, likewise. -/
theorem even_frame : Cert.quiescent_Kernel4 (hKernel4 := Cert.Kernel4.Gen.facts) := fun m ρ _ =>
  Eq.mpr (congrArg (fun D => θ_run D (onTc (τ := Cert.Kernel4Ideal.τ) (Cert.Kernel4Ideal.main (F := Bits))) ⟨m, fun _ => 0, ρ⟩ _) EI.same) (EI.frame (F := Bits) m ρ)

set_option maxHeartbeats 4000000 in
/-- The odd layers' projection's, likewise. -/
theorem odd_frame : Cert.quiescent_Kernel5 (hKernel5 := Cert.Kernel5.Gen.facts) := fun m ρ _ =>
  Eq.mpr (congrArg (fun D => θ_run D (onTc (τ := Cert.Kernel5Ideal.τ) (Cert.Kernel5Ideal.main (F := Bits))) ⟨m, fun _ => 0, ρ⟩ _) OI.same) (OI.frame (F := Bits) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_counted.Gen.facts,
    fun m ρ _ => P.frame m ρ, fun m ρ _ => PI.frame m ρ, fun m ρ _ => PI.frame m ρ, fun m ρ _ => RI.frame m ρ, fun m ρ _ => RI.frame m ρ,
    fun m ρ h => V.frame (m := m) (fun c => Counted.counted_of _ _ _ _ _ (h c)) ρ,
    fun m ρ h => VI.frame (m := m) (fun c => Counted.counted_of _ _ _ _ _ (h c)) ρ,
    fun m ρ _ => VR.frame m ρ, fun m ρ _ => VR.frame m ρ, norm_frame, fun m ρ _ => NI.frame m ρ, fun m ρ _ => NR.frame m ρ,
    even_frame, fun m ρ _ => EI.frame m ρ, fun m ρ _ => ER.frame m ρ,
    odd_frame, fun m ρ _ => OI.frame m ρ, fun m ρ _ => OR.frame m ρ,
    IdealRules.named_const.statement _ _ _ _ _ rfl, attention_algebraic, trivial, experts_algebraic,
    trivial, norm_algebraic, trivial, even_algebraic, trivial, odd_algebraic⟩

end Cert.Proof
